-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_finite [hPre_finite : Cert.Pre_finite.Facts] (m : (ℓ : Loc Cert.GatesIdeal.nD Cert.GatesIdeal.τ Cert.GatesIdeal.sig) → Buf (Elt Ideal) ℓ) : Prop :=
  ∀ c : Dev Cert.GatesIdeal.nD,
    (Cert.Pre_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_finite [hPre_finite : Cert.Pre_finite.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0)
      ∧ r.2.mem ((c.tc : Thread Cert.Cols.nD Cert.Cols.τ).loc Cert.Cols.main_arg1) = m ((c.tc : Thread Cert.Cols.nD Cert.Cols.τ).loc Cert.Cols.main_arg1)
      ∧ r.2.mem ((c.tc : Thread Cert.Cols.nD Cert.Cols.τ).loc Cert.Cols.main_arg2) = m ((c.tc : Thread Cert.Cols.nD Cert.Cols.τ).loc Cert.Cols.main_arg2)
      ∧ r.2.mem ((c.tc : Thread Cert.Cols.nD Cert.Cols.τ).loc Cert.Cols.main_arg3) = m ((c.tc : Thread Cert.Cols.nD Cert.Cols.τ).loc Cert.Cols.main_arg3)
      ∧ r.2.mem ((c.tc : Thread Cert.Cols.nD Cert.Cols.τ).loc Cert.Cols.main_arg4) = m ((c.tc : Thread Cert.Cols.nD Cert.Cols.τ).loc Cert.Cols.main_arg4))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
      ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
      ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
      ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
      ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2)
      ∧ r.2.mem ((c.tc : Thread Cert.ColsRefIdeal.nD Cert.ColsRefIdeal.τ).loc Cert.ColsRefIdeal.main_arg3) = m ((c.tc : Thread Cert.ColsRefIdeal.nD Cert.ColsRefIdeal.τ).loc Cert.ColsRefIdeal.main_arg3)
      ∧ r.2.mem ((c.tc : Thread Cert.ColsRefIdeal.nD Cert.ColsRefIdeal.τ).loc Cert.ColsRefIdeal.main_arg4) = m ((c.tc : Thread Cert.ColsRefIdeal.nD Cert.ColsRefIdeal.τ).loc Cert.ColsRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7)
      ∧ r.2.mem ((c.tc : Thread Cert.Gates.nD Cert.Gates.τ).loc Cert.Gates.main_arg8) = m ((c.tc : Thread Cert.Gates.nD Cert.Gates.τ).loc Cert.Gates.main_arg8)
      ∧ r.2.mem ((c.tc : Thread Cert.Gates.nD Cert.Gates.τ).loc Cert.Gates.main_arg9) = m ((c.tc : Thread Cert.Gates.nD Cert.Gates.τ).loc Cert.Gates.main_arg9))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_GatesIdeal_pre_finite [hGatesIdeal : Cert.GatesIdeal.Facts] [hPre_finite : Cert.Pre_finite.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7)
      ∧ r.2.mem ((c.tc : Thread Cert.GatesRefIdeal.nD Cert.GatesRefIdeal.τ).loc Cert.GatesRefIdeal.main_arg8) = m ((c.tc : Thread Cert.GatesRefIdeal.nD Cert.GatesRefIdeal.τ).loc Cert.GatesRefIdeal.main_arg8)
      ∧ r.2.mem ((c.tc : Thread Cert.GatesRefIdeal.nD Cert.GatesRefIdeal.τ).loc Cert.GatesRefIdeal.main_arg9) = m ((c.tc : Thread Cert.GatesRefIdeal.nD Cert.GatesRefIdeal.τ).loc Cert.GatesRefIdeal.main_arg9))
      ∧ r.2.sem = fun _ => 0)

def quiescent_GatesRefIdeal_pre_finite [hGatesRefIdeal : Cert.GatesRefIdeal.Facts] [hPre_finite : Cert.Pre_finite.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_finite m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7)
      ∧ r.2.mem ((c.tc : Thread Cert.GatesRefIdeal.nD Cert.GatesRefIdeal.τ).loc Cert.GatesRefIdeal.main_arg8) = m ((c.tc : Thread Cert.GatesRefIdeal.nD Cert.GatesRefIdeal.τ).loc Cert.GatesRefIdeal.main_arg8)
      ∧ r.2.mem ((c.tc : Thread Cert.GatesRefIdeal.nD Cert.GatesRefIdeal.τ).loc Cert.GatesRefIdeal.main_arg9) = m ((c.tc : Thread Cert.GatesRefIdeal.nD Cert.GatesRefIdeal.τ).loc Cert.GatesRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v37) = v1 c
          ∧ r.2.mem ((c.tc : Thread Cert.InProjRefIdeal.nD Cert.InProjRefIdeal.τ).loc Cert.InProjRefIdeal.main_v38) = v2 c
          ∧ r.2.mem ((c.tc : Thread Cert.InProjRefIdeal.nD Cert.InProjRefIdeal.τ).loc Cert.InProjRefIdeal.main_v39) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v47) = v0 c
          ∧ r.2.mem ((c.tc : Thread Cert.OutProjRefIdeal.nD Cert.OutProjRefIdeal.τ).loc Cert.OutProjRefIdeal.main_v49) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v89) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v9)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v9) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v4) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_Cols_ColsIdeal : Prop :=
  True

def algebraic_ColsIdeal_ColsRefIdeal [hColsIdeal : Cert.ColsIdeal.Facts] [hColsRefIdeal : Cert.ColsRefIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsIdeal m →
    (∀ c : Dev Cert.ColsIdeal.nD,
      m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0)
      ∧ m' ((c.tc : Thread Cert.ColsRefIdeal.nD Cert.ColsRefIdeal.τ).loc Cert.ColsRefIdeal.main_arg1) = m ((c.tc : Thread Cert.ColsIdeal.nD Cert.ColsIdeal.τ).loc Cert.ColsIdeal.main_arg1)
      ∧ m' ((c.tc : Thread Cert.ColsRefIdeal.nD Cert.ColsRefIdeal.τ).loc Cert.ColsRefIdeal.main_arg2) = m ((c.tc : Thread Cert.ColsIdeal.nD Cert.ColsIdeal.τ).loc Cert.ColsIdeal.main_arg2)
      ∧ m' ((c.tc : Thread Cert.ColsRefIdeal.nD Cert.ColsRefIdeal.τ).loc Cert.ColsRefIdeal.main_arg3) = m ((c.tc : Thread Cert.ColsIdeal.nD Cert.ColsIdeal.τ).loc Cert.ColsIdeal.main_arg3)
      ∧ m' ((c.tc : Thread Cert.ColsRefIdeal.nD Cert.ColsRefIdeal.τ).loc Cert.ColsRefIdeal.main_arg4) = m ((c.tc : Thread Cert.ColsIdeal.nD Cert.ColsIdeal.τ).loc Cert.ColsIdeal.main_arg4)) →
    ∃ (v0 : (c : Dev Cert.ColsIdeal.nD) → Buf (Elt Ideal) ((c.tc : Thread Cert.ColsIdeal.nD Cert.ColsIdeal.τ).loc Cert.ColsIdeal.main_v0)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v0) = v0 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
          ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
          ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
          ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
          ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v34) = v0 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0)
          ∧ r.2.mem ((c.tc : Thread Cert.ColsRefIdeal.nD Cert.ColsRefIdeal.τ).loc Cert.ColsRefIdeal.main_arg1) = m' ((c.tc : Thread Cert.ColsRefIdeal.nD Cert.ColsRefIdeal.τ).loc Cert.ColsRefIdeal.main_arg1)
          ∧ r.2.mem ((c.tc : Thread Cert.ColsRefIdeal.nD Cert.ColsRefIdeal.τ).loc Cert.ColsRefIdeal.main_arg2) = m' ((c.tc : Thread Cert.ColsRefIdeal.nD Cert.ColsRefIdeal.τ).loc Cert.ColsRefIdeal.main_arg2)
          ∧ r.2.mem ((c.tc : Thread Cert.ColsRefIdeal.nD Cert.ColsRefIdeal.τ).loc Cert.ColsRefIdeal.main_arg3) = m' ((c.tc : Thread Cert.ColsRefIdeal.nD Cert.ColsRefIdeal.τ).loc Cert.ColsRefIdeal.main_arg3)
          ∧ r.2.mem ((c.tc : Thread Cert.ColsRefIdeal.nD Cert.ColsRefIdeal.τ).loc Cert.ColsRefIdeal.main_arg4) = m' ((c.tc : Thread Cert.ColsRefIdeal.nD Cert.ColsRefIdeal.τ).loc Cert.ColsRefIdeal.main_arg4))

def preserves_Gates_GatesIdeal : Prop :=
  True

def algebraic_GatesIdeal_GatesRefIdeal_pre_finite [hGatesIdeal : Cert.GatesIdeal.Facts] [hGatesRefIdeal : Cert.GatesRefIdeal.Facts] [hPre_finite : Cert.Pre_finite.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_finite m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)
      ∧ m' ((c.tc : Thread Cert.GatesRefIdeal.nD Cert.GatesRefIdeal.τ).loc Cert.GatesRefIdeal.main_arg7) = m ((c.tc : Thread Cert.GatesIdeal.nD Cert.GatesIdeal.τ).loc Cert.GatesIdeal.main_arg7)
      ∧ m' ((c.tc : Thread Cert.GatesRefIdeal.nD Cert.GatesRefIdeal.τ).loc Cert.GatesRefIdeal.main_arg8) = m ((c.tc : Thread Cert.GatesIdeal.nD Cert.GatesIdeal.τ).loc Cert.GatesIdeal.main_arg8)
      ∧ m' ((c.tc : Thread Cert.GatesRefIdeal.nD Cert.GatesRefIdeal.τ).loc Cert.GatesRefIdeal.main_arg9) = m ((c.tc : Thread Cert.GatesIdeal.nD Cert.GatesIdeal.τ).loc Cert.GatesIdeal.main_arg9)) →
    ∃ (v0 : (c : Dev Cert.GatesIdeal.nD) → Buf (Elt Ideal) ((c.tc : Thread Cert.GatesIdeal.nD Cert.GatesIdeal.τ).loc Cert.GatesIdeal.main_v0_2)) (v1 : (c : Dev Cert.GatesIdeal.nD) → Buf (Elt Ideal) ((c.tc : Thread Cert.GatesIdeal.nD Cert.GatesIdeal.τ).loc Cert.GatesIdeal.main_v0_3)) (v2 : (c : Dev Cert.GatesIdeal.nD) → Buf (Elt Ideal) ((c.tc : Thread Cert.GatesIdeal.nD Cert.GatesIdeal.τ).loc Cert.GatesIdeal.main_v0_4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_2) = v0 c
          ∧ r.2.mem ((c.tc : Thread Cert.GatesIdeal.nD Cert.GatesIdeal.τ).loc Cert.GatesIdeal.main_v0_3) = v1 c
          ∧ r.2.mem ((c.tc : Thread Cert.GatesIdeal.nD Cert.GatesIdeal.τ).loc Cert.GatesIdeal.main_v0_4) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
          ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
          ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v99) = v0 c
          ∧ r.2.mem ((c.tc : Thread Cert.GatesRefIdeal.nD Cert.GatesRefIdeal.τ).loc Cert.GatesRefIdeal.main_v142) = v1 c
          ∧ r.2.mem ((c.tc : Thread Cert.GatesRefIdeal.nD Cert.GatesRefIdeal.τ).loc Cert.GatesRefIdeal.main_v144) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6)
          ∧ r.2.mem ((c.tc : Thread Cert.GatesRefIdeal.nD Cert.GatesRefIdeal.τ).loc Cert.GatesRefIdeal.main_arg7) = m' ((c.tc : Thread Cert.GatesRefIdeal.nD Cert.GatesRefIdeal.τ).loc Cert.GatesRefIdeal.main_arg7)
          ∧ r.2.mem ((c.tc : Thread Cert.GatesRefIdeal.nD Cert.GatesRefIdeal.τ).loc Cert.GatesRefIdeal.main_arg8) = m' ((c.tc : Thread Cert.GatesRefIdeal.nD Cert.GatesRefIdeal.τ).loc Cert.GatesRefIdeal.main_arg8)
          ∧ r.2.mem ((c.tc : Thread Cert.GatesRefIdeal.nD Cert.GatesRefIdeal.τ).loc Cert.GatesRefIdeal.main_arg9) = m' ((c.tc : Thread Cert.GatesRefIdeal.nD Cert.GatesRefIdeal.τ).loc Cert.GatesRefIdeal.main_arg9))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAda : Cert.Ada.Facts) (hAdaIdeal : Cert.AdaIdeal.Facts) (hAdaRefIdeal : Cert.AdaRefIdeal.Facts) (hAttn : Cert.Attn.Facts) (hAttnIdeal : Cert.AttnIdeal.Facts) (hAttnRefIdeal : Cert.AttnRefIdeal.Facts) (hRows : Cert.Rows.Facts) (hRowsIdeal : Cert.RowsIdeal.Facts) (hRowsRefIdeal : Cert.RowsRefIdeal.Facts) (hCols : Cert.Cols.Facts) (hColsIdeal : Cert.ColsIdeal.Facts) (hColsRefIdeal : Cert.ColsRefIdeal.Facts) (hGates : Cert.Gates.Facts) (hGatesIdeal : Cert.GatesIdeal.Facts) (hGatesRefIdeal : Cert.GatesRefIdeal.Facts) (hPre_pre : Cert.Pre_pre.Facts) (hPre_finite : Cert.Pre_finite.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ada (hAda := hAda)
    ∧ quiescent_AdaIdeal (hAdaIdeal := hAdaIdeal)
    ∧ quiescent_AdaRefIdeal (hAdaRefIdeal := hAdaRefIdeal)
    ∧ quiescent_Attn (hAttn := hAttn)
    ∧ quiescent_AttnIdeal (hAttnIdeal := hAttnIdeal)
    ∧ quiescent_AttnRefIdeal (hAttnRefIdeal := hAttnRefIdeal)
    ∧ quiescent_Rows (hRows := hRows)
    ∧ quiescent_RowsIdeal (hRowsIdeal := hRowsIdeal)
    ∧ quiescent_RowsRefIdeal (hRowsRefIdeal := hRowsRefIdeal)
    ∧ quiescent_Cols (hCols := hCols)
    ∧ quiescent_ColsIdeal (hColsIdeal := hColsIdeal)
    ∧ quiescent_ColsRefIdeal (hColsRefIdeal := hColsRefIdeal)
    ∧ quiescent_Gates (hGates := hGates)
    ∧ quiescent_GatesIdeal (hGatesIdeal := hGatesIdeal)
    ∧ quiescent_GatesIdeal_pre_finite (hGatesIdeal := hGatesIdeal) (hPre_finite := hPre_finite)
    ∧ quiescent_GatesRefIdeal (hGatesRefIdeal := hGatesRefIdeal)
    ∧ quiescent_GatesRefIdeal_pre_finite (hGatesRefIdeal := hGatesRefIdeal) (hPre_finite := hPre_finite)
    ∧ preserves_Kernel_KernelIdeal
    ∧ algebraic_KernelIdeal_ReferenceIdeal (hKernelIdeal := hKernelIdeal) (hReferenceIdeal := hReferenceIdeal) (hPre_pre := hPre_pre)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ada_AdaIdeal
    ∧ algebraic_AdaIdeal_AdaRefIdeal (hAdaIdeal := hAdaIdeal) (hAdaRefIdeal := hAdaRefIdeal)
    ∧ preserves_Attn_AttnIdeal
    ∧ algebraic_AttnIdeal_AttnRefIdeal (hAttnIdeal := hAttnIdeal) (hAttnRefIdeal := hAttnRefIdeal)
    ∧ preserves_Rows_RowsIdeal
    ∧ algebraic_RowsIdeal_RowsRefIdeal (hRowsIdeal := hRowsIdeal) (hRowsRefIdeal := hRowsRefIdeal)
    ∧ preserves_Cols_ColsIdeal
    ∧ algebraic_ColsIdeal_ColsRefIdeal (hColsIdeal := hColsIdeal) (hColsRefIdeal := hColsRefIdeal)
    ∧ preserves_Gates_GatesIdeal
    ∧ algebraic_GatesIdeal_GatesRefIdeal_pre_finite (hGatesIdeal := hGatesIdeal) (hGatesRefIdeal := hGatesRefIdeal) (hPre_finite := hPre_finite)
-- ==== Pre_finite.lean ====
abbrev S32768x512 : Shape := ⟨2, ![32768, 512]⟩
abbrev S32768x1024 : Shape := ⟨2, ![32768, 1024]⟩
abbrev S192x1x1024 : Shape := ⟨3, ![192, 1, 1024]⟩
abbrev S1x1024 : Shape := ⟨2, ![1, 1024]⟩
abbrev S512x1024 : Shape := ⟨2, ![512, 1024]⟩
abbrev S64x1024 : Shape := ⟨2, ![64, 1024]⟩
abbrev S32x128 : Shape := ⟨2, ![32, 128]⟩
abbrev S16x2048x1024 : Shape := ⟨3, ![16, 2048, 1024]⟩
abbrev S32x6x1024 : Shape := ⟨3, ![32, 6, 1024]⟩
abbrev S16x6x1024 : Shape := ⟨3, ![16, 6, 1024]⟩
abbrev S1024x1024 : Shape := ⟨2, ![1024, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32x1 : Shape := ⟨2, ![32, 1]⟩
abbrev S32 : Shape := ⟨1, ![32]⟩

class Facts : Prop where
  shapeCasts_S32768x1024_S16x2048x1024 : S32768x1024.ShapeCasts S16x2048x1024
  shapeCasts_S192x1x1024_S32x6x1024 : S192x1x1024.ShapeCasts S32x6x1024
  slices_S32x6x1024_S16x6x1024_0_0_0 : S32x6x1024.Slices ![0, 0, 0] S16x6x1024
  concatenates_S32768x512_S32768x512_S32768x1024_d1 : Shape.Concatenates [S32768x512, S32768x512] S32768x1024 1
  bitsLt_bf16_f32 : FTy.bits .bf16 < FTy.bits .f32
  concatenates_S512x1024_S512x1024_S1024x1024_d0 : Shape.Concatenates [S512x1024, S512x1024] S1024x1024 0
  slices_S16x6x1024_S16x1x1024_0_2_0 : S16x6x1024.Slices ![0, 2, 0] S16x1x1024
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  bcast_S1x1024_S1x1x1024_1_2 : S1x1024.BroadcastsInDim S1x1x1024 (![1, 2] : Fin 2 → Fin S1x1x1024.rank)
  bcast_S1x1x1024_S16x2048x1024_0_1_2 : S1x1x1024.BroadcastsInDim S16x2048x1024 (![0, 1, 2] : Fin 3 → Fin S16x2048x1024.rank)
  bcast_S16x1x1024_S16x2048x1024_0_1_2 : S16x1x1024.BroadcastsInDim S16x2048x1024 (![0, 1, 2] : Fin 3 → Fin S16x2048x1024.rank)
  slices_S16x6x1024_S16x1x1024_0_4_0 : S16x6x1024.Slices ![0, 4, 0] S16x1x1024
  bcast_S_S16x1x1024 : S_.BroadcastsInDim S16x1x1024 (![] : Fin 0 → Fin S16x1x1024.rank)
  slices_S16x6x1024_S16x1x1024_0_3_0 : S16x6x1024.Slices ![0, 3, 0] S16x1x1024
  shapeCasts_S16x2048x1024_S32768x1024 : S16x2048x1024.ShapeCasts S32768x1024
  bcast_S_S32768x1024 : S_.BroadcastsInDim S32768x1024 (![] : Fin 0 → Fin S32768x1024.rank)
  reducesTo_S32768x1024_S_d0_1 : S32768x1024.ReducesTo [0, 1] S_
  bcast_S_S64x1024 : S_.BroadcastsInDim S64x1024 (![] : Fin 0 → Fin S64x1024.rank)
  reducesTo_S64x1024_S_d0_1 : S64x1024.ReducesTo [0, 1] S_
  slices_S32x128_S32x1_0_0 : S32x128.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_
  dot_S32768x1024_S1024x1024_S32768x1024_1_0_0_1_n_n_wf : DotDims.WF S32768x1024 S1024x1024 S32768x1024 [1] [0] [0] [1] [] []

variable [Facts]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def fn_part3 {F : FTy → Type} [FloatOps F] (main_v58 : IVec S_ 1) (main_v60 : FVec F S32 .f32) : IVec S_ 1 :=
  let main_v61 : FVec F S32 .f32 := Host.absf main_v60
  let main_cst_9 : FVec F S_ .f32 := constant S_ .f32 0x7F800000#32
  let main_v62 : FVec F S32 .f32 := broadcastInDim S32 ![] bcast_S_S32 main_cst_9
  let main_v63 : IVec S32 1 := cmpf .olt main_v61 main_v62
  let main_c_10 : IVec S_ 1 := constantI S_ 1 1#1
  let main_v64 : IVec S_ 1 := (fun x v => Host.reduce IntOp.andi x v reducesTo_S32_S_d0 h_S_) main_v63 main_c_10
  let main_v65 : IVec S_ 1 := andi main_v58 main_v64
  main_v65

def fn_part2 {F : FTy → Type} [FloatOps F] (main_arg8 : FVec F S64x1024 .bf16) (main_arg9 : FVec F S32x128 .f32) (main_v2 : FVec F S16x6x1024 .f32) (main_v25 : FVec F S16x2048x1024 .f32) (main_v38 : FVec F S16x2048x1024 .f32) (main_v39 : FVec F S16x1x1024 .f32) (main_v40 : FVec F S16x1x1024 .f32) : IVec S_ 1 :=
  let main_v41 : FVec F S16x1x1024 .f32 := addf main_v40 main_v39
  let main_v42 : FVec F S16x2048x1024 .f32 := broadcastInDim S16x2048x1024 ![0, 1, 2] bcast_S16x1x1024_S16x2048x1024_0_1_2 main_v41
  let main_v43 : FVec F S16x2048x1024 .f32 := mulf main_v38 main_v42
  let main_v44 : FVec F S16x1x1024 .f32 := (extractStridedSlice S16x1x1024 ![0, 3, 0] · slices_S16x6x1024_S16x1x1024_0_3_0) main_v2
  let main_v45 : FVec F S16x2048x1024 .f32 := broadcastInDim S16x2048x1024 ![0, 1, 2] bcast_S16x1x1024_S16x2048x1024_0_1_2 main_v44
  let main_v46 : FVec F S16x2048x1024 .f32 := addf main_v43 main_v45
  let main_v47 : FVec F S32768x1024 .f32 := shapeCast S32768x1024 main_v25 shapeCasts_S16x2048x1024_S32768x1024
  let main_v48 : FVec F S32768x1024 .f32 := shapeCast S32768x1024 main_v46 shapeCasts_S16x2048x1024_S32768x1024
  let main_v49 : FVec F S32768x1024 .f32 := Host.absf main_v48
  let main_cst_6 : FVec F S_ .f32 := constant S_ .f32 0x7F800000#32
  let main_v50 : FVec F S32768x1024 .f32 := broadcastInDim S32768x1024 ![] bcast_S_S32768x1024 main_cst_6
  let main_v51 : IVec S32768x1024 1 := cmpf .olt main_v49 main_v50
  let main_c : IVec S_ 1 := constantI S_ 1 1#1
  let main_v52 : IVec S_ 1 := (fun x v => Host.reduce IntOp.andi x v reducesTo_S32768x1024_S_d0_1 h_S_) main_v51 main_c
  let main_v53 : FVec F S64x1024 .f32 := (extf .f32 · bitsLt_bf16_f32) main_arg8
  let main_v54 : FVec F S64x1024 .f32 := Host.absf main_v53
  let main_cst_7 : FVec F S_ .f32 := constant S_ .f32 0x7F800000#32
  let main_v55 : FVec F S64x1024 .f32 := broadcastInDim S64x1024 ![] bcast_S_S64x1024 main_cst_7
  let main_v56 : IVec S64x1024 1 := cmpf .olt main_v54 main_v55
  let main_c_8 : IVec S_ 1 := constantI S_ 1 1#1
  let main_v57 : IVec S_ 1 := (fun x v => Host.reduce IntOp.andi x v reducesTo_S64x1024_S_d0_1 h_S_) main_v56 main_c_8
  let main_v58 : IVec S_ 1 := andi main_v52 main_v57
  let main_v59 : FVec F S32x1 .f32 := (extractStridedSlice S32x1 ![0, 0] · slices_S32x128_S32x1_0_0) main_arg9
  let main_v60 : FVec F S32 .f32 := shapeCast S32 main_v59 shapeCasts_S32x1_S32
  fn_part3 (F := F) main_v58 main_v60

def fn_part1 {F : FTy → Type} [FloatOps F] (main_arg5 : FVec F S1x1024 .f32) (main_arg8 : FVec F S64x1024 .bf16) (main_arg9 : FVec F S32x128 .f32) (main_v0 : FVec F S16x2048x1024 .f32) (main_v2 : FVec F S16x6x1024 .f32) (main_v9 : FVec F S16x1x1024 .f32) (main_v19 : FVec F S16x2048x1024 .f32) (main_v20 : FVec F S1x1x1024 .f32) : IVec S_ 1 :=
  let main_v21 : FVec F S16x2048x1024 .f32 := broadcastInDim S16x2048x1024 ![0, 1, 2] bcast_S1x1x1024_S16x2048x1024_0_1_2 main_v20
  let main_v22 : FVec F S16x2048x1024 .f32 := mulf main_v19 main_v21
  let main_v23 : FVec F S16x2048x1024 .f32 := broadcastInDim S16x2048x1024 ![0, 1, 2] bcast_S16x1x1024_S16x2048x1024_0_1_2 main_v9
  let main_v24 : FVec F S16x2048x1024 .f32 := mulf main_v23 main_v22
  let main_v25 : FVec F S16x2048x1024 .f32 := addf main_v0 main_v24
  let main_v26 : FVec F S16x2048x1024 .f32 := mulf main_v25 main_v25
  let main_cst_2 : FVec F S_ .f32 := constant S_ .f32 0x00000000#32
  let main_v27 : FVec F S16x2048 .f32 := (fun x v => Host.reduceAdd x v reducesTo_S16x2048x1024_S16x2048_d2 h_S_) main_v26 main_cst_2
  let main_v28 : FVec F S16x2048x1 .f32 := broadcastInDim S16x2048x1 ![0, 1] bcast_S16x2048_S16x2048x1_0_1 main_v27
  let main_cst_3 : FVec F S_ .f32 := constant S_ .f32 0x44800000#32
  let main_v29 : FVec F S16x2048x1 .f32 := broadcastInDim S16x2048x1 ![] bcast_S_S16x2048x1 main_cst_3
  let main_v30 : FVec F S16x2048x1 .f32 := Host.divf main_v28 main_v29
  let main_cst_4 : FVec F S_ .f32 := constant S_ .f32 0x358637BD#32
  let main_v31 : FVec F S16x2048x1 .f32 := broadcastInDim S16x2048x1 ![] bcast_S_S16x2048x1 main_cst_4
  let main_v32 : FVec F S16x2048x1 .f32 := addf main_v30 main_v31
  let main_v33 : FVec F S16x2048x1 .f32 := Host.rsqrt main_v32
  let main_v34 : FVec F S16x2048x1024 .f32 := broadcastInDim S16x2048x1024 ![0, 1, 2] bcast_S16x2048x1_S16x2048x1024_0_1_2 main_v33
  let main_v35 : FVec F S16x2048x1024 .f32 := mulf main_v25 main_v34
  let main_v36 : FVec F S1x1x1024 .f32 := broadcastInDim S1x1x1024 ![1, 2] bcast_S1x1024_S1x1x1024_1_2 main_arg5
  let main_v37 : FVec F S16x2048x1024 .f32 := broadcastInDim S16x2048x1024 ![0, 1, 2] bcast_S1x1x1024_S16x2048x1024_0_1_2 main_v36
  let main_v38 : FVec F S16x2048x1024 .f32 := mulf main_v35 main_v37
  let main_v39 : FVec F S16x1x1024 .f32 := (extractStridedSlice S16x1x1024 ![0, 4, 0] · slices_S16x6x1024_S16x1x1024_0_4_0) main_v2
  let main_cst_5 : FVec F S_ .f32 := constant S_ .f32 0x3F800000#32
  let main_v40 : FVec F S16x1x1024 .f32 := broadcastInDim S16x1x1024 ![] bcast_S_S16x1x1024 main_cst_5
  fn_part2 (F := F) main_arg8 main_arg9 main_v2 main_v25 main_v38 main_v39 main_v40

def fn {F : FTy → Type} [FloatOps F] (main_arg0 : FVec F S32768x512 .bf16) (main_arg1 : FVec F S32768x512 .bf16) (main_arg2 : FVec F S32768x1024 .f32) (main_arg3 : FVec F S192x1x1024 .f32) (main_arg4 : FVec F S1x1024 .f32) (main_arg5 : FVec F S1x1024 .f32) (main_arg6 : FVec F S512x1024 .bf16) (main_arg7 : FVec F S512x1024 .bf16) (main_arg8 : FVec F S64x1024 .bf16) (main_arg9 : FVec F S32x128 .f32) : IVec S_ 1 :=
  let main_v0 : FVec F S16x2048x1024 .f32 := shapeCast S16x2048x1024 main_arg2 shapeCasts_S32768x1024_S16x2048x1024
  let main_v1 : FVec F S32x6x1024 .f32 := shapeCast S32x6x1024 main_arg3 shapeCasts_S192x1x1024_S32x6x1024
  let main_v2 : FVec F S16x6x1024 .f32 := (extractStridedSlice S16x6x1024 ![0, 0, 0] · slices_S32x6x1024_S16x6x1024_0_0_0) main_v1
  let main_v3 : FVec F S32768x1024 .bf16 := (fun a b => concatenate S32768x1024 1 [⟨S32768x512, a⟩, ⟨S32768x512, b⟩] concatenates_S32768x512_S32768x512_S32768x1024_d1) main_arg0 main_arg1
  let main_v4 : FVec F S32768x1024 .f32 := (extf .f32 · bitsLt_bf16_f32) main_v3
  let main_v5 : FVec F S1024x1024 .bf16 := (fun a b => concatenate S1024x1024 0 [⟨S512x1024, a⟩, ⟨S512x1024, b⟩] concatenates_S512x1024_S512x1024_S1024x1024_d0) main_arg6 main_arg7
  let main_v6 : FVec F S1024x1024 .f32 := (extf .f32 · bitsLt_bf16_f32) main_v5
  let main_v7 : FVec F S32768x1024 .f32 := (fun l r => Host.dotGeneral dot_S32768x1024_S1024x1024_S32768x1024_1_0_0_1_n_n none l r) main_v4 main_v6
  let main_v8 : FVec F S16x2048x1024 .f32 := shapeCast S16x2048x1024 main_v7 shapeCasts_S32768x1024_S16x2048x1024
  let main_v9 : FVec F S16x1x1024 .f32 := (extractStridedSlice S16x1x1024 ![0, 2, 0] · slices_S16x6x1024_S16x1x1024_0_2_0) main_v2
  let main_v10 : FVec F S16x2048x1024 .f32 := mulf main_v8 main_v8
  let main_cst : FVec F S_ .f32 := constant S_ .f32 0x00000000#32
  let main_v11 : FVec F S16x2048 .f32 := (fun x v => Host.reduceAdd x v reducesTo_S16x2048x1024_S16x2048_d2 h_S_) main_v10 main_cst
  let main_v12 : FVec F S16x2048x1 .f32 := broadcastInDim S16x2048x1 ![0, 1] bcast_S16x2048_S16x2048x1_0_1 main_v11
  let main_cst_0 : FVec F S_ .f32 := constant S_ .f32 0x44800000#32
  let main_v13 : FVec F S16x2048x1 .f32 := broadcastInDim S16x2048x1 ![] bcast_S_S16x2048x1 main_cst_0
  let main_v14 : FVec F S16x2048x1 .f32 := Host.divf main_v12 main_v13
  let main_cst_1 : FVec F S_ .f32 := constant S_ .f32 0x358637BD#32
  let main_v15 : FVec F S16x2048x1 .f32 := broadcastInDim S16x2048x1 ![] bcast_S_S16x2048x1 main_cst_1
  let main_v16 : FVec F S16x2048x1 .f32 := addf main_v14 main_v15
  let main_v17 : FVec F S16x2048x1 .f32 := Host.rsqrt main_v16
  let main_v18 : FVec F S16x2048x1024 .f32 := broadcastInDim S16x2048x1024 ![0, 1, 2] bcast_S16x2048x1_S16x2048x1024_0_1_2 main_v17
  let main_v19 : FVec F S16x2048x1024 .f32 := mulf main_v8 main_v18
  let main_v20 : FVec F S1x1x1024 .f32 := broadcastInDim S1x1x1024 ![1, 2] bcast_S1x1024_S1x1x1024_1_2 main_arg4
  fn_part1 (F := F) main_arg5 main_arg8 main_arg9 main_v0 main_v2 main_v9 main_v19 main_v20
-- ==== Pre_pre.lean ====
abbrev S884 : Shape := ⟨1, ![884]⟩
abbrev S1 : Shape := ⟨1, ![1]⟩
abbrev S452608x1024 : Shape := ⟨2, ![452608, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S884 : S_.BroadcastsInDim S884 (![] : Fin 0 → Fin S884.rank)
  reducesTo_S884_S_d0 : S884.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S884 32) (main_arg1 : IVec S1 32) (main_arg2 : FVec F S452608x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S884 32 := broadcastInDim S884 ![] bcast_S_S884 main_c
  let main_v1 : IVec S884 1 := cmpi .sge main_arg0 main_v0
  let main_c_0 : IVec S_ 1 := constantI S_ 1 1#1
  let main_v2 : IVec S_ 1 := (fun x v => Host.reduce IntOp.andi x v reducesTo_S884_S_d0 h_S_) main_v1 main_c_0
  let main_c_1 : IVec S_ 32 := constantI S_ 32 32#32
  let main_v3 : IVec S884 32 := broadcastInDim S884 ![] bcast_S_S884 main_c_1
  let main_v4 : IVec S884 1 := cmpi .slt main_arg0 main_v3
  let main_c_2 : IVec S_ 1 := constantI S_ 1 1#1
  let main_v5 : IVec S_ 1 := (fun x v => Host.reduce IntOp.andi x v reducesTo_S884_S_d0 h_S_) main_v4 main_c_2
  let main_v6 : IVec S_ 1 := andi main_v2 main_v5
  let main_c_3 : IVec S_ 32 := constantI S_ 32 884#32
  let main_v7 : IVec S1 32 := broadcastInDim S1 ![] bcast_S_S1 main_c_3
  let main_v8 : IVec S1 1 := cmpi .sle main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S884 : Shape := ⟨1, ![884]⟩
abbrev S1 : Shape := ⟨1, ![1]⟩
abbrev S452608x1024 : Shape := ⟨2, ![452608, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S3x512x1024 : Shape := ⟨3, ![3, 512, 1024]⟩
abbrev S3 : Shape := ⟨1, ![3]⟩
abbrev S_ : Shape := ⟨0, ![]⟩
abbrev S1x512x1024 : Shape := ⟨3, ![1, 512, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 13
  | .smem => 2
  | _ => 0

abbrev bufTy : (tb : Table) → Fin (tcTables nBuf tb) → BufTy
  | .hbm, ⟨0, _⟩ => ⟨S452608x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S452608x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S1024x1024, .bf16⟩
  | .local _ .vmem, ⟨12, _⟩ => ⟨S3x512x1024, .f32⟩
  | .local _ .smem, ⟨0, _⟩ => ⟨S884, .i32⟩
  | .local _ .smem, ⟨1, _⟩ => ⟨S1, .i32⟩
  | _, _ => ⟨S452608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![884], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_mult1 : BitVec 32 :=
  let c0_i32_12 : BitVec 32 := 0#32
  c0_i32_12
def k0_mult2 : BitVec 32 :=
  let c512_i32 : BitVec 32 := 512#32
  c512_i32
def k0_mult3 (i : grid0.Coords) : BitVec 32 :=
  let arg0 : BitVec 32 := BitVec.ofNat 32 (i 0).val
  let c3_i32_8 : BitVec 32 := 3#32
  let v26 : BitVec 32 := Scalar.addi arg0 c3_i32_8
  let c1_i32_9 : BitVec 32 := 1#32
  let v27 : BitVec 32 := Scalar.subi v26 c1_i32_9
  let c512_i32 : BitVec 32 := 512#32
  let v28 : BitVec 32 := Scalar.muli v27 c512_i32
  v28
def k0_off2 (i : grid0.Coords) : Fin 1 → Nat :=
  let arg0 : BitVec 32 := BitVec.ofNat 32 (i 0).val
  let c3_i32_8 : BitVec 32 := 3#32
  let v26 : BitVec 32 := Scalar.addi arg0 c3_i32_8
  let c1_i32_9 : BitVec 32 := 1#32
  let v27 : BitVec 32 := Scalar.subi v26 c1_i32_9
  let c3_i32_16 : BitVec 32 := 3#32
  let c0_i32_17 : BitVec 32 := 0#32
  let v40 : BitVec 1 := Scalar.cmpi .eq c3_i32_16 c0_i32_17
  let c1_i32_18 : BitVec 32 := 1#32
  let v41 : BitVec 32 := Scalar.select v40 c1_i32_18 c3_i32_16
  let v42 : BitVec 32 := Scalar.remsi v27 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  ![v49.toNat]
def k0_off3 (i : grid0.Coords) : Fin 3 → Nat :=
  let arg0 : BitVec 32 := BitVec.ofNat 32 (i 0).val
  let c3_i32_8 : BitVec 32 := 3#32
  let v26 : BitVec 32 := Scalar.addi arg0 c3_i32_8
  let c1_i32_9 : BitVec 32 := 1#32
  let v27 : BitVec 32 := Scalar.subi v26 c1_i32_9
  let c3_i32_10 : BitVec 32 := 3#32
  let c0_i32_11 : BitVec 32 := 0#32
  let v30 : BitVec 1 := Scalar.cmpi .eq c3_i32_10 c0_i32_11
  let c1_i32_12 : BitVec 32 := 1#32
  let v31 : BitVec 32 := Scalar.select v30 c1_i32_12 c3_i32_10
  let v32 : BitVec 32 := Scalar.remsi v27 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_22 : BitVec 32 := 0#32
  let c0_i32_23 : BitVec 32 := 0#32
  ![v39.toNat, 0, 0]
def k0_off4 (i : grid0.Coords) : Fin 2 → Nat :=
  let arg0 : BitVec 32 := BitVec.ofNat 32 (i 0).val
  let c3_i32_8 : BitVec 32 := 3#32
  let v26 : BitVec 32 := Scalar.addi arg0 c3_i32_8
  let c1_i32_9 : BitVec 32 := 1#32
  let v27 : BitVec 32 := Scalar.subi v26 c1_i32_9
  let c512_i32 : BitVec 32 := 512#32
  let v28 : BitVec 32 := Scalar.muli v27 c512_i32
  let v29 : BitVec 32 := v28
  let c0_i32_24 : BitVec 32 := 0#32
  ![v29.toNat, 0]
def k0_cond4 (i : grid0.Coords) (v0 : BitVec 32) : BitVec 1 :=
  let arg0 : BitVec 32 := BitVec.ofNat 32 (i 0).val
  let c3_i32 : BitVec 32 := 3#32
  let v5 : BitVec 32 := Scalar.addi arg0 c3_i32
  let c1_i32 : BitVec 32 := 1#32
  let v6 : BitVec 32 := Scalar.subi v5 c1_i32
  let v7 : BitVec 1 := Scalar.cmpi .slt v6 v0
  let v8 : BitVec 32 := Scalar.extui v7
  let c0_i32_1 : BitVec 32 := 0#32
  let v9 : BitVec 1 := Scalar.cmpi .ne v8 c0_i32_1
  v9

def k0_chk1 (i : grid0.Coords) (v0 : BitVec 32) : Prop :=
  (∀ (k0_h4 : k0_cond4 i v0 = 1#1), ∀ a, (k0_off4 i) a + S512x1024.size a ≤ S452608x1024.size a)
theorem k0_off4_inb : ∀ (i : grid0.Coords) (v0 : BitVec 32) (k0_hw1 : k0_chk1 i v0), ∀ (k0_h4 : k0_cond4 i v0 = 1#1), ∀ a, (k0_off4 i) a + S512x1024.size a ≤ S452608x1024.size a := fun i v0 k0_hw1 k0_h4 => k0_hw1 k0_h4

def k0_off5 (i : grid0.Coords) : Fin 1 → Nat :=
  let arg0 : BitVec 32 := BitVec.ofNat 32 (i 0).val
  let v11 : Index := Scalar.indexCast arg0
  ![v11.toNat]
def k0_off6 (i : grid0.Coords) : Fin 1 → Nat :=
  let arg0 : BitVec 32 := BitVec.ofNat 32 (i 0).val
  let c1_i32_3 : BitVec 32 := 1#32
  let v13 : BitVec 32 := Scalar.subi arg0 c1_i32_3
  let c0_i32_4 : BitVec 32 := 0#32
  let v14 : BitVec 32 := Scalar.maxsi v13 c0_i32_4
  let v15 : Index := Scalar.indexCast v14
  ![v15.toNat]
def k0_mult4 (i : grid0.Coords) : BitVec 32 :=
  let arg0 : BitVec 32 := BitVec.ofNat 32 (i 0).val
  let c512_i32 : BitVec 32 := 512#32
  let v26 : BitVec 32 := Scalar.muli arg0 c512_i32
  v26
def k0_off7 (i : grid0.Coords) : Fin 1 → Nat :=
  let arg0 : BitVec 32 := BitVec.ofNat 32 (i 0).val
  let c3_i32_14 : BitVec 32 := 3#32
  let c0_i32_15 : BitVec 32 := 0#32
  let v38 : BitVec 1 := Scalar.cmpi .eq c3_i32_14 c0_i32_15
  let c1_i32_16 : BitVec 32 := 1#32
  let v39 : BitVec 32 := Scalar.select v38 c1_i32_16 c3_i32_14
  let v40 : BitVec 32 := Scalar.remsi arg0 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  ![v47.toNat]
def k0_off8 (i : grid0.Coords) : Fin 3 → Nat :=
  let arg0 : BitVec 32 := BitVec.ofNat 32 (i 0).val
  let c3_i32_8 : BitVec 32 := 3#32
  let c0_i32_9 : BitVec 32 := 0#32
  let v28 : BitVec 1 := Scalar.cmpi .eq c3_i32_8 c0_i32_9
  let c1_i32_10 : BitVec 32 := 1#32
  let v29 : BitVec 32 := Scalar.select v28 c1_i32_10 c3_i32_8
  let v30 : BitVec 32 := Scalar.remsi arg0 v29
  let c0_i32_12 : BitVec 32 := 0#32
  let v32 : BitVec 1 := Scalar.cmpi .slt v30 c0_i32_12
  let c0_i32_13 : BitVec 32 := 0#32
  let v33 : BitVec 1 := Scalar.cmpi .slt v29 c0_i32_13
  let v34 : BitVec 1 := Scalar.xori v32 v33
  let c0_i32_11 : BitVec 32 := 0#32
  let v31 : BitVec 1 := Scalar.cmpi .ne v30 c0_i32_11
  let v35 : BitVec 1 := Scalar.andi v34 v31
  let v36 : BitVec 32 := Scalar.addi v30 v29
  let v37 : BitVec 32 := Scalar.select v35 v36 v30
  let c0_i32_20 : BitVec 32 := 0#32
  let c0_i32_21 : BitVec 32 := 0#32
  ![v37.toNat, 0, 0]
def k0_off9 (i : grid0.Coords) : Fin 2 → Nat :=
  let arg0 : BitVec 32 := BitVec.ofNat 32 (i 0).val
  let c512_i32 : BitVec 32 := 512#32
  let v26 : BitVec 32 := Scalar.muli arg0 c512_i32
  let v27 : BitVec 32 := v26
  let c0_i32_22 : BitVec 32 := 0#32
  ![v27.toNat, 0]
def k0_cond6 (i : grid0.Coords) (v0 : BitVec 32) : BitVec 1 :=
  let arg0 : BitVec 32 := BitVec.ofNat 32 (i 0).val
  let v1 : BitVec 1 := Scalar.cmpi .slt arg0 v0
  let v21 : BitVec 32 := Scalar.extui v1
  let c0_i32_6 : BitVec 32 := 0#32
  let v22 : BitVec 1 := Scalar.cmpi .ne v21 c0_i32_6
  v22

def k0_cond7 (i : grid0.Coords) (v0 : BitVec 32) : BitVec 1 :=
  let arg0 : BitVec 32 := BitVec.ofNat 32 (i 0).val
  let v1 : BitVec 1 := Scalar.cmpi .slt arg0 v0
  let v_true : BitVec 1 := 1#1
  let v23 : BitVec 1 := Scalar.xori v1 v_true
  let v24 : BitVec 32 := Scalar.extui v23
  let c0_i32_7 : BitVec 32 := 0#32
  let v25 : BitVec 1 := Scalar.cmpi .ne v24 c0_i32_7
  v25

def cc0_transform_1 (k0_off1_inb : ∀ i : grid0.Coords, ∀ a, (k0_off1 i) a + S1.size a ≤ S884.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S884) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S884.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S884) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S884.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S884) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S884.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S884) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S884 : Shape := ⟨1, ![884]⟩
abbrev S1 : Shape := ⟨1, ![1]⟩
abbrev S452608x1024 : Shape := ⟨2, ![452608, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S884x512x1024 : Shape := ⟨3, ![884, 512, 1024]⟩
abbrev S_ : Shape := ⟨0, ![]⟩
abbrev S884x1 : Shape := ⟨2, ![884, 1]⟩
abbrev S884x1024x2048 : Shape := ⟨3, ![884, 1024, 2048]⟩
abbrev S884x512x2048 : Shape := ⟨3, ![884, 512, 2048]⟩
abbrev S884x1x2048 : Shape := ⟨3, ![884, 1, 2048]⟩
abbrev S884x1024x1024 : Shape := ⟨3, ![884, 1024, 1024]⟩
abbrev S884x1x1024 : Shape := ⟨3, ![884, 1, 1024]⟩
abbrev S884x1x1 : Shape := ⟨3, ![884, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S884, .i32⟩
  | .hbm, ⟨1, _⟩ => ⟨S1, .i32⟩
  | .hbm, ⟨2, _⟩ => ⟨S452608x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S884x512x1024, .f32⟩
  | .hbm, ⟨8, _⟩ => ⟨S_, .i32⟩
  | .hbm, ⟨9, _⟩ => ⟨S884, .i32⟩
  | .hbm, ⟨10, _⟩ => ⟨S884, .i1⟩
  | .hbm, ⟨11, _⟩ => ⟨S_, .i32⟩
  | .hbm, ⟨12, _⟩ => ⟨S884, .i32⟩
  | .hbm, ⟨13, _⟩ => ⟨S884, .i32⟩
  | .hbm, ⟨14, _⟩ => ⟨S884, .i32⟩
  | .hbm, ⟨15, _⟩ => ⟨S884x1, .i32⟩
  | .hbm, ⟨16, _⟩ => ⟨S884x1024x2048, .f32⟩
  | .hbm, ⟨17, _⟩ => ⟨S884x512x2048, .f32⟩
  | .hbm, ⟨18, _⟩ => ⟨S_, .i32⟩
  | .hbm, ⟨19, _⟩ => ⟨S884, .i32⟩
  | .hbm, ⟨20, _⟩ => ⟨S884, .i1⟩
  | .hbm, ⟨21, _⟩ => ⟨S_, .i32⟩
  | .hbm, ⟨22, _⟩ => ⟨S884, .i32⟩
  | .hbm, ⟨23, _⟩ => ⟨S884, .i32⟩
  | .hbm, ⟨24, _⟩ => ⟨S884, .i32⟩
  | .hbm, ⟨25, _⟩ => ⟨S884x1, .i32⟩
  | .hbm, ⟨26, _⟩ => ⟨S884x1x2048, .f32⟩
  | .hbm, ⟨27, _⟩ => ⟨S884x512x2048, .f32⟩
  | .hbm, ⟨28, _⟩ => ⟨S884x512x2048, .f32⟩
  | .hbm, ⟨29, _⟩ => ⟨S884x512x1024, .f32⟩
  | .hbm, ⟨30, _⟩ => ⟨S_, .f32⟩
  | .hbm, ⟨31, _⟩ => ⟨S884x512x1024, .f32⟩
  | .hbm, ⟨32, _⟩ => ⟨S884x512x1024, .f32⟩
  | .hbm, ⟨33, _⟩ => ⟨S884x512x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S884x512x1024, .f32⟩
  | .hbm, ⟨38, _⟩ => ⟨S884x512x1024, .f32⟩
  | .hbm, ⟨39, _⟩ => ⟨S_, .f32⟩
  | .hbm, ⟨40, _⟩ => ⟨S884x512x1024, .f32⟩
  | .hbm, ⟨41, _⟩ => ⟨S884x512x1024, .f32⟩
  | .hbm, ⟨42, _⟩ => ⟨S_, .f32⟩
  | .hbm, ⟨43, _⟩ => ⟨S884x512x1024, .f32⟩
  | .hbm, ⟨44, _⟩ => ⟨S884x512x1024, .f32⟩
  | .hbm, ⟨45, _⟩ => ⟨S884x512x1024, .f32⟩
  | .hbm, ⟨46, _⟩ => ⟨S884x512x1024, .f32⟩
  | .hbm, ⟨47, _⟩ => ⟨S_, .f32⟩
  | .hbm, ⟨48, _⟩ => ⟨S884x512x1024, .f32⟩
  | .hbm, ⟨49, _⟩ => ⟨S884x512x1024, .f32⟩
  | .hbm, ⟨50, _⟩ => ⟨S_, .f32⟩
  | .hbm, ⟨51, _⟩ => ⟨S884x512x1024, .f32⟩
  | .hbm, ⟨52, _⟩ => ⟨S884x512x1024, .f32⟩
  | .hbm, ⟨53, _⟩ => ⟨S884x512x1024, .f32⟩
  | .hbm, ⟨54, _⟩ => ⟨S_, .f32⟩
  | .hbm, ⟨55, _⟩ => ⟨S884x512x1024, .f32⟩
  | .hbm, ⟨56, _⟩ => ⟨S884x512x1024, .f32⟩
  | .hbm, ⟨57, _⟩ => ⟨S884x512x1024, .f32⟩
  | .hbm, ⟨58, _⟩ => ⟨S_, .i32⟩
  | .hbm, ⟨59, _⟩ => ⟨S884, .i32⟩
  | .hbm, ⟨60, _⟩ => ⟨S884, .i1⟩
  | .hbm, ⟨61, _⟩ => ⟨S_, .i32⟩
  | .hbm, ⟨62, _⟩ => ⟨S884, .i32⟩
  | .hbm, ⟨63, _⟩ => ⟨S884, .i32⟩
  | .hbm, ⟨64, _⟩ => ⟨S884, .i32⟩
  | .hbm, ⟨65, _⟩ => ⟨S884x1, .i32⟩
  | .hbm, ⟨66, _⟩ => ⟨S884x1024x1024, .f32⟩
  | .hbm, ⟨67, _⟩ => ⟨S884x512x1024, .f32⟩
  | .hbm, ⟨68, _⟩ => ⟨S_, .i32⟩
  | .hbm, ⟨69, _⟩ => ⟨S884, .i32⟩
  | .hbm, ⟨70, _⟩ => ⟨S884, .i1⟩
  | .hbm, ⟨71, _⟩ => ⟨S_, .i32⟩
  | .hbm, ⟨72, _⟩ => ⟨S884, .i32⟩
  | .hbm, ⟨73, _⟩ => ⟨S884, .i32⟩
  | .hbm, ⟨74, _⟩ => ⟨S884, .i32⟩
  | .hbm, ⟨75, _⟩ => ⟨S884x1, .i32⟩
  | .hbm, ⟨76, _⟩ => ⟨S884x1x1024, .f32⟩
  | .hbm, ⟨77, _⟩ => ⟨S884x512x1024, .f32⟩
  | .hbm, ⟨78, _⟩ => ⟨S884x512x1024, .f32⟩
  | .hbm, ⟨79, _⟩ => ⟨S884, .i32⟩
  | .hbm, ⟨80, _⟩ => ⟨S_, .i32⟩
  | .hbm, ⟨81, _⟩ => ⟨S884, .i32⟩
  | .hbm, ⟨82, _⟩ => ⟨S884, .i1⟩
  | .hbm, ⟨83, _⟩ => ⟨S884x1x1, .i1⟩
  | .hbm, ⟨84, _⟩ => ⟨S_, .f32⟩
  | .hbm, ⟨85, _⟩ => ⟨S_, .f32⟩
  | .hbm, ⟨86, _⟩ => ⟨S884x512x1024, .i1⟩
  | .hbm, ⟨87, _⟩ => ⟨S884x512x1024, .f32⟩
  | .hbm, ⟨88, _⟩ => ⟨S884x512x1024, .f32⟩
  | .hbm, ⟨89, _⟩ => ⟨S452608x1024, .f32⟩
  | _, _ => ⟨S884, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== InProj.lean ====
abbrev S32768x1024 : Shape := ⟨2, ![32768, 1024]⟩
abbrev S192x1x1024 : Shape := ⟨3, ![192, 1, 1024]⟩
abbrev S1x1024 : Shape := ⟨2, ![1, 1024]⟩
abbrev S1024x512 : Shape := ⟨2, ![1024, 512]⟩
abbrev S512x1024 : Shape := ⟨2, ![512, 1024]⟩
abbrev S32768x512 : Shape := ⟨2, ![32768, 512]⟩
abbrev S16x16x512x128 : Shape := ⟨4, ![16, 16, 512, 128]⟩
abbrev S1x1x1024 : Shape := ⟨3, ![1, 1, 1024]⟩
abbrev S512x512 : Shape := ⟨2, ![512, 512]⟩
abbrev S1x4x512x128 : Shape := ⟨4, ![1, 4, 512, 128]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩

abbrev nBuf : Space → Nat
  | .hbm => 11
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S192x1x1024, .f32⟩
  | .hbm, ⟨2, _⟩ => ⟨S1x1024, .f32⟩
  | .hbm, ⟨3, _⟩ => ⟨S1024x512, .bf16⟩
  | .hbm, ⟨4, _⟩ => ⟨S512x1024, .bf16⟩
  | .hbm, ⟨5, _⟩ => ⟨S1024x512, .bf16⟩
  | .hbm, ⟨6, _⟩ => ⟨S1024x512, .bf16⟩
  | .hbm, ⟨7, _⟩ => ⟨S32768x512, .bf16⟩
  | .hbm, ⟨8, _⟩ => ⟨S16x16x512x128, .bf16⟩
  | .hbm, ⟨9, _⟩ => ⟨S32768x512, .bf16⟩
  | .hbm, ⟨10, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S512x512, .bf16⟩
  | .local _ .vmem, ⟨12, _⟩ => ⟨S512x512, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S32768x1024 : Shape := ⟨2, ![32768, 1024]⟩
abbrev S192x1x1024 : Shape := ⟨3, ![192, 1, 1024]⟩
abbrev S1x1024 : Shape := ⟨2, ![1, 1024]⟩
abbrev S1024x512 : Shape := ⟨2, ![1024, 512]⟩
abbrev S512x1024 : Shape := ⟨2, ![512, 1024]⟩
abbrev S16x2048x1024 : Shape := ⟨3, ![16, 2048, 1024]⟩
abbrev S32x6x1024 : Shape := ⟨3, ![32, 6, 1024]⟩
abbrev S16x6x1024 : Shape := ⟨3, ![16, 6, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S32768x512 : Shape := ⟨2, ![32768, 512]⟩
abbrev S16x16x128x512 : Shape := ⟨4, ![16, 16, 128, 512]⟩
abbrev S16x16x512x128 : Shape := ⟨4, ![16, 16, 512, 128]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S192x1x1024, .f32⟩
  | .hbm, ⟨2, _⟩ => ⟨S1x1024, .f32⟩
  | .hbm, ⟨3, _⟩ => ⟨S1024x512, .bf16⟩
  | .hbm, ⟨4, _⟩ => ⟨S512x1024, .bf16⟩
  | .hbm, ⟨5, _⟩ => ⟨S1024x512, .bf16⟩
  | .hbm, ⟨6, _⟩ => ⟨S1024x512, .bf16⟩
  | .hbm, ⟨7, _⟩ => ⟨S16x2048x1024, .f32⟩
  | .hbm, ⟨8, _⟩ => ⟨S32x6x1024, .f32⟩
  | .hbm, ⟨9, _⟩ => ⟨S16x6x1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S16x1x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S32768x1024, .f32⟩
  | .hbm, ⟨36, _⟩ => ⟨S1024x512, .f32⟩
  | .hbm, ⟨37, _⟩ => ⟨S32768x512, .f32⟩
  | .hbm, ⟨38, _⟩ => ⟨S1024x512, .f32⟩
  | .hbm, ⟨39, _⟩ => ⟨S32768x512, .f32⟩
  | .hbm, ⟨40, _⟩ => ⟨S1024x512, .f32⟩
  | .hbm, ⟨41, _⟩ => ⟨S32768x512, .f32⟩
  | .hbm, ⟨42, _⟩ => ⟨S1024x512, .bf16⟩
  | .hbm, ⟨43, _⟩ => ⟨S1024x512, .f32⟩
  | .hbm, ⟨44, _⟩ => ⟨S32768x512, .f32⟩
  | .hbm, ⟨45, _⟩ => ⟨S16x16x128x512, .f32⟩
  | .hbm, ⟨46, _⟩ => ⟨S16x16x512x128, .f32⟩
  | .hbm, ⟨47, _⟩ => ⟨S32768x512, .bf16⟩
  | .hbm, ⟨48, _⟩ => ⟨S16x16x512x128, .bf16⟩
  | .hbm, ⟨49, _⟩ => ⟨S32768x512, .bf16⟩
  | .hbm, ⟨50, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== OutProj.lean ====
abbrev S32768x512 : Shape := ⟨2, ![32768, 512]⟩
abbrev S32768x1024 : Shape := ⟨2, ![32768, 1024]⟩
abbrev S192x1x1024 : Shape := ⟨3, ![192, 1, 1024]⟩
abbrev S1x1024 : Shape := ⟨2, ![1, 1024]⟩
abbrev S512x1024 : Shape := ⟨2, ![512, 1024]⟩
abbrev S64x1024 : Shape := ⟨2, ![64, 1024]⟩
abbrev S32x128 : Shape := ⟨2, ![32, 128]⟩
abbrev S4x32768 : Shape := ⟨2, ![4, 32768]⟩
abbrev S2048x128 : Shape := ⟨2, ![2048, 128]⟩
abbrev S512x512 : Shape := ⟨2, ![512, 512]⟩
abbrev S1x1x1024 : Shape := ⟨3, ![1, 1, 1024]⟩
abbrev S4x512 : Shape := ⟨2, ![4, 512]⟩
abbrev S512 : Shape := ⟨1, ![512]⟩
abbrev S512x1 : Shape := ⟨2, ![512, 1]⟩
abbrev S64x512 : Shape := ⟨2, ![64, 512]⟩
abbrev S32x1024 : Shape := ⟨2, ![32, 1024]⟩
abbrev S32x512 : Shape := ⟨2, ![32, 512]⟩
abbrev S32x1 : Shape := ⟨2, ![32, 1]⟩
abbrev S1x512 : Shape := ⟨2, ![1, 512]⟩
abbrev S32 : Shape := ⟨1, ![32]⟩
abbrev S32x32 : Shape := ⟨2, ![32, 32]⟩

abbrev nBuf : Space → Nat
  | .hbm => 15
  | .vmem => 28
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S192x1x1024, .f32⟩
  | .hbm, ⟨4, _⟩ => ⟨S1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S64x1024, .bf16⟩
  | .hbm, ⟨9, _⟩ => ⟨S32x128, .f32⟩
  | .hbm, ⟨10, _⟩ => ⟨S32768x1024, .f32⟩
  | .hbm, ⟨11, _⟩ => ⟨S32768x1024, .bf16⟩
  | .hbm, ⟨12, _⟩ => ⟨S4x32768, .f32⟩
  | .hbm, ⟨13, _⟩ => ⟨S4x32768, .i32⟩
  | .hbm, ⟨14, _⟩ => ⟨S2048x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S32x128, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S4x512, .f32⟩
  | .local _ .vmem, ⟨23, _⟩ => ⟨S4x512, .f32⟩
  | .local _ .vmem, ⟨24, _⟩ => ⟨S4x512, .i32⟩
  | .local _ .vmem, ⟨25, _⟩ => ⟨S4x512, .i32⟩
  | .local _ .vmem, ⟨26, _⟩ => ⟨S32x128, .f32⟩
  | .local _ .vmem, ⟨27, _⟩ => ⟨S32x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c3_i32 : BitVec 32 := 3#32
  let v19 : BitVec 32 := Scalar.addi v18 c3_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c4_i32_5 : BitVec 32 := 4#32
  let v19 : BitVec 32 := Scalar.addi v18 c4_i32_5
  let c0_i32_6 : BitVec 32 := 0#32
  let c0_i32_7 : BitVec 32 := 0#32
  let c0_i32_8 : BitVec 32 := 0#32
  ![v19.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutProjRefIdeal.lean ====
abbrev S32768x512 : Shape := ⟨2, ![32768, 512]⟩
abbrev S32768x1024 : Shape := ⟨2, ![32768, 1024]⟩
abbrev S192x1x1024 : Shape := ⟨3, ![192, 1, 1024]⟩
abbrev S1x1024 : Shape := ⟨2, ![1, 1024]⟩
abbrev S512x1024 : Shape := ⟨2, ![512, 1024]⟩
abbrev S64x1024 : Shape := ⟨2, ![64, 1024]⟩
abbrev S32x128 : Shape := ⟨2, ![32, 128]⟩
abbrev S16x2048x1024 : Shape := ⟨3, ![16, 2048, 1024]⟩
abbrev S32x6x1024 : Shape := ⟨3, ![32, 6, 1024]⟩
abbrev S16x6x1024 : Shape := ⟨3, ![16, 6, 1024]⟩
abbrev S1024x1024 : Shape := ⟨2, ![1024, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S192x1x1024, .f32⟩
  | .hbm, ⟨4, _⟩ => ⟨S1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S64x1024, .bf16⟩
  | .hbm, ⟨9, _⟩ => ⟨S32x128, .f32⟩
  | .hbm, ⟨10, _⟩ => ⟨S16x2048x1024, .f32⟩
  | .hbm, ⟨11, _⟩ => ⟨S32x6x1024, .f32⟩
  | .hbm, ⟨12, _⟩ => ⟨S16x6x1024, .f32⟩
  | .hbm, ⟨13, _⟩ => ⟨S32768x1024, .bf16⟩
  | .hbm, ⟨14, _⟩ => ⟨S32768x1024, .f32⟩
  | .hbm, ⟨15, _⟩ => ⟨S1024x1024, .bf16⟩
  | .hbm, ⟨16, _⟩ => ⟨S1024x1024, .f32⟩
  | .hbm, ⟨17, _⟩ => ⟨S32768x1024, .f32⟩
  | .hbm, ⟨18, _⟩ => ⟨S16x2048x1024, .f32⟩
  | .hbm, ⟨19, _⟩ => ⟨S16x1x1024, .f32⟩
  | .hbm, ⟨20, _⟩ => ⟨S16x2048x1024, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x1024, .f32⟩
  | .hbm, ⟨32, _⟩ => ⟨S16x2048x1024, .f32⟩
  | .hbm, ⟨33, _⟩ => ⟨S1x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S16x1x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S32768x1024, .f32⟩
  | .hbm, ⟨65, _⟩ => ⟨S32768x1024, .f32⟩
  | .hbm, ⟨66, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Ada.lean ====
abbrev S32x1024 : Shape := ⟨2, ![32, 1024]⟩
abbrev S1024x6144 : Shape := ⟨2, ![1024, 6144]⟩
abbrev S6144 : Shape := ⟨1, ![6144]⟩
abbrev S1x6144 : Shape := ⟨2, ![1, 6144]⟩
abbrev S32x6144 : Shape := ⟨2, ![32, 6144]⟩
abbrev S1024x1536 : Shape := ⟨2, ![1024, 1536]⟩
abbrev S1x1536 : Shape := ⟨2, ![1, 1536]⟩
abbrev S32x1536 : Shape := ⟨2, ![32, 1536]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S32x6144, .f32⟩
  | .local _ .vmem, ⟨0, _⟩ => ⟨S32x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S32x1536, .f32⟩
  | .local _ .vmem, ⟨6, _⟩ => ⟨S32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x6144, .f32⟩
  | .hbm, ⟨13, _⟩ => ⟨S1x6144, .f32⟩
  | .hbm, ⟨14, _⟩ => ⟨S32x6144, .f32⟩
  | .hbm, ⟨15, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Attn.lean ====
abbrev S16x2048x512 : Shape := ⟨3, ![16, 2048, 512]⟩
abbrev S16x16x512x128 : Shape := ⟨4, ![16, 16, 512, 128]⟩
abbrev S5x8x128x640 : Shape := ⟨4, ![5, 8, 128, 640]⟩
abbrev S1x512 : Shape := ⟨2, ![1, 512]⟩
abbrev S1x1024x512 : Shape := ⟨3, ![1, 1024, 512]⟩
abbrev S1x16x512x128 : Shape := ⟨4, ![1, 16, 512, 128]⟩
abbrev S1x2048x512 : Shape := ⟨3, ![1, 2048, 512]⟩
abbrev S128x128 : Shape := ⟨2, ![128, 128]⟩
abbrev S1x128x512 : Shape := ⟨3, ![1, 128, 512]⟩
abbrev S128x512 : Shape := ⟨2, ![128, 512]⟩
abbrev S1x5x512x128 : Shape := ⟨4, ![1, 5, 512, 128]⟩
abbrev S5x512x128 : Shape := ⟨3, ![5, 512, 128]⟩
abbrev S1x640x512 : Shape := ⟨3, ![1, 640, 512]⟩
abbrev S640x512 : Shape := ⟨2, ![640, 512]⟩
abbrev S1x128x128 : Shape := ⟨3, ![1, 128, 128]⟩
abbrev S128x640 : Shape := ⟨2, ![128, 640]⟩
abbrev S256x128 : Shape := ⟨2, ![256, 128]⟩
abbrev S256x640 : Shape := ⟨2, ![256, 640]⟩
abbrev S1x1x128x640 : Shape := ⟨4, ![1, 1, 128, 640]⟩
abbrev S256 : Shape := ⟨1, ![256]⟩
abbrev S256x1 : Shape := ⟨2, ![256, 1]⟩
abbrev S640x128 : Shape := ⟨2, ![640, 128]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x512, .bf16⟩
  | .hbm, ⟨1, _⟩ => ⟨S16x16x512x128, .bf16⟩
  | .hbm, ⟨2, _⟩ => ⟨S16x2048x512, .bf16⟩
  | .hbm, ⟨3, _⟩ => ⟨S5x8x128x640, .f32⟩
  | .hbm, ⟨4, _⟩ => ⟨S1x512, .f32⟩
  | .hbm, ⟨5, _⟩ => ⟨S16x2048x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x16x512x128, .bf16⟩
  | .local _ .vmem, ⟨3, _⟩ => ⟨S1x16x512x128, .bf16⟩
  | .local _ .vmem, ⟨4, _⟩ => ⟨S1x2048x512, .bf16⟩
  | .local _ .vmem, ⟨5, _⟩ => ⟨S1x2048x512, .bf16⟩
  | .local _ .vmem, ⟨6, _⟩ => ⟨S5x8x128x640, .f32⟩
  | .local _ .vmem, ⟨7, _⟩ => ⟨S1x512, .f32⟩
  | .local _ .vmem, ⟨8, _⟩ => ⟨S1x1024x512, .bf16⟩
  | .local _ .vmem, ⟨9, _⟩ => ⟨S1x1024x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c2_i32 : BitVec 32 := 2#32
  let v3 : BitVec 32 := Scalar.addi c0_i32 c2_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let c0_i32_1 : BitVec 32 := 0#32
  let v5 : BitVec 32 := Scalar.addi v4 c0_i32_1
  let c128_i32 : BitVec 32 := 128#32
  let v17 : BitVec 32 := Scalar.muli v5 c128_i32
  v17
def k0_off1 (k0_t1 : Fin k0_t1_loop.trips) (c0_i32_1 : BitVec 32) : Fin 3 → Nat :=
  let c0 : Index := 0#32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let c128_i32 : BitVec 32 := 128#32
  let v17 : BitVec 32 := Scalar.muli v5 c128_i32
  let v18 : BitVec 32 := v17
  let v19 : Index := Scalar.indexCast v18
  let c0_7 : Index := 0#32
  ![0, v19.toNat, 0]
def k0_off2 (i : grid0.Coords) (k0_t1 : Fin k0_t1_loop.trips) (c0_i32_1 : BitVec 32) : Fin 4 → Nat :=
  let c0_8 : Index := 0#32
  let c11_i32 : BitVec 32 := 11#32
  let c0_i32_3 : BitVec 32 := 0#32
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_2 : BitVec 32 := 2#32
  let v8 : BitVec 32 := Scalar.subi v7 c2_i32_2
  let v9 : BitVec 32 := Scalar.maxsi c0_i32_3 v8
  let v10 : BitVec 32 := Scalar.minsi c11_i32 v9
  let v22 : Index := Scalar.indexCast v10
  let c0_9 : Index := 0#32
  let c0_10 : Index := 0#32
  ![0, v22.toNat, 0, 0]
def k0_mult2 (i : grid0.Coords) (k0_t1 : Fin k0_t1_loop.trips) : BitVec 32 :=
  let c11_i32 : BitVec 32 := 11#32
  let c0_i32_3 : BitVec 32 := 0#32
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let c0_i32_1 : BitVec 32 := 0#32
  let v5 : BitVec 32 := Scalar.addi v4 c0_i32_1
  let v7 : BitVec 32 := Scalar.addi v6 v5
  let c2_i32_2 : BitVec 32 := 2#32
  let v8 : BitVec 32 := Scalar.subi v7 c2_i32_2
  let v9 : BitVec 32 := Scalar.maxsi c0_i32_3 v8
  let v10 : BitVec 32 := Scalar.minsi c11_i32 v9
  let c128_i32_11 : BitVec 32 := 128#32
  let v25 : BitVec 32 := Scalar.muli v10 c128_i32_11
  v25
def k0_off3 (i : grid0.Coords) (k0_t1 : Fin k0_t1_loop.trips) (c0_i32_1 : BitVec 32) : Fin 3 → Nat :=
  let c0_12 : Index := 0#32
  let c11_i32 : BitVec 32 := 11#32
  let c0_i32_3 : BitVec 32 := 0#32
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_2 : BitVec 32 := 2#32
  let v8 : BitVec 32 := Scalar.subi v7 c2_i32_2
  let v9 : BitVec 32 := Scalar.maxsi c0_i32_3 v8
  let v10 : BitVec 32 := Scalar.minsi c11_i32 v9
  let c128_i32_11 : BitVec 32 := 128#32
  let v25 : BitVec 32 := Scalar.muli v10 c128_i32_11
  let v26 : BitVec 32 := v25
  let v27 : Index := Scalar.indexCast v26
  let c0_13 : Index := 0#32
  ![0, v27.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_14 : BitVec 32 := 4#32
  let v30 : BitVec 32 := Scalar.muli arg8 c4_i32_14
  let c1_i32_15 : BitVec 32 := 1#32
  let v31 : BitVec 32 := Scalar.addi v30 c1_i32_15
  let c128_i32_25 : BitVec 32 := 128#32
  let v43 : BitVec 32 := Scalar.muli v31 c128_i32_25
  v43
def k0_mult4 (i : grid0.Coords) (k0_t1 : Fin k0_t1_loop.trips) : BitVec 32 :=
  let c11_i32_19 : BitVec 32 := 11#32
  let c0_i32_18 : BitVec 32 := 0#32
  let arg1 : BitVec 32 := BitVec.ofNat 32 (i 1).val
  let c8_i32_16 : BitVec 32 := 8#32
  let v32 : BitVec 32 := Scalar.muli arg1 c8_i32_16
  let c0_i32 : BitVec 32 := 0#32
  let c1_i32 : BitVec 32 := 1#32
  let arg8 : BitVec 32 := Scf.iv c0_i32 c1_i32 k0_t1
  let c4_i32_14 : BitVec 32 := 4#32
  let v30 : BitVec 32 := Scalar.muli arg8 c4_i32_14
  let c1_i32_15 : BitVec 32 := 1#32
  let v31 : BitVec 32 := Scalar.addi v30 c1_i32_15
  let v33 : BitVec 32 := Scalar.addi v32 v31
  let c2_i32_17 : BitVec 32 := 2#32
  let v34 : BitVec 32 := Scalar.subi v33 c2_i32_17
  let v35 : BitVec 32 := Scalar.maxsi c0_i32_18 v34
  let v36 : BitVec 32 := Scalar.minsi c11_i32_19 v35
  let c128_i32_31 : BitVec 32 := 128#32
  let v51 : BitVec 32 := Scalar.muli v36 c128_i32_31
  v51
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_34 : BitVec 32 := 4#32
  let v56 : BitVec 32 := Scalar.muli arg8 c4_i32_34
  let c2_i32_35 : BitVec 32 := 2#32
  let v57 : BitVec 32 := Scalar.addi v56 c2_i32_35
  let c128_i32_45 : BitVec 32 := 128#32
  let v69 : BitVec 32 := Scalar.muli v57 c128_i32_45
  v69
def k0_mult6 (i : grid0.Coords) (k0_t1 : Fin k0_t1_loop.trips) : BitVec 32 :=
  let c11_i32_39 : BitVec 32 := 11#32
  let c0_i32_38 : BitVec 32 := 0#32
  let arg1 : BitVec 32 := BitVec.ofNat 32 (i 1).val
  let c8_i32_36 : BitVec 32 := 8#32
  let v58 : BitVec 32 := Scalar.muli arg1 c8_i32_36
  let c0_i32 : BitVec 32 := 0#32
  let c1_i32 : BitVec 32 := 1#32
  let arg8 : BitVec 32 := Scf.iv c0_i32 c1_i32 k0_t1
  let c4_i32_34 : BitVec 32 := 4#32
  let v56 : BitVec 32 := Scalar.muli arg8 c4_i32_34
  let c2_i32_35 : BitVec 32 := 2#32
  let v57 : BitVec 32 := Scalar.addi v56 c2_i32_35
  let v59 : BitVec 32 := Scalar.addi v58 v57
  let c2_i32_37 : BitVec 32 := 2#32
  let v60 : BitVec 32 := Scalar.subi v59 c2_i32_37
  let v61 : BitVec 32 := Scalar.maxsi c0_i32_38 v60
  let v62 : BitVec 32 := Scalar.minsi c11_i32_39 v61
  let c128_i32_51 : BitVec 32 := 128#32
  let v77 : BitVec 32 := Scalar.muli v62 c128_i32_51
  v77
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_54 : BitVec 32 := 4#32
  let v82 : BitVec 32 := Scalar.muli arg8 c4_i32_54
  let c3_i32_55 : BitVec 32 := 3#32
  let v83 : BitVec 32 := Scalar.addi v82 c3_i32_55
  let c128_i32_65 : BitVec 32 := 128#32
  let v95 : BitVec 32 := Scalar.muli v83 c128_i32_65
  v95
def k0_mult8 (i : grid0.Coords) (k0_t1 : Fin k0_t1_loop.trips) : BitVec 32 :=
  let c11_i32_59 : BitVec 32 := 11#32
  let c0_i32_58 : BitVec 32 := 0#32
  let arg1 : BitVec 32 := BitVec.ofNat 32 (i 1).val
  let c8_i32_56 : BitVec 32 := 8#32
  let v84 : BitVec 32 := Scalar.muli arg1 c8_i32_56
  let c0_i32 : BitVec 32 := 0#32
  let c1_i32 : BitVec 32 := 1#32
  let arg8 : BitVec 32 := Scf.iv c0_i32 c1_i32 k0_t1
  let c4_i32_54 : BitVec 32 := 4#32
  let v82 : BitVec 32 := Scalar.muli arg8 c4_i32_54
  let c3_i32_55 : BitVec 32 := 3#32
  let v83 : BitVec 32 := Scalar.addi v82 c3_i32_55
  let v85 : BitVec 32 := Scalar.addi v84 v83
  let c2_i32_57 : BitVec 32 := 2#32
  let v86 : BitVec 32 := Scalar.subi v85 c2_i32_57
  let v87 : BitVec 32 := Scalar.maxsi c0_i32_58 v86
  let v88 : BitVec 32 := Scalar.minsi c11_i32_59 v87
  let c128_i32_71 : BitVec 32 := 128#32
  let v103 : BitVec 32 := Scalar.muli v88 c128_i32_71
  v103
def k0_off4 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v142 : Index := Scalar.indexCast v16
  let c0_77 : Index := 0#32
  let c0_78 : Index := 0#32
  let c0_79 : Index := 0#32
  ![v142.toNat, 0, 0, 0]
def k0_off5 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v145 : Index := Scalar.indexCast v16
  let c1 : Index := 1#32
  let c0_80 : Index := 0#32
  let c0_81 : Index := 0#32
  ![v145.toNat, 1, 0, 0]
def k0_off6 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v175 : Index := Scalar.indexCast v16
  let c2 : Index := 2#32
  let c0_86 : Index := 0#32
  let c0_87 : Index := 0#32
  ![v175.toNat, 2, 0, 0]
def k0_off7 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v178 : Index := Scalar.indexCast v16
  let c3 : Index := 3#32
  let c0_88 : Index := 0#32
  let c0_89 : Index := 0#32
  ![v178.toNat, 3, 0, 0]
def k0_off8 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v215 : Index := Scalar.indexCast v16
  let c4 : Index := 4#32
  let c0_95 : Index := 0#32
  let c0_96 : Index := 0#32
  ![v215.toNat, 4, 0, 0]
def k0_off9 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v218 : Index := Scalar.indexCast v16
  let c5 : Index := 5#32
  let c0_97 : Index := 0#32
  let c0_98 : Index := 0#32
  ![v218.toNat, 5, 0, 0]
def k0_off10 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v255 : Index := Scalar.indexCast v16
  let c6 : Index := 6#32
  let c0_104 : Index := 0#32
  let c0_105 : Index := 0#32
  ![v255.toNat, 6, 0, 0]
def k0_off11 (i : grid0.Coords) (k0_t1 : Fin k0_t1_loop.trips) (c0_i32_1 : BitVec 32) : Fin 4 → Nat :=
  let arg1 : BitVec 32 := BitVec.ofNat 32 (i 1).val
  let c8_i32 : BitVec 32 := 8#32
  let v6 : BitVec 32 := Scalar.muli arg1 c8_i32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.muli arg8 c4_i32
  let v5 : BitVec 32 := Scalar.addi v4 c0_i32_1
  let v7 : BitVec 32 := Scalar.addi v6 v5
  let c2_i32_4 : BitVec 32 := 2#32
  let v11 : BitVec 1 := Scalar.cmpi .slt v7 c2_i32_4
  let c14_i32 : BitVec 32 := 14#32
  let v12 : BitVec 1 := Scalar.cmpi .sge v7 c14_i32
  let c14_i32_5 : BitVec 32 := 14#32
  let v13 : BitVec 32 := Scalar.subi v7 c14_i32_5
  let c3_i32 : BitVec 32 := 3#32
  let v14 : BitVec 32 := Scalar.addi v13 c3_i32
  let c2_i32_6 : BitVec 32 := 2#32
  let v15 : BitVec 32 := Scalar.select v12 v14 c2_i32_6
  let v16 : BitVec 32 := Scalar.select v11 v7 v15
  let v258 : Index := Scalar.indexCast v16
  let c7 : Index := 7#32
  let c0_106 : Index := 0#32
  let c0_107 : Index := 0#32
  ![v258.toNat, 7, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S5x8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16x2048x512 : Shape := ⟨3, ![16, 2048, 512]⟩
abbrev S16x16x512x128 : Shape := ⟨4, ![16, 16, 512, 128]⟩
abbrev S5x8x128x640 : Shape := ⟨4, ![5, 8, 128, 640]⟩
abbrev S1x512 : Shape := ⟨2, ![1, 512]⟩
abbrev S16 : Shape := ⟨1, ![16]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S256 : Shape := ⟨1, ![256]⟩
abbrev S256x1 : Shape := ⟨2, ![256, 1]⟩
abbrev S640 : Shape := ⟨1, ![640]⟩
abbrev S1x640 : Shape := ⟨2, ![1, 640]⟩
abbrev S256x640 : Shape := ⟨2, ![256, 640]⟩
abbrev S256x128x8x64 : Shape := ⟨4, ![256, 128, 8, 64]⟩
abbrev S16x16x128x512 : Shape := ⟨4, ![16, 16, 128, 512]⟩
abbrev S32768x8x64 : Shape := ⟨3, ![32768, 8, 64]⟩
abbrev S256x640x1 : Shape := ⟨3, ![256, 640, 1]⟩
abbrev S256x640x8x64 : Shape := ⟨4, ![256, 640, 8, 64]⟩
abbrev S256x8x128x640 : Shape := ⟨4, ![256, 8, 128, 640]⟩
abbrev S256x8x128 : Shape := ⟨3, ![256, 8, 128]⟩
abbrev S256x8x128x1 : Shape := ⟨4, ![256, 8, 128, 1]⟩
abbrev S256x8x128x64 : Shape := ⟨4, ![256, 8, 128, 64]⟩
abbrev S16x2048 : Shape := ⟨2, ![16, 2048]⟩
abbrev S16x2048x1 : Shape := ⟨3, ![16, 2048, 1]⟩
abbrev S1x1x512 : Shape := ⟨3, ![1, 1, 512]⟩

abbrev nBuf : Space → Nat
  | .hbm => 124
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x16x512x128, .bf16⟩
  | .hbm, ⟨2, _⟩ => ⟨S16x2048x512, .bf16⟩
  | .hbm, ⟨3, _⟩ => ⟨S5x8x128x640, .f32⟩
  | .hbm, ⟨4, _⟩ => ⟨S1x512, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16, .i32⟩
  | .hbm, ⟨35, _⟩ => ⟨S16x1, .i32⟩
  | .hbm, ⟨36, _⟩ => ⟨S_, .i32⟩
  | .hbm, ⟨37, _⟩ => ⟨S16x1, .i32⟩
  | .hbm, ⟨38, _⟩ => ⟨S16x1, .i32⟩
  | .hbm, ⟨39, _⟩ => ⟨S_, .i32⟩
  | .hbm, ⟨40, _⟩ => ⟨S16, .i32⟩
  | .hbm, ⟨41, _⟩ => ⟨S16, .i32⟩
  | .hbm, ⟨42, _⟩ => ⟨S1x16, .i32⟩
  | .hbm, ⟨43, _⟩ => ⟨S16x16, .i32⟩
  | .hbm, ⟨44, _⟩ => ⟨S16x16, .i32⟩
  | .hbm, ⟨45, _⟩ => ⟨S16x16, .i32⟩
  | .hbm, ⟨46, _⟩ => ⟨S256, .i32⟩
  | .hbm, ⟨47, _⟩ => ⟨S256x1, .i32⟩
  | .hbm, ⟨48, _⟩ => ⟨S640, .i32⟩
  | .hbm, ⟨49, _⟩ => ⟨S1x640, .i32⟩
  | .hbm, ⟨50, _⟩ => ⟨S256x640, .i32⟩
  | .hbm, ⟨51, _⟩ => ⟨S256x640, .i32⟩
  | .hbm, ⟨52, _⟩ => ⟨S256x640, .i32⟩
  | .hbm, ⟨53, _⟩ => ⟨S16x2048x512, .f32⟩
  | .hbm, ⟨54, _⟩ => ⟨S256x128x8x64, .f32⟩
  | .hbm, ⟨55, _⟩ => ⟨S16x16x512x128, .f32⟩
  | .hbm, ⟨56, _⟩ => ⟨S16x16x128x512, .f32⟩
  | .hbm, ⟨57, _⟩ => ⟨S32768x8x64, .f32⟩
  | .hbm, ⟨58, _⟩ => ⟨S_, .i32⟩
  | .hbm, ⟨59, _⟩ => ⟨S256x640, .i32⟩
  | .hbm, ⟨60, _⟩ => ⟨S256x640, .i1⟩
  | .hbm, ⟨61, _⟩ => ⟨S_, .i32⟩
  | .hbm, ⟨62, _⟩ => ⟨S256x640, .i32⟩
  | .hbm, ⟨63, _⟩ => ⟨S256x640, .i32⟩
  | .hbm, ⟨64, _⟩ => ⟨S256x640, .i32⟩
  | .hbm, ⟨65, _⟩ => ⟨S256x640x1, .i32⟩
  | .hbm, ⟨66, _⟩ => ⟨S256x640x8x64, .f32⟩
  | .hbm, ⟨67, _⟩ => ⟨S16x2048x512, .f32⟩
  | .hbm, ⟨68, _⟩ => ⟨S32768x8x64, .f32⟩
  | .hbm, ⟨69, _⟩ => ⟨S_, .i32⟩
  | .hbm, ⟨70, _⟩ => ⟨S256x640, .i32⟩
  | .hbm, ⟨71, _⟩ => ⟨S256x640, .i1⟩
  | .hbm, ⟨72, _⟩ => ⟨S_, .i32⟩
  | .hbm, ⟨73, _⟩ => ⟨S256x640, .i32⟩
  | .hbm, ⟨74, _⟩ => ⟨S256x640, .i32⟩
  | .hbm, ⟨75, _⟩ => ⟨S256x640, .i32⟩
  | .hbm, ⟨76, _⟩ => ⟨S256x640x1, .i32⟩
  | .hbm, ⟨77, _⟩ => ⟨S256x640x8x64, .f32⟩
  | .hbm, ⟨78, _⟩ => ⟨S256x8x128x640, .f32⟩
  | .hbm, ⟨79, _⟩ => ⟨S16x16, .i32⟩
  | .hbm, ⟨80, _⟩ => ⟨S256, .i32⟩
  | .hbm, ⟨81, _⟩ => ⟨S_, .i32⟩
  | .hbm, ⟨82, _⟩ => ⟨S256, .i32⟩
  | .hbm, ⟨83, _⟩ => ⟨S256, .i1⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S256, .i32⟩
  | .hbm, ⟨88, _⟩ => ⟨S256x1, .i32⟩
  | .hbm, ⟨89, _⟩ => ⟨S256x8x128x640, .f32⟩
  | .hbm, ⟨90, _⟩ => ⟨S256x8x128x640, .f32⟩
  | .hbm, ⟨91, _⟩ => ⟨S_, .f32⟩
  | .hbm, ⟨92, _⟩ => ⟨S256x8x128, .f32⟩
  | .hbm, ⟨93, _⟩ => ⟨S256x8x128x1, .f32⟩
  | .hbm, ⟨94, _⟩ => ⟨S256x8x128x640, .f32⟩
  | .hbm, ⟨95, _⟩ => ⟨S256x8x128x640, .f32⟩
  | .hbm, ⟨96, _⟩ => ⟨S_, .f32⟩
  | .hbm, ⟨97, _⟩ => ⟨S256x8x128x640, .f32⟩
  | .hbm, ⟨98, _⟩ => ⟨S256x8x128x640, .f32⟩
  | .hbm, ⟨99, _⟩ => ⟨S256x8x128x64, .f32⟩
  | .hbm, ⟨100, _⟩ => ⟨S_, .f32⟩
  | .hbm, ⟨101, _⟩ => ⟨S256x8x128, .f32⟩
  | .hbm, ⟨102, _⟩ => ⟨S256x8x128x1, .f32⟩
  | .hbm, ⟨103, _⟩ => ⟨S256x8x128x64, .f32⟩
  | .hbm, ⟨104, _⟩ => ⟨S256x8x128x64, .f32⟩
  | .hbm, ⟨105, _⟩ => ⟨S256x128x8x64, .f32⟩
  | .hbm, ⟨106, _⟩ => ⟨S16x2048x512, .f32⟩
  | .hbm, ⟨107, _⟩ => ⟨S16x2048x512, .f32⟩
  | .hbm, ⟨108, _⟩ => ⟨S_, .f32⟩
  | .hbm, ⟨109, _⟩ => ⟨S16x2048, .f32⟩
  | .hbm, ⟨110, _⟩ => ⟨S16x2048x1, .f32⟩
  | .hbm, ⟨111, _⟩ => ⟨S_, .f32⟩
  | .hbm, ⟨112, _⟩ => ⟨S16x2048x1, .f32⟩
  | .hbm, ⟨113, _⟩ => ⟨S16x2048x1, .f32⟩
  | .hbm, ⟨114, _⟩ => ⟨S_, .f32⟩
  | .hbm, ⟨115, _⟩ => ⟨S16x2048x1, .f32⟩
  | .hbm, ⟨116, _⟩ => ⟨S16x2048x1, .f32⟩
  | .hbm, ⟨117, _⟩ => ⟨S16x2048x1, .f32⟩
  | .hbm, ⟨118, _⟩ => ⟨S16x2048x512, .f32⟩
  | .hbm, ⟨119, _⟩ => ⟨S16x2048x512, .f32⟩
  | .hbm, ⟨120, _⟩ => ⟨S1x1x512, .f32⟩
  | .hbm, ⟨121, _⟩ => ⟨S16x2048x512, .f32⟩
  | .hbm, ⟨122, _⟩ => ⟨S16x2048x512, .f32⟩
  | .hbm, ⟨123, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_c_3 : Ref sig .tc := ⟨.hbm, 20, rfl⟩
abbrev main_v6 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_c_5 : Ref sig .tc := ⟨.hbm, 26, rfl⟩
abbrev main_v10 : Ref sig .tc := ⟨.hbm, 27, rfl⟩
abbrev main_v11 : Ref sig .tc := ⟨.hbm, 28, rfl⟩
abbrev main_c_6 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_7 : Ref sig .tc := ⟨.hbm, 36, rfl⟩
abbrev main_v16 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Rows.lean ====
abbrev S64x32 : Shape := ⟨2, ![64, 32]⟩
abbrev S32768x512 : Shape := ⟨2, ![32768, 512]⟩
abbrev S16x16 : Shape := ⟨2, ![16, 16]⟩
abbrev S_ : Shape := ⟨0, ![]⟩
abbrev S64x1x32x1 : Shape := ⟨4, ![64, 1, 32, 1]⟩
abbrev S1x16x1x16 : Shape := ⟨4, ![1, 16, 1, 16]⟩
abbrev S64x16x32x16 : Shape := ⟨4, ![64, 16, 32, 16]⟩
abbrev S1024x512 : Shape := ⟨2, ![1024, 512]⟩
abbrev S16x32x64x512 : Shape := ⟨4, ![16, 32, 64, 512]⟩
abbrev S16x64x64x512 : Shape := ⟨4, ![16, 64, 64, 512]⟩
abbrev S1x32x16x512 : Shape := ⟨4, ![1, 32, 16, 512]⟩
abbrev S1x64x16x512 : Shape := ⟨4, ![1, 64, 16, 512]⟩
abbrev S32x16x512 : Shape := ⟨3, ![32, 16, 512]⟩
abbrev S512x512 : Shape := ⟨2, ![512, 512]⟩
abbrev S64x16x512 : Shape := ⟨3, ![64, 16, 512]⟩

abbrev nBuf : Space → Nat
  | .hbm => 18
  | .vmem => 5
  | .smem => 0
  | _ => 0

abbrev bufTy : (tb : Table) → Fin (tcTables nBuf tb) → BufTy
  | .hbm, ⟨0, _⟩ => ⟨S64x32, .f32⟩
  | .hbm, ⟨1, _⟩ => ⟨S32768x512, .bf16⟩
  | .hbm, ⟨2, _⟩ => ⟨S16x16, .i32⟩
  | .hbm, ⟨3, _⟩ => ⟨S16x16, .i32⟩
  | .hbm, ⟨4, _⟩ => ⟨S_, .i32⟩
  | .hbm, ⟨5, _⟩ => ⟨S16x16, .i32⟩
  | .hbm, ⟨6, _⟩ => ⟨S16x16, .i32⟩
  | .hbm, ⟨7, _⟩ => ⟨S16x16, .i1⟩
  | .hbm, ⟨8, _⟩ => ⟨S16x16, .f32⟩
  | .hbm, ⟨9, _⟩ => ⟨S64x1x32x1, .f32⟩
  | .hbm, ⟨10, _⟩ => ⟨S1x16x1x16, .f32⟩
  | .hbm, ⟨11, _⟩ => ⟨S64x16x32x16, .f32⟩
  | .hbm, ⟨12, _⟩ => ⟨S64x16x32x16, .f32⟩
  | .hbm, ⟨13, _⟩ => ⟨S64x16x32x16, .f32⟩
  | .hbm, ⟨14, _⟩ => ⟨S1024x512, .f32⟩
  | .hbm, ⟨15, _⟩ => ⟨S1024x512, .bf16⟩
  | .hbm, ⟨16, _⟩ => ⟨S16x32x64x512, .bf16⟩
  | .hbm, ⟨17, _⟩ => ⟨S16x64x64x512, .bf16⟩
  | .local _ .vmem, ⟨0, _⟩ => ⟨S1024x512, .bf16⟩
  | .local _ .vmem, ⟨1, _⟩ => ⟨S1x32x16x512, .bf16⟩
  | .local _ .vmem, ⟨2, _⟩ => ⟨S1x32x16x512, .bf16⟩
  | .local _ .vmem, ⟨3, _⟩ => ⟨S1x64x16x512, .bf16⟩
  | .local _ .vmem, ⟨4, _⟩ => ⟨S1x64x16x512, .bf16⟩
  | _, _ => ⟨S64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RowsRefIdeal.lean ====
abbrev S64x32 : Shape := ⟨2, ![64, 32]⟩
abbrev S32768x512 : Shape := ⟨2, ![32768, 512]⟩
abbrev S16x32x64x512 : Shape := ⟨4, ![16, 32, 64, 512]⟩
abbrev S16x64x512x64 : Shape := ⟨4, ![16, 64, 512, 64]⟩
abbrev S16x64x64x512 : Shape := ⟨4, ![16, 64, 64, 512]⟩

abbrev nBuf : Space → Nat
  | .hbm => 7
  | .vmem => 0
  | .smem => 0
  | _ => 0

abbrev bufTy : (tb : Table) → Fin (tcTables nBuf tb) → BufTy
  | .hbm, ⟨0, _⟩ => ⟨S64x32, .f32⟩
  | .hbm, ⟨1, _⟩ => ⟨S32768x512, .bf16⟩
  | .hbm, ⟨2, _⟩ => ⟨S32768x512, .f32⟩
  | .hbm, ⟨3, _⟩ => ⟨S16x32x64x512, .f32⟩
  | .hbm, ⟨4, _⟩ => ⟨S16x64x512x64, .f32⟩
  | .hbm, ⟨5, _⟩ => ⟨S16x64x64x512, .f32⟩
  | .hbm, ⟨6, _⟩ => ⟨S16x64x64x512, .bf16⟩
  | _, _ => ⟨S64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Cols.lean ====
abbrev S16x64x64x512 : Shape := ⟨4, ![16, 64, 64, 512]⟩
abbrev S32x128x128 : Shape := ⟨3, ![32, 128, 128]⟩
abbrev S256x128 : Shape := ⟨2, ![256, 128]⟩
abbrev S4x128x128 : Shape := ⟨3, ![4, 128, 128]⟩
abbrev S1x512 : Shape := ⟨2, ![1, 512]⟩
abbrev S16x64x16384 : Shape := ⟨3, ![16, 64, 16384]⟩
abbrev S1x16x64x512 : Shape := ⟨4, ![1, 16, 64, 512]⟩
abbrev S16x128x128 : Shape := ⟨3, ![16, 128, 128]⟩
abbrev S1x64x8192 : Shape := ⟨3, ![1, 64, 8192]⟩
abbrev S1x1x64x512 : Shape := ⟨4, ![1, 1, 64, 512]⟩
abbrev S64x512 : Shape := ⟨2, ![64, 512]⟩
abbrev S128x512 : Shape := ⟨2, ![128, 512]⟩
abbrev S1x128x128 : Shape := ⟨3, ![1, 128, 128]⟩
abbrev S128x128 : Shape := ⟨2, ![128, 128]⟩
abbrev S1024x512 : Shape := ⟨2, ![1024, 512]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x64x512 : Shape := ⟨3, ![1, 64, 512]⟩

abbrev nBuf : Space → Nat
  | .hbm => 6
  | .vmem => 11
  | .smem => 0
  | _ => 0

abbrev bufTy : (tb : Table) → Fin (tcTables nBuf tb) → BufTy
  | .hbm, ⟨0, _⟩ => ⟨S16x64x64x512, .bf16⟩
  | .hbm, ⟨1, _⟩ => ⟨S32x128x128, .bf16⟩
  | .hbm, ⟨2, _⟩ => ⟨S256x128, .bf16⟩
  | .hbm, ⟨3, _⟩ => ⟨S4x128x128, .bf16⟩
  | .hbm, ⟨4, _⟩ => ⟨S1x512, .f32⟩
  | .hbm, ⟨5, _⟩ => ⟨S16x64x16384, .bf16⟩
  | .local _ .vmem, ⟨0, _⟩ => ⟨S1x16x64x512, .bf16⟩
  | .local _ .vmem, ⟨1, _⟩ => ⟨S1x16x64x512, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S16x128x128, .bf16⟩
  | .local _ .vmem, ⟨5, _⟩ => ⟨S16x128x128, .bf16⟩
  | .local _ .vmem, ⟨6, _⟩ => ⟨S256x128, .bf16⟩
  | .local _ .vmem, ⟨7, _⟩ => ⟨S4x128x128, .bf16⟩
  | .local _ .vmem, ⟨8, _⟩ => ⟨S1x512, .f32⟩
  | .local _ .vmem, ⟨9, _⟩ => ⟨S1x64x8192, .bf16⟩
  | .local _ .vmem, ⟨10, _⟩ => ⟨S1x64x8192, .bf16⟩
  | _, _ => ⟨S16x64x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ColsRefIdeal.lean ====
abbrev S16x64x64x512 : Shape := ⟨4, ![16, 64, 64, 512]⟩
abbrev S32x128x128 : Shape := ⟨3, ![32, 128, 128]⟩
abbrev S256x128 : Shape := ⟨2, ![256, 128]⟩
abbrev S4x128x128 : Shape := ⟨3, ![4, 128, 128]⟩
abbrev S1x512 : Shape := ⟨2, ![1, 512]⟩
abbrev S16x32x64x512 : Shape := ⟨4, ![16, 32, 64, 512]⟩
abbrev S16x32x128x512 : Shape := ⟨4, ![16, 32, 128, 512]⟩
abbrev S32x16x512x128 : Shape := ⟨4, ![32, 16, 512, 128]⟩
abbrev S16x32x128x4x128 : Shape := ⟨5, ![16, 32, 128, 4, 128]⟩
abbrev S16x32x64x4x128 : Shape := ⟨5, ![16, 32, 64, 4, 128]⟩
abbrev S128x128 : Shape := ⟨2, ![128, 128]⟩
abbrev S4x128x16x32x64 : Shape := ⟨5, ![4, 128, 16, 32, 64]⟩
abbrev S16x64x32x4x128 : Shape := ⟨5, ![16, 64, 32, 4, 128]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S16x64x16384 : Shape := ⟨3, ![16, 64, 16384]⟩

abbrev nBuf : Space → Nat
  | .hbm => 43
  | .vmem => 0
  | .smem => 0
  | _ => 0

abbrev bufTy : (tb : Table) → Fin (tcTables nBuf tb) → BufTy
  | .hbm, ⟨0, _⟩ => ⟨S16x64x64x512, .bf16⟩
  | .hbm, ⟨1, _⟩ => ⟨S32x128x128, .bf16⟩
  | .hbm, ⟨2, _⟩ => ⟨S256x128, .bf16⟩
  | .hbm, ⟨3, _⟩ => ⟨S4x128x128, .bf16⟩
  | .hbm, ⟨4, _⟩ => ⟨S1x512, .f32⟩
  | .hbm, ⟨5, _⟩ => ⟨S16x64x64x512, .f32⟩
  | .hbm, ⟨6, _⟩ => ⟨S32x128x128, .f32⟩
  | .hbm, ⟨7, _⟩ => ⟨S16x32x64x512, .f32⟩
  | .hbm, ⟨8, _⟩ => ⟨S16x32x64x512, .f32⟩
  | .hbm, ⟨9, _⟩ => ⟨S16x32x128x512, .f32⟩
  | .hbm, ⟨10, _⟩ => ⟨S32x16x512x128, .f32⟩
  | .hbm, ⟨11, _⟩ => ⟨S16x32x128x512, .f32⟩
  | .hbm, ⟨12, _⟩ => ⟨S16x32x128x4x128, .f32⟩
  | .hbm, ⟨13, _⟩ => ⟨S16x32x64x4x128, .f32⟩
  | .hbm, ⟨14, _⟩ => ⟨S16x32x64x4x128, .f32⟩
  | .hbm, ⟨15, _⟩ => ⟨S256x128, .f32⟩
  | .hbm, ⟨16, _⟩ => ⟨S128x128, .f32⟩
  | .hbm, ⟨17, _⟩ => ⟨S16x32x64x4x128, .f32⟩
  | .hbm, ⟨18, _⟩ => ⟨S128x128, .f32⟩
  | .hbm, ⟨19, _⟩ => ⟨S16x32x64x4x128, .f32⟩
  | .hbm, ⟨20, _⟩ => ⟨S16x32x64x4x128, .f32⟩
  | .hbm, ⟨21, _⟩ => ⟨S4x128x128, .f32⟩
  | .hbm, ⟨22, _⟩ => ⟨S4x128x16x32x64, .f32⟩
  | .hbm, ⟨23, _⟩ => ⟨S16x64x32x4x128, .f32⟩
  | .hbm, ⟨24, _⟩ => ⟨S16x2048x512, .f32⟩
  | .hbm, ⟨25, _⟩ => ⟨S16x2048x512, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x512, .f32⟩
  | .hbm, ⟨37, _⟩ => ⟨S16x2048x512, .f32⟩
  | .hbm, ⟨38, _⟩ => ⟨S1x1x512, .f32⟩
  | .hbm, ⟨39, _⟩ => ⟨S16x2048x512, .f32⟩
  | .hbm, ⟨40, _⟩ => ⟨S16x2048x512, .f32⟩
  | .hbm, ⟨41, _⟩ => ⟨S16x2048x512, .bf16⟩
  | .hbm, ⟨42, _⟩ => ⟨S16x64x16384, .bf16⟩
  | _, _ => ⟨S16x64x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Gates.lean ====
abbrev S32768x512 : Shape := ⟨2, ![32768, 512]⟩
abbrev S32768x1024 : Shape := ⟨2, ![32768, 1024]⟩
abbrev S192x1x1024 : Shape := ⟨3, ![192, 1, 1024]⟩
abbrev S1x1024 : Shape := ⟨2, ![1, 1024]⟩
abbrev S512x1024 : Shape := ⟨2, ![512, 1024]⟩
abbrev S64x1024 : Shape := ⟨2, ![64, 1024]⟩
abbrev S32x128 : Shape := ⟨2, ![32, 128]⟩
abbrev S4x32768 : Shape := ⟨2, ![4, 32768]⟩
abbrev S2048x128 : Shape := ⟨2, ![2048, 128]⟩
abbrev S512x512 : Shape := ⟨2, ![512, 512]⟩
abbrev S1x1x1024 : Shape := ⟨3, ![1, 1, 1024]⟩
abbrev S4x512 : Shape := ⟨2, ![4, 512]⟩
abbrev S512 : Shape := ⟨1, ![512]⟩
abbrev S512x1 : Shape := ⟨2, ![512, 1]⟩
abbrev S64x512 : Shape := ⟨2, ![64, 512]⟩
abbrev S32x1024 : Shape := ⟨2, ![32, 1024]⟩
abbrev S32x512 : Shape := ⟨2, ![32, 512]⟩
abbrev S32x1 : Shape := ⟨2, ![32, 1]⟩
abbrev S1x512 : Shape := ⟨2, ![1, 512]⟩
abbrev S32 : Shape := ⟨1, ![32]⟩
abbrev S32x32 : Shape := ⟨2, ![32, 32]⟩

abbrev nBuf : Space → Nat
  | .hbm => 15
  | .vmem => 28
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S192x1x1024, .f32⟩
  | .hbm, ⟨4, _⟩ => ⟨S1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S64x1024, .bf16⟩
  | .hbm, ⟨9, _⟩ => ⟨S32x128, .f32⟩
  | .hbm, ⟨10, _⟩ => ⟨S32768x1024, .f32⟩
  | .hbm, ⟨11, _⟩ => ⟨S32768x1024, .bf16⟩
  | .hbm, ⟨12, _⟩ => ⟨S4x32768, .f32⟩
  | .hbm, ⟨13, _⟩ => ⟨S4x32768, .i32⟩
  | .hbm, ⟨14, _⟩ => ⟨S2048x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S32x128, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S4x512, .f32⟩
  | .local _ .vmem, ⟨23, _⟩ => ⟨S4x512, .f32⟩
  | .local _ .vmem, ⟨24, _⟩ => ⟨S4x512, .i32⟩
  | .local _ .vmem, ⟨25, _⟩ => ⟨S4x512, .i32⟩
  | .local _ .vmem, ⟨26, _⟩ => ⟨S32x128, .f32⟩
  | .local _ .vmem, ⟨27, _⟩ => ⟨S32x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c3_i32 : BitVec 32 := 3#32
  let v19 : BitVec 32 := Scalar.addi v18 c3_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c4_i32_5 : BitVec 32 := 4#32
  let v19 : BitVec 32 := Scalar.addi v18 c4_i32_5
  let c0_i32_6 : BitVec 32 := 0#32
  let c0_i32_7 : BitVec 32 := 0#32
  let c0_i32_8 : BitVec 32 := 0#32
  ![v19.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== GatesRefIdeal.lean ====
abbrev S32768x512 : Shape := ⟨2, ![32768, 512]⟩
abbrev S32768x1024 : Shape := ⟨2, ![32768, 1024]⟩
abbrev S192x1x1024 : Shape := ⟨3, ![192, 1, 1024]⟩
abbrev S1x1024 : Shape := ⟨2, ![1, 1024]⟩
abbrev S512x1024 : Shape := ⟨2, ![512, 1024]⟩
abbrev S64x1024 : Shape := ⟨2, ![64, 1024]⟩
abbrev S32x128 : Shape := ⟨2, ![32, 128]⟩
abbrev S16x2048x1024 : Shape := ⟨3, ![16, 2048, 1024]⟩
abbrev S32x6x1024 : Shape := ⟨3, ![32, 6, 1024]⟩
abbrev S16x6x1024 : Shape := ⟨3, ![16, 6, 1024]⟩
abbrev S1024x1024 : Shape := ⟨2, ![1024, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32x1024 : Shape := ⟨2, ![32, 1024]⟩
abbrev S1024x32 : Shape := ⟨2, ![1024, 32]⟩
abbrev S32768x32 : Shape := ⟨2, ![32768, 32]⟩
abbrev S32x1 : Shape := ⟨2, ![32, 1]⟩
abbrev S32 : Shape := ⟨1, ![32]⟩
abbrev S1x32 : Shape := ⟨2, ![1, 32]⟩
abbrev S32768x32x1 : Shape := ⟨3, ![32768, 32, 1]⟩
abbrev S32768x1x32 : Shape := ⟨3, ![32768, 1, 32]⟩
abbrev S32768x32x32 : Shape := ⟨3, ![32768, 32, 32]⟩
abbrev S1x1x32 : Shape := ⟨3, ![1, 1, 32]⟩
abbrev S1x32x1 : Shape := ⟨3, ![1, 32, 1]⟩
abbrev S1x32x32 : Shape := ⟨3, ![1, 32, 32]⟩
abbrev S4 : Shape := ⟨1, ![4]⟩
abbrev S1x1x4 : Shape := ⟨3, ![1, 1, 4]⟩
abbrev S32768x32x4 : Shape := ⟨3, ![32768, 32, 4]⟩
abbrev S32768x4 : Shape := ⟨2, ![32768, 4]⟩
abbrev S32768x1 : Shape := ⟨2, ![32768, 1]⟩
abbrev S32768 : Shape := ⟨1, ![32768]⟩
abbrev S4x32768 : Shape := ⟨2, ![4, 32768]⟩
abbrev S64x512x32 : Shape := ⟨3, ![64, 512, 32]⟩
abbrev S64x32 : Shape := ⟨2, ![64, 32]⟩
abbrev S64x1x32 : Shape := ⟨3, ![64, 1, 32]⟩
abbrev S64x32x32 : Shape := ⟨3, ![64, 32, 32]⟩
abbrev S512 : Shape := ⟨1, ![512]⟩
abbrev S1x1x512x1 : Shape := ⟨4, ![1, 1, 512, 1]⟩
abbrev S1x512x1x1 : Shape := ⟨4, ![1, 512, 1, 1]⟩
abbrev S1x512x512x1 : Shape := ⟨4, ![1, 512, 512, 1]⟩
abbrev S64x1x512x32 : Shape := ⟨4, ![64, 1, 512, 32]⟩
abbrev S64x512x512x32 : Shape := ⟨4, ![64, 512, 512, 32]⟩
abbrev S2048x1 : Shape := ⟨2, ![2048, 1]⟩
abbrev S2048x128 : Shape := ⟨2, ![2048, 128]⟩

abbrev nBuf : Space → Nat
  | .hbm => 197
  | .vmem => 0
  | .smem => 0
  | _ => 0

abbrev hbmTy0_0 (i : Nat) : BufTy := match i % 128 with
  | 0 => ⟨S32768x512, .bf16⟩
  | 1 => ⟨S32768x512, .bf16⟩
  | 2 => ⟨S32768x1024, .f32⟩
  | 3 => ⟨S192x1x1024, .f32⟩
  | 4 => ⟨S1x1024, .f32⟩
  | 5 => ⟨S1x1024, .f32⟩
  | 6 => ⟨S512x1024, .bf16⟩
  | 7 => ⟨S512x1024, .bf16⟩
  | 8 => ⟨S64x1024, .bf16⟩
  | 9 => ⟨S32x128, .f32⟩
  | 10 => ⟨S16x2048x1024, .f32⟩
  | 11 => ⟨S32x6x1024, .f32⟩
  | 12 => ⟨S16x6x1024, .f32⟩
  | 13 => ⟨S32768x1024, .bf16⟩
  | 14 => ⟨S32768x1024, .f32⟩
  | 15 => ⟨S1024x1024, .bf16⟩
  | 16 => ⟨S1024x1024, .f32⟩
  | 17 => ⟨S32768x1024, .f32⟩
  | 18 => ⟨S16x2048x1024, .f32⟩
  | 19 => ⟨S16x1x1024, .f32⟩
  | 20 => ⟨S16x2048x1024, .f32⟩
  | 21 => ⟨S_, .f32⟩
  | 22 => ⟨S16x2048, .f32⟩
  | 23 => ⟨S16x2048x1, .f32⟩
  | 24 => ⟨S_, .f32⟩
  | 25 => ⟨S16x2048x1, .f32⟩
  | 26 => ⟨S16x2048x1, .f32⟩
  | 27 => ⟨S_, .f32⟩
  | 28 => ⟨S16x2048x1, .f32⟩
  | 29 => ⟨S16x2048x1, .f32⟩
  | 30 => ⟨S16x2048x1, .f32⟩
  | 31 => ⟨S16x2048x1024, .f32⟩
  | 32 => ⟨S16x2048x1024, .f32⟩
  | 33 => ⟨S1x1x1024, .f32⟩
  | 34 => ⟨S16x2048x1024, .f32⟩
  | 35 => ⟨S16x2048x1024, .f32⟩
  | 36 => ⟨S16x2048x1024, .f32⟩
  | 37 => ⟨S16x2048x1024, .f32⟩
  | 38 => ⟨S16x2048x1024, .f32⟩
  | 39 => ⟨S16x2048x1024, .f32⟩
  | 40 => ⟨S_, .f32⟩
  | 41 => ⟨S16x2048, .f32⟩
  | 42 => ⟨S16x2048x1, .f32⟩
  | 43 => ⟨S_, .f32⟩
  | 44 => ⟨S16x2048x1, .f32⟩
  | 45 => ⟨S16x2048x1, .f32⟩
  | 46 => ⟨S_, .f32⟩
  | 47 => ⟨S16x2048x1, .f32⟩
  | 48 => ⟨S16x2048x1, .f32⟩
  | 49 => ⟨S16x2048x1, .f32⟩
  | 50 => ⟨S16x2048x1024, .f32⟩
  | 51 => ⟨S16x2048x1024, .f32⟩
  | 52 => ⟨S1x1x1024, .f32⟩
  | 53 => ⟨S16x2048x1024, .f32⟩
  | 54 => ⟨S16x2048x1024, .f32⟩
  | 55 => ⟨S16x1x1024, .f32⟩
  | 56 => ⟨S_, .f32⟩
  | 57 => ⟨S16x1x1024, .f32⟩
  | 58 => ⟨S16x1x1024, .f32⟩
  | 59 => ⟨S16x2048x1024, .f32⟩
  | 60 => ⟨S16x2048x1024, .f32⟩
  | 61 => ⟨S16x1x1024, .f32⟩
  | 62 => ⟨S16x2048x1024, .f32⟩
  | 63 => ⟨S16x2048x1024, .f32⟩
  | 64 => ⟨S32768x1024, .f32⟩
  | 65 => ⟨S32768x1024, .f32⟩
  | 66 => ⟨S32x1024, .bf16⟩
  | 67 => ⟨S32x1024, .f32⟩
  | 68 => ⟨S32x1024, .bf16⟩
  | 69 => ⟨S32x1024, .f32⟩
  | 70 => ⟨S32x1024, .f32⟩
  | 71 => ⟨S1024x32, .f32⟩
  | 72 => ⟨S32768x32, .f32⟩
  | 73 => ⟨S32x1, .f32⟩
  | 74 => ⟨S32, .f32⟩
  | 75 => ⟨S1x32, .f32⟩
  | 76 => ⟨S32768x32, .f32⟩
  | 77 => ⟨S32768x32, .f32⟩
  | 78 => ⟨S32768x32x1, .f32⟩
  | 79 => ⟨S32768x1x32, .f32⟩
  | 80 => ⟨S32, .i32⟩
  | 81 => ⟨S32768x32x32, .f32⟩
  | 82 => ⟨S32768x32x32, .f32⟩
  | 83 => ⟨S32768x32x32, .i1⟩
  | 84 => ⟨S32768x32x32, .f32⟩
  | 85 => ⟨S32768x32x32, .f32⟩
  | 86 => ⟨S32768x32x32, .i1⟩
  | 87 => ⟨S1x1x32, .i32⟩
  | 88 => ⟨S1x32x1, .i32⟩
  | 89 => ⟨S1x32x32, .i32⟩
  | 90 => ⟨S1x32x32, .i32⟩
  | 91 => ⟨S1x32x32, .i1⟩
  | 92 => ⟨S32768x32x32, .i1⟩
  | 93 => ⟨S32768x32x32, .i1⟩
  | 94 => ⟨S32768x32x32, .i1⟩
  | 95 => ⟨S_, .f32⟩
  | 96 => ⟨S_, .f32⟩
  | 97 => ⟨S32768x32x32, .f32⟩
  | 98 => ⟨S32768x32x32, .f32⟩
  | 99 => ⟨S32768x32x32, .f32⟩
  | 100 => ⟨S32768x32x32, .f32⟩
  | 101 => ⟨S_, .f32⟩
  | 102 => ⟨S32768x32, .f32⟩
  | 103 => ⟨S4, .i32⟩
  | 104 => ⟨S4, .f32⟩
  | 105 => ⟨S32768x32x1, .f32⟩
  | 106 => ⟨S1x1x4, .f32⟩
  | 107 => ⟨S32768x32x4, .f32⟩
  | 108 => ⟨S32768x32x4, .f32⟩
  | 109 => ⟨S32768x32x4, .i1⟩
  | 110 => ⟨S32768x32x1, .f32⟩
  | 111 => ⟨S_, .f32⟩
  | 112 => ⟨S_, .f32⟩
  | 113 => ⟨S32768x32x4, .f32⟩
  | 114 => ⟨S32768x32x4, .f32⟩
  | 115 => ⟨S32768x32x4, .f32⟩
  | 116 => ⟨S_, .f32⟩
  | 117 => ⟨S32768x4, .f32⟩
  | 118 => ⟨S32768x1, .f32⟩
  | 119 => ⟨S32768x4, .f32⟩
  | 120 => ⟨S32768x4, .f32⟩
  | 121 => ⟨S32768x4, .f32⟩
  | 122 => ⟨S_, .f32⟩
  | 123 => ⟨S32768, .f32⟩
  | 124 => ⟨S32768x1, .f32⟩
  | 125 => ⟨S32768x4, .f32⟩
  | 126 => ⟨S32768x4, .f32⟩
  | 127 => ⟨S4x32768, .f32⟩
  | _ => ⟨S32768x512, .bf16⟩

abbrev hbmTy0_1 (i : Nat) : BufTy := match i % 128 with
  | 0 => ⟨S_, .f32⟩
  | 1 => ⟨S32768x32, .f32⟩
  | 2 => ⟨S32768x32, .i1⟩
  | 3 => ⟨S_, .f32⟩
  | 4 => ⟨S_, .f32⟩
  | 5 => ⟨S32768x32, .f32⟩
  | 6 => ⟨S32768x32, .f32⟩
  | 7 => ⟨S32768x32, .f32⟩
  | 8 => ⟨S64x512x32, .f32⟩
  | 9 => ⟨S64x512x32, .f32⟩
  | 10 => ⟨S_, .f32⟩
  | 11 => ⟨S64x32, .f32⟩
  | 12 => ⟨S_, .f32⟩
  | 13 => ⟨S64x32, .f32⟩
  | 14 => ⟨S64x32, .f32⟩
  | 15 => ⟨S64x32, .f32⟩
  | 16 => ⟨S1x1x32, .i32⟩
  | 17 => ⟨S1x32x1, .i32⟩
  | 18 => ⟨S1x32x32, .i32⟩
  | 19 => ⟨S1x32x32, .i32⟩
  | 20 => ⟨S1x32x32, .i1⟩
  | 21 => ⟨S64x1x32, .f32⟩
  | 22 => ⟨S_, .f32⟩
  | 23 => ⟨S_, .f32⟩
  | 24 => ⟨S64x32x32, .i1⟩
  | 25 => ⟨S64x32x32, .f32⟩
  | 26 => ⟨S64x32x32, .f32⟩
  | 27 => ⟨S64x32x32, .f32⟩
  | 28 => ⟨S_, .f32⟩
  | 29 => ⟨S64x32, .f32⟩
  | 30 => ⟨S_, .f32⟩
  | 31 => ⟨S64x32, .f32⟩
  | 32 => ⟨S64x32, .f32⟩
  | 33 => ⟨S512, .i32⟩
  | 34 => ⟨S1x1x512x1, .i32⟩
  | 35 => ⟨S1x512x1x1, .i32⟩
  | 36 => ⟨S1x512x512x1, .i32⟩
  | 37 => ⟨S1x512x512x1, .i32⟩
  | 38 => ⟨S1x512x512x1, .i1⟩
  | 39 => ⟨S64x1x512x32, .f32⟩
  | 40 => ⟨S_, .f32⟩
  | 41 => ⟨S64x512x512x32, .i1⟩
  | 42 => ⟨S64x512x512x32, .f32⟩
  | 43 => ⟨S64x512x512x32, .f32⟩
  | 44 => ⟨S64x512x512x32, .f32⟩
  | 45 => ⟨S64x512x512x32, .f32⟩
  | 46 => ⟨S_, .f32⟩
  | 47 => ⟨S64x512x32, .f32⟩
  | 48 => ⟨S64x1x32, .f32⟩
  | 49 => ⟨S64x512x32, .f32⟩
  | 50 => ⟨S64x512x32, .f32⟩
  | 51 => ⟨S32768x32, .f32⟩
  | 52 => ⟨S32768x32x1, .f32⟩
  | 53 => ⟨S1x1x4, .f32⟩
  | 54 => ⟨S32768x32x4, .f32⟩
  | 55 => ⟨S32768x32x4, .f32⟩
  | 56 => ⟨S32768x32x4, .i1⟩
  | 57 => ⟨S32768x32x1, .f32⟩
  | 58 => ⟨S_, .f32⟩
  | 59 => ⟨S_, .f32⟩
  | 60 => ⟨S32768x32x4, .f32⟩
  | 61 => ⟨S32768x32x4, .f32⟩
  | 62 => ⟨S32768x32x4, .f32⟩
  | 63 => ⟨S_, .f32⟩
  | 64 => ⟨S32768x4, .f32⟩
  | 65 => ⟨S32768x4, .i32⟩
  | 66 => ⟨S4x32768, .i32⟩
  | 67 => ⟨S2048x1, .f32⟩
  | 68 => ⟨S2048x128, .f32⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_6 : Ref sig .tc := ⟨.hbm, 95, rfl⟩
abbrev main_cst_7 : Ref sig .tc := ⟨.hbm, 96, rfl⟩
abbrev main_call0_v0 : Ref sig .tc := ⟨.hbm, 97, rfl⟩
abbrev main_call0_v1 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_9 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v89 : Ref sig .tc := ⟨.hbm, 115, rfl⟩
abbrev main_cst_10 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_11 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_12 : Ref sig .tc := ⟨.hbm, 128, rfl⟩
abbrev main_v100 : Ref sig .tc := ⟨.hbm, 129, rfl⟩
abbrev main_v101 : Ref sig .tc := ⟨.hbm, 130, rfl⟩
abbrev main_cst_13 : Ref sig .tc := ⟨.hbm, 131, rfl⟩
abbrev main_cst_14 : Ref sig .tc := ⟨.hbm, 132, rfl⟩
abbrev main_call2_v0 : Ref sig .tc := ⟨.hbm, 133, rfl⟩
abbrev main_call2_v1 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_15 : Ref sig .tc := ⟨.hbm, 138, rfl⟩
abbrev main_v105 : Ref sig .tc := ⟨.hbm, 139, rfl⟩
abbrev main_cst_16 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_17 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_v115 : Ref sig .tc := ⟨.hbm, 155, rfl⟩
abbrev main_cst_18 : Ref sig .tc := ⟨.hbm, 156, rfl⟩
abbrev main_v116 : Ref sig .tc := ⟨.hbm, 157, rfl⟩
abbrev main_cst_19 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_20 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_v126 : Ref sig .tc := ⟨.hbm, 172, rfl⟩
abbrev main_v127 : Ref sig .tc := ⟨.hbm, 173, rfl⟩
abbrev main_cst_21 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_22 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_v139 : Ref sig .tc := ⟨.hbm, 190, rfl⟩
abbrev main_cst_23 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩

abbrev nD : Nat := 1
abbrev τ : Topo := Topo.v7x

variable {F : FTy → Type} [FloatOps F]
-- ==== Proof.Entry.Bounds.lean ====
module

public import proofs.«01_k».proof.Pre_pre
public import Idealize.ShloMosaic.Lib.ReduceAll
public import Idealize.ShloMosaic.Lib.WordCmp
public import Idealize.ShloMosaic.Lib.ValueIdxCore

@[expose] public section

set_option maxRecDepth 16384

noncomputable section

/-! What the precondition says of the two tables: every expert is one of the thirty-two, and no more blocks are in use than there are. -/

namespace Cert.Entry

open Idealize.ShloMosaic
open ValueIdx (ix1)

variable {F : FTy → Type} [FloatOps F] [Cert.Pre_pre.Facts]

theorem and_bit (a b : BitVec 1) (h : a &&& b = 1#1) : a = 1#1 ∧ b = 1#1 := by
  revert a b; decide

theorem ofBool_one (p : Bool) (h : BitVec.ofBool p = 1#1) : p = true := by
  revert p; decide

instance : Subsingleton Pre_pre.S_.Idx := ⟨fun a b => funext fun k => k.elim0⟩

theorem bounds {a0 a1 a2 a3 a4 a5 a6} (h : Cert.Pre_pre.fn (F := F) a0 a1 a2 a3 a4 a5 a6 = fun _ => 1#1) :
    (∀ k : Fin 884, (a0 (ix1 k)).toNat < 32) ∧ (a1 (ix1 0)).toInt ≤ 884 := by
  have e := congrFun h (fun k => k.elim0)
  unfold Pre_pre.fn at e
  obtain ⟨e1, e2⟩ := and_bit _ _ e
  obtain ⟨e3, e4⟩ := and_bit _ _ e1
  refine ⟨fun k => ?_, ?_⟩
  · have l : (0#32 : BitVec 32).toInt ≤ (a0 (ix1 k)).toInt := of_decide_eq_true (ofBool_one _ (Host.reduce_andi_all _ _ _ _ _ e3 (ix1 k)))
    have u : (a0 (ix1 k)).toInt < (32#32 : BitVec 32).toInt := of_decide_eq_true (ofBool_one _ (Host.reduce_andi_all _ _ _ _ _ e4 (ix1 k)))
    have h0 : (0#32 : BitVec 32).toInt = 0 := rfl
    have h32 : (32#32 : BitVec 32).toInt = 32 := rfl
    rw [h0] at l; rw [h32] at u
    generalize (a0 (ix1 k) : BitVec 32) = x at l u ⊢
    rw [BitVec.toInt] at l u
    split at l <;> omega
  · have u : (a1 (ix1 0)).toInt ≤ (884#32 : BitVec 32).toInt := of_decide_eq_true (ofBool_one _ (Host.reduce_andi_all _ _ _ _ _ e2 (ix1 0)))
    exact u

end Cert.Entry

end
-- ==== Proof.Experts.Ring.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The buffers the body addresses itself -/

/-- The table of block owners, the number of blocks in use, the token rows. -/
abbrev ownM : Memref sig .tc .smem S884 .i32 := Memref.whole main_arg0
abbrev cntM : Memref sig .tc .smem S1 .i32 := Memref.whole main_arg1
abbrev rowM : Memref sig .tc .hbm S452608x1024 .f32 := Memref.whole main_arg2
/-- The two weight matrices kept across the blocks of one expert, and the three slots the rows stream through. -/
abbrev upM : Memref sig .tc .vmem S1024x2048 .bf16 := Memref.whole cc0_scratch0
abbrev downM : Memref sig .tc .vmem S1024x1024 .bf16 := Memref.whole cc0_scratch1
abbrev ringM : Memref sig .tc .vmem S3x512x1024 .f32 := Memref.whole cc0_scratch2

/-- The contents of memref `M`'s buffer on core `c`. -/
abbrev BufOf (c : Dev nD) {sp : Space} {S : Shape} {e : EltTy} (M : Memref sig .tc sp S e) : Type :=
  Buf (Elt F) (M.view.loc (c : Thread nD τ))

/-! ## Slots, blocks, cells -/

theorem inb_slot (s : Fin 3) : ∀ a, (![s.val, 0, 0] : Fin 3 → Nat) a + S1x512x1024.size a ≤ S3x512x1024.size a := by
  have := s.isLt; intro a; fin_cases a <;> simp <;> omega
theorem inb_rows (b : Fin 884) : ∀ a, (![512 * b.val, 0] : Fin 2 → Nat) a + S512x1024.size a ≤ S452608x1024.size a := by
  have := b.isLt; intro a; fin_cases a <;> simp <;> omega
theorem inb_cell (s : Fin 3) : ∀ a, (![s.val] : Fin 1 → Nat) a + S1.size a ≤ S3.size a := by
  have := s.isLt; intro a; fin_cases a <;> simp <;> omega

/-- Slot `s` of the ring; the 512 rows of block `b`; the semaphore of slot `s`. -/
def slotM (s : Fin 3) : Memref sig .tc .vmem S512x1024 .f32 :=
  (ringM.slice (Rect.unit (s := S3x512x1024) ![s.val, 0, 0] S1x512x1024.size (inb_slot s)) (fun _ => rfl)).squeeze S512x1024 squeezes_S1x512x1024_S512x1024
def blockM (b : Fin 884) : Memref sig .tc .hbm S512x1024 .f32 :=
  rowM.slice (Rect.unit (s := S452608x1024) ![512 * b.val, 0] S512x1024.size (inb_rows b)) (fun _ => rfl)
def cellM (s : Fin 3) : DmaSems sig S_ :=
  (cc0_scratch3.slice (Rect.unit (s := S3) ![s.val] S1.size (inb_cell s))).squeeze S_ squeezes_S1_S_
abbrev cellOfSlot (s : Fin 3) : SemLoc sig := SemLoc.dma (cellM s).sem
theorem cellOfSlot_0 : cellOfSlot 0 = SemLoc.dma 10 := by decide
theorem cellOfSlot_1 : cellOfSlot 1 = SemLoc.dma 11 := by decide
theorem cellOfSlot_2 : cellOfSlot 2 = SemLoc.dma 12 := by decide

section Pieces
variable (c : Dev nD) (W : BufOf (F := F) c rowM)

/-- Each slot borrows from its own share of the token rows, so that three transfers may be under way at once. -/
abbrev shareOfSlot (s : Fin 3) : PosShare TreeShare :=
  if s.val = 0 then fullShare.left else if s.val = 1 then fullShare.right.left else fullShare.right.right

/-- Slot `s` holding `f`; its semaphore at zero. -/
abbrev slotHeld (s : Fin 3) (f : BufOf (F := F) c (slotM s)) : sProp 𝕄 :=
  (slotM s).view.loc (c : Thread nD τ) ↦[(slotM s).view.set]{fullShare} f
abbrev cellZero (s : Fin 3) : sProp 𝕄 := semVal ((c : Thread nD τ), cellOfSlot s) 0
/-- Block `b`'s rows at slot `s`'s share, the other rows at that share, and all rows at that share. -/
abbrev rowsLent (s : Fin 3) (b : Fin 884) : sProp 𝕄 :=
  (blockM b).view.loc (c : Thread nD τ) ↦[(blockM b).view.set]{shareOfSlot s} W
def rowsLeft (s : Fin 3) (b : Fin 884) : sProp 𝕄 :=
  ((c : Thread nD τ).loc main_arg2) ↦[Finset.univ \ (blockM b).view.set]{shareOfSlot s} W
abbrev rowsAll (s : Fin 3) : sProp 𝕄 := ((c : Thread nD τ).loc main_arg2) ↦[Finset.univ]{shareOfSlot s} W
/-- The 512 rows of block `b`, as values. -/
abbrev rowsOf (b : Fin 884) : Vec F S512x1024 .f32 := (blockM b).view.read (Elt F) W
/-- Slot `s` after block `b` landed in it. -/
abbrev landed (s : Fin 3) (b : Fin 884) (f : BufOf (F := F) c (slotM s)) : BufOf (F := F) c (slotM s) :=
  (slotM s).view.writes (Elt F) f [⟨Rect.whole S512x1024, ReadAs.same.apply ((blockM b).view.read (Elt F) W)⟩]
/-- The transfer of block `b` into slot `s`, under way: it delivers the landed slot and gives the rows back. -/
abbrev underWay (s : Fin 3) (b : Fin 884) (f : BufOf (F := F) c (slotM s)) : sProp 𝕄 :=
  Transfers.Flight countersEmb (c : Thread nD τ) (cellOfSlot s) default ((slotM s).view.amount (cellOfSlot s))
    iprop(slotHeld c s (landed c W s b f) ∗ rowsLent c W s b)
abbrev slotIdle (s : Fin 3) (f : BufOf (F := F) c (slotM s)) : sProp 𝕄 := iprop(slotHeld c s f ∗ rowsAll c W s)
abbrev slotBusy (s : Fin 3) (b : Fin 884) (f : BufOf (F := F) c (slotM s)) : sProp 𝕄 := iprop(underWay c W s b f ∗ rowsLeft c W s b)

/-- Slot of block `k` with no transfer under way, and with block `k`'s transfer under way. -/
abbrev idleAt (k : ℕ) : sProp 𝕄 := Ring.free (cellZero c) (slotIdle c W) (Ring.sl 3 k)
abbrev busyAt (k : ℕ) : sProp 𝕄 := Ring.inflight (slotBusy c W) (Ring.sl 3 k) (Ring.bk 884 k)

/-- Block `k`'s slot while `n` blocks are in use and `on` tells whether its transfer was begun. -/
def slotAt (n : ℕ) (on : Prop) [Decidable on] (k : ℕ) : sProp 𝕄 := if on ∧ k < n then busyAt c W k else idleAt c W k
/-- The ring before point `t` with `n` blocks in use: from the second point on, blocks `t` and `t + 1` are under way. -/
def ringAt (n t : ℕ) : sProp 𝕄 :=
  iprop(slotAt c W n (0 < t) t ∗ slotAt c W n (0 < t) (t + 1) ∗ slotAt c W n False (t + 2))

theorem slotAt_busy {n : ℕ} {on : Prop} [Decidable on] {k : ℕ} (h : on) (hk : k < n) : slotAt c W n on k = busyAt c W k := if_pos ⟨h, hk⟩
theorem slotAt_idle {n : ℕ} {on : Prop} [Decidable on] {k : ℕ} (h : ¬(on ∧ k < n)) : slotAt c W n on k = idleAt c W k := if_neg h
theorem idleAt_next (k : ℕ) : idleAt c W (k + 3) = idleAt c W k := by unfold idleAt; rw [Ring.sl_add]

omit [FloatOps F] in
theorem cellZero_0 : cellZero (F := F) c 0 = semVal ((c : Thread nD τ), SemLoc.dma 10) 0 :=
  congrArg (fun x => (semVal ((c : Thread nD τ), x) 0 : sProp 𝕄)) cellOfSlot_0
omit [FloatOps F] in
theorem cellZero_1 : cellZero (F := F) c 1 = semVal ((c : Thread nD τ), SemLoc.dma 11) 0 :=
  congrArg (fun x => (semVal ((c : Thread nD τ), x) 0 : sProp 𝕄)) cellOfSlot_1
omit [FloatOps F] in
theorem cellZero_2 : cellZero (F := F) c 2 = semVal ((c : Thread nD τ), SemLoc.dma 12) 0 :=
  congrArg (fun x => (semVal ((c : Thread nD τ), x) 0 : sProp 𝕄)) cellOfSlot_2

/-! ## Cutting the buffers into slots and shares, and joining them again -/

abbrev slotSet (s : Fin 3) : Finset S3x512x1024.Idx := (Rect.unit (s := S3x512x1024) ![s.val, 0, 0] S1x512x1024.size (inb_slot s)).set
theorem slotSet_eq (s : Fin 3) : (slotM s).view.set = slotSet s := by
  simp only [slotM, Memref.view_squeeze, View.set_reshape]; exact View.set_slice_whole _ _
theorem slotSet_disjoint (s s' : Fin 3) (h : s ≠ s') : Disjoint (slotSet s) (slotSet s') :=
  Ring.lead_disjoint (s := S3x512x1024) (0 : Fin 3) 1 (fun s : Fin 3 => (![s.val, 0, 0] : Fin 3 → Nat)) S1x512x1024.size inb_slot (fun s => by simp) rfl s s' h
theorem slotSet_cover : Finset.univ.biUnion slotSet = Finset.univ :=
  Ring.lead_cover (s := S3x512x1024) (0 : Fin 3) 1 (fun s : Fin 3 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl
theorem slotHeld_eq (s : Fin 3) (f) : slotHeld (F := F) c s f = (((c : Thread nD τ).loc cc0_scratch2) ↦[slotSet s]{fullShare} f : sProp 𝕄) := by
  unfold slotHeld; rw [slotSet_eq]; rfl

theorem rows_split (s : Fin 3) (b : Fin 884) : rowsAll (F := F) c W s ⊣⊢ iprop(rowsLent c W s b ∗ rowsLeft c W s b) := by
  unfold rowsLeft; exact pointsTo_split_subset (Finset.subset_univ _)

theorem rows_share : ((((c : Thread nD τ).loc main_arg2) ↦{fullShare} W : sProp 𝕄)) ⊣⊢ iprop(rowsAll c W 0 ∗ rowsAll c W 1 ∗ rowsAll c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

set_option maxHeartbeats 1000000 in
theorem slots_in : iprop(∃ f, ((c : Thread nD τ).loc cc0_scratch2) ↦{fullShare} f)
    ⊢ (iprop((∃ f, slotHeld (F := F) c 0 f) ∗ (∃ f, slotHeld (F := F) c 1 f) ∗ ∃ f, slotHeld (F := F) c 2 f) : sProp 𝕄) :=
  Ring.slots3_split (U := Pipeline.UD sig nD τ) (ℓ := (c : Thread nD τ).loc cc0_scratch2) (q := fullShare) slotSet slotSet_disjoint slotSet_cover
    (slotHeld c 0) (slotHeld c 1) (slotHeld c 2) (slotHeld_eq c 0) (slotHeld_eq c 1) (slotHeld_eq c 2)
set_option maxHeartbeats 1000000 in
theorem slots_out : (iprop((∃ f, slotHeld (F := F) c 0 f) ∗ (∃ f, slotHeld (F := F) c 1 f) ∗ ∃ f, slotHeld (F := F) c 2 f) : sProp 𝕄)
    ⊢ iprop(∃ f, ((c : Thread nD τ).loc cc0_scratch2) ↦{fullShare} f) :=
  Ring.slots3_join (U := Pipeline.UD sig nD τ) (ℓ := (c : Thread nD τ).loc cc0_scratch2) (q := fullShare) slotSet slotSet_disjoint slotSet_cover
    (slotHeld c 0) (slotHeld c 1) (slotHeld c 2) (slotHeld_eq c 0) (slotHeld_eq c 1) (slotHeld_eq c 2)

/-- What the launch hands over and takes back: the ring's buffer, its semaphores at zero, the token rows. -/
abbrev ringParts : sProp 𝕄 :=
  iprop((∃ f, ((c : Thread nD τ).loc cc0_scratch2) ↦{fullShare} f)
    ∗ (semVal ((c : Thread nD τ), SemLoc.dma 10) 0 ∗ semVal ((c : Thread nD τ), SemLoc.dma 11) 0 ∗ semVal ((c : Thread nD τ), SemLoc.dma 12) 0)
    ∗ (((c : Thread nD τ).loc main_arg2) ↦{fullShare} W))

theorem idle_in : ringParts c W
    ⊢ iprop(Ring.free (cellZero c) (slotIdle c W) 0 ∗ Ring.free (cellZero c) (slotIdle c W) 1 ∗ Ring.free (cellZero c) (slotIdle c W) 2) := by
  simp only [Ring.free, cellZero_0, cellZero_1, cellZero_2]
  iintro ⟨HS, ⟨H0, H1, H2⟩, HW⟩
  ihave HS' := (slots_in (F := F) c) $$ HS
  icases HS' with ⟨⟨%d0, HS0⟩, ⟨%d1, HS1⟩, ⟨%d2, HS2⟩⟩
  ihave HW' := (rows_share (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem idle_out : iprop(Ring.free (cellZero c) (slotIdle c W) 0 ∗ Ring.free (cellZero c) (slotIdle c W) 1 ∗ Ring.free (cellZero c) (slotIdle c W) 2)
    ⊢ ringParts c W := by
  simp only [Ring.free, cellZero_0, cellZero_1, cellZero_2]
  iintro ⟨⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (rows_share (F := F) c W).2; isplitl [HW0]; · iexact HW0
    isplitl [HW1]; · iexact HW1
    iexact HW2

theorem ring_in (n : ℕ) : ringParts c W ⊢ ringAt c W n 0 := by
  unfold ringAt
  rw [slotAt_idle c W (by omega), slotAt_idle c W (by omega), slotAt_idle c W (by simp)]
  exact idle_in c W
theorem ring_out (n : ℕ) (hn : n ≤ 884) : ringAt c W n 884 ⊢ ringParts c W := by
  unfold ringAt
  rw [slotAt_idle c W (by omega), slotAt_idle c W (by omega), slotAt_idle c W (by simp)]
  refine .trans ?_ (idle_out c W)
  rw [show idleAt c W 884 = Ring.free (cellZero c) (slotIdle c W) 2 from rfl,
    show idleAt c W (884 + 1) = Ring.free (cellZero c) (slotIdle c W) 0 from rfl,
    show idleAt c W (884 + 2) = Ring.free (cellZero c) (slotIdle c W) 1 from rfl]
  iintro ⟨H2, H0, H1⟩
  isplitl [H0]; · iexact H0
  isplitl [H1]; · iexact H1
  iexact H2
end Pieces

/-! ## The body's operands at point `t` are the ring's slots, blocks and semaphores -/

section Names
omit [FloatOps F]

set_option synthInstance.maxSize 4096 in
theorem off3_eq : ∀ t : Fin grid0.N, k0_off3 (grid0.coords t) = ![(Ring.sl 3 (t.val + 2)).val, 0, 0] := by decide +kernel
set_option synthInstance.maxSize 4096 in
theorem off2_eq : ∀ t : Fin grid0.N, k0_off2 (grid0.coords t) = ![(Ring.sl 3 (t.val + 2)).val] := by decide +kernel
set_option synthInstance.maxSize 4096 in
theorem off4_eq : ∀ t : Fin grid0.N, t.val + 2 < 884 → k0_off4 (grid0.coords t) = ![512 * (Ring.bk 884 (t.val + 2)).val, 0] := by decide +kernel
set_option synthInstance.maxSize 4096 in
theorem off8_eq : ∀ t : Fin grid0.N, k0_off8 (grid0.coords t) = ![(Ring.sl 3 t.val).val, 0, 0] := by decide +kernel
set_option synthInstance.maxSize 4096 in
theorem off7_eq : ∀ t : Fin grid0.N, k0_off7 (grid0.coords t) = ![(Ring.sl 3 t.val).val] := by decide +kernel
set_option synthInstance.maxSize 4096 in
theorem off9_eq : ∀ t : Fin grid0.N, k0_off9 (grid0.coords t) = ![512 * (Ring.bk 884 t.val).val, 0] := by decide +kernel

theorem slot_name {o : Fin 3 → Nat} (s : Fin 3) (h : o = ![s.val, 0, 0]) (hi) :
    (ringM.slice (Rect.unit (s := S3x512x1024) o S1x512x1024.size hi) (fun _ => rfl)).squeeze S512x1024 squeezes_S1x512x1024_S512x1024 = slotM s :=
  congrArg (fun M : Memref sig .tc .vmem S1x512x1024 .f32 => M.squeeze S512x1024 squeezes_S1x512x1024_S512x1024)
    (Memref.slice_unit_congr _ h _ _ (fun _ => rfl) (fun _ => rfl))
theorem cell_name {o : Fin 1 → Nat} (s : Fin 3) (h : o = ![s.val]) (hi) :
    (cc0_scratch3.slice (Rect.unit (s := S3) o S1.size hi)).squeeze S_ squeezes_S1_S_ = cellM s :=
  congrArg (fun A : DmaSems sig S1 => A.squeeze S_ squeezes_S1_S_) (SemArray.slice_unit_congr _ h _ _)
theorem block_name {o : Fin 2 → Nat} (b : Fin 884) (h : o = ![512 * b.val, 0]) (hi) :
    rowM.slice (Rect.unit (s := S452608x1024) o S512x1024.size hi) (fun _ => rfl) = blockM b :=
  Memref.slice_unit_congr _ h _ _ (fun _ => rfl) (fun _ => rfl)

@[sl_canon] theorem slot_fst (t : Fin grid0.N) (h : t.val = 0) :
    (ringM.slice (Rect.unit (s := S3x512x1024) ![0, 0, 0] S1x512x1024.size inb_S3x512x1024_S1x512x1024_0_0_0) (fun _ => rfl)).squeeze S512x1024 squeezes_S1x512x1024_S512x1024 = slotM (Ring.sl 3 t.val) :=
  slot_name (o := ![0, 0, 0]) (Ring.sl 3 t.val) (by rw [h]; decide) inb_S3x512x1024_S1x512x1024_0_0_0
@[sl_canon] theorem cell_fst (t : Fin grid0.N) (h : t.val = 0) : (cc0_scratch3.slice (Rect.unit (s := S3) ![0] S1.size inb_S3_S1_0)).squeeze S_ squeezes_S1_S_ = cellM (Ring.sl 3 t.val) :=
  cell_name (o := ![0]) (Ring.sl 3 t.val) (by rw [h]; decide) inb_S3_S1_0
@[sl_canon] theorem block_fst (t : Fin grid0.N) (h : t.val = 0) :
    rowM.slice (Rect.unit (s := S452608x1024) ![0, 0] S512x1024.size inb_S452608x1024_S512x1024_0_0) (fun _ => rfl) = blockM (Ring.bk 884 t.val) :=
  block_name (o := ![0, 0]) (Ring.bk 884 t.val) (by rw [h]; decide) inb_S452608x1024_S512x1024_0_0
@[sl_canon] theorem slot_snd (t : Fin grid0.N) (h : t.val = 0) :
    (ringM.slice (Rect.unit (s := S3x512x1024) ![1, 0, 0] S1x512x1024.size inb_S3x512x1024_S1x512x1024_1_0_0) (fun _ => rfl)).squeeze S512x1024 squeezes_S1x512x1024_S512x1024 = slotM (Ring.sl 3 (t.val + 1)) :=
  slot_name (o := ![1, 0, 0]) (Ring.sl 3 (t.val + 1)) (by rw [h]; decide) inb_S3x512x1024_S1x512x1024_1_0_0
@[sl_canon] theorem cell_snd (t : Fin grid0.N) (h : t.val = 0) : (cc0_scratch3.slice (Rect.unit (s := S3) ![1] S1.size inb_S3_S1_1)).squeeze S_ squeezes_S1_S_ = cellM (Ring.sl 3 (t.val + 1)) :=
  cell_name (o := ![1]) (Ring.sl 3 (t.val + 1)) (by rw [h]; decide) inb_S3_S1_1
@[sl_canon] theorem block_snd (t : Fin grid0.N) (h : t.val = 0) :
    rowM.slice (Rect.unit (s := S452608x1024) ![512, 0] S512x1024.size inb_S452608x1024_S512x1024_512_0) (fun _ => rfl) = blockM (Ring.bk 884 (t.val + 1)) :=
  block_name (o := ![512, 0]) (Ring.bk 884 (t.val + 1)) (by rw [h]; decide) inb_S452608x1024_S512x1024_512_0
@[sl_canon] theorem slot_ahead (t : Fin grid0.N) :
    (ringM.slice (Rect.unit (s := S3x512x1024) (k0_off3 (grid0.coords t)) S1x512x1024.size (k0_off3_inb (grid0.coords t))) (fun _ => rfl)).squeeze S512x1024 squeezes_S1x512x1024_S512x1024 = slotM (Ring.sl 3 (t.val + 2)) :=
  slot_name _ (off3_eq t) _
@[sl_canon] theorem cell_ahead (t : Fin grid0.N) :
    (cc0_scratch3.slice (Rect.unit (s := S3) (k0_off2 (grid0.coords t)) S1.size (k0_off2_inb (grid0.coords t)))).squeeze S_ squeezes_S1_S_ = cellM (Ring.sl 3 (t.val + 2)) :=
  cell_name _ (off2_eq t) _
@[sl_canon] theorem block_ahead (t : Fin grid0.N) [h : Fact (t.val + 2 < 884)] (hi) :
    rowM.slice (Rect.unit (s := S452608x1024) (k0_off4 (grid0.coords t)) S512x1024.size hi) (fun _ => rfl) = blockM (Ring.bk 884 (t.val + 2)) :=
  block_name _ (off4_eq t h.out) _
@[sl_canon] theorem slot_here (t : Fin grid0.N) :
    (ringM.slice (Rect.unit (s := S3x512x1024) (k0_off8 (grid0.coords t)) S1x512x1024.size (k0_off8_inb (grid0.coords t))) (fun _ => rfl)).squeeze S512x1024 squeezes_S1x512x1024_S512x1024 = slotM (Ring.sl 3 t.val) :=
  slot_name _ (off8_eq t) _
@[sl_canon] theorem cell_here (t : Fin grid0.N) :
    (cc0_scratch3.slice (Rect.unit (s := S3) (k0_off7 (grid0.coords t)) S1.size (k0_off7_inb (grid0.coords t)))).squeeze S_ squeezes_S1_S_ = cellM (Ring.sl 3 t.val) :=
  cell_name _ (off7_eq t) _
@[sl_canon] theorem block_here (t : Fin grid0.N) :
    rowM.slice (Rect.unit (s := S452608x1024) (k0_off9 (grid0.coords t)) S512x1024.size (k0_off9_inb (grid0.coords t))) (fun _ => rfl) = blockM (Ring.bk 884 t.val) :=
  block_name _ (off9_eq t) _
end Names

end Cert.Kernel.Experts

end
-- ==== Proof.Experts.Words.lean ====
module

public import proofs.«01_k».proof.Proof.Experts.Ring

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The body's conditions, read as facts about natural numbers

The number of blocks in use is a signed word; `used v` is that number, a negative word counting as none. -/

section Words
omit [FloatOps F]

def used (v : BitVec 32) : ℕ := v.toInt.toNat

theorem lt_used (v : BitVec 32) (k : ℕ) : (k : Int) < v.toInt ↔ k < used v := by unfold used; omega

/-- A bit widened to a word and compared with zero is the bit. -/
theorem bit_taken (b : BitVec 1) : Scalar.cmpi .ne (Scalar.extui b) 0#32 = 1#1 ↔ b = 1#1 := by
  rcases BitVec.eq_zero_or_eq_one b with rfl | rfl <;> decide

theorem pt_lt (t : Fin grid0.N) : t.val < 884 := lt_of_lt_of_eq t.isLt N_0

theorem coord_val (t : Fin grid0.N) : ((grid0.coords t) 0).val = t.val := by
  have e := Pipeline.Grid.coords_val t 0 (by decide : grid0.stride 0 = 1) rfl
  rw [Nat.div_one] at e
  exact e.trans (Nat.mod_eq_of_lt (pt_lt t))

/-- An index word below the sign bit is signed-less than the count exactly when the index is below it. -/
theorem slt_used (v : BitVec 32) {k : ℕ} (hk : k < 2 ^ 31) : Scalar.cmpi .slt (BitVec.ofNat 32 k) v = 1#1 ↔ k < used v := by
  show IntOp.cmpi .slt (BitVec.ofNat 32 k) v = 1#1 ↔ _
  rw [WordCmp.cmpi_slt_eq, WordCmp.ofBool_decide_eq_one_iff, WordCmp.toInt_ofNat_of_lt (by simpa using hk), lt_used]

theorem sgt_used (v : BitVec 32) {k : ℕ} (hk : k < 2 ^ 31) : Scalar.cmpi .sgt v (BitVec.ofNat 32 k) = 1#1 ↔ k < used v :=
  slt_used v hk

theorem first_iff (t : Fin grid0.N) : k0_cond1 (grid0.coords t) = 1#1 ↔ t.val = 0 := by
  have h := pt_lt t
  unfold k0_cond1
  rw [bit_taken, coord_val]
  show IntOp.cmpi .eq (BitVec.ofNat 32 t.val) (BitVec.ofNat 32 0) = 1#1 ↔ _
  rw [WordCmp.cmpi_eq_ofNat (by omega) (by omega), WordCmp.ofBool_decide_eq_one_iff]

theorem ahead_iff (t : Fin grid0.N) (v : BitVec 32) : k0_cond4 (grid0.coords t) v = 1#1 ↔ t.val + 2 < used v := by
  have h := pt_lt t
  unfold k0_cond4
  rw [bit_taken, coord_val]
  have e : Scalar.subi (Scalar.addi (BitVec.ofNat 32 t.val) 3#32) 1#32 = BitVec.ofNat 32 (t.val + 2) := by
    show BitVec.ofNat 32 t.val + 3#32 - 1#32 = BitVec.ofNat 32 (t.val + 2)
    apply BitVec.eq_of_toNat_eq
    rw [BitVec.toNat_sub, BitVec.toNat_add]
    simp only [BitVec.toNat_ofNat]
    omega
  rw [e, slt_used v (by omega)]

theorem live_iff (t : Fin grid0.N) (v : BitVec 32) : k0_cond6 (grid0.coords t) v = 1#1 ↔ t.val < used v := by
  have h := pt_lt t
  unfold k0_cond6
  rw [bit_taken, coord_val, slt_used v (by omega)]

theorem dead_iff (t : Fin grid0.N) (v : BitVec 32) : k0_cond7 (grid0.coords t) v = 1#1 ↔ ¬ t.val < used v := by
  rw [← live_iff]
  unfold k0_cond6 k0_cond7
  rw [bit_taken, bit_taken]
  generalize Scalar.cmpi .slt (BitVec.ofNat 32 ((grid0.coords t) 0).val) v = b
  rcases BitVec.eq_zero_or_eq_one b with rfl | rfl <;> decide

theorem some_iff (v : BitVec 32) : Scalar.cmpi .ne (Scalar.extui (Scalar.cmpi .sgt v 0#32)) 0#32 = 1#1 ↔ 0 < used v := by
  rw [bit_taken]; exact sgt_used v (k := 0) (by omega)
theorem two_iff (v : BitVec 32) : Scalar.cmpi .ne (Scalar.extui (Scalar.cmpi .sgt v 1#32)) 0#32 = 1#1 ↔ 1 < used v := by
  rw [bit_taken]; exact sgt_used v (k := 1) (by omega)

/-- The weights are read anew at the first point and wherever the owner of the block changes. -/
abbrev reloads (i : grid0.Coords) (a b : BitVec 32) : Prop :=
  Scalar.cmpi .ne (Scalar.extui (Scalar.ori (Scalar.cmpi .eq (BitVec.ofNat 32 (i 0).val) 0#32) (Scalar.cmpi .ne a b))) 0#32 = 1#1
theorem reloads_iff (t : Fin grid0.N) (a b : BitVec 32) : reloads (grid0.coords t) a b ↔ t.val = 0 ∨ a ≠ b := by
  have h := pt_lt t
  unfold reloads
  rw [bit_taken, coord_val]
  show IntOp.ori (IntOp.cmpi .eq (BitVec.ofNat 32 t.val) (BitVec.ofNat 32 0)) (IntOp.cmpi .ne a b) = 1#1 ↔ _
  rw [WordCmp.cmpi_eq_ofNat (by omega) (by omega), WordCmp.cmpi_ne_eq, WordCmp.ori_ofBool, WordCmp.ofBool_eq_one_iff]
  simp

/-- With at most 884 blocks in use the block fetched ahead exists: the check the body states. -/
theorem ahead_inb (t : Fin grid0.N) (v : BitVec 32) (hv : used v ≤ 884) : k0_chk1 (grid0.coords t) v := by
  unfold k0_chk1
  intro hc
  have h2 := (ahead_iff t v).1 hc
  rw [off4_eq t (by omega)]
  exact inb_rows _
end Words

end Cert.Kernel.Experts

end
-- ==== Proof.Experts.Body.lean ====
module

public import proofs.«01_k».proof.Proof.Experts.Words
public import Idealize.ShloMosaic.Lib.Exec
public import Idealize.ShloMosaic.Lib.Writes
public import Idealize.ShloMosaic.Lib.VecWindow

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The number of blocks in use as the body reads it, and the expert of a block. -/
abbrev cntWord (T1 : S1.Idx → Elt F .i32) : BitVec 32 :=
  View.readAt (Elt F) cntM.view (Rect.unit (s := S1) ![0] S1.size inb_S1_S1_0).toLoadRect T1 (Shape.Idx.first (numel1_S1.symm ▸ Nat.one_pos))
abbrev ownWord (T0 : S884.Idx → Elt F .i32) (o : Fin 1 → Nat) (h : ∀ a, o a + S1.size a ≤ S884.size a) : BitVec 32 :=
  View.readAt (Elt F) ownM.view (Rect.unit (s := S884) o S1.size h).toLoadRect T0 (Shape.Idx.first (numel1_S1.symm ▸ Nat.one_pos))
/-- Whether the body rounds the expert's weights again at point `i`. -/
abbrev reloadsAt (i : grid0.Coords) (T0 : S884.Idx → Elt F .i32) : Prop :=
  reloads i (ownWord T0 (k0_off5 i) (k0_off5_inb i)) (ownWord T0 (k0_off6 i) (k0_off6_inb i))

abbrev topRect : Rect S512x1024 := Rect.unit (s := S512x1024) ![0, 0] S256x1024.size inb_S512x1024_S256x1024_0_0
abbrev lowRect : Rect S512x1024 := Rect.unit (s := S512x1024) ![256, 0] S256x1024.size inb_S512x1024_S256x1024_256_0
/-- The output block of token rows `x` under rounded weights `u`, `d` and biases `p`, `q`: each half of the rows on its own. -/
def outBlk (x : Vec F S512x1024 .f32) (u : Vec F S1024x2048 .bf16) (p : Vec F S1x1x2048 .f32) (d : Vec F S1024x1024 .bf16) (q : Vec F S1x1x1024 .f32) : Vec F S512x1024 .f32 :=
  View.canon (Val := Elt F) [⟨lowRect, k0_pay3 (View.ld (Val := Elt F) x lowRect) u p d q⟩, ⟨topRect, k0_pay5 (View.ld (Val := Elt F) x topRect) u p d q⟩]

theorem outBlk_cover (a : lowRect.shape.Idx → Elt F .f32) (b : topRect.shape.Idx → Elt F .f32) :
    ∀ y : S512x1024.Idx, ∃ pc ∈ ([⟨lowRect, a⟩, ⟨topRect, b⟩] : List (View.Piece (Elt F) S512x1024 .f32)), y ∈ pc.1.set :=
  View.cover_of_tiledL _ S256x1024.size (by sl_kernel_rfl)

/-- Two halves stored one after the other read as the output block, when what they are computed from reads so. -/
theorem read_outBlk {sp : Space} (v : View sig .tc sp S512x1024 .f32) (f : v.ty.Contents (Elt F)) {x : Vec F S512x1024 .f32}
    {u : Vec F S1024x2048 .bf16} {p : Vec F S1x1x2048 .f32} {d : Vec F S1024x1024 .bf16} {q : Vec F S1x1x1024 .f32}
    {a b : Vec F S256x1024 .f32} {u' : Vec F S1024x2048 .bf16} {p' : Vec F S1x1x2048 .f32} {d' : Vec F S1024x1024 .bf16} {q' : Vec F S1x1x1024 .f32}
    (ha : a = View.ld (Val := Elt F) x lowRect) (hb : b = View.ld (Val := Elt F) x topRect) (hu : u' = u) (hp : p' = p) (hd : d' = d) (hq : q' = q) :
    v.read (Elt F) (v.writes (Elt F) f [⟨lowRect, k0_pay3 a u' p' d' q'⟩, ⟨topRect, k0_pay5 b u' p' d' q'⟩]) = outBlk x u p d q := by
  subst ha hb hu hp hd hq
  exact View.read_writes_eq_canon v f _ (outBlk_cover _ _)

/-- A view stored over as a whole reads what was stored. -/
theorem read_store_whole {sp : Space} {s : Shape} {e : EltTy} (v : View sig .tc sp s e) (f : v.ty.Contents (Elt F)) (w : s.Idx → Elt F e) :
    v.read (Elt F) (v.writes (Elt F) f [⟨Rect.whole s, w⟩]) = w := by
  funext y
  have h : (Rect.whole s).emb y = y := funext fun a => Fin.ext (by show 0 + 1 * (y a).val = (y a).val; omega)
  exact (congrArg (v.read (Elt F) (v.writes (Elt F) f [⟨Rect.whole s, w⟩])) h.symm).trans (View.read_writes_cons_emb v f (Rect.whole s) w [] y)

/-- What a landed slot reads: the block's rows. -/
theorem read_landed (c : Dev nD) (W : BufOf (F := F) c rowM) (s : Fin 3) (b : Fin 884) (f : BufOf (F := F) c (slotM s)) :
    (slotM s).view.read (Elt F) (landed c W s b f) = rowsOf c W b :=
  read_store_whole (slotM s).view f (rowsOf c W b)

set_option maxHeartbeats 4000000 in
/-- A later point with a block two ahead to fetch, the weights rounded again. -/
theorem run_ahead_reload (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (hle : t.val + 2 < 884)
    (h1 : ¬ k0_cond1 (grid0.coords t) = 1#1)
    (h4 : k0_cond4 (grid0.coords t) (cntWord T1) = 1#1)
    (hr : reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ idleAt c W (t.val + 2)
          ∗ busyAt c W t.val
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) (k0_pay1 x1) x2 (k0_pay2 x3) x4)
            ∗ owns (c : Thread nD τ) upM fullShare (k0_pay1 x1)
            ∗ owns (c : Thread nD τ) downM fullShare (k0_pay2 x3)
            ∗ idleAt c W t.val
            ∗ busyAt c W (t.val + 2)
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  haveI : Fact (t.val + 2 < 884) := ⟨hle⟩
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt busyAt Ring.free Ring.inflight
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨Hc2, ⟨%fs2, Hs2, Hw2⟩⟩, ⟨%fb0, Hc0, Hr0⟩, HW, Hk⟩
  ihave Hsp2 := (rows_split c W (Ring.sl 3 (t.val + 2)) (Ring.bk 884 (t.val + 2))).1 $$ Hw2
  icases Hsp2 with ⟨Hh2, Hr2⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readCov_full _ _ _ _ _).trans (congrArg k0_pay1 ((View.readAt_full _ _ _).trans (harg4.read_unread _)))) ((View.readAt_full _ _ _).trans (harg5.read_unread _))
      ((View.readCov_full _ _ _ _ _).trans (congrArg k0_pay2 ((View.readAt_full _ _ _).trans (harg6.read_unread _)))) ((View.readAt_full _ _ _).trans (harg7.read_unread _))
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  isplitl [Hc0 Hc0_dst Hc0_src Hr0]
  · isplitl [Hc0]; · iexact Hc0
    iexists _; isplitl [Hc0_dst]; · iexact Hc0_dst
    iapply (rows_split c W (Ring.sl 3 t.val) (Ring.bk 884 t.val)).2; isplitl [Hc0_src]; · iexact Hc0_src
    iexact Hr0
  isplitl [Hc2 Hr2]
  · iexists _; isplitl [Hc2]; · iexact Hc2
    iexact Hr2
  iexists _; iexact HW

set_option maxHeartbeats 4000000 in
/-- A later point with a block two ahead to fetch, the weights kept. -/
theorem run_ahead_keep (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (hle : t.val + 2 < 884)
    (h1 : ¬ k0_cond1 (grid0.coords t) = 1#1)
    (h4 : k0_cond4 (grid0.coords t) (cntWord T1) = 1#1)
    (hr : ¬ reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ idleAt c W (t.val + 2)
          ∗ busyAt c W t.val
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) w1 x2 w2 x4)
            ∗ owns (c : Thread nD τ) upM fullShare w1
            ∗ owns (c : Thread nD τ) downM fullShare w2
            ∗ idleAt c W t.val
            ∗ busyAt c W (t.val + 2)
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  haveI : Fact (t.val + 2 < 884) := ⟨hle⟩
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt busyAt Ring.free Ring.inflight
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨Hc2, ⟨%fs2, Hs2, Hw2⟩⟩, ⟨%fb0, Hc0, Hr0⟩, HW, Hk⟩
  ihave Hsp2 := (rows_split c W (Ring.sl 3 (t.val + 2)) (Ring.bk 884 (t.val + 2))).1 $$ Hw2
  icases Hsp2 with ⟨Hh2, Hr2⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readAt_full _ _ _).trans (hU.read_unread _)) ((View.readAt_full _ _ _).trans (harg5.read_unread _))
      ((View.readAt_full _ _ _).trans (hD.read_unread _)) ((View.readAt_full _ _ _).trans (harg7.read_unread _))
  isplitl [HU]
  · iexists _; isplitr; swap; · iexact HU
    ipureintro; exact hU.read_unread _
  isplitl [HD]
  · iexists _; isplitr; swap; · iexact HD
    ipureintro; exact hD.read_unread _
  isplitl [Hc0 Hc0_dst Hc0_src Hr0]
  · isplitl [Hc0]; · iexact Hc0
    iexists _; isplitl [Hc0_dst]; · iexact Hc0_dst
    iapply (rows_split c W (Ring.sl 3 t.val) (Ring.bk 884 t.val)).2; isplitl [Hc0_src]; · iexact Hc0_src
    iexact Hr0
  isplitl [Hc2 Hr2]
  · iexists _; isplitl [Hc2]; · iexact Hc2
    iexact Hr2
  iexists _; iexact HW

set_option maxHeartbeats 4000000 in
/-- One of the last two points in use, the weights rounded again. -/
theorem run_last_reload (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (h1 : ¬ k0_cond1 (grid0.coords t) = 1#1)
    (h4 : ¬ k0_cond4 (grid0.coords t) (cntWord T1) = 1#1)
    (hr : reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ busyAt c W t.val
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) (k0_pay1 x1) x2 (k0_pay2 x3) x4)
            ∗ owns (c : Thread nD τ) upM fullShare (k0_pay1 x1)
            ∗ owns (c : Thread nD τ) downM fullShare (k0_pay2 x3)
            ∗ idleAt c W t.val
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt busyAt Ring.free Ring.inflight
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨%fb0, Hc0, Hr0⟩, HW, Hk⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readCov_full _ _ _ _ _).trans (congrArg k0_pay1 ((View.readAt_full _ _ _).trans (harg4.read_unread _)))) ((View.readAt_full _ _ _).trans (harg5.read_unread _))
      ((View.readCov_full _ _ _ _ _).trans (congrArg k0_pay2 ((View.readAt_full _ _ _).trans (harg6.read_unread _)))) ((View.readAt_full _ _ _).trans (harg7.read_unread _))
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  isplitl [Hc0 Hc0_dst Hc0_src Hr0]
  · isplitl [Hc0]; · iexact Hc0
    iexists _; isplitl [Hc0_dst]; · iexact Hc0_dst
    iapply (rows_split c W (Ring.sl 3 t.val) (Ring.bk 884 t.val)).2; isplitl [Hc0_src]; · iexact Hc0_src
    iexact Hr0
  iexists _; iexact HW

set_option maxHeartbeats 4000000 in
/-- One of the last two points in use, the weights kept. -/
theorem run_last_keep (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (h1 : ¬ k0_cond1 (grid0.coords t) = 1#1)
    (h4 : ¬ k0_cond4 (grid0.coords t) (cntWord T1) = 1#1)
    (hr : ¬ reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ busyAt c W t.val
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) w1 x2 w2 x4)
            ∗ owns (c : Thread nD τ) upM fullShare w1
            ∗ owns (c : Thread nD τ) downM fullShare w2
            ∗ idleAt c W t.val
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt busyAt Ring.free Ring.inflight
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨%fb0, Hc0, Hr0⟩, HW, Hk⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readAt_full _ _ _).trans (hU.read_unread _)) ((View.readAt_full _ _ _).trans (harg5.read_unread _))
      ((View.readAt_full _ _ _).trans (hD.read_unread _)) ((View.readAt_full _ _ _).trans (harg7.read_unread _))
  isplitl [HU]
  · iexists _; isplitr; swap; · iexact HU
    ipureintro; exact hU.read_unread _
  isplitl [HD]
  · iexists _; isplitr; swap; · iexact HD
    ipureintro; exact hD.read_unread _
  isplitl [Hc0 Hc0_dst Hc0_src Hr0]
  · isplitl [Hc0]; · iexact Hc0
    iexists _; isplitl [Hc0_dst]; · iexact Hc0_dst
    iapply (rows_split c W (Ring.sl 3 t.val) (Ring.bk 884 t.val)).2; isplitl [Hc0_src]; · iexact Hc0_src
    iexact Hr0
  iexists _; iexact HW

set_option maxHeartbeats 4000000 in
/-- A point past the blocks in use, the weights rounded again. -/
theorem run_dead_reload (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (h1 : ¬ k0_cond1 (grid0.coords t) = 1#1)
    (h4 : ¬ k0_cond4 (grid0.coords t) (cntWord T1) = 1#1)
    (hr : reloadsAt (grid0.coords t) T0)
    (h6 : ¬ k0_cond6 (grid0.coords t) (cntWord T1) = 1#1)
    (h7 : k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (k0_pay4 (F := F))
            ∗ owns (c : Thread nD τ) upM fullShare (k0_pay1 x1)
            ∗ owns (c : Thread nD τ) downM fullShare (k0_pay2 x3)
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  unfold owns
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, HW, Hk⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro; exact View.read_writes_full _ _ _ _ _
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  iexists _; iexact HW

set_option maxHeartbeats 4000000 in
/-- A point past the blocks in use, the weights kept. -/
theorem run_dead_keep (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (h1 : ¬ k0_cond1 (grid0.coords t) = 1#1)
    (h4 : ¬ k0_cond4 (grid0.coords t) (cntWord T1) = 1#1)
    (hr : ¬ reloadsAt (grid0.coords t) T0)
    (h6 : ¬ k0_cond6 (grid0.coords t) (cntWord T1) = 1#1)
    (h7 : k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (k0_pay4 (F := F))
            ∗ owns (c : Thread nD τ) upM fullShare w1
            ∗ owns (c : Thread nD τ) downM fullShare w2
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  unfold owns
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, HW, Hk⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro; exact View.read_writes_full _ _ _ _ _
  isplitl [HU]
  · iexists _; isplitr; swap; · iexact HU
    ipureintro; exact hU.read_unread _
  isplitl [HD]
  · iexists _; isplitr; swap; · iexact HD
    ipureintro; exact hD.read_unread _
  iexists _; iexact HW

set_option maxHeartbeats 4000000 in
/-- The first point when three or more blocks are in use. -/
theorem run_first_three (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (ht : t.val = 0)
    (hle : t.val + 2 < 884)
    (h1 : k0_cond1 (grid0.coords t) = 1#1)
    (hs : Scalar.cmpi .ne (Scalar.extui (Scalar.cmpi .sgt (cntWord T1) 0#32)) 0#32 = 1#1)
    (hs2 : Scalar.cmpi .ne (Scalar.extui (Scalar.cmpi .sgt (cntWord T1) 1#32)) 0#32 = 1#1)
    (h4 : k0_cond4 (grid0.coords t) (cntWord T1) = 1#1)
    (hr : reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ idleAt c W t.val
          ∗ idleAt c W (t.val + 1)
          ∗ idleAt c W (t.val + 2)
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) (k0_pay1 x1) x2 (k0_pay2 x3) x4)
            ∗ owns (c : Thread nD τ) upM fullShare (k0_pay1 x1)
            ∗ owns (c : Thread nD τ) downM fullShare (k0_pay2 x3)
            ∗ idleAt c W t.val
            ∗ busyAt c W (t.val + 1)
            ∗ busyAt c W (t.val + 2)
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  haveI : Fact (t.val = 0) := ⟨ht⟩
  haveI : Fact (t.val + 2 < 884) := ⟨hle⟩
  rw [cc0__expert_kernel_eq_skeleton]; unfold cc0__expert_kernel_skel
  have hc0 := slot_fst t ht; have hc1 := cell_fst t ht; have hc2 := block_fst t ht
  have hc3 := slot_snd t ht; have hc4 := cell_snd t ht; have hc5 := block_snd t ht
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt busyAt Ring.free Ring.inflight
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨Hc0, ⟨%fs0, Hs0, Hw0⟩⟩, ⟨Hc1, ⟨%fs1, Hs1, Hw1⟩⟩, ⟨Hc2, ⟨%fs2, Hs2, Hw2⟩⟩, HW, Hk⟩
  ihave Hsp0 := (rows_split c W (Ring.sl 3 t.val) (Ring.bk 884 t.val)).1 $$ Hw0
  icases Hsp0 with ⟨Hh0, Hr0⟩
  ihave Hsp1 := (rows_split c W (Ring.sl 3 (t.val + 1)) (Ring.bk 884 (t.val + 1))).1 $$ Hw1
  icases Hsp1 with ⟨Hh1, Hr1⟩
  ihave Hsp2 := (rows_split c W (Ring.sl 3 (t.val + 2)) (Ring.bk 884 (t.val + 2))).1 $$ Hw2
  icases Hsp2 with ⟨Hh2, Hr2⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact hs | sl_exact hs2 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readCov_full _ _ _ _ _).trans (congrArg k0_pay1 ((View.readAt_full _ _ _).trans (harg4.read_unread _)))) ((View.readAt_full _ _ _).trans (harg5.read_unread _))
      ((View.readCov_full _ _ _ _ _).trans (congrArg k0_pay2 ((View.readAt_full _ _ _).trans (harg6.read_unread _)))) ((View.readAt_full _ _ _).trans (harg7.read_unread _))
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  isplitl [Hc0 Hs0 Hh0 Hr0]
  · isplitl [Hc0]; · iexact Hc0
    iexists _; isplitl [Hs0]; · iexact Hs0
    iapply (rows_split c W (Ring.sl 3 t.val) (Ring.bk 884 t.val)).2; isplitl [Hh0]; · iexact Hh0
    iexact Hr0
  isplitl [Hc1 Hr1]
  · iexists _; isplitl [Hc1]; · iexact Hc1
    iexact Hr1
  isplitl [Hc2 Hr2]
  · iexists _; isplitl [Hc2]; · iexact Hc2
    iexact Hr2
  iexists _; iexact HW

set_option maxHeartbeats 4000000 in
/-- The first point when two blocks are in use. -/
theorem run_first_two (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (ht : t.val = 0)
    (h1 : k0_cond1 (grid0.coords t) = 1#1)
    (hs : Scalar.cmpi .ne (Scalar.extui (Scalar.cmpi .sgt (cntWord T1) 0#32)) 0#32 = 1#1)
    (hs2 : Scalar.cmpi .ne (Scalar.extui (Scalar.cmpi .sgt (cntWord T1) 1#32)) 0#32 = 1#1)
    (h4 : ¬ k0_cond4 (grid0.coords t) (cntWord T1) = 1#1)
    (hr : reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ idleAt c W t.val
          ∗ idleAt c W (t.val + 1)
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) (k0_pay1 x1) x2 (k0_pay2 x3) x4)
            ∗ owns (c : Thread nD τ) upM fullShare (k0_pay1 x1)
            ∗ owns (c : Thread nD τ) downM fullShare (k0_pay2 x3)
            ∗ idleAt c W t.val
            ∗ busyAt c W (t.val + 1)
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  haveI : Fact (t.val = 0) := ⟨ht⟩
  rw [cc0__expert_kernel_eq_skeleton]; unfold cc0__expert_kernel_skel
  have hc0 := slot_fst t ht; have hc1 := cell_fst t ht; have hc2 := block_fst t ht
  have hc3 := slot_snd t ht; have hc4 := cell_snd t ht; have hc5 := block_snd t ht
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt busyAt Ring.free Ring.inflight
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨Hc0, ⟨%fs0, Hs0, Hw0⟩⟩, ⟨Hc1, ⟨%fs1, Hs1, Hw1⟩⟩, HW, Hk⟩
  ihave Hsp0 := (rows_split c W (Ring.sl 3 t.val) (Ring.bk 884 t.val)).1 $$ Hw0
  icases Hsp0 with ⟨Hh0, Hr0⟩
  ihave Hsp1 := (rows_split c W (Ring.sl 3 (t.val + 1)) (Ring.bk 884 (t.val + 1))).1 $$ Hw1
  icases Hsp1 with ⟨Hh1, Hr1⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact hs | sl_exact hs2 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readCov_full _ _ _ _ _).trans (congrArg k0_pay1 ((View.readAt_full _ _ _).trans (harg4.read_unread _)))) ((View.readAt_full _ _ _).trans (harg5.read_unread _))
      ((View.readCov_full _ _ _ _ _).trans (congrArg k0_pay2 ((View.readAt_full _ _ _).trans (harg6.read_unread _)))) ((View.readAt_full _ _ _).trans (harg7.read_unread _))
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  isplitl [Hc0 Hs0 Hh0 Hr0]
  · isplitl [Hc0]; · iexact Hc0
    iexists _; isplitl [Hs0]; · iexact Hs0
    iapply (rows_split c W (Ring.sl 3 t.val) (Ring.bk 884 t.val)).2; isplitl [Hh0]; · iexact Hh0
    iexact Hr0
  isplitl [Hc1 Hr1]
  · iexists _; isplitl [Hc1]; · iexact Hc1
    iexact Hr1
  iexists _; iexact HW

set_option maxHeartbeats 4000000 in
/-- The first point when one block is in use. -/
theorem run_first_one (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (ht : t.val = 0)
    (h1 : k0_cond1 (grid0.coords t) = 1#1)
    (hs : Scalar.cmpi .ne (Scalar.extui (Scalar.cmpi .sgt (cntWord T1) 0#32)) 0#32 = 1#1)
    (hs2 : ¬ Scalar.cmpi .ne (Scalar.extui (Scalar.cmpi .sgt (cntWord T1) 1#32)) 0#32 = 1#1)
    (h4 : ¬ k0_cond4 (grid0.coords t) (cntWord T1) = 1#1)
    (hr : reloadsAt (grid0.coords t) T0)
    (h6 : k0_cond6 (grid0.coords t) (cntWord T1) = 1#1)
    (h7 : ¬ k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ idleAt c W t.val
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk (rowsOf c W (Ring.bk 884 t.val)) (k0_pay1 x1) x2 (k0_pay2 x3) x4)
            ∗ owns (c : Thread nD τ) upM fullShare (k0_pay1 x1)
            ∗ owns (c : Thread nD τ) downM fullShare (k0_pay2 x3)
            ∗ idleAt c W t.val
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  haveI : Fact (t.val = 0) := ⟨ht⟩
  rw [cc0__expert_kernel_eq_skeleton]; unfold cc0__expert_kernel_skel
  have hc0 := slot_fst t ht; have hc1 := cell_fst t ht; have hc2 := block_fst t ht
  have hT0 : ownM.IsWhole := Memref.isWhole_whole _
  have hT1 : cntM.IsWhole := Memref.isWhole_whole _
  have hU : upM.IsWhole := Memref.isWhole_whole _
  have hD : downM.IsWhole := Memref.isWhole_whole _
  have hcan := slot_here t
  unfold owns idleAt Ring.free
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, ⟨Hc0, ⟨%fs0, Hs0, Hw0⟩⟩, HW, Hk⟩
  ihave Hsp0 := (rows_split c W (Ring.sl 3 t.val) (Ring.bk 884 t.val)).1 $$ Hw0
  icases Hsp0 with ⟨Hh0, Hr0⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact hs | sl_exact hs2 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro
    exact read_outBlk arg8.view f8 (congrArg (fun g => View.ld (Val := Elt F) g lowRect) (read_landed c W (Ring.sl 3 t.val) (Ring.bk 884 t.val) _)) (congrArg (fun g => View.ld (Val := Elt F) g topRect) (read_landed c W (Ring.sl 3 t.val) (Ring.bk 884 t.val) _))
      ((View.readCov_full _ _ _ _ _).trans (congrArg k0_pay1 ((View.readAt_full _ _ _).trans (harg4.read_unread _)))) ((View.readAt_full _ _ _).trans (harg5.read_unread _))
      ((View.readCov_full _ _ _ _ _).trans (congrArg k0_pay2 ((View.readAt_full _ _ _).trans (harg6.read_unread _)))) ((View.readAt_full _ _ _).trans (harg7.read_unread _))
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  isplitl [Hc0 Hs0 Hh0 Hr0]
  · isplitl [Hc0]; · iexact Hc0
    iexists _; isplitl [Hs0]; · iexact Hs0
    iapply (rows_split c W (Ring.sl 3 t.val) (Ring.bk 884 t.val)).2; isplitl [Hh0]; · iexact Hh0
    iexact Hr0
  iexists _; iexact HW

set_option maxHeartbeats 4000000 in
/-- The first point when no block is in use. -/
theorem run_first_none (c : Dev nD) (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32) (W : BufOf (F := F) c rowM)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)
    (hck : k0_chk1 (grid0.coords t) (cntWord T1))
    (ht : t.val = 0)
    (h1 : k0_cond1 (grid0.coords t) = 1#1)
    (hs : ¬ Scalar.cmpi .ne (Scalar.extui (Scalar.cmpi .sgt (cntWord T1) 0#32)) 0#32 = 1#1)
    (hs2 : ¬ Scalar.cmpi .ne (Scalar.extui (Scalar.cmpi .sgt (cntWord T1) 1#32)) 0#32 = 1#1)
    (h4 : ¬ k0_cond4 (grid0.coords t) (cntWord T1) = 1#1)
    (hr : reloadsAt (grid0.coords t) T0)
    (h6 : ¬ k0_cond6 (grid0.coords t) (cntWord T1) = 1#1)
    (h7 : k0_cond7 (grid0.coords t) (cntWord T1) = 1#1) :
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (k0_pay4 (F := F))
            ∗ owns (c : Thread nD τ) upM fullShare (k0_pay1 x1)
            ∗ owns (c : Thread nD τ) downM fullShare (k0_pay2 x3)
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K := by
  intro Wt K
  haveI : Fact (t.val = 0) := ⟨ht⟩
  rw [cc0__expert_kernel_eq_skeleton]; unfold cc0__expert_kernel_skel
  have hT0 : ownM.IsWhole := Memref.isWhole_whole _
  have hT1 : cntM.IsWhole := Memref.isWhole_whole _
  have hU : upM.IsWhole := Memref.isWhole_whole _
  have hD : downM.IsWhole := Memref.isWhole_whole _
  unfold owns
  iintro ⟨HT0, HT1, ⟨%f1, %hf1, H1⟩, ⟨%f2, %hf2, H2⟩, ⟨%f3, %hf3, H3⟩, ⟨%f4, %hf4, H4⟩, ⟨%d8, %f8, -, H8⟩, ⟨%fu, %hfu, HU⟩, ⟨%fd, %hfd, HD⟩, HW, Hk⟩
  obtain rfl := harg4.eq_unread hf1; obtain rfl := harg5.eq_unread hf2; obtain rfl := harg6.eq_unread hf3; obtain rfl := harg7.eq_unread hf4
  obtain rfl := hU.eq_unread hfu; obtain rfl := hD.eq_unread hfd
  sl_exec (disch := first | sl_exact hck | sl_exact h1 | sl_exact hs | sl_exact hs2 | sl_exact h4 | sl_exact hr | sl_exact h6 | sl_exact h7)
  sl_step
  iapply Hk
  isplitl [HT0]; · iexact HT0
  isplitl [HT1]; · iexact HT1
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro; exact View.read_writes_full _ _ _ _ _
  isplitl [HU]
  · iexists _; isplitr; swap; · iexact HU
    ipureintro; exact (View.read_writes_full _ _ _ _ _).trans (congrArg k0_pay1 ((View.readAt_full _ _ _).trans (harg4.read_unread _)))
  isplitl [HD]
  · iexists _; isplitr; swap; · iexact HD
    ipureintro; exact (View.read_writes_full _ _ _ _ _).trans (congrArg k0_pay2 ((View.readAt_full _ _ _).trans (harg6.read_unread _)))
  iexists _; iexact HW

end Cert.Kernel.Experts

end
-- ==== Proof.Experts.Step.lean ====
module

public import proofs.«01_k».proof.Proof.Experts.Body

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (c : Dev nD) (W : BufOf (F := F) c rowM)

/-- The ring before and after a point, by what the point does with it. -/
theorem ring_ahead {n t : ℕ} (h0 : 0 < t) (h : t + 2 < n) : ringAt c W n t = iprop(busyAt c W t ∗ busyAt c W (t + 1) ∗ idleAt c W (t + 2)) := by
  unfold ringAt; rw [slotAt_busy c W h0 (by omega), slotAt_busy c W h0 (by omega), slotAt_idle c W (by simp)]
theorem ring_ahead_next {n t : ℕ} (h : t + 2 < n) : ringAt c W n (t + 1) = iprop(busyAt c W (t + 1) ∗ busyAt c W (t + 2) ∗ idleAt c W t) := by
  unfold ringAt
  rw [slotAt_busy c W (Nat.succ_pos t) (by omega), slotAt_busy c W (Nat.succ_pos t) (by omega), slotAt_idle c W (by simp), show t + 1 + 2 = t + 3 from rfl, idleAt_next]
theorem ring_last {n t : ℕ} (h0 : 0 < t) (h : t < n) : ringAt c W n t = iprop(busyAt c W t ∗ slotAt c W n True (t + 1) ∗ idleAt c W (t + 2)) := by
  unfold ringAt
  rw [slotAt_busy c W h0 h, slotAt_idle c W (on := False) (by simp), show slotAt c W n (0 < t) (t + 1) = slotAt c W n True (t + 1) by unfold slotAt; simp only [h0]]
theorem ring_last_next {n t : ℕ} (h : ¬ t + 2 < n) : ringAt c W n (t + 1) = iprop(slotAt c W n True (t + 1) ∗ idleAt c W (t + 2) ∗ idleAt c W t) := by
  unfold ringAt
  rw [slotAt_idle c W (on := False) (by simp), slotAt_idle c W (on := 0 < t + 1) (k := t + 1 + 1) (by omega), show t + 1 + 2 = t + 3 from rfl, idleAt_next,
    show slotAt c W n (0 < t + 1) (t + 1) = slotAt c W n True (t + 1) by unfold slotAt; simp only [Nat.succ_pos]]
theorem ring_dead {n t : ℕ} (h : ¬ t < n) : ringAt c W n t = iprop(idleAt c W t ∗ idleAt c W (t + 1) ∗ idleAt c W (t + 2)) := by
  unfold ringAt; rw [slotAt_idle c W (by omega), slotAt_idle c W (by omega), slotAt_idle c W (by simp)]
theorem ring_dead_next {n t : ℕ} (h : ¬ t + 1 < n) : ringAt c W n (t + 1) = iprop(idleAt c W (t + 1) ∗ idleAt c W (t + 2) ∗ idleAt c W t) := by
  unfold ringAt
  rw [slotAt_idle c W (by omega), slotAt_idle c W (by omega), slotAt_idle c W (by simp), show t + 1 + 2 = t + 3 from rfl, idleAt_next]
theorem ring_first {n t : ℕ} (h : t = 0) : ringAt c W n t = iprop(idleAt c W t ∗ idleAt c W (t + 1) ∗ idleAt c W (t + 2)) := by
  unfold ringAt; rw [slotAt_idle c W (by omega), slotAt_idle c W (by omega), slotAt_idle c W (by simp)]
theorem ring_second {n t : ℕ} (h : n = t + 2) : ringAt c W n (t + 1) = iprop(busyAt c W (t + 1) ∗ idleAt c W (t + 2) ∗ idleAt c W t) := by
  unfold ringAt
  rw [slotAt_busy c W (Nat.succ_pos t) (by omega), slotAt_idle c W (by omega), slotAt_idle c W (by simp), show t + 1 + 2 = t + 3 from rfl, idleAt_next]

/-- The output block of point `t` when `n` blocks are in use: the experts' feed-forward of its rows, or zeros. -/
def pointOut (n t : ℕ) (x1 : Vec F S1x1024x2048 .f32) (x2 : Vec F S1x1x2048 .f32) (x3 : Vec F S1x1024x1024 .f32) (x4 : Vec F S1x1x1024 .f32) : Vec F S512x1024 .f32 :=
  if t < n then outBlk (rowsOf c W (Ring.bk 884 t)) (k0_pay1 x1) x2 (k0_pay2 x3) x4 else k0_pay4

variable {W} in
/-- What a point is given and what it hands back, the ring and the kept weights apart. -/
abbrev PointRun (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16) (out : Vec F S512x1024 .f32) (before after : sProp 𝕄) : Prop :=
    ∀ (Wt : Waits sig Unit) (K : PUnit → sProp 𝕄),
      iprop((ownM.view.loc (c : Thread nD τ) ↦{fullShare.right} T0)
          ∗ (cntM.view.loc (c : Thread nD τ) ↦{fullShare.right} T1)
          ∗ owns (c : Thread nD τ) arg4 fullShare x1
          ∗ owns (c : Thread nD τ) arg5 fullShare x2
          ∗ owns (c : Thread nD τ) arg6 fullShare x3
          ∗ owns (c : Thread nD τ) arg7 fullShare x4
          ∗ (∃ d, owns (c : Thread nD τ) arg8 fullShare d)
          ∗ owns (c : Thread nD τ) upM fullShare w1
          ∗ owns (c : Thread nD τ) downM fullShare w2
          ∗ before
          ∗ owes (c : Thread nD τ) 0 Wt
          ∗ (iprop((ownM.view.loc (c : Thread nD τ) ↦{fullShare.right} T0)
            ∗ (cntM.view.loc (c : Thread nD τ) ↦{fullShare.right} T1)
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare out
            ∗ owns (c : Thread nD τ) upM fullShare (k0_pay1 x1)
            ∗ owns (c : Thread nD τ) downM fullShare (k0_pay2 x3)
            ∗ after
            ∗ (∃ Wt', owes (c : Thread nD τ) 0 Wt')) -∗ K ⟨⟩))
        ⊢ wp frame (wpE (defs₀ (F := F)) Variants.none c none) Set.univ
            (cc0__expert_kernel (grid0.coords t) ownM (Memref.isWhole_whole _) cntM (Memref.isWhole_whole _) rowM (Memref.isWhole_whole _) arg4 harg4 arg5 harg5 arg6 harg6 arg7 harg7 arg8 harg8 upM (Memref.isWhole_whole _) downM (Memref.isWhole_whole _) ringM (Memref.isWhole_whole _) cc0_scratch3) K

section Point
variable (t : Fin grid0.N)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole)
    (T0 : S884.Idx → Elt F .i32) (T1 : S1.Idx → Elt F .i32)
    (x1 : Vec F S1x1024x2048 .f32) (x2 : Vec F S1x1x2048 .f32) (x3 : Vec F S1x1024x1024 .f32) (x4 : Vec F S1x1x1024 .f32)
    (w1 : Vec F S1024x2048 .bf16) (w2 : Vec F S1024x1024 .bf16)

set_option maxHeartbeats 1000000 in
/-- A block two ahead to fetch, the weights rounded again. -/
theorem point_ahead_reload (hn : used (cntWord T1) ≤ 884) (h0 : 0 < t.val) (h : t.val + 2 < used (cntWord T1)) (hr : reloadsAt (grid0.coords t) T0) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_ahead c W h0 h, ring_ahead_next c W h]
  unfold pointOut; rw [if_pos (show t.val < used (cntWord T1) by omega)]
  iintro ⟨HT0, HT1, H1, H2, H3, H4, H8, HU, HD, ⟨Ra, Rb, Rc⟩, HW, Hk⟩
  iapply (run_ahead_reload c t arg4 harg4 arg5 harg5 arg6 harg6 arg7 harg7 arg8 harg8 T0 T1 W x1 x2 x3 x4 w1 w2 (ahead_inb t _ hn) (by omega) (fun e => absurd ((first_iff t).1 e) (by omega)) ((ahead_iff t _).2 (by omega)) hr ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rc]; · iexact Rc
  isplitl [Ra]; · iexact Ra
  isplitl [HW]; · iexact HW
  iintro ⟨HT0, HT1, H1, H2, H3, H4, H8, HU, HD, Ia, Bb, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Bb Ia]
  · isplitl [Rb]; · iexact Rb
    isplitl [Bb]; · iexact Bb
    iexact Ia
  iexact HW

set_option maxHeartbeats 1000000 in
/-- A block two ahead to fetch, the weights kept. -/
theorem point_ahead_keep (hn : used (cntWord T1) ≤ 884) (h0 : 0 < t.val) (h : t.val + 2 < used (cntWord T1)) (hr : ¬ reloadsAt (grid0.coords t) T0) :
    PointRun c t arg4 harg4 arg5 harg5 arg6 harg6 arg7 harg7 arg8 harg8 T0 T1 x1 x2 x3 x4 (k0_pay1 x1) (k0_pay2 x3) (pointOut c W (used (cntWord T1)) t.val x1 x2 x3 x4) (ringAt c W (used (cntWord T1)) t.val) (ringAt c W (used (cntWord T1)) (t.val + 1)) := by
  intro Wt K
  have hlt := pt_lt t
  rw [ring_ahead c W h0 h, ring_ahead_next c W h]
  unfold pointOut; rw [if_pos (show t.val < used (cntWord T1) by omega)]
  iintro ⟨HT0, HT1, H1, H2, H3, H4, H8, HU, HD, ⟨Ra, Rb, Rc⟩, HW, Hk⟩
  iapply (run_ahead_keep c t arg4 harg4 arg5 harg5 arg6 harg6 arg7 harg7 arg8 harg8 T0 T1 W x1 x2 x3 x4 (k0_pay1 x1) (k0_pay2 x3) (ahead_inb t _ hn) (by omega) (fun e => absurd ((first_iff t).1 e) (by omega)) ((ahead_iff t _).2 (by omega)) hr ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rc]; · iexact Rc
  isplitl [Ra]; · iexact Ra
  isplitl [HW]; · iexact HW
  iintro ⟨HT0, HT1, H1, H2, H3, H4, H8, HU, HD, Ia, Bb, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Bb Ia]
  · isplitl [Rb]; · iexact Rb
    isplitl [Bb]; · iexact Bb
    iexact Ia
  iexact HW

set_option maxHeartbeats 1000000 in
/-- Nothing left to fetch, the weights rounded again. -/
theorem point_last_reload (hn : used (cntWord T1) ≤ 884) (h0 : 0 < t.val) (hl : t.val < used (cntWord T1)) (h : ¬ t.val + 2 < used (cntWord T1)) (hr : reloadsAt (grid0.coords t) T0) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_last c W h0 hl, ring_last_next c W h]
  unfold pointOut; rw [if_pos (show t.val < used (cntWord T1) by omega)]
  iintro ⟨HT0, HT1, H1, H2, H3, H4, H8, HU, HD, ⟨Ra, Rb, Rc⟩, HW, Hk⟩
  iapply (run_last_reload c t arg4 harg4 arg5 harg5 arg6 harg6 arg7 harg7 arg8 harg8 T0 T1 W x1 x2 x3 x4 w1 w2 (ahead_inb t _ hn) (fun e => absurd ((first_iff t).1 e) (by omega)) (fun e => absurd ((ahead_iff t _).1 e) (by omega)) hr ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Ra]; · iexact Ra
  isplitl [HW]; · iexact HW
  iintro ⟨HT0, HT1, H1, H2, H3, H4, H8, HU, HD, Ia, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Rc Ia]
  · isplitl [Rb]; · iexact Rb
    isplitl [Rc]; · iexact Rc
    iexact Ia
  iexact HW

set_option maxHeartbeats 1000000 in
/-- Nothing left to fetch, the weights kept. -/
theorem point_last_keep (hn : used (cntWord T1) ≤ 884) (h0 : 0 < t.val) (hl : t.val < used (cntWord T1)) (h : ¬ t.val + 2 < used (cntWord T1)) (hr : ¬ reloadsAt (grid0.coords t) T0) :
    PointRun c t arg4 harg4 arg5 harg5 arg6 harg6 arg7 harg7 arg8 harg8 T0 T1 x1 x2 x3 x4 (k0_pay1 x1) (k0_pay2 x3) (pointOut c W (used (cntWord T1)) t.val x1 x2 x3 x4) (ringAt c W (used (cntWord T1)) t.val) (ringAt c W (used (cntWord T1)) (t.val + 1)) := by
  intro Wt K
  have hlt := pt_lt t
  rw [ring_last c W h0 hl, ring_last_next c W h]
  unfold pointOut; rw [if_pos (show t.val < used (cntWord T1) by omega)]
  iintro ⟨HT0, HT1, H1, H2, H3, H4, H8, HU, HD, ⟨Ra, Rb, Rc⟩, HW, Hk⟩
  iapply (run_last_keep c t arg4 harg4 arg5 harg5 arg6 harg6 arg7 harg7 arg8 harg8 T0 T1 W x1 x2 x3 x4 (k0_pay1 x1) (k0_pay2 x3) (ahead_inb t _ hn) (fun e => absurd ((first_iff t).1 e) (by omega)) (fun e => absurd ((ahead_iff t _).1 e) (by omega)) hr ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Ra]; · iexact Ra
  isplitl [HW]; · iexact HW
  iintro ⟨HT0, HT1, H1, H2, H3, H4, H8, HU, HD, Ia, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Rc Ia]
  · isplitl [Rb]; · iexact Rb
    isplitl [Rc]; · iexact Rc
    iexact Ia
  iexact HW

set_option maxHeartbeats 1000000 in
/-- The point past the blocks in use, the weights rounded again. -/
theorem point_dead_reload (hn : used (cntWord T1) ≤ 884) (h0 : 0 < t.val) (h : ¬ t.val < used (cntWord T1)) (hr : reloadsAt (grid0.coords t) T0) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_dead c W h, ring_dead_next c W (by omega)]
  unfold pointOut; rw [if_neg (show ¬ t.val < used (cntWord T1) by omega)]
  iintro ⟨HT0, HT1, H1, H2, H3, H4, H8, HU, HD, ⟨Ra, Rb, Rc⟩, HW, Hk⟩
  iapply (run_dead_reload c t arg4 harg4 arg5 harg5 arg6 harg6 arg7 harg7 arg8 harg8 T0 T1 W x1 x2 x3 x4 w1 w2 (ahead_inb t _ hn) (fun e => absurd ((first_iff t).1 e) (by omega)) (fun e => absurd ((ahead_iff t _).1 e) (by omega)) hr (fun e => absurd ((live_iff t _).1 e) (by omega)) ((dead_iff t _).2 (by omega)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [HW]; · iexact HW
  iintro ⟨HT0, HT1, H1, H2, H3, H4, H8, HU, HD, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Rc Ra]
  · isplitl [Rb]; · iexact Rb
    isplitl [Rc]; · iexact Rc
    iexact Ra
  iexact HW

set_option maxHeartbeats 1000000 in
/-- The point past the blocks in use, the weights kept. -/
theorem point_dead_keep (hn : used (cntWord T1) ≤ 884) (h0 : 0 < t.val) (h : ¬ t.val < used (cntWord T1)) (hr : ¬ reloadsAt (grid0.coords t) T0) :
    PointRun c t arg4 harg4 arg5 harg5 arg6 harg6 arg7 harg7 arg8 harg8 T0 T1 x1 x2 x3 x4 (k0_pay1 x1) (k0_pay2 x3) (pointOut c W (used (cntWord T1)) t.val x1 x2 x3 x4) (ringAt c W (used (cntWord T1)) t.val) (ringAt c W (used (cntWord T1)) (t.val + 1)) := by
  intro Wt K
  have hlt := pt_lt t
  rw [ring_dead c W h, ring_dead_next c W (by omega)]
  unfold pointOut; rw [if_neg (show ¬ t.val < used (cntWord T1) by omega)]
  iintro ⟨HT0, HT1, H1, H2, H3, H4, H8, HU, HD, ⟨Ra, Rb, Rc⟩, HW, Hk⟩
  iapply (run_dead_keep c t arg4 harg4 arg5 harg5 arg6 harg6 arg7 harg7 arg8 harg8 T0 T1 W x1 x2 x3 x4 (k0_pay1 x1) (k0_pay2 x3) (ahead_inb t _ hn) (fun e => absurd ((first_iff t).1 e) (by omega)) (fun e => absurd ((ahead_iff t _).1 e) (by omega)) hr (fun e => absurd ((live_iff t _).1 e) (by omega)) ((dead_iff t _).2 (by omega)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [HW]; · iexact HW
  iintro ⟨HT0, HT1, H1, H2, H3, H4, H8, HU, HD, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Rc Ra]
  · isplitl [Rb]; · iexact Rb
    isplitl [Rc]; · iexact Rc
    iexact Ra
  iexact HW

set_option maxHeartbeats 1000000 in
/-- The first point, three blocks or more in use. -/
theorem point_first_three (hn : used (cntWord T1) ≤ 884) (h0 : t.val = 0) (h : 2 < used (cntWord T1)) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_first c W h0, ring_ahead_next c W (by omega)]
  unfold pointOut; rw [if_pos (show t.val < used (cntWord T1) by omega)]
  iintro ⟨HT0, HT1, H1, H2, H3, H4, H8, HU, HD, ⟨Ra, Rb, Rc⟩, HW, Hk⟩
  iapply (run_first_three c t arg4 harg4 arg5 harg5 arg6 harg6 arg7 harg7 arg8 harg8 T0 T1 W x1 x2 x3 x4 w1 w2 (ahead_inb t _ hn) h0 (by omega) ((first_iff t).2 h0) ((some_iff _).2 (by omega)) ((two_iff _).2 (by omega)) ((ahead_iff t _).2 (by omega)) ((reloads_iff t _ _).2 (Or.inl h0)) ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Ra]; · iexact Ra
  isplitl [Rb]; · iexact Rb
  isplitl [Rc]; · iexact Rc
  isplitl [HW]; · iexact HW
  iintro ⟨HT0, HT1, H1, H2, H3, H4, H8, HU, HD, Ia, Bb, Bc, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Bb Bc Ia]
  · isplitl [Bb]; · iexact Bb
    isplitl [Bc]; · iexact Bc
    iexact Ia
  iexact HW

set_option maxHeartbeats 1000000 in
/-- The first point, two blocks in use. -/
theorem point_first_two (hn : used (cntWord T1) ≤ 884) (h0 : t.val = 0) (h : used (cntWord T1) = 2) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_first c W h0, ring_second c W (by omega)]
  unfold pointOut; rw [if_pos (show t.val < used (cntWord T1) by omega)]
  iintro ⟨HT0, HT1, H1, H2, H3, H4, H8, HU, HD, ⟨Ra, Rb, Rc⟩, HW, Hk⟩
  iapply (run_first_two c t arg4 harg4 arg5 harg5 arg6 harg6 arg7 harg7 arg8 harg8 T0 T1 W x1 x2 x3 x4 w1 w2 (ahead_inb t _ hn) h0 ((first_iff t).2 h0) ((some_iff _).2 (by omega)) ((two_iff _).2 (by omega)) (fun e => absurd ((ahead_iff t _).1 e) (by omega)) ((reloads_iff t _ _).2 (Or.inl h0)) ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Ra]; · iexact Ra
  isplitl [Rb]; · iexact Rb
  isplitl [HW]; · iexact HW
  iintro ⟨HT0, HT1, H1, H2, H3, H4, H8, HU, HD, Ia, Bb, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Bb Rc Ia]
  · isplitl [Bb]; · iexact Bb
    isplitl [Rc]; · iexact Rc
    iexact Ia
  iexact HW

set_option maxHeartbeats 1000000 in
/-- The first point, one block in use. -/
theorem point_first_one (hn : used (cntWord T1) ≤ 884) (h0 : t.val = 0) (h : used (cntWord T1) = 1) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_first c W h0, ring_dead_next c W (by omega)]
  unfold pointOut; rw [if_pos (show t.val < used (cntWord T1) by omega)]
  iintro ⟨HT0, HT1, H1, H2, H3, H4, H8, HU, HD, ⟨Ra, Rb, Rc⟩, HW, Hk⟩
  iapply (run_first_one c t arg4 harg4 arg5 harg5 arg6 harg6 arg7 harg7 arg8 harg8 T0 T1 W x1 x2 x3 x4 w1 w2 (ahead_inb t _ hn) h0 ((first_iff t).2 h0) ((some_iff _).2 (by omega)) (fun e => absurd ((two_iff _).1 e) (by omega)) (fun e => absurd ((ahead_iff t _).1 e) (by omega)) ((reloads_iff t _ _).2 (Or.inl h0)) ((live_iff t _).2 (by omega)) (fun e => absurd (by omega) ((dead_iff t _).1 e)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Ra]; · iexact Ra
  isplitl [HW]; · iexact HW
  iintro ⟨HT0, HT1, H1, H2, H3, H4, H8, HU, HD, Ia, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Rc Ia]
  · isplitl [Rb]; · iexact Rb
    isplitl [Rc]; · iexact Rc
    iexact Ia
  iexact HW

set_option maxHeartbeats 1000000 in
/-- The first point, no block in use. -/
theorem point_first_none (hn : used (cntWord T1) ≤ 884) (h0 : t.val = 0) (h : used (cntWord T1) = 0) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  intro Wt K
  have hlt := pt_lt t
  rw [ring_first c W h0, ring_dead_next c W (by omega)]
  unfold pointOut; rw [if_neg (show ¬ t.val < used (cntWord T1) by omega)]
  iintro ⟨HT0, HT1, H1, H2, H3, H4, H8, HU, HD, ⟨Ra, Rb, Rc⟩, HW, Hk⟩
  iapply (run_first_none c t arg4 harg4 arg5 harg5 arg6 harg6 arg7 harg7 arg8 harg8 T0 T1 W x1 x2 x3 x4 w1 w2 (ahead_inb t _ hn) h0 ((first_iff t).2 h0) (fun e => absurd ((some_iff _).1 e) (by omega)) (fun e => absurd ((two_iff _).1 e) (by omega)) (fun e => absurd ((ahead_iff t _).1 e) (by omega)) ((reloads_iff t _ _).2 (Or.inl h0)) (fun e => absurd ((live_iff t _).1 e) (by omega)) ((dead_iff t _).2 (by omega)) Wt K)
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [HW]; · iexact HW
  iintro ⟨HT0, HT1, H1, H2, H3, H4, H8, HU, HD, HW⟩
  iapply Hk
  isplitl [HT0]; · iexact HT0
  isplitl [HT1]; · iexact HT1
  isplitl [H1]; · iexact H1
  isplitl [H2]; · iexact H2
  isplitl [H3]; · iexact H3
  isplitl [H4]; · iexact H4
  isplitl [H8]; · iexact H8
  isplitl [HU]; · iexact HU
  isplitl [HD]; · iexact HD
  isplitl [Rb Rc Ra]
  · isplitl [Rb]; · iexact Rb
    isplitl [Rc]; · iexact Rc
    iexact Ra
  iexact HW

/-- A point, whatever it does: the ring moves on by one block, the kept weights are those of the point's expert. -/
theorem point_any (hn : used (cntWord T1) ≤ 884) (hkeep : ¬ reloadsAt (grid0.coords t) T0 → w1 = k0_pay1 x1 ∧ w2 = k0_pay2 x3) :
    PointRun c t arg4 harg4 arg5 harg5 arg6 harg6 arg7 harg7 arg8 harg8 T0 T1 x1 x2 x3 x4 w1 w2 (pointOut c W (used (cntWord T1)) t.val x1 x2 x3 x4) (ringAt c W (used (cntWord T1)) t.val) (ringAt c W (used (cntWord T1)) (t.val + 1)) := by
  by_cases h0 : t.val = 0
  · rcases Nat.lt_or_ge 2 (used (cntWord T1)) with h | h
    · exact point_first_three c W t arg4 harg4 arg5 harg5 arg6 harg6 arg7 harg7 arg8 harg8 T0 T1 x1 x2 x3 x4 w1 w2 hn h0 h
    · rcases (by omega : used (cntWord T1) = 2 ∨ used (cntWord T1) = 1 ∨ used (cntWord T1) = 0) with h | h | h
      · exact point_first_two c W t arg4 harg4 arg5 harg5 arg6 harg6 arg7 harg7 arg8 harg8 T0 T1 x1 x2 x3 x4 w1 w2 hn h0 h
      · exact point_first_one c W t arg4 harg4 arg5 harg5 arg6 harg6 arg7 harg7 arg8 harg8 T0 T1 x1 x2 x3 x4 w1 w2 hn h0 h
      · exact point_first_none c W t arg4 harg4 arg5 harg5 arg6 harg6 arg7 harg7 arg8 harg8 T0 T1 x1 x2 x3 x4 w1 w2 hn h0 h
  · have hp : 0 < t.val := by omega
    by_cases hr : reloadsAt (grid0.coords t) T0
    · by_cases ha : t.val + 2 < used (cntWord T1)
      · exact point_ahead_reload c W t arg4 harg4 arg5 harg5 arg6 harg6 arg7 harg7 arg8 harg8 T0 T1 x1 x2 x3 x4 w1 w2 hn hp ha hr
      · by_cases hl : t.val < used (cntWord T1)
        · exact point_last_reload c W t arg4 harg4 arg5 harg5 arg6 harg6 arg7 harg7 arg8 harg8 T0 T1 x1 x2 x3 x4 w1 w2 hn hp hl ha hr
        · exact point_dead_reload c W t arg4 harg4 arg5 harg5 arg6 harg6 arg7 harg7 arg8 harg8 T0 T1 x1 x2 x3 x4 w1 w2 hn hp hl hr
    · obtain ⟨rfl, rfl⟩ := hkeep hr
      by_cases ha : t.val + 2 < used (cntWord T1)
      · exact point_ahead_keep c W t arg4 harg4 arg5 harg5 arg6 harg6 arg7 harg7 arg8 harg8 T0 T1 x1 x2 x3 x4 hn hp ha hr
      · by_cases hl : t.val < used (cntWord T1)
        · exact point_last_keep c W t arg4 harg4 arg5 harg5 arg6 harg6 arg7 harg7 arg8 harg8 T0 T1 x1 x2 x3 x4 hn hp hl ha hr
        · exact point_dead_keep c W t arg4 harg4 arg5 harg5 arg6 harg6 arg7 harg7 arg8 harg8 T0 T1 x1 x2 x3 x4 hn hp hl hr

end Point

end Cert.Kernel.Experts

end
-- ==== Proof.Experts.Cfg.lean ====
module

public import proofs.«01_k».proof.Proof.Experts.Step
public import proofs.«01_k».proof.Proof.Gen.Kernel.Launch
public import Idealize.ShloMosaic.Lib.Pipeline.TableIdle
public import Idealize.ShloMosaic.Lib.Pipeline.FrameBody
public import Idealize.ShloMosaic.Lib.ValueIdxCore

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open ValueIdx (ix1)

/-! ## The tables -/

set_option synthInstance.maxSize 4096 in
theorem off5_eq : ∀ t : Fin grid0.N, k0_off5 (grid0.coords t) = ![t.val] := by decide +kernel
set_option synthInstance.maxSize 4096 in
theorem off6_eq : ∀ t : Fin grid0.N, k0_off6 (grid0.coords t) = ![t.val - 1] := by decide +kernel

/-- The word the body reads at an offset is the table's entry there. -/
theorem ownWord_eq (T0 : S884.Idx → Elt F .i32) {o : Fin 1 → Nat} (h) (k : Fin 884) (e : o = ![k.val]) : ownWord T0 o h = T0 (ix1 k) := by
  subst e
  show T0 _ = T0 _
  congr 1
  funext a
  fin_cases a
  apply Fin.ext
  show k.val + 1 * _ = k.val
  simp [Shape.Idx.first]

theorem cntWord_eq (T1 : S1.Idx → Elt F .i32) : cntWord T1 = T1 (ix1 0) := by
  show T1 _ = T1 _
  congr 1
  funext a
  fin_cases a
  apply Fin.ext
  show 0 + 1 * _ = 0
  simp [Shape.Idx.first]

variable (m : (ℓ : Loc nD τ sig) → Buf (Elt F) ℓ) (ρ : Dev nD → PrngReg)

/-- The experts of the blocks and the number of blocks in use, as launched; the token rows of core `c`. -/
abbrev owners : S884.Idx → Elt F .i32 := m (((0 : Dev nD) : Thread nD τ).loc main_arg0)
abbrev count : S1.Idx → Elt F .i32 := m (((0 : Dev nD) : Thread nD τ).loc main_arg1)
abbrev rowsW (c : Dev nD) : BufOf (F := F) c rowM := m ((c : Thread nD τ).loc main_arg2)
/-- How many blocks are in use. -/
def nUsed : ℕ := used (cntWord (count m))

/-- The two tables, as the pipeline reads them. -/
def tables : pre0.Contents (Elt F) := fun
  | ⟨0, _⟩ => owners m
  | ⟨1, _⟩ => count m
  | ⟨_ + 2, h⟩ => absurd h (by simp)

/-- What the run asks of the tables: every expert exists, and no more blocks are in use than there are. -/
structure Admits : Prop where
  ok : ok0 (tables m)
  le : nUsed m ≤ 884

variable (H : Admits m)

def adm : (pcfg0 (F := F)).Adm := ⟨tables m, H.ok⟩
abbrev cfgA : Pipeline.Cfg sig Λ₀ := cfg0 (adm m H)
abbrev pcs : Fin 1 → Pipeline.Cfg sig Λ₀ := Pipeline.pin (pcfgs (F := F)) fun _ => adm m H

abbrev ms0_0 (t : Fin (cfgA m H).N) : Memref sig .tc .vmem S1x1024x2048 .f32 := spec0_0.stage ((cfgA m H).slots t (0 : Fin 5))
abbrev hs0_0 (t : Fin (cfgA m H).N) : (ms0_0 m H t).IsWhole := hstage0_0 (((cfgA m H).slots t (0 : Fin 5)).cast nbuf0_0)
abbrev ms0_1 (t : Fin (cfgA m H).N) : Memref sig .tc .vmem S1x1x2048 .f32 := spec0_1.stage ((cfgA m H).slots t (1 : Fin 5))
abbrev hs0_1 (t : Fin (cfgA m H).N) : (ms0_1 m H t).IsWhole := hstage0_1 (((cfgA m H).slots t (1 : Fin 5)).cast nbuf0_1)
abbrev ms0_2 (t : Fin (cfgA m H).N) : Memref sig .tc .vmem S1x1024x1024 .f32 := spec0_2.stage ((cfgA m H).slots t (2 : Fin 5))
abbrev hs0_2 (t : Fin (cfgA m H).N) : (ms0_2 m H t).IsWhole := hstage0_2 (((cfgA m H).slots t (2 : Fin 5)).cast nbuf0_2)
abbrev ms0_3 (t : Fin (cfgA m H).N) : Memref sig .tc .vmem S1x1x1024 .f32 := spec0_3.stage ((cfgA m H).slots t (3 : Fin 5))
abbrev hs0_3 (t : Fin (cfgA m H).N) : (ms0_3 m H t).IsWhole := hstage0_3 (((cfgA m H).slots t (3 : Fin 5)).cast nbuf0_3)
abbrev ms0_4 (t : Fin (cfgA m H).N) : Memref sig .tc .vmem S512x1024 .f32 := spec0_4.stage ((cfgA m H).slots t (4 : Fin 5))
abbrev hs0_4 (t : Fin (cfgA m H).N) : (ms0_4 m H t).IsWhole := hstage0_4 (((cfgA m H).slots t (4 : Fin 5)).cast nbuf0_4)

/-- Window `w`'s block at point `t`, read off its array as launched. -/
def iblk (c : Dev nD) (w : Fin (cfgA m H).W) (t : Fin (cfgA m H).N) : (((cfgA m H).win w).xblock ((cfgA m H).grid.coords t)).Idx → Elt F ((cfgA m H).win w).elt :=
  (((cfgA m H).win w).blk t).view.read (Elt F) (m (((cfgA m H).win w).arr.view.loc (c : Thread nD τ)))

/-! ## The blocks of the weights and biases, by the expert of the point -/

/-- The block of `X` at block index `o`. -/
abbrev blockRead {s : Shape} {e : EltTy} (X : s.Idx → Elt F e) (size : Fin s.rank → Nat) (o : Fin s.rank → Nat) (h : ∀ a, (o a + 1) * size a ≤ s.size a) :
    (Rect.block (s := s) size o h).shape.Idx → Elt F e := fun y => X ((Rect.block (s := s) size o h).emb y)
theorem blockRead_congr {s : Shape} {e : EltTy} (X : s.Idx → Elt F e) (size : Fin s.rank → Nat) {o o' : Fin s.rank → Nat} (h h') (e' : o = o') :
    blockRead (F := F) X size o h = blockRead X size o' h' := by subst e'; rfl

/-- The expert of point `t`'s block. -/
def expert (t : Fin grid0.N) : BitVec 32 := owners m (ix1 ⟨t.val, pt_lt t⟩)

theorem index_expert (t : Fin grid0.N) : ((ownWord (owners m) (k0_off5 (grid0.coords t)) (k0_off5_inb _)).toNat) = (expert m t).toNat := by
  rw [ownWord_eq (owners m) _ ⟨t.val, pt_lt t⟩ (off5_eq t)]; rfl

theorem index1 (t : Fin grid0.N) : cc0_transform_1 k0_off1_inb numel1_S1 (tables m) (grid0.coords t) = ![(expert m t).toNat, 0, 0] :=
  congrArg (fun n : ℕ => (![n, 0, 0] : Fin 3 → ℕ)) (index_expert m t)
theorem index2 (t : Fin grid0.N) : cc0_transform_2 k0_off1_inb numel1_S1 (tables m) (grid0.coords t) = ![(expert m t).toNat, 0, 0] :=
  congrArg (fun n : ℕ => (![n, 0, 0] : Fin 3 → ℕ)) (index_expert m t)
theorem index3 (t : Fin grid0.N) : cc0_transform_3 k0_off1_inb numel1_S1 (tables m) (grid0.coords t) = ![(expert m t).toNat, 0, 0] :=
  congrArg (fun n : ℕ => (![n, 0, 0] : Fin 3 → ℕ)) (index_expert m t)
theorem index4 (t : Fin grid0.N) : cc0_transform_4 k0_off1_inb numel1_S1 (tables m) (grid0.coords t) = ![(expert m t).toNat, 0, 0] :=
  congrArg (fun n : ℕ => (![n, 0, 0] : Fin 3 → ℕ)) (index_expert m t)

/-- Two points of one expert read the same weights. -/
theorem up_same (c : Dev nD) (t t' : Fin grid0.N) (h : expert m t = expert m t') : iblk m H c (0 : Fin 5) t = iblk m H c (0 : Fin 5) t' :=
  blockRead_congr (F := F) (s := S32x1024x2048) (e := .f32) (m ((c : Thread nD τ).loc main_arg3)) S1x1024x2048.size
    (hinb0 (tables m) H.ok 0 _) (hinb0 (tables m) H.ok 0 _) ((index1 m t).trans ((congrArg (fun w : BitVec 32 => (![w.toNat, 0, 0] : Fin 3 → ℕ)) h).trans (index1 m t').symm))
theorem down_same (c : Dev nD) (t t' : Fin grid0.N) (h : expert m t = expert m t') : iblk m H c (2 : Fin 5) t = iblk m H c (2 : Fin 5) t' :=
  blockRead_congr (F := F) (s := S32x1024x1024) (e := .f32) (m ((c : Thread nD τ).loc main_arg5)) S1x1024x1024.size
    (hinb0 (tables m) H.ok 2 _) (hinb0 (tables m) H.ok 2 _) ((index3 m t).trans ((congrArg (fun w : BitVec 32 => (![w.toNat, 0, 0] : Fin 3 → ℕ)) h).trans (index3 m t').symm))

/-- A point that keeps the weights has the expert of the point before. -/
theorem kept_expert (t : Fin grid0.N) (h : ¬ reloadsAt (grid0.coords t) (owners m)) :
    ∃ h0 : 0 < t.val, expert m t = expert m ⟨t.val - 1, lt_of_le_of_lt (Nat.sub_le _ _) t.isLt⟩ := by
  have hr := mt (reloads_iff t _ _).2 h
  have hlt := pt_lt t
  refine ⟨by omega, ?_⟩
  have e : ownWord (owners m) (k0_off5 (grid0.coords t)) (k0_off5_inb _) = ownWord (owners m) (k0_off6 (grid0.coords t)) (k0_off6_inb _) := by
    by_contra hn; exact hr (Or.inr hn)
  rw [ownWord_eq (owners m) _ ⟨t.val, hlt⟩ (off5_eq t), ownWord_eq (owners m) _ ⟨t.val - 1, by omega⟩ (off6_eq t)] at e
  exact e

/-! ## What is held between the points -/

/-- The kept weights once point `t` is done. -/
def kept (c : Dev nD) (t : Fin grid0.N) : sProp 𝕄 :=
  iprop(owns (c : Thread nD τ) upM fullShare (k0_pay1 (iblk m H c (0 : Fin 5) t)) ∗ owns (c : Thread nD τ) downM fullShare (k0_pay2 (iblk m H c (2 : Fin 5) t)))
/-- The kept weights before point `k`: those of the point before, anything at the first. -/
def weightsAt (c : Dev nD) (k : ℕ) : sProp 𝕄 :=
  if h : 0 < k ∧ k - 1 < grid0.N then kept m H c ⟨k - 1, h.2⟩
  else iprop((∃ u, owns (c : Thread nD τ) upM fullShare u) ∗ ∃ d, owns (c : Thread nD τ) downM fullShare d)

theorem weightsAt_zero (c : Dev nD) : weightsAt m H c 0 = iprop((∃ u, owns (c : Thread nD τ) upM fullShare u) ∗ ∃ d, owns (c : Thread nD τ) downM fullShare d) :=
  dif_neg (by omega)
theorem weightsAt_succ (c : Dev nD) (t : Fin grid0.N) : weightsAt m H c (t.val + 1) = kept m H c t :=
  dif_pos (⟨Nat.succ_pos _, t.isLt⟩ : 0 < t.val + 1 ∧ t.val + 1 - 1 < grid0.N)

/-- The weights held before a point, as the point asks for them. -/
theorem weightsAt_elim (c : Dev nD) (t : Fin grid0.N) :
    weightsAt m H c t.val ⊢ iprop(∃ (u : Vec F S1024x2048 .bf16) (d : Vec F S1024x1024 .bf16),
      ⌜¬ reloadsAt (grid0.coords t) (owners m) → u = k0_pay1 (iblk m H c (0 : Fin 5) t) ∧ d = k0_pay2 (iblk m H c (2 : Fin 5) t)⌝
        ∗ owns (c : Thread nD τ) upM fullShare u ∗ owns (c : Thread nD τ) downM fullShare d) := by
  by_cases h0 : 0 < t.val
  · obtain ⟨k, hk⟩ : ∃ k : Fin grid0.N, k.val + 1 = t.val := ⟨⟨t.val - 1, lt_of_le_of_lt (Nat.sub_le _ _) t.isLt⟩, by simp only; omega⟩
    rw [← hk, weightsAt_succ]
    unfold kept
    iintro ⟨HU, HD⟩
    iexists _; iexists _
    isplitr; swap
    · isplitl [HU]; · iexact HU
      iexact HD
    ipureintro
    intro hr
    obtain ⟨_, e⟩ := kept_expert m t hr
    have e' : (⟨t.val - 1, lt_of_le_of_lt (Nat.sub_le _ _) t.isLt⟩ : Fin grid0.N) = k := Fin.ext (by simp only; omega)
    rw [e'] at e
    exact ⟨congrArg k0_pay1 (up_same m H c k t e.symm), congrArg k0_pay2 (down_same m H c k t e.symm)⟩
  · have e0 : t.val = 0 := by omega
    rw [e0, weightsAt_zero]
    iintro ⟨⟨%u, HU⟩, ⟨%d, HD⟩⟩
    iexists u; iexists d
    isplitr; swap
    · isplitl [HU]; · iexact HU
      iexact HD
    ipureintro
    exact fun hr => absurd ((reloads_iff t _ _).2 (Or.inl e0)) hr

/-- What is held before point `k`. -/
def phi (c : Dev nD) (k : ℕ) : sProp 𝕄 :=
  iprop((ownM.view.loc (c : Thread nD τ) ↦{fullShare.right} owners m) ∗ (cntM.view.loc (c : Thread nD τ) ↦{fullShare.right} count m)
    ∗ (∃ r, prngReg c r) ∗ weightsAt m H c k ∗ ringAt c (rowsW m c) (nUsed m) k)

/-- The block of the result that point `t` leaves. -/
def resBlk (c : Dev nD) (t : Fin grid0.N) : Vec F S512x1024 .f32 :=
  pointOut c (rowsW m c) (nUsed m) t.val (iblk m H c (0 : Fin 5) t) (iblk m H c (1 : Fin 5) t) (iblk m H c (2 : Fin 5) t) (iblk m H c (3 : Fin 5) t)

/-- The pipeline's proof data on core `c`. -/
def dats (_ : Fin 1) (c : Dev nD) : Dat τ (Elt F) Unit ℕ (Pipeline.UD sig nD τ) ℕ (cfgA m H) c where
  A w := m (((cfgA m H).win w).arr.view.loc (c : Thread nD τ))
  after w t := match w with
    | ⟨0, _⟩ => iblk m H c (0 : Fin 5) t
    | ⟨1, _⟩ => iblk m H c (1 : Fin 5) t
    | ⟨2, _⟩ => iblk m H c (2 : Fin 5) t
    | ⟨3, _⟩ => iblk m H c (3 : Fin 5) t
    | ⟨4, _⟩ => resBlk m H c t
  Φ t := phi m H c t.val
  q _ := fullShare
  owed _ := 0

theorem after0_0 (c : Dev nD) (t : Fin (cfgA m H).N) : (dats m H 0 c).after (0 : Fin 5) t = iblk m H c (0 : Fin 5) t := rfl
theorem after0_1 (c : Dev nD) (t : Fin (cfgA m H).N) : (dats m H 0 c).after (1 : Fin 5) t = iblk m H c (1 : Fin 5) t := rfl
theorem after0_2 (c : Dev nD) (t : Fin (cfgA m H).N) : (dats m H 0 c).after (2 : Fin 5) t = iblk m H c (2 : Fin 5) t := rfl
theorem after0_3 (c : Dev nD) (t : Fin (cfgA m H).N) : (dats m H 0 c).after (3 : Fin 5) t = iblk m H c (3 : Fin 5) t := rfl
theorem after0_4 (c : Dev nD) (t : Fin (cfgA m H).N) : (dats m H 0 c).after (4 : Fin 5) t = resBlk m H c t := rfl

theorem before0_0 (c : Dev nD) (t : Fin (cfgA m H).N) (d) : (dats m H 0 c).before (0 : Fin 5) t d = iblk m H c (0 : Fin 5) t :=
  ((dats m H 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m H).N) (d) : (dats m H 0 c).before (1 : Fin 5) t d = iblk m H c (1 : Fin 5) t :=
  ((dats m H 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m H).N) (d) : (dats m H 0 c).before (2 : Fin 5) t d = iblk m H c (2 : Fin 5) t :=
  ((dats m H 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA m H).N) (d) : (dats m H 0 c).before (3 : Fin 5) t d = iblk m H c (3 : Fin 5) t :=
  ((dats m H 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The result's window is stored at every point, in use or not. -/
theorem stored_always (t : Fin (cfgA m H).N) : (cfgA m H).idle (4 : Fin 5) ((cfgA m H).grid.coords t) = false := by
  show (!(k0_cond6 (grid0.coords t) ((tables m).atD 1 ![0]) == 1#1) && !(k0_cond7 (grid0.coords t) ((tables m).atD 1 ![0]) == 1#1)) = false
  by_cases h : t.val < used ((tables m).atD 1 ![0])
  · rw [(live_iff t _).2 h]; rfl
  · rw [(dead_iff t _).2 h, Bool.and_eq_false_iff]; right; rfl

end Cert.Kernel.Experts

end
-- ==== Proof.Experts.Frame.lean ====
module

public import proofs.«01_k».proof.Proof.Experts.Cfg
public import Idealize.ShloMosaic.Lib.Pipeline.Quiescent
public import Idealize.ShloMosaic.Lib.Pipeline.Kit
public import Idealize.ShloMosaic.Lib.Pipeline.Frame
public import Idealize.ShloMosaic.Lib.Claim

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (H : Admits m)

/-- The body at point `t` on its staging memrefs, as the pipeline calls it. -/
abbrev bodyAt0 (t : Fin (cfgA m H).N) : Prog (TpuEff nD τ sig (Elt F) Λ₀ .tc) PUnit :=
  cc0__expert_kernel (grid0.coords t) ownM (Memref.isWhole_whole _) cntM (Memref.isWhole_whole _) rowM (Memref.isWhole_whole _)
    (ms0_0 m H t) (hs0_0 m H t) (ms0_1 m H t) (hs0_1 m H t) (ms0_2 m H t) (hs0_2 m H t) (ms0_3 m H t) (hs0_3 m H t) (ms0_4 m H t) (hs0_4 m H t)
    upM (Memref.isWhole_whole _) downM (Memref.isWhole_whole _) ringM (Memref.isWhole_whole _) cc0_scratch3

set_option maxHeartbeats 4000000 in
/-- The body at a point: it finds its blocks, the kept weights and the ring, and leaves the result's block. -/
theorem sound_body (c : Dev nD) (t : Fin (cfgA m H).N) :
    iprop((dats m H 0 c).Φ t.castSucc ∗ (dats m H 0 c).owesAt () t.castSucc
        ∗ (∃ d, owns (c : Thread nD τ) (ms0_0 m H t) fullShare ((dats m H 0 c).before (0 : Fin 5) t d))
        ∗ (∃ d, owns (c : Thread nD τ) (ms0_1 m H t) fullShare ((dats m H 0 c).before (1 : Fin 5) t d))
        ∗ (∃ d, owns (c : Thread nD τ) (ms0_2 m H t) fullShare ((dats m H 0 c).before (2 : Fin 5) t d))
        ∗ (∃ d, owns (c : Thread nD τ) (ms0_3 m H t) fullShare ((dats m H 0 c).before (3 : Fin 5) t d))
        ∗ (∃ d, owns (c : Thread nD τ) (ms0_4 m H t) fullShare ((dats m H 0 c).before (4 : Fin 5) t d)))
      ⊢ wp frame (wpE (defs₀ (F := F)) Variants.none c none) Set.univ (bodyAt0 m H t) fun _ =>
          iprop((dats m H 0 c).Φ t.succ ∗ (dats m H 0 c).owesAt () t.succ
            ∗ bigSep Finset.univ fun w : Fin (cfgA m H).W =>
                match (cfgA m H).idle w ((cfgA m H).grid.coords t) with
                | true =>
                  match ((cfgA m H).win w).flush t with
                  | false => iprop(∃ d, owns (c : Thread nD τ) (((cfgA m H).win w).stage ((cfgA m H).slots t w)) fullShare ((dats m H 0 c).before w t d))
                  | true => owns (c : Thread nD τ) (((cfgA m H).win w).stage ((cfgA m H).slots t w)) fullShare ((dats m H 0 c).after w t)
                | false => owns (c : Thread nD τ) (((cfgA m H).win w).stage ((cfgA m H).slots t w)) fullShare ((dats m H 0 c).after w t)) := by
  rw [bigSep_W0]
  rewrite [stored_always m H t]
  simp only [before0_0, before0_1, before0_2, before0_3, after0_0, after0_1, after0_2, after0_3, after0_4]
  rewrite [show (dats m H 0 c).Φ t.succ = phi m H c (t.val + 1) from rfl, show (dats m H 0 c).Φ t.castSucc = phi m H c t.val from rfl]
  unfold Dat.owesAt Pipeline.owesWithin phi
  rw [weightsAt_succ m H c t]
  iintro ⟨⟨HT0, HT1, Hg, HK, HR⟩, ⟨%Wt, -, HW⟩, ⟨%d0, H0⟩, ⟨%d1, H1⟩, ⟨%d2, H2⟩, ⟨%d3, H3⟩, ⟨%d4, H4⟩⟩
  ihave HK' := (weightsAt_elim m H c t) $$ HK
  icases HK' with ⟨%u, %d, %hk, HU, HD⟩
  iapply (point_any c (rowsW m c) t (ms0_0 m H t) (hs0_0 m H t) (ms0_1 m H t) (hs0_1 m H t) (ms0_2 m H t) (hs0_2 m H t) (ms0_3 m H t) (hs0_3 m H t) (ms0_4 m H t) (hs0_4 m H t)
    (owners m) (count m) (iblk m H c (0 : Fin 5) t) (iblk m H c (1 : Fin 5) t) (iblk m H c (2 : Fin 5) t) (iblk m H c (3 : Fin 5) t) u d H.le hk Wt _)
  isplitl [HT0]; · iexact HT0
  isplitl [HT1]; · iexact HT1
  isplitl [H0]; · iexact H0
  isplitl [H1]; · iexact H1
  isplitl [H2]; · iexact H2
  isplitl [H3]; · iexact H3
  isplitl [H4]; · iexists _; iexact H4
  isplitl [HU]; · iexact HU
  isplitl [HD]; · iexact HD
  isplitl [HR]; · iexact HR
  isplitl [HW]; · iexact HW
  iintro ⟨HT0, HT1, H0, H1, H2, H3, H4, HU, HD, HR, ⟨%Wt', HW⟩⟩
  isplitl [HT0 HT1 Hg HU HD HR]
  · isplitl [HT0]; · iexact HT0
    isplitl [HT1]; · iexact HT1
    isplitl [Hg]; · iexact Hg
    isplitl [HU HD]
    · unfold kept
      isplitl [HU]; · iexact HU
      iexact HD
    iexact HR
  isplitl [HW]
  · iexists Wt'; isplitr; · ipureintro; exact fun _ _ => Or.inl trivial
    iexact HW
  isplitl [H0]; · iexact H0
  isplitl [H1]; · iexact H1
  isplitl [H2]; · iexact H2
  isplitl [H3]; · iexact H3
  iexact H4

theorem body_obligation (c : Dev nD) : BodyObligation (dats m H 0 c) (defs₀ (F := F)) Variants.none () Set.univ := fun t => by
  rw [bigSep_W0]
  exact sound_body m H c t

/-! ## The launch -/

/-- The ring's semaphores are the body's own; the token rows are read by the body itself. -/
abbrev osem0 : Fin 3 → SemLoc sig := fun j => (![SemLoc.dma 10, SemLoc.dma 11, SemLoc.dma 12] : Fin 3 → SemLoc sig) j
theorem ownSemFacts0 : Pipeline.OwnSemFacts spec0 osem0 := by decide
def bufs0 : Finset (Ref sig .tc) := {main_arg2}
theorem bufs0_sub : bufs0 ⊆ Pipeline.restRefsP sig pre0 spec0 := by decide

/-- The contents of core `c`'s buffers at launch. -/
abbrev atLaunch (c : Dev nD) (b : Ref sig .tc) : Buf (Elt F) ((c : Thread nD τ).loc b) := m ((c : Thread nD τ).loc b)

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2] (by decide) (by decide)]; rfl

theorem bufs_eq (c : Dev nD) :
    (bigSep bufs0 (fun b => ((c : Thread nD τ).loc b) ↦{fullShare} atLaunch m c b) : sProp 𝕄) = iprop(((c : Thread nD τ).loc main_arg2) ↦{fullShare} rowsW m c) := by
  rw [BI.bigSep_eq_bigSepL_of_eq [main_arg2] (by decide) (by decide)]; rfl

/-- The tables as the launch hands them to the region, one by one. -/
theorem prefHeld_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem launch_in (c : Dev nD) :
    iprop(Pipeline.ΦD osem0 spec0 bufs0 (atLaunch m) c ∗ Pipeline.ΦT pre0 (adm m H).1 c) ⊢ (dats m H 0 c).Φ 0 := by
  rw [Pipeline.ΦD_eq, scopedRest0_eq, ownSems_eq, bufs_eq]
  unfold Pipeline.ΦT
  rw [prefHeld_eq]
  show _ ⊢ phi m H c 0
  unfold phi
  rw [weightsAt_zero]
  iintro ⟨⟨⟨⟨%f0, H0⟩, ⟨%f1, H1⟩, H2⟩, Hg, Hq, HW⟩, ⟨HT0, HT1⟩⟩
  isplitl [HT0]; · iexact HT0
  isplitl [HT1]; · iexact HT1
  isplitl [Hg]; · iexact Hg
  isplitl [H0 H1]
  · isplitl [H0]
    · iexists f0; rw [owns_whole]; iexact H0
    iexists f1; rw [owns_whole]; iexact H1
  iapply (ring_in c (rowsW m c) (nUsed m))
  isplitl [H2]; · iexact H2
  isplitl [Hq]; · iexact Hq
  iexact HW

theorem launch_out (c : Dev nD) : (dats m H 0 c).Φ (Fin.last (cfgA m H).N) ⊢ Pipeline.ΦD osem0 spec0 bufs0 (atLaunch m) c := by
  rw [Pipeline.ΦD_eq, scopedRest0_eq, ownSems_eq, bufs_eq]
  show phi m H c grid0.N ⊢ _
  rw [N_0]
  unfold phi
  rw [show weightsAt m H c 884 = kept m H c ⟨883, by rw [N_0]; omega⟩ from dif_pos (⟨by omega, by rw [N_0]; omega⟩ : 0 < 884 ∧ 884 - 1 < grid0.N)]
  unfold kept
  simp only [owns_whole]
  iintro ⟨-, -, Hg, ⟨H0, H1⟩, HR⟩
  ihave HX := (ring_out c (rowsW m c) (nUsed m) H.le) $$ HR
  icases HX with ⟨H2, Hq, HW⟩
  isplitl [H0 H1 H2]
  · isplitl [H0]; · iexists _; iexact H0
    isplitl [H1]; · iexists _; iexact H1
    iexact H2
  isplitl [Hg]; · iexact Hg
  isplitl [Hq]; · iexact Hq
  iexact HW

theorem share_eq (c : Dev nD) (w : Fin (cfgA m H).W) : (dats m H 0 c).share w = fullShare := by unfold Dat.share; split <;> rfl

theorem tables_eq (c : Dev nD) (k : Fin 2) : atLaunch m c (pre0.ref k) = (adm m H).1 k := by
  obtain rfl : c = 0 := Subsingleton.elim _ _
  fin_cases k <;> rfl

set_option backward.isDefEq.respectTransparency.types false in
set_option maxHeartbeats 4000000 in
/-- The run: every array of the pipeline ends as computed, the other buffers as launched, every semaphore at zero. -/
theorem run_main : θ_run (defs (F := F)) (onTc (τ := τ) (main (F := F))) (s₀ m ρ)
    (fun r => Pipeline.FramePost (pcs m H) (dats m H) (0 : Fin 1) (atLaunch m) r ∧ r.2.sem = fun _ => 0) :=
  Pipeline.θ_run_frameP_dma (Q' := _) pcfgs (fun _ => adm m H) (dats m H) (0 : Fin 1) launch0 osem0 defs₀ Variants.none ownSemFacts0 bufs0 bufs0_sub m ρ main
    (hbody := fun c => (body_obligation m H c).loose) (hshare := share_eq m H) (howed := fun _ _ => rfl) (V := atLaunch m)
    (hmain := fun c Q => by
      delta main; simp only [Prog.bind_lift, Prog.pure_eq_ret]
      iintro ⟨Hk, Hb⟩; iapply Hk; iexact Hb)
    (hA := fun c w => by fin_cases w <;> rfl) (hpf := tables_eq m H) (hin := launch_in m H) (hout := launch_out m H)

/-- The arguments end as they were launched. -/
theorem args_eq {r : PUnit × MemSt nD τ sig (Elt F)} (h : Pipeline.FramePost (pcs m H) (dats m H) (0 : Fin 1) (atLaunch m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c).2 main_arg0 (show main_arg0 ∈ Pipeline.restRefs sig spec0 by decide), (h c).2 main_arg1 (show main_arg1 ∈ Pipeline.restRefs sig spec0 by decide), (h c).2 main_arg2 (show main_arg2 ∈ Pipeline.restRefs sig spec0 by decide),
    ((h c).1 (0 : Fin 5)).trans ((dats m H 0 c).arrAt_in (0 : Fin 5) rfl _), ((h c).1 (1 : Fin 5)).trans ((dats m H 0 c).arrAt_in (1 : Fin 5) rfl _),
    ((h c).1 (2 : Fin 5)).trans ((dats m H 0 c).arrAt_in (2 : Fin 5) rfl _), ((h c).1 (3 : Fin 5)).trans ((dats m H 0 c).arrAt_in (3 : Fin 5) rfl _)⟩

/-- The result's array as the pipeline leaves it. -/
theorem result_eq {r : PUnit × MemSt nD τ sig (Elt F)} (h : Pipeline.FramePost (pcs m H) (dats m H) (0 : Fin 1) (atLaunch m) r) (c : Dev nD) :
    r.2.mem ((c.tc : Thread nD τ).loc main_v0) = (dats m H 0 c).arrAt (4 : Fin 5) (cfgA m H).N := (h c).1 (4 : Fin 5)

include H in
/-- Every run ends, the arguments unchanged and every semaphore at zero. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => args_eq m H h.1 c, h.2⟩) (run_main m ρ H)

end Cert.Kernel.Experts

end
-- ==== Proof.Experts.Admit.lean ====
module

public import proofs.«01_k».proof.Proof.Experts.Frame
public import proofs.«01_k».proof.Proof.Entry.Bounds

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ
open ValueIdx (ix1 eq_ix1)

variable (m : (ℓ : Loc nD τ sig) → Buf (Elt F) ℓ)

/-- The block index of a table-indexed window is an entry of the table of experts, on the first axis. -/
theorem index_lt (hk : ∀ k : Fin 884, BitVec.toNat (w := 32) (owners m (ix1 k)) < 32) (i : grid0.Coords) :
    ∃ n < 32, cc0_transform_1 k0_off1_inb numel1_S1 (tables m) i = ![n, 0, 0] ∧ cc0_transform_2 k0_off1_inb numel1_S1 (tables m) i = ![n, 0, 0]
      ∧ cc0_transform_3 k0_off1_inb numel1_S1 (tables m) i = ![n, 0, 0] ∧ cc0_transform_4 k0_off1_inb numel1_S1 (tables m) i = ![n, 0, 0] := by
  refine ⟨BitVec.toNat (w := 32) (ownWord (owners m) (k0_off1 i) (k0_off1_inb i)), ?_, rfl, rfl, rfl, rfl⟩
  have all : ∀ j : S884.Idx, BitVec.toNat (w := 32) (owners m j) < 32 := fun j => by rw [eq_ix1 j]; exact hk _
  exact all _

/-- Tables within their bounds are what the run asks for. -/
theorem admits (hk : ∀ k : Fin 884, BitVec.toNat (w := 32) (owners m (ix1 k)) < 32) (hc : BitVec.toInt (n := 32) (count m (ix1 0)) ≤ 884) : Admits m where
  ok := by
    refine ⟨fun i => ?_, fun i => ?_, fun i => ?_, fun i => ?_⟩ <;> obtain ⟨n, hn, e1, e2, e3, e4⟩ := index_lt m hk i
    · refine ⟨fun a => ?_, Or.inl rfl⟩
      rw [e1]; fin_cases a
      · show (n + 1) * 1 ≤ 32; omega
      · show (0 + 1) * 1024 ≤ 1024; omega
      · show (0 + 1) * 2048 ≤ 2048; omega
    · refine ⟨fun a => ?_, Or.inl rfl⟩
      rw [e2]; fin_cases a
      · show (n + 1) * 1 ≤ 32; omega
      · show (0 + 1) * 1 ≤ 1; omega
      · show (0 + 1) * 2048 ≤ 2048; omega
    · refine ⟨fun a => ?_, Or.inl rfl⟩
      rw [e3]; fin_cases a
      · show (n + 1) * 1 ≤ 32; omega
      · show (0 + 1) * 1024 ≤ 1024; omega
      · show (0 + 1) * 1024 ≤ 1024; omega
    · refine ⟨fun a => ?_, Or.inl rfl⟩
      rw [e4]; fin_cases a
      · show (n + 1) * 1 ≤ 32; omega
      · show (0 + 1) * 1 ≤ 1; omega
      · show (0 + 1) * 1024 ≤ 1024; omega
  le := by
    unfold nUsed
    rw [cntWord_eq]
    unfold used
    omega

/-- The precondition gives tables the run accepts. -/
theorem admits_of_pre [Cert.Pre_pre.Facts] (h : ∀ c : Dev nD, Cert.Pre_pre.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) = fun _ => 1#1) : Admits m :=
  admits m (Cert.Entry.bounds (h 0)).1 (Cert.Entry.bounds (h 0)).2

end Cert.Kernel.Experts

end
-- ==== Proof.Experts.Out.lean ====
module

public import proofs.«01_k».proof.Proof.Experts.Admit
public import Idealize.ShloMosaic.Lib.Pipeline.ValueKit.Geometry
public import Idealize.ShloMosaic.Lib.Pipeline.ValueKit.Tiles

@[expose] public section

set_option maxRecDepth 16384

noncomputable section

namespace Cert.Kernel.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ
open ValueIdx (ix1 ix2 eq_ix2)

variable (m : (ℓ : Loc nD τ sig) → Buf (Elt F) ℓ) (H : Admits m)

/-! ## The result, block by block -/

theorem index5 : ∀ t : Fin grid0.N, cc0_transform_5 (grid0.coords t) = ![t.val, 0] := by decide +kernel
theorem flush5 : ∀ t : Fin grid0.N, Pipeline.Window.flushOf grid0 true cc0_transform_5 t = true := by decide +kernel

/-- The point whose block holds a row. -/
def blockOf (r : Fin 452608) : Fin grid0.N := ⟨r.val / 512, by rw [N_0]; omega⟩
/-- A row's place in its block. -/
def rowIn (r : Fin 452608) : Fin 512 := ⟨r.val % 512, Nat.mod_lt _ (by omega)⟩

/-- The result's array, read off the points' blocks. -/
def result (c : Dev nD) : S452608x1024.Idx → Elt F .f32 := fun j => resBlk m H c (blockOf (j 0)) (ix2 (rowIn (j 0)) (j 1))

theorem window_index (t : Fin (cfgA m H).N) : ((cfgA m H).win (4 : Fin 5)).index t = ![t.val, 0] := index5 t
theorem window_flush (t : Fin (cfgA m H).N) : ((cfgA m H).win (4 : Fin 5)).flush t = true :=
  (Pipeline.Window.flush_eq_flushOf _ t).trans (flush5 t)

/-- Where a block's element lies in the array. -/
theorem emb0 (t : Fin (cfgA m H).N) (y : S512x1024.Idx) : ((((cfgA m H).win (4 : Fin 5)).blk t).view.emb y (0 : Fin 2)).val = t.val * 512 + (y 0).val := by
  have e := congrFun (window_index m H t) (0 : Fin 2)
  show ((cfgA m H).win (4 : Fin 5)).index t (0 : Fin 2) * 512 + 1 * (y 0).val = _
  rw [e]
  show t.val * 512 + 1 * (y 0).val = _
  omega
theorem emb1 (t : Fin (cfgA m H).N) (y : S512x1024.Idx) : ((((cfgA m H).win (4 : Fin 5)).blk t).view.emb y (1 : Fin 2)).val = (y 1).val := by
  have e := congrFun (window_index m H t) (1 : Fin 2)
  show ((cfgA m H).win (4 : Fin 5)).index t (1 : Fin 2) * 1024 + 1 * (y 1).val = _
  rw [e]
  show 0 * 1024 + 1 * (y 1).val = _
  omega

theorem result_at (c : Dev nD) (t : Fin grid0.N) (y : S512x1024.Idx) (j : S452608x1024.Idx) (h0 : (j 0).val = t.val * 512 + (y 0).val) (h1 : (j 1).val = (y 1).val) :
    result m H c j = resBlk m H c t y := by
  have hy : (y 0).val < 512 := (y 0).isLt
  have et : blockOf (j 0) = t := Fin.ext (by show (j 0).val / 512 = t.val; omega)
  have ey : ix2 (rowIn (j 0)) (j 1) = y := by
    rw [eq_ix2 y]
    congr 1
    · exact Fin.ext (by show (j 0).val % 512 = (y 0).val; omega)
    · exact Fin.ext h1
  exact congrArg₂ (resBlk m H c) et ey

theorem emb_at (j : S452608x1024.Idx) :
    (((cfgA m H).win (4 : Fin 5)).blk (blockOf (j 0))).view.emb (ix2 (rowIn (j 0)) (j 1) : S512x1024.Idx) = j := by
  funext a
  match a with
  | ⟨0, _⟩ =>
    refine Fin.ext ((emb0 m H _ _).trans ?_)
    show (j 0).val / 512 * 512 + (j 0).val % 512 = (j 0).val
    omega
  | ⟨1, _⟩ => exact Fin.ext (emb1 m H _ _)

/-- After the run the result's array holds every point's block. -/
theorem arrAt_result (c : Dev nD) : (dats m H 0 c).arrAt (4 : Fin 5) (cfgA m H).N = result m H c := by
  refine (dats m H 0 c).arrAt_eq_of_emb (4 : Fin 5) (result m H c) (fun t _ y => ?_) fun i => ?_
  · exact (result_at m H c t y _ (emb0 m H t y) (emb1 m H t y)).symm
  · refine ⟨blockOf (i (0 : Fin 2)), window_flush m H _, ?_⟩
    have h := View.emb_mem_set (((cfgA m H).win (4 : Fin 5)).blk (blockOf (i (0 : Fin 2)))).view (ix2 (rowIn (i (0 : Fin 2))) (i (1 : Fin 2)) : S512x1024.Idx)
    rwa [emb_at m H i] at h

/-- Every run ends with the points' blocks in the result and the arguments unchanged. -/
theorem run_value (ρ : Dev nD → PrngReg) : θ_run (defs (F := F)) (onTc (τ := τ) (main (F := F))) ⟨m, fun _ => 0, ρ⟩ (fun r => ∀ c : Dev nD,
      r.2.mem ((c.tc : Thread nD τ).loc main_v0) = result m H c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(result_eq m H h.1 c).trans (arrAt_result m H c), args_eq m H h.1 c⟩) (run_main m ρ H)

end Cert.Kernel.Experts

end
-- ==== Proof.Entry.Law.lean ====
module

public import Idealize.ShloMosaic.Lib.Pointwise

@[expose] public section

set_option maxRecDepth 16384

noncomputable section

/-! One expert's feed-forward on one token, over the extended reals: two thousand and forty-eight pre-activations, a gate and a linear
    half limited at seven, the gate weighted by its own logistic, and the second product. -/

namespace Cert.Entry

open Idealize.ShloMosaic

/-- The limit of the two halves, and the gate's slope, as the program's literals read. -/
def limit : EReal := Ideal.ofBits .f32 0x40E00000#32
def negLimit : EReal := Ideal.ofBits .f32 0xC0E00000#32
def gateSlope : EReal := Ideal.ofBits .f32 0x3FD9DB23#32

/-- Pre-activation `j` of a token `x` under weights `u` and bias `p`. -/
def before (x : Fin 1024 → EReal) (u : Fin 1024 → Fin 2048 → EReal) (p : Fin 2048 → EReal) (j : Fin 2048) : EReal := ∑ k, x k * u k j + p j

/-- The gated unit of a gate's and a linear half's pre-activation. -/
def gated (g l : EReal) : EReal :=
  min g limit * Ideal.logistic (gateSlope * min g limit) * (min limit (max negLimit l) + 1)

/-- Activation `f` of a token. -/
def unit (x : Fin 1024 → EReal) (u : Fin 1024 → Fin 2048 → EReal) (p : Fin 2048 → EReal) (f : Fin 1024) : EReal :=
  gated (before x u p ⟨f.val, by omega⟩) (before x u p ⟨1024 + f.val, by omega⟩)

/-- Entry `n` of the expert's answer. -/
def answer (x : Fin 1024 → EReal) (u : Fin 1024 → Fin 2048 → EReal) (p : Fin 2048 → EReal) (d : Fin 1024 → Fin 1024 → EReal) (q : Fin 1024 → EReal)
    (n : Fin 1024) : EReal := ∑ f, unit x u p f * d f n + q n

/-- The answer depends on what its arguments read. -/
theorem answer_congr {x x' : Fin 1024 → EReal} {u u' : Fin 1024 → Fin 2048 → EReal} {p p' : Fin 2048 → EReal} {d d' : Fin 1024 → Fin 1024 → EReal}
    {q q' : Fin 1024 → EReal} (hx : ∀ k, x k = x' k) (hu : ∀ k j, u k j = u' k j) (hp : ∀ j, p j = p' j) (hd : ∀ f n, d f n = d' f n) (hq : ∀ n, q n = q' n)
    (n : Fin 1024) : answer x u p d q n = answer x' u' p' d' q' n := by
  obtain rfl : x = x' := funext hx
  obtain rfl : u = u' := funext fun k => funext (hu k)
  obtain rfl : p = p' := funext hp
  obtain rfl : d = d' := funext fun f => funext (hd f)
  obtain rfl : q = q' := funext hq
  rfl

/-- The experts' layer: row `r` lies in block `r / 512`; a block in use gives its rows to the expert that owns it, the others answer zero. -/
def layer (own : Fin 884 → Fin 32) (n : ℕ) (X : Fin 452608 → Fin 1024 → EReal) (U : Fin 32 → Fin 1024 → Fin 2048 → EReal) (P : Fin 32 → Fin 2048 → EReal)
    (D : Fin 32 → Fin 1024 → Fin 1024 → EReal) (Q : Fin 32 → Fin 1024 → EReal) (r : Fin 452608) (j : Fin 1024) : EReal :=
  if r.val / 512 < n then
    answer (X r) (U (own ⟨r.val / 512, by omega⟩)) (P (own ⟨r.val / 512, by omega⟩)) (D (own ⟨r.val / 512, by omega⟩)) (Q (own ⟨r.val / 512, by omega⟩)) j
  else 0

end Cert.Entry

end
-- ==== Proof.Experts.Pay.lean ====
module

public import proofs.«01_k».proof.Proof.Gen.Kernel.Skeleton
public import proofs.«01_k».proof.Proof.Entry.Law

@[expose] public section

set_option maxRecDepth 16384

noncomputable section

/-! What the kernel stores, read at one entry. -/

namespace Cert.Kernel.Experts

open Cert.Kernel Cert.Kernel.Gen
open Idealize.ShloMosaic
open Cert.Entry

/-- The second half of a block's rows. -/
theorem pay3_at (x : FVec Ideal S256x1024 .f32) (u : FVec Ideal S1024x2048 .bf16) (p : FVec Ideal S1x1x2048 .f32) (d : FVec Ideal S1024x1024 .bf16)
    (q : FVec Ideal S1x1x1024 .f32) (r : Fin 256) (n : Fin 1024) :
    (k0_pay3 (F := Ideal) x u p d q (ix2 r n) : EReal)
      = answer (fun k => x (ix2 r k)) (fun k j => u (ix2 k j)) (fun j => p (ix3 0 0 j)) (fun f n => d (ix2 f n)) (fun n => q (ix3 0 0 n)) n := by
  unfold answer unit gated before limit negLimit gateSlope
  pointwise [k0_pay3]

/-- The first half. -/
theorem pay5_at (x : FVec Ideal S256x1024 .f32) (u : FVec Ideal S1024x2048 .bf16) (p : FVec Ideal S1x1x2048 .f32) (d : FVec Ideal S1024x1024 .bf16)
    (q : FVec Ideal S1x1x1024 .f32) (r : Fin 256) (n : Fin 1024) :
    (k0_pay5 (F := Ideal) x u p d q (ix2 r n) : EReal)
      = answer (fun k => x (ix2 r k)) (fun k j => u (ix2 k j)) (fun j => p (ix3 0 0 j)) (fun f n => d (ix2 f n)) (fun n => q (ix3 0 0 n)) n := by
  unfold answer unit gated before limit negLimit gateSlope
  pointwise [k0_pay5]

/-- The weights as they are kept: the expert's own, rounding being exact here. -/
theorem pay1_at (x : FVec Ideal S1x1024x2048 .f32) (k : Fin 1024) (j : Fin 2048) : (k0_pay1 (F := Ideal) x (ix2 k j) : EReal) = x (ix3 0 k j) := by
  pointwise [k0_pay1]
theorem pay2_at (x : FVec Ideal S1x1024x1024 .f32) (k j : Fin 1024) : (k0_pay2 (F := Ideal) x (ix2 k j) : EReal) = x (ix3 0 k j) := by
  pointwise [k0_pay2]

/-- A block not in use is zero. -/
theorem pay4_at (r : Fin 512) (n : Fin 1024) : (k0_pay4 (F := Ideal) (ix2 r n) : EReal) = 0 := by
  pointwise [k0_pay4]

end Cert.Kernel.Experts

end
-- ==== Proof.Experts.Value.lean ====
module

public import proofs.«01_k».proof.Proof.Experts.Out
public import proofs.«01_k».proof.Proof.Experts.Pay
public import Idealize.ShloMosaic.Lib.Pointwise.IndexBridge

@[expose] public section

set_option maxRecDepth 16384

noncomputable section

/-! The result's array, entry by entry, is the experts' layer. -/

namespace Cert.Kernel.Experts

open Cert.Kernel Cert.Kernel.Gen
open Idealize.ShloMosaic Idealize.ShloMosaic.TcCoe
open Cert.Entry

/-- The two halves' places in the block. -/
theorem low_emb (r : Fin 256) (n : Fin 1024) : lowRect.emb (ix2 r n) = (ix2 ⟨256 + r.val, by omega⟩ n : S512x1024.Idx) := by
  funext a
  match a with
  | ⟨0, _⟩ => exact Fin.ext (show 256 + 1 * r.val = 256 + r.val by omega)
  | ⟨1, _⟩ => exact Fin.ext (show 0 + 1 * n.val = n.val by omega)
theorem top_emb (r : Fin 256) (n : Fin 1024) : topRect.emb (ix2 r n) = (ix2 ⟨r.val, by omega⟩ n : S512x1024.Idx) := by
  funext a
  match a with
  | ⟨0, _⟩ => exact Fin.ext (show 0 + 1 * r.val = r.val by omega)
  | ⟨1, _⟩ => exact Fin.ext (show 0 + 1 * n.val = n.val by omega)

/-- The output block under each half. -/
theorem outBlk_low (x : Vec Ideal S512x1024 .f32) (u : Vec Ideal S1024x2048 .bf16) (p : Vec Ideal S1x1x2048 .f32) (d : Vec Ideal S1024x1024 .bf16)
    (q : Vec Ideal S1x1x1024 .f32) (y : lowRect.shape.Idx) :
    outBlk (F := Ideal) x u p d q (lowRect.emb y) = k0_pay3 (F := Ideal) (View.ld (Val := Elt Ideal) x lowRect) u p d q y := by
  unfold outBlk
  exact View.canon_cons_emb (Val := Elt Ideal) lowRect _ _ _
theorem outBlk_top (x : Vec Ideal S512x1024 .f32) (u : Vec Ideal S1024x2048 .bf16) (p : Vec Ideal S1x1x2048 .f32) (d : Vec Ideal S1024x1024 .bf16)
    (q : Vec Ideal S1x1x1024 .f32) (y : topRect.shape.Idx) (h : topRect.emb y ∉ lowRect.set) :
    outBlk (F := Ideal) x u p d q (topRect.emb y) = k0_pay5 (F := Ideal) (View.ld (Val := Elt Ideal) x topRect) u p d q y := by
  unfold outBlk
  have h1 := View.canon_cons_of_not_mem (Val := Elt Ideal) (⟨lowRect, k0_pay3 (F := Ideal) (View.ld (Val := Elt Ideal) x lowRect) u p d q⟩ : View.Piece (Elt Ideal) S512x1024 .f32)
    [⟨topRect, k0_pay5 (F := Ideal) (View.ld (Val := Elt Ideal) x topRect) u p d q⟩] h
  exact h1.trans (View.canon_cons_emb (Val := Elt Ideal) topRect _ _ _)

/-- The output block, row by row. -/
theorem outBlk_at (x : Vec Ideal S512x1024 .f32) (u : Vec Ideal S1024x2048 .bf16) (p : Vec Ideal S1x1x2048 .f32) (d : Vec Ideal S1024x1024 .bf16)
    (q : Vec Ideal S1x1x1024 .f32) (r : Fin 512) (n : Fin 1024) :
    (outBlk (F := Ideal) x u p d q (ix2 r n) : EReal)
      = answer (fun k => x (ix2 r k)) (fun k j => u (ix2 k j)) (fun j => p (ix3 0 0 j)) (fun f n => d (ix2 f n)) (fun n => q (ix3 0 0 n)) n := by
  by_cases h : r.val < 256
  · have e : ∀ k : Fin 1024, topRect.emb (ix2 ⟨r.val, h⟩ k) = (ix2 r k : S512x1024.Idx) := fun k => top_emb ⟨r.val, h⟩ k
    have hn : topRect.emb (ix2 ⟨r.val, h⟩ n) ∉ lowRect.set := fun hm => by
      rw [e n] at hm
      have h0 : 256 ≤ r.val := (Rect.mem_set_unit.mp hm (0 : Fin 2)).1
      omega
    have h1 := outBlk_top x u p d q (ix2 ⟨r.val, h⟩ n) hn
    have h2 := pay5_at (View.ld (Val := Elt Ideal) x topRect) u p d q ⟨r.val, h⟩ n
    rw [← e n]
    refine h1.trans (h2.trans (answer_congr (fun k => congrArg x (e k)) (fun _ _ => rfl) (fun _ => rfl) (fun _ _ => rfl) (fun _ => rfl) n))
  · have e : ∀ k : Fin 1024, lowRect.emb (ix2 ⟨r.val - 256, by omega⟩ k) = (ix2 r k : S512x1024.Idx) := fun k => by
      refine (low_emb ⟨r.val - 256, by omega⟩ k).trans ?_
      exact congrArg (fun i : Fin 512 => (ix2 i k : S512x1024.Idx)) (Fin.ext (show 256 + (r.val - 256) = r.val by omega))
    have h1 := outBlk_low x u p d q (ix2 ⟨r.val - 256, by omega⟩ n)
    have h2 := pay3_at (View.ld (Val := Elt Ideal) x lowRect) u p d q ⟨r.val - 256, by omega⟩ n
    rw [← e n]
    refine h1.trans (h2.trans (answer_congr (fun k => congrArg x (e k)) (fun _ _ => rfl) (fun _ => rfl) (fun _ _ => rfl) (fun _ => rfl) n))

/-- Row `r` of block `b` of the tokens. -/
theorem rowsOf_at (c : Dev nD) (W : BufOf (F := Ideal) c rowM) (b : Fin 884) (r : Fin 512) (k : Fin 1024) :
    rowsOf c W b (ix2 r k) = W (ix2 ⟨b.val * 512 + r.val, by omega⟩ k : S452608x1024.Idx) := by
  show W _ = W _
  refine congrArg W (funext fun a => ?_)
  match a with
  | ⟨0, _⟩ => exact Fin.ext (show 512 * b.val + 1 * r.val = b.val * 512 + r.val by omega)
  | ⟨1, _⟩ => exact Fin.ext (show 0 + 1 * k.val = k.val by omega)

/-- A slab of a stack of matrices. -/
theorem slab_at {K A B : ℕ} {e : EltTy} (X : (⟨3, ![K, A, B]⟩ : Shape).Idx → Elt Ideal e) {o : Fin 3 → ℕ} (h) (k : Fin K) (ho : o = ![k.val, 0, 0]) (a : Fin A) (b : Fin B) :
    blockRead (F := Ideal) (s := ⟨3, ![K, A, B]⟩) X ![1, A, B] o h (ix3 0 a b) = X (ix3 k a b) := by
  subst ho
  show X _ = X _
  refine congrArg X (funext fun i => ?_)
  match i with
  | ⟨0, _⟩ => exact Fin.ext (show k.val * 1 + 1 * 0 = k.val by omega)
  | ⟨1, _⟩ => exact Fin.ext (show 0 * A + 1 * a.val = a.val by omega)
  | ⟨2, _⟩ => exact Fin.ext (show 0 * B + 1 * b.val = b.val by omega)

variable (m : (ℓ : Loc nD τ sig) → Buf (Elt Ideal) ℓ) (H : Admits m)

theorem up_at (c : Dev nD) (t : Fin grid0.N) (e : Fin 32) (he : (expert m t).toNat = e.val) (k : Fin 1024) (j : Fin 2048) :
    iblk m H c (0 : Fin 5) t (ix3 0 k j : S1x1024x2048.Idx) = m ((c.tc : Thread nD τ).loc main_arg3) (ix3 e k j : S32x1024x2048.Idx) :=
  slab_at (e := .f32) (m ((c.tc : Thread nD τ).loc main_arg3)) (hinb0 (tables m) H.ok 0 _) e ((index1 m t).trans (by rw [he])) k j
theorem upBias_at (c : Dev nD) (t : Fin grid0.N) (e : Fin 32) (he : (expert m t).toNat = e.val) (j : Fin 2048) :
    iblk m H c (1 : Fin 5) t (ix3 0 0 j : S1x1x2048.Idx) = m ((c.tc : Thread nD τ).loc main_arg4) (ix3 e 0 j : S32x1x2048.Idx) :=
  slab_at (e := .f32) (m ((c.tc : Thread nD τ).loc main_arg4)) (hinb0 (tables m) H.ok 1 _) e ((index2 m t).trans (by rw [he])) 0 j
theorem down_at (c : Dev nD) (t : Fin grid0.N) (e : Fin 32) (he : (expert m t).toNat = e.val) (k j : Fin 1024) :
    iblk m H c (2 : Fin 5) t (ix3 0 k j : S1x1024x1024.Idx) = m ((c.tc : Thread nD τ).loc main_arg5) (ix3 e k j : S32x1024x1024.Idx) :=
  slab_at (e := .f32) (m ((c.tc : Thread nD τ).loc main_arg5)) (hinb0 (tables m) H.ok 2 _) e ((index3 m t).trans (by rw [he])) k j
theorem downBias_at (c : Dev nD) (t : Fin grid0.N) (e : Fin 32) (he : (expert m t).toNat = e.val) (j : Fin 1024) :
    iblk m H c (3 : Fin 5) t (ix3 0 0 j : S1x1x1024.Idx) = m ((c.tc : Thread nD τ).loc main_arg6) (ix3 e 0 j : S32x1x1024.Idx) :=
  slab_at (e := .f32) (m ((c.tc : Thread nD τ).loc main_arg6)) (hinb0 (tables m) H.ok 3 _) e ((index4 m t).trans (by rw [he])) 0 j

/-- A point's block. -/
theorem resBlk_at (c : Dev nD) (t : Fin grid0.N) (e : Fin 32) (he : (expert m t).toNat = e.val) (r : Fin 512) (n : Fin 1024) :
    (resBlk m H c t (ix2 r n) : EReal) = if t.val < nUsed m then
      answer (fun k => m ((c.tc : Thread nD τ).loc main_arg2) (ix2 ⟨t.val * 512 + r.val, by have := pt_lt t; omega⟩ k : S452608x1024.Idx))
        (fun k j => m ((c.tc : Thread nD τ).loc main_arg3) (ix3 e k j : S32x1024x2048.Idx)) (fun j => m ((c.tc : Thread nD τ).loc main_arg4) (ix3 e 0 j : S32x1x2048.Idx))
        (fun k j => m ((c.tc : Thread nD τ).loc main_arg5) (ix3 e k j : S32x1024x1024.Idx)) (fun j => m ((c.tc : Thread nD τ).loc main_arg6) (ix3 e 0 j : S32x1x1024.Idx)) n
      else 0 := by
  have hlt := pt_lt t
  unfold resBlk pointOut
  by_cases h : t.val < nUsed m
  · rw [if_pos h, if_pos h]
    refine (outBlk_at _ _ _ _ _ r n).trans ?_
    refine answer_congr (fun k => ?_) (fun k j => (pay1_at _ k j).trans (up_at m H c t e he k j)) (fun j => upBias_at m H c t e he j)
      (fun k j => (pay2_at _ k j).trans (down_at m H c t e he k j)) (fun j => downBias_at m H c t e he j) n
    refine (rowsOf_at c _ _ r k).trans (congrArg (fun i : Fin 452608 => m ((c.tc : Thread nD τ).loc main_arg2) (ix2 i k : S452608x1024.Idx)) (Fin.ext ?_))
    show t.val % 884 * 512 + r.val = t.val * 512 + r.val
    rw [Nat.mod_eq_of_lt hlt]
  · rw [if_neg h, if_neg h]
    exact pay4_at r n

/-- The result is the layer of the arguments. -/
theorem result_layer (c : Dev nD) (hk : ∀ b : Fin 884, (m ((c.tc : Thread nD τ).loc main_arg0) (ix1 b : S884.Idx) : BitVec 32).toNat < 32) (r : Fin 452608) (n : Fin 1024) :
    (result m H c (ix2 r n) : EReal) = layer (fun b => ⟨(m ((c.tc : Thread nD τ).loc main_arg0) (ix1 b : S884.Idx) : BitVec 32).toNat, hk b⟩)
      (m ((c.tc : Thread nD τ).loc main_arg1) (ix1 0 : S1.Idx) : BitVec 32).toInt.toNat
      (fun r k => m ((c.tc : Thread nD τ).loc main_arg2) (ix2 r k : S452608x1024.Idx)) (fun e k j => m ((c.tc : Thread nD τ).loc main_arg3) (ix3 e k j : S32x1024x2048.Idx))
      (fun e j => m ((c.tc : Thread nD τ).loc main_arg4) (ix3 e 0 j : S32x1x2048.Idx)) (fun e k j => m ((c.tc : Thread nD τ).loc main_arg5) (ix3 e k j : S32x1024x1024.Idx))
      (fun e j => m ((c.tc : Thread nD τ).loc main_arg6) (ix3 e 0 j : S32x1x1024.Idx)) r n := by
  obtain rfl : c = 0 := Subsingleton.elim _ _
  have hr := r.isLt
  have en : nUsed m = (m (((0 : Dev nD).tc : Thread nD τ).loc main_arg1) (ix1 0 : S1.Idx) : BitVec 32).toInt.toNat := by
    unfold nUsed used
    rw [cntWord_eq, ix1_eq_valueIdx]
  have ho : (expert m (blockOf r)).toNat = (m (((0 : Dev nD).tc : Thread nD τ).loc main_arg0) (ix1 ⟨r.val / 512, by omega⟩ : S884.Idx) : BitVec 32).toNat := by
    unfold expert
    rw [ix1_eq_valueIdx]
    rfl
  have e0 : result m H 0 (ix2 r n) = resBlk m H 0 (blockOf r) (ix2 (rowIn r) n) := by
    rw [ix2_eq_valueIdx, ix2_eq_valueIdx]
    rfl
  rw [e0, resBlk_at m H 0 (blockOf r) ⟨_, hk ⟨r.val / 512, by omega⟩⟩ ho (rowIn r) n, en]
  unfold layer
  have er : (⟨(blockOf r).val * 512 + (rowIn r).val, by have := pt_lt (blockOf r); omega⟩ : Fin 452608) = r :=
    Fin.ext (show r.val / 512 * 512 + r.val % 512 = r.val by omega)
  rw [er]
  rfl

end Cert.Kernel.Experts

end
-- ==== Proof.Experts.Same.lean ====
module

public import proofs.«01_k».proof.Proof.Experts.Value
public import proofs.«01_k».proof.Proof.Gen.KernelIdeal

@[expose] public section

set_option maxRecDepth 16384

noncomputable section

/-! The ideal print is the kernel's own text, so that what holds of the kernel over the extended reals holds of it. -/

namespace Cert.Kernel.Experts

open Idealize.ShloMosaic Idealize.ShloMosaic.TcCoe Idealize.SL.Sem

theorem body_eq : Cert.KernelIdeal.cc0__expert_kernel (F := Ideal) = Cert.Kernel.cc0__expert_kernel (F := Ideal) := rfl

set_option maxHeartbeats 1000000 in
theorem bodies_eq : Cert.KernelIdeal.defs₀ (F := Ideal) = Cert.Kernel.defs₀ (F := Ideal) := by
  unfold Cert.KernelIdeal.defs₀ Cert.Kernel.defs₀
  refine congrArg Defs.onTc ?_
  funext a b
  match a, b with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _

set_option maxHeartbeats 1000000 in
theorem table_eq : Cert.KernelIdeal.defs (F := Ideal) = Cert.Kernel.defs (F := Ideal) := by
  unfold Cert.KernelIdeal.defs Cert.Kernel.defs
  exact congrArg (Pipeline.defs (Cert.Kernel.pcfgs (F := Ideal))) bodies_eq

set_option maxHeartbeats 1000000 in
/-- What every run of the kernel over the extended reals ends in, every run of the ideal print does. -/
theorem run_ideal (s : _) (Q : _) (h : θ_run (Cert.Kernel.defs (F := Ideal)) (onTc (τ := Cert.Kernel.τ) (Cert.Kernel.main (F := Ideal))) s Q) :
    θ_run (Cert.KernelIdeal.defs (F := Ideal)) (onTc (τ := Cert.KernelIdeal.τ) (Cert.KernelIdeal.main (F := Ideal))) s Q := by
  rw [table_eq]
  exact h

end Cert.Kernel.Experts

end
-- ==== Proof.Host.Stages.lean ====
module

public import proofs.«01_k».proof.Proof.Gen.ReferenceIdeal.Run
public import proofs.«01_k».proof.Proof.Entry.Law

@[expose] public section

set_option maxRecDepth 16384

noncomputable section

/-! The reference's operations, in five stages, each read at one entry. -/

namespace Cert.ReferenceIdeal.Value

open Cert.ReferenceIdeal Cert.ReferenceIdeal.Gen
open Idealize.ShloMosaic Idealize.ShloMosaic.TcCoe
open Cert.Entry

/-- The table of experts as the gathers take it. -/
def picks (e : IVec S884 32) : IVec S884x1 32 :=
  broadcastInDim S884x1 ![0] bcast_S884_S884x1_0 (select (cmpi .slt e (broadcastInDim S884 ![] bcast_S_S884 (constantI S_ 32 0#32)))
    (addi e (broadcastInDim S884 ![] bcast_S_S884 (constantI S_ 32 32#32))) e)

/-- The pre-activations of every block under the blocks' gathered weights and biases. -/
def hidden (x : FVec Ideal S452608x1024 .f32) (u : FVec Ideal S884x1024x2048 .f32) (p : FVec Ideal S884x1x2048 .f32) : FVec Ideal S884x512x2048 .f32 :=
  addf (Host.dotGeneral dot_S884x512x1024_S884x1024x2048_S884x512x2048_2_1_1_2_0_0 none (shapeCast _ x shapeCasts_S452608x1024_S884x512x1024) u)
    (broadcastInDim S884x512x2048 ![0, 1, 2] bcast_S884x1x2048_S884x512x2048_0_1_2 p)

/-- The activations of the pre-activations. -/
def acts (h : FVec Ideal S884x512x2048 .f32) : FVec Ideal S884x512x1024 .f32 :=
  mulf (mulf (minimumf (extractStridedSlice S884x512x1024 ![0, 0, 0] h slices_S884x512x2048_S884x512x1024_0_0_0) (broadcastInDim S884x512x1024 ![] bcast_S_S884x512x1024 (constant S_ .f32 0x40E00000#32)))
    (Host.divf (broadcastInDim S884x512x1024 ![] bcast_S_S884x512x1024 (constant S_ .f32 0x3F800000#32))
      (addf (broadcastInDim S884x512x1024 ![] bcast_S_S884x512x1024 (constant S_ .f32 0x3F800000#32))
        (Host.exp (Host.negf (mulf (broadcastInDim S884x512x1024 ![] bcast_S_S884x512x1024 (constant S_ .f32 0x3FD9DB23#32))
          (minimumf (extractStridedSlice S884x512x1024 ![0, 0, 0] h slices_S884x512x2048_S884x512x1024_0_0_0) (broadcastInDim S884x512x1024 ![] bcast_S_S884x512x1024 (constant S_ .f32 0x40E00000#32)))))))))
    (addf (minimumf (broadcastInDim S884x512x1024 ![] bcast_S_S884x512x1024 (id (constant S_ .f32 0x40E00000#32)))
        (maximumf (broadcastInDim S884x512x1024 ![] bcast_S_S884x512x1024 (id (constant S_ .f32 0xC0E00000#32))) (extractStridedSlice S884x512x1024 ![0, 0, 1024] h slices_S884x512x2048_S884x512x1024_0_0_1024)))
      (broadcastInDim S884x512x1024 ![] bcast_S_S884x512x1024 (constant S_ .f32 0x3F800000#32)))

/-- The answers of every block. -/
def answers (a : FVec Ideal S884x512x1024 .f32) (d : FVec Ideal S884x1024x1024 .f32) (q : FVec Ideal S884x1x1024 .f32) : FVec Ideal S884x512x1024 .f32 :=
  addf (Host.dotGeneral dot_S884x512x1024_S884x1024x1024_S884x512x1024_2_1_1_2_0_0 none a d)
    (broadcastInDim S884x512x1024 ![0, 1, 2] bcast_S884x1x1024_S884x512x1024_0_1_2 q)

/-- The blocks in use keep their answers, the others are zero. -/
def keep (n : IVec S1 32) (y : FVec Ideal S884x512x1024 .f32) : FVec Ideal S452608x1024 .f32 :=
  shapeCast _ (select (broadcastInDim S884x512x1024 ![0, 1, 2] bcast_S884x1x1_S884x512x1024_0_1_2 (broadcastInDim S884x1x1 ![0] bcast_S884_S884x1x1_0
      (cmpi .slt (iotaInDim S884 32 0) (broadcastInDim S884 ![] bcast_S_S884 (shapeCast _ n shapeCasts_S1_S_)))))
    y (broadcastInDim S884x512x1024 ![] bcast_S_S884x512x1024 (id (constant S_ .f32 0x00000000#32)))) shapeCasts_S884x512x1024_S452608x1024

set_option maxHeartbeats 1000000 in
theorem hidden_at (x : FVec Ideal S452608x1024 .f32) (u : FVec Ideal S884x1024x2048 .f32) (p : FVec Ideal S884x1x2048 .f32) (b : Fin 884) (r : Fin 512) (j : Fin 2048) :
    hidden x u p (ix3 b r j) = before (fun k => x (ix2 ⟨b.val * 512 + r.val, by omega⟩ k)) (fun k j => u (ix3 b k j)) (fun j => p (ix3 b 0 j)) j := by
  unfold hidden before
  pointwise

set_option maxHeartbeats 1000000 in
theorem acts_at (h : FVec Ideal S884x512x2048 .f32) (b : Fin 884) (r : Fin 512) (f : Fin 1024) :
    acts h (ix3 b r f) = gated (h (ix3 b r ⟨f.val, by omega⟩)) (h (ix3 b r ⟨1024 + f.val, by omega⟩)) := by
  unfold acts gated limit negLimit gateSlope Ideal.logistic
  simp only [id_eq]
  pointwise

set_option maxHeartbeats 1000000 in
theorem answers_at (a : FVec Ideal S884x512x1024 .f32) (d : FVec Ideal S884x1024x1024 .f32) (q : FVec Ideal S884x1x1024 .f32) (b : Fin 884) (r : Fin 512) (n : Fin 1024) :
    answers a d q (ix3 b r n) = ∑ f : Fin 1024, (a (ix3 b r f) : EReal) * d (ix3 b f n) + q (ix3 b 0 n) := by
  unfold answers
  pointwise

set_option maxHeartbeats 1000000 in
theorem keep_at (n : IVec S1 32) (y : FVec Ideal S884x512x1024 .f32) (r : Fin 452608) (j : Fin 1024) :
    (keep n y (ix2 r j) : EReal) = Scalar.select (IntOp.cmpi .slt (BitVec.ofNat 32 (r.val / 512)) (n (ix1 0)))
      (y (ix3 ⟨r.val / 512, by omega⟩ ⟨r.val % 512, by omega⟩ j)) 0 := by
  unfold keep
  simp only [id_eq]
  pointwise

theorem picks_at (e : IVec S884 32) (b : Fin 884) :
    picks e (ix2 b 0) = Scalar.select (IntOp.cmpi .slt (e (ix1 b)) 0#32) (IntOp.addi (e (ix1 b)) 32#32) (e (ix1 b)) := by
  unfold picks
  pointwise

/-- The result is the five stages composed. -/
theorem result_stages (m : (ℓ : Loc nD τ sig) → Buf (Elt Ideal) ℓ) (c : Dev nD) :
    res_main_v58 m c = keep (m ((c.tc : Thread nD τ).loc main_arg1))
      (answers
        (acts (hidden (m ((c.tc : Thread nD τ).loc main_arg2))
          (Host.gather gather_S32x1024x2048_S884x1_S884x1024x2048_12_0_n_n_0_1_110242048 (m ((c.tc : Thread nD τ).loc main_arg3)) (picks (m ((c.tc : Thread nD τ).loc main_arg0))))
          (Host.gather gather_S32x1x2048_S884x1_S884x1x2048_12_0_n_n_0_1_112048 (m ((c.tc : Thread nD τ).loc main_arg4)) (picks (m ((c.tc : Thread nD τ).loc main_arg0))))))
        (Host.gather gather_S32x1024x1024_S884x1_S884x1024x1024_12_0_n_n_0_1_110241024 (m ((c.tc : Thread nD τ).loc main_arg5)) (picks (m ((c.tc : Thread nD τ).loc main_arg0))))
        (Host.gather gather_S32x1x1024_S884x1_S884x1x1024_12_0_n_n_0_1_111024 (m ((c.tc : Thread nD τ).loc main_arg6)) (picks (m ((c.tc : Thread nD τ).loc main_arg0))))) := by
  unfold res_main_v58 keep answers acts hidden picks
  rfl

end Cert.ReferenceIdeal.Value

end
-- ==== Proof.Host.Gather.lean ====
module

public import Idealize.ShloMosaic.PureOps
public import Idealize.ShloMosaic.Lib.Pointwise

@[expose] public section

set_option maxRecDepth 16384

noncomputable section

/-! Slabs of a stack taken by a column of numbers. -/

namespace Cert.Entry

open Idealize.ShloMosaic

/-- A stack of `K` slabs read at a column of `N` slab numbers: slab `b` of the result is the slab its number names, when the number is in range. -/
theorem gather_slab {α : Type} {K A B N : ℕ} (d : GatherDims ⟨3, ![K, A, B]⟩ ⟨2, ![N, 1]⟩ ⟨3, ![N, A, B]⟩) (ho : d.offsetDims = [1, 2]) (hc : d.collapsedSliceDims = [0])
    (hb : d.operandBatchingDims = []) (hm : d.startIndexMap = [0]) (hv : d.indexVectorDim = 1) (x : (⟨3, ![K, A, B]⟩ : Shape).Idx → α) (idx : IVec ⟨2, ![N, 1]⟩ 32)
    (b : Fin N) (y : Fin A) (z : Fin B) (k : Fin K) (hk : (idx (ix2 b 0)).toInt = k.val) : Host.gather d x idx (ix3 b y z) = x (ix3 k y z) := by
  obtain ⟨od, cd, ob, sb, sm, iv, ss, wf⟩ := d
  dsimp only at ho hc hb hm hv
  subst ho hc hb hm hv
  have hs : ss 0 = 1 := wf.2.2.2.2.2.2.2.2.2.2.2.1 0 (List.mem_singleton.2 rfl)
  refine congrArg x (funext fun a => Fin.ext ?_)
  match a with
  | ⟨0, _⟩ =>
    show min (idx _).toInt.toNat (K - ss 0) + 0 + 0 = k.val
    have hm : min (idx (ix2 b 0)).toInt.toNat (K - ss 0) + 0 + 0 = k.val := by
      rw [hk, hs]
      have := k.isLt
      omega
    refine (congrArg (fun v : BitVec 32 => min v.toInt.toNat (K - ss 0) + 0 + 0) (?_ : _ = idx (ix2 b 0))).trans hm
    refine congrArg idx (funext fun a => ?_)
    match a with
    | ⟨0, _⟩ => rfl
    | ⟨1, _⟩ => rfl
  | ⟨1, _⟩ => exact (Nat.zero_add _).trans rfl
  | ⟨2, _⟩ => exact (Nat.zero_add _).trans rfl

end Cert.Entry

end
-- ==== Proof.Host.Value.lean ====
module

public import proofs.«01_k».proof.Proof.Host.Stages
public import proofs.«01_k».proof.Proof.Host.Gather
public import Idealize.ShloMosaic.Lib.WordCmp

@[expose] public section

set_option maxRecDepth 16384

noncomputable section

/-! The reference's result, entry by entry, is the experts' layer. -/

namespace Cert.ReferenceIdeal.Value

open Cert.ReferenceIdeal Cert.ReferenceIdeal.Gen
open Idealize.ShloMosaic Idealize.ShloMosaic.TcCoe
open Cert.Entry

/-- An index word below the sign bit is signed-less than a count exactly when the index is below it. -/
theorem select_used {α : Type} (v : BitVec 32) {k : ℕ} (hk : k < 2 ^ 31) (x y : α) :
    Scalar.select (IntOp.cmpi .slt (BitVec.ofNat 32 k) v) x y = if k < v.toInt.toNat then x else y := by
  unfold Scalar.select
  have h : IntOp.cmpi .slt (BitVec.ofNat 32 k) v = 1 ↔ k < v.toInt.toNat := by
    show IntOp.cmpi .slt (BitVec.ofNat 32 k) v = 1#1 ↔ _
    rw [WordCmp.cmpi_slt_eq, WordCmp.ofBool_decide_eq_one_iff, WordCmp.toInt_ofNat_of_lt (by simpa using hk)]
    omega
  by_cases hc : k < v.toInt.toNat
  · rw [if_pos hc, if_pos (h.2 hc)]
  · rw [if_neg hc, if_neg (mt h.1 hc)]

/-- An expert's number is gathered as it is. -/
theorem picks_toInt (e : IVec S884 32) (b : Fin 884) (h : (e (ix1 b)).toNat < 32) : (picks e (ix2 b 0)).toInt = ((e (ix1 b)).toNat : ℤ) := by
  have hi : (e (ix1 b)).toInt = ((e (ix1 b)).toNat : ℤ) := BitVec.toInt_eq_toNat_of_lt (by omega)
  have hn : ¬ IntOp.cmpi .slt (e (ix1 b)) 0#32 = 1 := by
    show ¬ IntOp.cmpi .slt (e (ix1 b)) 0#32 = 1#1
    rw [WordCmp.cmpi_slt_eq, WordCmp.ofBool_decide_eq_one_iff, hi]
    simp
  rw [picks_at]
  unfold Scalar.select
  rw [if_neg hn, hi]

variable (m : (ℓ : Loc nD τ sig) → Buf (Elt Ideal) ℓ)

/-- The result is the layer of the arguments. -/
theorem result_layer (c : Dev nD) (hk : ∀ b : Fin 884, (m ((c.tc : Thread nD τ).loc main_arg0) (ix1 b : S884.Idx) : BitVec 32).toNat < 32) (r : Fin 452608) (n : Fin 1024) :
    (res_main_v58 m c (ix2 r n) : EReal) = layer (fun b => ⟨(m ((c.tc : Thread nD τ).loc main_arg0) (ix1 b : S884.Idx) : BitVec 32).toNat, hk b⟩)
      (m ((c.tc : Thread nD τ).loc main_arg1) (ix1 0 : S1.Idx) : BitVec 32).toInt.toNat
      (fun r k => m ((c.tc : Thread nD τ).loc main_arg2) (ix2 r k : S452608x1024.Idx)) (fun e k j => m ((c.tc : Thread nD τ).loc main_arg3) (ix3 e k j : S32x1024x2048.Idx))
      (fun e j => m ((c.tc : Thread nD τ).loc main_arg4) (ix3 e 0 j : S32x1x2048.Idx)) (fun e k j => m ((c.tc : Thread nD τ).loc main_arg5) (ix3 e k j : S32x1024x1024.Idx))
      (fun e j => m ((c.tc : Thread nD τ).loc main_arg6) (ix3 e 0 j : S32x1x1024.Idx)) r n := by
  have hr := r.isLt
  rw [result_stages]
  refine (keep_at _ _ r n).trans ((select_used _ (by omega) _ _).trans ?_)
  unfold layer
  refine if_congr Iff.rfl ?_ rfl
  have hp := picks_toInt (m ((c.tc : Thread nD τ).loc main_arg0)) ⟨r.val / 512, by omega⟩ (hk _)
  have er : (⟨r.val / 512 * 512 + r.val % 512, by omega⟩ : Fin 452608) = r := Fin.ext (show r.val / 512 * 512 + r.val % 512 = r.val by omega)
  rw [answers_at]
  unfold answer unit
  simp only [acts_at, hidden_at, er]
  rw [gather_slab gather_S32x1x1024_S884x1_S884x1x1024_12_0_n_n_0_1_111024 rfl rfl rfl rfl rfl _ _ ⟨r.val / 512, by omega⟩ 0 n ⟨_, hk ⟨r.val / 512, by omega⟩⟩ hp]
  simp only [gather_slab gather_S32x1024x1024_S884x1_S884x1024x1024_12_0_n_n_0_1_110241024 rfl rfl rfl rfl rfl _ _ ⟨r.val / 512, by omega⟩ _ _ ⟨_, hk ⟨r.val / 512, by omega⟩⟩ hp,
    gather_slab gather_S32x1x2048_S884x1_S884x1x2048_12_0_n_n_0_1_112048 rfl rfl rfl rfl rfl _ _ ⟨r.val / 512, by omega⟩ _ _ ⟨_, hk ⟨r.val / 512, by omega⟩⟩ hp,
    gather_slab gather_S32x1024x2048_S884x1_S884x1024x2048_12_0_n_n_0_1_110242048 rfl rfl rfl rfl rfl _ _ ⟨r.val / 512, by omega⟩ _ _ ⟨_, hk ⟨r.val / 512, by omega⟩⟩ hp]

end Cert.ReferenceIdeal.Value

end
-- ==== Proof.Project.Law.lean ====
module

public import Idealize.ShloMosaic.Lib.Pointwise

@[expose] public section

noncomputable section

/-! The input projection, one token at a time. -/

namespace Cert.Project

open Idealize.ShloMosaic

/-- What the normalisation adds to the mean square. -/
def eps : EReal := Ideal.ofBits .f32 0x358637BD#32
/-- The length of a token. -/
def width : EReal := Ideal.ofBits .f32 0x44800000#32

/-- One number put before the root, per token. -/
def power (x : Fin 1024 → EReal) : EReal := Ideal.div (∑ k : Fin 1024, x k * x k) width + eps

/-- A token, normalised, scaled and shifted. -/
def normed (x g sc sh : Fin 1024 → EReal) (k : Fin 1024) : EReal := x k * Ideal.rsqrt (power x) * g k * (1 + sc k) + sh k

/-- A normalised token times one column. -/
def project (x g sc sh w : Fin 1024 → EReal) : EReal := ∑ k : Fin 1024, normed x g sc sh k * w k

theorem project_congr {x x' g g' sc sc' sh sh' w w' : Fin 1024 → EReal} (hx : ∀ k, x k = x' k) (hg : ∀ k, g k = g' k) (hsc : ∀ k, sc k = sc' k)
    (hsh : ∀ k, sh k = sh' k) (hw : ∀ k, w k = w' k) : project x g sc sh w = project x' g' sc' sh' w' := by
  rw [funext hx, funext hg, funext hsc, funext hsh, funext hw]

/-- The projection of row `r` on one column: the modulation is that of the sequence the row lies in. -/
def layer (X : Fin 32768 → Fin 1024 → EReal) (M : Fin 192 → Fin 1024 → EReal) (g w : Fin 1024 → EReal) (r : Fin 32768) : EReal :=
  project (X r) g (M ⟨r.val / 2048 * 6 + 1, by omega⟩) (M ⟨r.val / 2048 * 6, by omega⟩) w

end Cert.Project

end
-- ==== Proof.InProjIdeal.Pay.lean ====
module

public import proofs.«01_k».proof.Proof.Gen.InProjIdeal.Skeleton
public import proofs.«01_k».proof.Proof.Project.Law

@[expose] public section

set_option maxRecDepth 16384

noncomputable section

/-! What the projection kernel stores, read at one entry. -/

namespace Cert.InProjIdeal.Project

open Cert.InProjIdeal Cert.InProjIdeal.Gen
open Idealize.ShloMosaic
open Cert.Project

/-- The normalised block. -/
theorem pay7_at (x : FVec Ideal S512x1024 .f32) (g : FVec Ideal S1x1024 .f32) (sc sh : FVec Ideal S1x1x1024 .f32) (r : Fin 512) (k : Fin 1024) :
    (k0_pay7 (F := Ideal) x g sc sh (ix2 r k) : EReal)
      = normed (fun k => x (ix2 r k)) (fun k => g (ix2 0 k)) (fun k => sc (ix3 0 0 k)) (fun k => sh (ix3 0 0 k)) k := by
  unfold normed power width eps
  pointwise [k0_pay7]

/-- The keys before they are cut in groups. -/
theorem pay1_at (h : FVec Ideal S512x1024 .bf16) (w : FVec Ideal S512x1024 .bf16) (n : Fin 512) (r : Fin 512) :
    (k0_pay1 (F := Ideal) h w (ix2 n r) : EReal) = ∑ k : Fin 1024, (w (ix2 n k) : EReal) * h (ix2 r k) := by
  pointwise [k0_pay1]

theorem pay6_at (h : FVec Ideal S512x1024 .bf16) (w : FVec Ideal S1024x512 .bf16) (r : Fin 512) (n : Fin 512) :
    (k0_pay6 (F := Ideal) h w (ix2 r n) : EReal) = ∑ k : Fin 1024, (h (ix2 r k) : EReal) * w (ix2 k n) := by
  pointwise [k0_pay6]

theorem pay8_eq (x : FVec Ideal S512x1024 .f32) (g : FVec Ideal S1x1024 .f32) (sc sh : FVec Ideal S1x1x1024 .f32) (w : FVec Ideal S1024x512 .bf16) :
    k0_pay8 (F := Ideal) x g sc sh w = k0_pay6 (k0_pay7 x g sc sh) w := rfl
theorem pay9_eq (x : FVec Ideal S512x1024 .f32) (g : FVec Ideal S1x1024 .f32) (sc sh : FVec Ideal S1x1x1024 .f32) (w : FVec Ideal S1024x512 .bf16) :
    k0_pay9 (F := Ideal) x g sc sh w = k0_pay6 (k0_pay7 x g sc sh) w := rfl

end Cert.InProjIdeal.Project

end
-- ==== Proof.InProjIdeal.Value.lean ====
module

public import proofs.«01_k».proof.Proof.Gen.InProjIdeal.Value
public import proofs.«01_k».proof.Proof.InProjIdeal.Pay
public import Idealize.ShloMosaic.Lib.Pointwise.IndexBridge

@[expose] public section

set_option maxRecDepth 16384

noncomputable section

/-! The four arrays the projection leaves, entry by entry. -/

namespace Cert.InProjIdeal.Project

open Cert.InProjIdeal Cert.InProjIdeal.Gen
open Idealize.ShloMosaic Idealize.ShloMosaic.TcCoe
open Cert.Project

variable (m : (ℓ : Loc nD τ sig) → Buf (Elt Ideal) ℓ)

/-- The rows of the modulation a point reads. -/
theorem index_shift : ∀ t : Fin grid0.N, win0_1.index t = ![t.val / 4 * 6, 0, 0] := by decide +kernel
theorem index_scale : ∀ t : Fin grid0.N, win0_2.index t = ![t.val / 4 * 6 + 1, 0, 0] := by decide +kernel
theorem index_rows : ∀ t : Fin grid0.N, win0_0.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index_q : ∀ t : Fin grid0.N, win0_8.index t = ![t.val, 0] := by decide +kernel
theorem index_k : ∀ t : Fin grid0.N, win0_9.index t = ![t.val / 4, t.val % 4, 0, 0] := by decide +kernel
theorem index_v : ∀ t : Fin grid0.N, win0_10.index t = ![t.val, 0] := by decide +kernel
theorem index_u : ∀ t : Fin grid0.N, win0_11.index t = ![t.val, 0] := by decide +kernel

theorem pt_lt (t : Fin cfg0.N) : t.val < 64 := t.isLt

theorem rows_at (c : Dev nD) (t : Fin cfg0.N) (r : Fin 512) (k : Fin 1024) :
    iblk m c 0 t (ix2 r k : S512x1024.Idx) = m ((c.tc : Thread nD τ).loc main_arg0) (ix2 ⟨t.val * 512 + r.val, by have := pt_lt t; omega⟩ k : S32768x1024.Idx) := by
  have hlt := pt_lt t
  show m ((c.tc : Thread nD τ).loc main_arg0) _ = _
  refine congrArg (m ((c.tc : Thread nD τ).loc main_arg0)) (funext fun i => ?_)
  have e0 : win0_0.index t 0 = t.val := congrFun (index_rows t) 0
  have e1 : win0_0.index t 1 = 0 := congrFun (index_rows t) 1
  match i with
  | ⟨0, _⟩ => exact Fin.ext (show win0_0.index t 0 * 512 + 1 * r.val = t.val * 512 + r.val by omega)
  | ⟨1, _⟩ => exact Fin.ext (show win0_0.index t 1 * 1024 + 1 * k.val = k.val by omega)

theorem shift_at (c : Dev nD) (t : Fin cfg0.N) (k : Fin 1024) :
    iblk m c 1 t (ix3 0 0 k : S1x1x1024.Idx) = m ((c.tc : Thread nD τ).loc main_arg1) (ix3 ⟨t.val / 4 * 6, by have := pt_lt t; omega⟩ 0 k : S192x1x1024.Idx) := by
  show m ((c.tc : Thread nD τ).loc main_arg1) _ = _
  refine congrArg (m ((c.tc : Thread nD τ).loc main_arg1)) (funext fun i => ?_)
  have e0 : win0_1.index t 0 = t.val / 4 * 6 := congrFun (index_shift t) 0
  have e1 : win0_1.index t 1 = 0 := congrFun (index_shift t) 1
  have e2 : win0_1.index t 2 = 0 := congrFun (index_shift t) 2
  match i with
  | ⟨0, _⟩ => exact Fin.ext (show win0_1.index t 0 * 1 + 1 * 0 = t.val / 4 * 6 by omega)
  | ⟨1, _⟩ => exact Fin.ext (show win0_1.index t 1 * 1 + 1 * 0 = 0 by omega)
  | ⟨2, _⟩ => exact Fin.ext (show win0_1.index t 2 * 1024 + 1 * k.val = k.val by omega)

theorem scale_at (c : Dev nD) (t : Fin cfg0.N) (k : Fin 1024) :
    iblk m c 2 t (ix3 0 0 k : S1x1x1024.Idx) = m ((c.tc : Thread nD τ).loc main_arg1) (ix3 ⟨t.val / 4 * 6 + 1, by have := pt_lt t; omega⟩ 0 k : S192x1x1024.Idx) := by
  show m ((c.tc : Thread nD τ).loc main_arg1) _ = _
  refine congrArg (m ((c.tc : Thread nD τ).loc main_arg1)) (funext fun i => ?_)
  have e0 : win0_2.index t 0 = t.val / 4 * 6 + 1 := congrFun (index_scale t) 0
  have e1 : win0_2.index t 1 = 0 := congrFun (index_scale t) 1
  have e2 : win0_2.index t 2 = 0 := congrFun (index_scale t) 2
  match i with
  | ⟨0, _⟩ => exact Fin.ext (show win0_2.index t 0 * 1 + 1 * 0 = t.val / 4 * 6 + 1 by omega)
  | ⟨1, _⟩ => exact Fin.ext (show win0_2.index t 1 * 1 + 1 * 0 = 0 by omega)
  | ⟨2, _⟩ => exact Fin.ext (show win0_2.index t 2 * 1024 + 1 * k.val = k.val by omega)

theorem whole3 (c : Dev nD) (t : Fin cfg0.N) (a : Fin 1) (b : Fin 1024) :
    iblk m c 3 t (ix2 a b : S1x1024.Idx) = m ((c.tc : Thread nD τ).loc main_arg2) (ix2 a b : S1x1024.Idx) := by
  show m ((c.tc : Thread nD τ).loc main_arg2) _ = _
  refine congrArg (m ((c.tc : Thread nD τ).loc main_arg2)) (funext fun i => ?_)
  have e0 : win0_3.index t 0 = 0 := congrFun (index3 t) 0
  have e1 : win0_3.index t 1 = 0 := congrFun (index3 t) 1
  match i with
  | ⟨0, _⟩ => exact Fin.ext (show win0_3.index t 0 * 1 + 1 * a.val = a.val by omega)
  | ⟨1, _⟩ => exact Fin.ext (show win0_3.index t 1 * 1024 + 1 * b.val = b.val by omega)

theorem whole4 (c : Dev nD) (t : Fin cfg0.N) (a : Fin 1024) (b : Fin 512) :
    iblk m c 4 t (ix2 a b : S1024x512.Idx) = m ((c.tc : Thread nD τ).loc main_arg3) (ix2 a b : S1024x512.Idx) := by
  show m ((c.tc : Thread nD τ).loc main_arg3) _ = _
  refine congrArg (m ((c.tc : Thread nD τ).loc main_arg3)) (funext fun i => ?_)
  have e0 : win0_4.index t 0 = 0 := congrFun (index4 t) 0
  have e1 : win0_4.index t 1 = 0 := congrFun (index4 t) 1
  match i with
  | ⟨0, _⟩ => exact Fin.ext (show win0_4.index t 0 * 1024 + 1 * a.val = a.val by omega)
  | ⟨1, _⟩ => exact Fin.ext (show win0_4.index t 1 * 512 + 1 * b.val = b.val by omega)

theorem whole5 (c : Dev nD) (t : Fin cfg0.N) (a : Fin 512) (b : Fin 1024) :
    iblk m c 5 t (ix2 a b : S512x1024.Idx) = m ((c.tc : Thread nD τ).loc main_arg4) (ix2 a b : S512x1024.Idx) := by
  show m ((c.tc : Thread nD τ).loc main_arg4) _ = _
  refine congrArg (m ((c.tc : Thread nD τ).loc main_arg4)) (funext fun i => ?_)
  have e0 : win0_5.index t 0 = 0 := congrFun (index5 t) 0
  have e1 : win0_5.index t 1 = 0 := congrFun (index5 t) 1
  match i with
  | ⟨0, _⟩ => exact Fin.ext (show win0_5.index t 0 * 512 + 1 * a.val = a.val by omega)
  | ⟨1, _⟩ => exact Fin.ext (show win0_5.index t 1 * 1024 + 1 * b.val = b.val by omega)

theorem whole6 (c : Dev nD) (t : Fin cfg0.N) (a : Fin 1024) (b : Fin 512) :
    iblk m c 6 t (ix2 a b : S1024x512.Idx) = m ((c.tc : Thread nD τ).loc main_arg5) (ix2 a b : S1024x512.Idx) := by
  show m ((c.tc : Thread nD τ).loc main_arg5) _ = _
  refine congrArg (m ((c.tc : Thread nD τ).loc main_arg5)) (funext fun i => ?_)
  have e0 : win0_6.index t 0 = 0 := congrFun (index6 t) 0
  have e1 : win0_6.index t 1 = 0 := congrFun (index6 t) 1
  match i with
  | ⟨0, _⟩ => exact Fin.ext (show win0_6.index t 0 * 1024 + 1 * a.val = a.val by omega)
  | ⟨1, _⟩ => exact Fin.ext (show win0_6.index t 1 * 512 + 1 * b.val = b.val by omega)

theorem whole7 (c : Dev nD) (t : Fin cfg0.N) (a : Fin 1024) (b : Fin 512) :
    iblk m c 7 t (ix2 a b : S1024x512.Idx) = m ((c.tc : Thread nD τ).loc main_arg6) (ix2 a b : S1024x512.Idx) := by
  show m ((c.tc : Thread nD τ).loc main_arg6) _ = _
  refine congrArg (m ((c.tc : Thread nD τ).loc main_arg6)) (funext fun i => ?_)
  have e0 : win0_7.index t 0 = 0 := congrFun (index7 t) 0
  have e1 : win0_7.index t 1 = 0 := congrFun (index7 t) 1
  match i with
  | ⟨0, _⟩ => exact Fin.ext (show win0_7.index t 0 * 1024 + 1 * a.val = a.val by omega)
  | ⟨1, _⟩ => exact Fin.ext (show win0_7.index t 1 * 512 + 1 * b.val = b.val by omega)

/-- A load of a whole block reads it. -/
theorem ld_rows (x : Vec Ideal S512x1024 .f32) : View.ld (Val := Elt Ideal) x r0_0 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_keys (x : Vec Ideal S512x1024 .bf16) : View.ld (Val := Elt Ideal) x r0_0 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_gain (x : Vec Ideal S1x1024 .f32) : View.ld (Val := Elt Ideal) x r0_1 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_mod (x : Vec Ideal S1x1x1024 .f32) : View.ld (Val := Elt Ideal) x r0_2 = x := funext fun y => congrArg x (funext fun i => Fin.ext (by
  match i with
  | ⟨0, _⟩ => exact (show 0 + 1 * (y 0).val = (y 0).val by omega)
  | ⟨1, _⟩ => exact (show 0 + 1 * (y 1).val = (y 1).val by omega)
  | ⟨2, _⟩ => exact (show 0 + 1 * (y 2).val = (y 2).val by omega)))
theorem ld_cols (x : Vec Ideal S1024x512 .bf16) : View.ld (Val := Elt Ideal) x r0_3 = x := funext fun y => congrArg x (funext fun i => Fin.ext (by
  match i with
  | ⟨0, _⟩ => exact (show 0 + 1 * (y 0).val = (y 0).val by omega)
  | ⟨1, _⟩ => exact (show 0 + 1 * (y 1).val = (y 1).val by omega)))

theorem full_emb (r n : Fin 512) : r0_4.emb (ix2 r n) = (ix2 r n : S512x512.Idx) := by
  funext a
  match a with
  | ⟨0, _⟩ => exact Fin.ext (show 0 + 1 * r.val = r.val by omega)
  | ⟨1, _⟩ => exact Fin.ext (show 0 + 1 * n.val = n.val by omega)

/-- The one store of a block of products leaves what it stores. -/
theorem canon_full (p : Vec Ideal S512x512 .bf16) (r n : Fin 512) :
    View.canon (Val := Elt Ideal) [(⟨r0_4, p⟩ : View.Piece (Elt Ideal) S512x512 .bf16)] (ix2 r n) = p (ix2 r n) := by
  have h := View.canon_cons_emb (Val := Elt Ideal) r0_4 p [] (ix2 r n)
  rw [full_emb] at h
  exact h

variable (x : Vec Ideal S512x1024 .f32) (sh sc : Vec Ideal S1x1x1024 .f32) (g : Vec Ideal S1x1024 .f32) (wq : Vec Ideal S1024x512 .bf16)
  (wk : Vec Ideal S512x1024 .bf16) (wv wu : Vec Ideal S1024x512 .bf16)

theorem out8_at (r n : Fin 512) : (out0_8 (F := Ideal) x sh sc g wq wk wv wu (ix2 r n) : EReal)
    = project (fun k => x (ix2 r k)) (fun k => g (ix2 0 k)) (fun k => sc (ix3 0 0 k)) (fun k => sh (ix3 0 0 k)) (fun k => wq (ix2 k n)) := by
  unfold out0_8 project
  rw [canon_full, pay8_eq, pay6_at, ld_rows, ld_gain, ld_mod, ld_mod, ld_cols]
  exact Finset.sum_congr rfl fun k _ => congrArg (· * _) (pay7_at x g sc sh r k)
theorem out10_at (r n : Fin 512) : (out0_10 (F := Ideal) x sh sc g wq wk wv wu (ix2 r n) : EReal)
    = project (fun k => x (ix2 r k)) (fun k => g (ix2 0 k)) (fun k => sc (ix3 0 0 k)) (fun k => sh (ix3 0 0 k)) (fun k => wv (ix2 k n)) := by
  unfold out0_10 project
  rw [canon_full, pay9_eq, pay6_at, ld_rows, ld_gain, ld_mod, ld_mod, ld_cols]
  exact Finset.sum_congr rfl fun k _ => congrArg (· * _) (pay7_at x g sc sh r k)
theorem out11_at (r n : Fin 512) : (out0_11 (F := Ideal) x sh sc g wq wk wv wu (ix2 r n) : EReal)
    = project (fun k => x (ix2 r k)) (fun k => g (ix2 0 k)) (fun k => sc (ix3 0 0 k)) (fun k => sh (ix3 0 0 k)) (fun k => wu (ix2 k n)) := by
  unfold out0_11 k0_pay10 project
  rw [canon_full, pay6_at, ld_rows, ld_gain, ld_mod, ld_mod, ld_cols]
  exact Finset.sum_congr rfl fun k _ => congrArg (· * _) (pay7_at x g sc sh r k)
theorem out9_at (j : Fin 4) (n : Fin 512) (p : Fin 128) : (out0_9 (F := Ideal) x sh sc g wq wk wv wu (ix4 0 j n p) : EReal)
    = project (fun k => x (ix2 ⟨j.val * 128 + p.val, by omega⟩ k)) (fun k => g (ix2 0 k)) (fun k => sc (ix3 0 0 k)) (fun k => sh (ix3 0 0 k)) (fun k => wk (ix2 n k)) := by
  unfold out0_9 k0_pay10 project
  rw [ld_rows, ld_keys, ld_gain, ld_mod, ld_mod]
  have h := Cert.InProjIdeal.Value.canon9_eq (F := Ideal) x g sc sh wk (ix4 0 j n p)
  refine h.trans ?_
  have e : (k0_pay1 (F := Ideal) (k0_pay7 x g sc sh) wk (ix2 n ⟨j.val * 128 + p.val, by omega⟩) : EReal) = _ := pay1_at _ _ _ _
  refine Eq.trans (b := k0_pay1 (F := Ideal) (k0_pay7 x g sc sh) wk (ix2 n ⟨j.val * 128 + p.val, by omega⟩)) ?_ (e.trans ?_)
  · refine congrArg (k0_pay1 (F := Ideal) (k0_pay7 x g sc sh) wk) (funext fun i => ?_)
    match i with
    | ⟨0, _⟩ => rfl
    | ⟨1, _⟩ => rfl
  · exact Finset.sum_congr rfl fun k _ => (mul_comm _ _).trans (congrArg (· * _) (pay7_at x g sc sh _ k))

/-- The point that owns a row. -/
def owner (r : Fin 32768) : Fin cfg0.N := ⟨r.val / 512, show r.val / 512 < 64 by omega⟩

/-- The projection over the call's arguments. -/
abbrev entry (c : Dev nD) (w : Fin 1024 → EReal) (r : Fin 32768) : EReal :=
  layer (fun r k => m ((c.tc : Thread nD τ).loc main_arg0) (ix2 r k : S32768x1024.Idx)) (fun r k => m ((c.tc : Thread nD τ).loc main_arg1) (ix3 r 0 k : S192x1x1024.Idx))
    (fun k => m ((c.tc : Thread nD τ).loc main_arg2) (ix2 0 k : S1x1024.Idx)) w r

/-- A point's projection is the layer's. -/
theorem point_entry (c : Dev nD) (r : Fin 32768) (y : Fin 512) (hy : y.val = r.val % 512) {w w' : Fin 1024 → EReal} (hw : ∀ k, w k = w' k) :
    project (fun k => iblk m c 0 (owner r) (ix2 y k : S512x1024.Idx)) (fun k => iblk m c 3 (owner r) (ix2 0 k : S1x1024.Idx))
      (fun k => iblk m c 2 (owner r) (ix3 0 0 k : S1x1x1024.Idx)) (fun k => iblk m c 1 (owner r) (ix3 0 0 k : S1x1x1024.Idx)) w = entry m c w' r := by
  have ho : (owner r).val = r.val / 512 := rfl
  have e1 : r.val / 512 / 4 = r.val / 2048 := by omega
  refine project_congr (fun k => (rows_at m c _ y k).trans (congrArg (fun i : Fin 32768 => m ((c.tc : Thread nD τ).loc main_arg0) (ix2 i k : S32768x1024.Idx)) (Fin.ext ?_)))
    (fun k => whole3 m c _ 0 k)
    (fun k => (scale_at m c _ k).trans (congrArg (fun i : Fin 192 => m ((c.tc : Thread nD τ).loc main_arg1) (ix3 i 0 k : S192x1x1024.Idx)) (Fin.ext ?_)))
    (fun k => (shift_at m c _ k).trans (congrArg (fun i : Fin 192 => m ((c.tc : Thread nD τ).loc main_arg1) (ix3 i 0 k : S192x1x1024.Idx)) (Fin.ext ?_))) hw
  · show (owner r).val * 512 + y.val = r.val
    omega
  · show (owner r).val / 4 * 6 + 1 = r.val / 2048 * 6 + 1
    omega
  · show (owner r).val / 4 * 6 = r.val / 2048 * 6
    omega

theorem final8 (c : Dev nD) (r : Fin 32768) (n : Fin 512) :
    ((dats m 0 c).arrAt 8 cfg0.N (ix2 r n : S32768x512.Idx) : EReal) = entry m c (fun k => m ((c.tc : Thread nD τ).loc main_arg3) (ix2 k n : S1024x512.Idx)) r := by
  have hb := congrFun ((Value.blocks8 m c (owner r) (flush0_8 _)).trans (Value.flushed8 m c (owner r))) (ix2 ⟨r.val % 512, by omega⟩ n : S512x512.Idx)
  have e0 : win0_8.index (owner r) 0 = r.val / 512 := congrFun (index_q (owner r)) 0
  have e1 : win0_8.index (owner r) 1 = 0 := congrFun (index_q (owner r)) 1
  refine Eq.trans (congrArg ((dats m 0 c).arrAt 8 cfg0.N) (funext fun i => ?_)) (hb.trans ((out8_at _ _ _ _ _ _ _ _ _ n).trans
    (point_entry m c r ⟨r.val % 512, by omega⟩ rfl fun k => whole4 m c _ k n)))
  match i with
  | ⟨0, _⟩ => exact Fin.ext (show r.val = win0_8.index (owner r) 0 * 512 + 1 * (r.val % 512) by omega)
  | ⟨1, _⟩ => exact Fin.ext (show n.val = win0_8.index (owner r) 1 * 512 + 1 * n.val by omega)

theorem final10 (c : Dev nD) (r : Fin 32768) (n : Fin 512) :
    ((dats m 0 c).arrAt 10 cfg0.N (ix2 r n : S32768x512.Idx) : EReal) = entry m c (fun k => m ((c.tc : Thread nD τ).loc main_arg5) (ix2 k n : S1024x512.Idx)) r := by
  have hb := congrFun ((Value.blocks10 m c (owner r) (flush0_10 _)).trans (Value.flushed10 m c (owner r))) (ix2 ⟨r.val % 512, by omega⟩ n : S512x512.Idx)
  have e0 : win0_10.index (owner r) 0 = r.val / 512 := congrFun (index_v (owner r)) 0
  have e1 : win0_10.index (owner r) 1 = 0 := congrFun (index_v (owner r)) 1
  refine Eq.trans (congrArg ((dats m 0 c).arrAt 10 cfg0.N) (funext fun i => ?_)) (hb.trans ((out10_at _ _ _ _ _ _ _ _ _ n).trans
    (point_entry m c r ⟨r.val % 512, by omega⟩ rfl fun k => whole6 m c _ k n)))
  match i with
  | ⟨0, _⟩ => exact Fin.ext (show r.val = win0_10.index (owner r) 0 * 512 + 1 * (r.val % 512) by omega)
  | ⟨1, _⟩ => exact Fin.ext (show n.val = win0_10.index (owner r) 1 * 512 + 1 * n.val by omega)

theorem final11 (c : Dev nD) (r : Fin 32768) (n : Fin 512) :
    ((dats m 0 c).arrAt 11 cfg0.N (ix2 r n : S32768x512.Idx) : EReal) = entry m c (fun k => m ((c.tc : Thread nD τ).loc main_arg6) (ix2 k n : S1024x512.Idx)) r := by
  have hb := congrFun ((Value.blocks11 m c (owner r) (flush0_11 _)).trans (Value.flushed11 m c (owner r))) (ix2 ⟨r.val % 512, by omega⟩ n : S512x512.Idx)
  have e0 : win0_11.index (owner r) 0 = r.val / 512 := congrFun (index_u (owner r)) 0
  have e1 : win0_11.index (owner r) 1 = 0 := congrFun (index_u (owner r)) 1
  refine Eq.trans (congrArg ((dats m 0 c).arrAt 11 cfg0.N) (funext fun i => ?_)) (hb.trans ((out11_at _ _ _ _ _ _ _ _ _ n).trans
    (point_entry m c r ⟨r.val % 512, by omega⟩ rfl fun k => whole7 m c _ k n)))
  match i with
  | ⟨0, _⟩ => exact Fin.ext (show r.val = win0_11.index (owner r) 0 * 512 + 1 * (r.val % 512) by omega)
  | ⟨1, _⟩ => exact Fin.ext (show n.val = win0_11.index (owner r) 1 * 512 + 1 * n.val by omega)

/-- The keys' entry `(s, j, n, p)` belongs to token `128 j + p` of sequence `s`. -/
theorem final9 (c : Dev nD) (s j : Fin 16) (n : Fin 512) (p : Fin 128) :
    ((dats m 0 c).arrAt 9 cfg0.N (ix4 s j n p : S16x16x512x128.Idx) : EReal)
      = entry m c (fun k => m ((c.tc : Thread nD τ).loc main_arg4) (ix2 n k : S512x1024.Idx)) ⟨s.val * 2048 + j.val * 128 + p.val, by omega⟩ := by
  generalize hr : (⟨s.val * 2048 + j.val * 128 + p.val, by omega⟩ : Fin 32768) = r
  have hv : s.val * 2048 + j.val * 128 + p.val = r.val := congrArg Fin.val hr
  have hb := congrFun ((Value.blocks9 m c (owner r) (flush0_9 _)).trans (Value.flushed9 m c (owner r))) (ix4 0 ⟨j.val % 4, by omega⟩ n p : S1x4x512x128.Idx)
  have e0 : win0_9.index (owner r) 0 = r.val / 512 / 4 := congrFun (index_k (owner r)) 0
  have e1 : win0_9.index (owner r) 1 = r.val / 512 % 4 := congrFun (index_k (owner r)) 1
  have e2 : win0_9.index (owner r) 2 = 0 := congrFun (index_k (owner r)) 2
  have e3 : win0_9.index (owner r) 3 = 0 := congrFun (index_k (owner r)) 3
  refine Eq.trans (congrArg ((dats m 0 c).arrAt 9 cfg0.N) (funext fun i => ?_)) (hb.trans ((out9_at _ _ _ _ _ _ _ _ ⟨j.val % 4, by omega⟩ n p).trans
    (point_entry m c r ⟨j.val % 4 * 128 + p.val, by omega⟩ (show j.val % 4 * 128 + p.val = r.val % 512 by omega) fun k => whole5 m c _ n k)))
  match i with
  | ⟨0, _⟩ => exact Fin.ext (show s.val = win0_9.index (owner r) 0 * 1 + 1 * 0 by omega)
  | ⟨1, _⟩ => exact Fin.ext (show j.val = win0_9.index (owner r) 1 * 4 + 1 * (j.val % 4) by omega)
  | ⟨2, _⟩ => exact Fin.ext (show n.val = win0_9.index (owner r) 2 * 512 + 1 * n.val by omega)
  | ⟨3, _⟩ => exact Fin.ext (show p.val = win0_9.index (owner r) 3 * 128 + 1 * p.val by omega)

end Cert.InProjIdeal.Project

end
-- ==== Proof.InProjHost.Stages.lean ====
module

public import proofs.«01_k».proof.Proof.Gen.InProjRefIdeal.Run
public import proofs.«01_k».proof.Proof.Project.Law
public import Idealize.ShloMosaic.Lib.Pointwise.IndexBridge

@[expose] public section

set_option maxRecDepth 16384

noncomputable section

/-! The projection's reference, in stages, each read at one entry. -/

namespace Cert.InProjRefIdeal.Value

open Cert.InProjRefIdeal Cert.InProjRefIdeal.Gen
open Idealize.ShloMosaic Idealize.ShloMosaic.TcCoe Idealize.SL.Sem
open Cert.Project

/-- The factor of every token. -/
def roots (x : FVec Ideal S32768x1024 .f32) : FVec Ideal S16x2048x1 .f32 :=
  Host.rsqrt (addf (Host.divf (broadcastInDim S16x2048x1 ![0, 1] bcast_S16x2048_S16x2048x1_0_1 (Host.reduceAdd (mulf (shapeCast _ x shapeCasts_S32768x1024_S16x2048x1024) (shapeCast _ x shapeCasts_S32768x1024_S16x2048x1024)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))

/-- The normalised and modulated tokens. -/
def rows (x : FVec Ideal S32768x1024 .f32) (a : FVec Ideal S192x1x1024 .f32) (g : FVec Ideal S1x1024 .f32) : FVec Ideal S32768x1024 .f32 :=
  shapeCast _ (addf (mulf (mulf (mulf (shapeCast _ x shapeCasts_S32768x1024_S16x2048x1024) (broadcastInDim S16x2048x1024 ![0, 1, 2] bcast_S16x2048x1_S16x2048x1024_0_1_2 (roots x))) (broadcastInDim S16x2048x1024 ![0, 1, 2] bcast_S1x1x1024_S16x2048x1024_0_1_2 (broadcastInDim S1x1x1024 ![1, 2] bcast_S1x1024_S1x1x1024_1_2 g))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 1, 0] (extractStridedSlice S16x6x1024 ![0, 0, 0] (shapeCast _ a shapeCasts_S192x1x1024_S32x6x1024) slices_S32x6x1024_S16x6x1024_0_0_0) slices_S16x6x1024_S16x1x1024_0_1_0)))) (broadcastInDim S16x2048x1024 ![0, 1, 2] bcast_S16x1x1024_S16x2048x1024_0_1_2 (extractStridedSlice S16x1x1024 ![0, 0, 0] (extractStridedSlice S16x6x1024 ![0, 0, 0] (shapeCast _ a shapeCasts_S192x1x1024_S32x6x1024) slices_S32x6x1024_S16x6x1024_0_0_0) slices_S16x6x1024_S16x1x1024_0_0_0))) shapeCasts_S16x2048x1024_S32768x1024

/-- The tokens times a matrix. -/
def columns (h : FVec Ideal S32768x1024 .f32) (w : FVec Ideal S1024x512 .bf16) : FVec Ideal S32768x512 .f32 :=
  Host.dotGeneral dot_S32768x1024_S1024x512_S32768x512_1_0_0_1_n_n none h (extf .f32 w bitsLt_bf16_f32)

/-- The keys' layout. -/
def grouped (y : FVec Ideal S32768x512 .f32) : FVec Ideal S16x16x512x128 .f32 :=
  transpose S16x16x512x128 [0, 1, 3, 2] (shapeCast _ y shapeCasts_S32768x512_S16x16x128x512) transposes_S16x16x128x512_S16x16x512x128_0_1_3_2

theorem roots_at (x : FVec Ideal S32768x1024 .f32) (s : Fin 16) (t : Fin 2048) :
    (roots x (ix3 s t 0) : EReal) = Ideal.rsqrt (power fun k => x (ix2 ⟨s.val * 2048 + t.val, by omega⟩ k)) := by
  unfold roots power width eps
  pointwise

set_option maxHeartbeats 1000000 in
theorem rows_at (x : FVec Ideal S32768x1024 .f32) (a : FVec Ideal S192x1x1024 .f32) (g : FVec Ideal S1x1024 .f32) (r : Fin 32768) (k : Fin 1024) :
    (rows x a g (ix2 r k) : EReal) = normed (fun k => x (ix2 r k)) (fun k => g (ix2 0 k)) (fun k => a (ix3 ⟨r.val / 2048 * 6 + 1, by omega⟩ 0 k))
      (fun k => a (ix3 ⟨r.val / 2048 * 6, by omega⟩ 0 k)) k := by
  have hr := roots_at x ⟨r.val / 2048, by omega⟩ ⟨r.val % 2048, by omega⟩
  have er : (⟨r.val / 2048 * 2048 + r.val % 2048, by omega⟩ : Fin 32768) = r := Fin.ext (by show r.val / 2048 * 2048 + r.val % 2048 = r.val; omega)
  have hr' : (roots x (ix3 ⟨r.val / 2048, by omega⟩ ⟨r.val % 2048, by omega⟩ 0) : EReal) = Ideal.rsqrt (power fun k => x (ix2 r k)) :=
    hr.trans (congrArg (fun i : Fin 32768 => Ideal.rsqrt (power fun k => x (ix2 i k))) er)
  unfold rows normed
  pointwise
  rw [hr']

theorem columns_at (h : FVec Ideal S32768x1024 .f32) (w : FVec Ideal S1024x512 .bf16) (r : Fin 32768) (n : Fin 512) :
    (columns h w (ix2 r n) : EReal) = ∑ k : Fin 1024, (h (ix2 r k) : EReal) * w (ix2 k n) := by
  unfold columns
  pointwise

theorem grouped_at (y : FVec Ideal S32768x512 .f32) (s j : Fin 16) (n : Fin 512) (p : Fin 128) :
    (grouped y (ix4 s j n p) : EReal) = y (ix2 ⟨s.val * 2048 + j.val * 128 + p.val, by omega⟩ n) := by
  unfold grouped
  pointwise

theorem turned_at (w : FVec Ideal S512x1024 .bf16) (k : Fin 1024) (n : Fin 512) :
    (transpose S1024x512 [1, 0] w transposes_S512x1024_S1024x512_1_0 (ix2 k n) : EReal) = w (ix2 n k) := by
  pointwise

/-- The projection over the call's arguments. -/
abbrev entry (m : (ℓ : Loc nD τ sig) → Buf (Elt Ideal) ℓ) (c : Dev nD) (w : Fin 1024 → EReal) (r : Fin 32768) : EReal :=
  layer (fun r k => m ((c.tc : Thread nD τ).loc main_arg0) (ix2 r k : S32768x1024.Idx)) (fun r k => m ((c.tc : Thread nD τ).loc main_arg1) (ix3 r 0 k : S192x1x1024.Idx))
    (fun k => m ((c.tc : Thread nD τ).loc main_arg2) (ix2 0 k : S1x1024.Idx)) w r

/-- The reference's tokens over the call's arguments. -/
abbrev tokens (m : (ℓ : Loc nD τ sig) → Buf (Elt Ideal) ℓ) (c : Dev nD) : FVec Ideal S32768x1024 .f32 :=
  rows (m ((c.tc : Thread nD τ).loc main_arg0)) (m ((c.tc : Thread nD τ).loc main_arg1)) (m ((c.tc : Thread nD τ).loc main_arg2))

/-- A column of the reference's products. -/
theorem product_at (m : (ℓ : Loc nD τ sig) → Buf (Elt Ideal) ℓ) (c : Dev nD) (w : FVec Ideal S1024x512 .bf16) (r : Fin 32768) (n : Fin 512) :
    (columns (tokens m c) w (ix2 r n) : EReal) = entry m c (fun k => w (ix2 k n)) r :=
  (columns_at _ w r n).trans (Finset.sum_congr rfl fun k _ => congrArg (· * _) (rows_at _ _ _ r k))

/-- The keys, transposed in groups. -/
theorem keys_at (m : (ℓ : Loc nD τ sig) → Buf (Elt Ideal) ℓ) (c : Dev nD) (w : FVec Ideal S512x1024 .bf16) (s j : Fin 16) (n : Fin 512) (p : Fin 128) :
    (grouped (columns (tokens m c) (transpose S1024x512 [1, 0] w transposes_S512x1024_S1024x512_1_0)) (ix4 s j n p) : EReal)
      = entry m c (fun k => w (ix2 n k)) ⟨s.val * 2048 + j.val * 128 + p.val, by omega⟩ :=
  (grouped_at _ s j n p).trans ((product_at m c _ _ n).trans (congrArg (fun v => entry m c v _) (funext fun k => turned_at w k n)))

/-- What the reference leaves in its four results. -/
def leaves (m : (ℓ : Loc nD τ sig) → Buf (Elt Ideal) ℓ) (c : Dev nD) :
    FVec Ideal S32768x512 .bf16 × FVec Ideal S16x16x512x128 .bf16 × FVec Ideal S32768x512 .bf16 × FVec Ideal S32768x512 .bf16 :=
  (truncf .bf16 (columns (tokens m c) (m ((c.tc : Thread nD τ).loc main_arg3))) bitsLt_bf16_f32,
    truncf .bf16 (grouped (columns (tokens m c) (transpose S1024x512 [1, 0] (m ((c.tc : Thread nD τ).loc main_arg4)) transposes_S512x1024_S1024x512_1_0))) bitsLt_bf16_f32,
    truncf .bf16 (columns (tokens m c) (m ((c.tc : Thread nD τ).loc main_arg5))) bitsLt_bf16_f32,
    truncf .bf16 (columns (tokens m c) (m ((c.tc : Thread nD τ).loc main_arg6))) bitsLt_bf16_f32)

/-- The run, over the stages. -/
theorem run_leaves (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v36) = (leaves m c).1
      ∧ r.2.mem ((c.tc : Thread nD τ).loc main_v37) = (leaves m c).2.1
      ∧ r.2.mem ((c.tc : Thread nD τ).loc main_v38) = (leaves m c).2.2.1
      ∧ r.2.mem ((c.tc : Thread nD τ).loc main_v39) = (leaves m c).2.2.2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨⟨(h c).1, (h c).2.1, (h c).2.2.1, (h c).2.2.2.1⟩, (h c).2.2.2.2⟩) (run (F := Ideal) m ρ)

end Cert.InProjRefIdeal.Value

end
-- ==== Proof.Project.Residual.lean ====
module

public import proofs.«01_k».proof.Proof.Project.Law

@[expose] public section

noncomputable section

/-! The output projection, one token at a time. -/

namespace Cert.Project

open Idealize.ShloMosaic

/-- The two branches of a token times the two halves of the output projection. -/
def mixed (a b : Fin 512 → EReal) (wa wb : Fin 512 → Fin 1024 → EReal) (n : Fin 1024) : EReal := ∑ k : Fin 512, a k * wa k n + ∑ k : Fin 512, b k * wb k n

/-- A token plus the gated and normalised mixture. -/
def gated (x y gt g : Fin 1024 → EReal) (n : Fin 1024) : EReal := x n + gt n * (y n * Ideal.rsqrt (power y) * g n)

/-- Row `r` of the layer after the mixer: the gate is that of the sequence the row lies in. -/
def outcome (A B : Fin 32768 → Fin 512 → EReal) (X : Fin 32768 → Fin 1024 → EReal) (M : Fin 192 → Fin 1024 → EReal) (g : Fin 1024 → EReal)
    (wa wb : Fin 512 → Fin 1024 → EReal) (r : Fin 32768) : Fin 1024 → EReal :=
  gated (X r) (mixed (A r) (B r) wa wb) (M ⟨r.val / 2048 * 6 + 2, by omega⟩) g

/-- The same row as the experts receive it. -/
def handed (A B : Fin 32768 → Fin 512 → EReal) (X : Fin 32768 → Fin 1024 → EReal) (M : Fin 192 → Fin 1024 → EReal) (g g' : Fin 1024 → EReal)
    (wa wb : Fin 512 → Fin 1024 → EReal) (r : Fin 32768) : Fin 1024 → EReal :=
  normed (outcome A B X M g wa wb r) g' (M ⟨r.val / 2048 * 6 + 4, by omega⟩) (M ⟨r.val / 2048 * 6 + 3, by omega⟩)

end Cert.Project

end
-- ==== Proof.OutProjIdeal.Pay.lean ====
module

public import proofs.«01_k».proof.Proof.Gen.OutProjIdeal.Skeleton
public import proofs.«01_k».proof.Proof.Project.Residual

@[expose] public section

set_option maxRecDepth 16384

noncomputable section

/-! What the output projection's kernel stores in its first two results, read at one entry. -/

namespace Cert.OutProjIdeal.Project

open Cert.OutProjIdeal Cert.OutProjIdeal.Gen
open Idealize.ShloMosaic
open Cert.Project

variable (a b : FVec Ideal S512x512 .bf16) (wa wb : FVec Ideal S512x1024 .bf16) (x : FVec Ideal S512x1024 .f32) (gt : FVec Ideal S1x1x1024 .f32)
  (g : FVec Ideal S1x1024 .f32)

set_option maxHeartbeats 1000000 in
/-- The first result's block. -/
theorem pay1_at (r : Fin 512) (n : Fin 1024) :
    (k0_pay1 (F := Ideal) a wa b wb x gt g (ix2 r n) : EReal)
      = gated (fun k => x (ix2 r k)) (mixed (fun k => a (ix2 r k)) (fun k => b (ix2 r k)) (fun k n => wa (ix2 k n)) (fun k n => wb (ix2 k n)))
          (fun k => gt (ix3 0 0 k)) (fun k => g (ix2 0 k)) n := by
  unfold gated mixed power width eps
  pointwise [k0_pay1]

/-- Its sum of squares. -/
theorem pay2_at (r : Fin 512) :
    (k0_pay2 (F := Ideal) a wa b wb x gt g (ix2 r 0) : EReal)
      = ∑ k : Fin 1024, (k0_pay1 (F := Ideal) a wa b wb x gt g (ix2 r k) : EReal) * k0_pay1 (F := Ideal) a wa b wb x gt g (ix2 r k) := by
  pointwise [k0_pay2]

theorem pay3_at (r : Fin 512) : (k0_pay3 (F := Ideal) (ix2 r 0) : EReal) = width := by
  unfold width
  pointwise [k0_pay3]

/-- The second result's block over the first's. -/
theorem pay5_at (y : FVec Ideal S512x1024 .f32) (g' : FVec Ideal S1x1024 .f32) (p q : FVec Ideal S512x1 .f32) (sc sh : FVec Ideal S1x1x1024 .f32) (r : Fin 512) (n : Fin 1024) :
    (k0_pay5 (F := Ideal) y g' p q sc sh (ix2 r n) : EReal)
      = y (ix2 r n) * Ideal.rsqrt (Ideal.div (p (ix2 r 0)) (q (ix2 r 0)) + eps) * g' (ix2 0 n) * (1 + sc (ix3 0 0 n)) + sh (ix3 0 0 n) := by
  unfold eps
  pointwise [k0_pay5, k0_pay4]

/-- The second result's block. -/
theorem pay5_normed (g' : FVec Ideal S1x1024 .f32) (sc sh : FVec Ideal S1x1x1024 .f32) (r : Fin 512) (n : Fin 1024) :
    (k0_pay5 (F := Ideal) (k0_pay1 a wa b wb x gt g) g' (k0_pay2 a wa b wb x gt g) k0_pay3 sc sh (ix2 r n) : EReal)
      = normed (gated (fun k => x (ix2 r k)) (mixed (fun k => a (ix2 r k)) (fun k => b (ix2 r k)) (fun k n => wa (ix2 k n)) (fun k n => wb (ix2 k n)))
          (fun k => gt (ix3 0 0 k)) (fun k => g (ix2 0 k))) (fun k => g' (ix2 0 k)) (fun k => sc (ix3 0 0 k)) (fun k => sh (ix3 0 0 k)) n := by
  rw [pay5_at, pay2_at, pay3_at, pay1_at]
  simp only [pay1_at]
  rfl

end Cert.OutProjIdeal.Project

end
-- ==== Proof.OutProjIdeal.Value.lean ====
module

public import proofs.«01_k».proof.Proof.Gen.OutProjIdeal.Value
public import proofs.«01_k».proof.Proof.OutProjIdeal.Pay
public import Idealize.ShloMosaic.Lib.Pointwise.IndexBridge

@[expose] public section

set_option maxRecDepth 16384

noncomputable section

/-! The first two arrays the output projection leaves, entry by entry. -/

namespace Cert.OutProjIdeal.Project

open Cert.OutProjIdeal Cert.OutProjIdeal.Gen
open Idealize.ShloMosaic Idealize.ShloMosaic.TcCoe
open Cert.Project

variable (m : (ℓ : Loc nD τ sig) → Buf (Elt Ideal) ℓ)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index12 : ∀ t : Fin grid0.N, win0_12.index t = ![t.val, 0] := by decide +kernel
theorem index13 : ∀ t : Fin grid0.N, win0_13.index t = ![t.val, 0] := by decide +kernel
theorem index3 : ∀ t : Fin grid0.N, win0_3.index t = ![t.val / 4 * 6 + 2, 0, 0] := by decide +kernel
theorem index4 : ∀ t : Fin grid0.N, win0_4.index t = ![t.val / 4 * 6 + 3, 0, 0] := by decide +kernel
theorem index5 : ∀ t : Fin grid0.N, win0_5.index t = ![t.val / 4 * 6 + 4, 0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel

theorem pt_lt (t : Fin cfg0.N) : t.val < 64 := t.isLt

/-! The blocks of the arguments at a point. -/

theorem rows0 (c : Dev nD) (t : Fin cfg0.N) (r : Fin 512) (k : Fin 512) :
    iblk m c 0 t (ix2 r k : S512x512.Idx) = m ((c.tc : Thread nD τ).loc main_arg0) (ix2 ⟨t.val * 512 + r.val, by have := pt_lt t; omega⟩ k : S32768x512.Idx) := by
  show m ((c.tc : Thread nD τ).loc main_arg0) _ = _
  refine congrArg (m ((c.tc : Thread nD τ).loc main_arg0)) (funext fun i => ?_)
  have e0 : win0_0.index t 0 = t.val := congrFun (index0 t) 0
  have e1 : win0_0.index t 1 = 0 := congrFun (index0 t) 1
  match i with
  | ⟨0, _⟩ => exact Fin.ext (show win0_0.index t 0 * 512 + 1 * r.val = t.val * 512 + r.val by omega)
  | ⟨1, _⟩ => exact Fin.ext (show win0_0.index t 1 * 512 + 1 * k.val = k.val by omega)

theorem rows1 (c : Dev nD) (t : Fin cfg0.N) (r : Fin 512) (k : Fin 512) :
    iblk m c 1 t (ix2 r k : S512x512.Idx) = m ((c.tc : Thread nD τ).loc main_arg1) (ix2 ⟨t.val * 512 + r.val, by have := pt_lt t; omega⟩ k : S32768x512.Idx) := by
  show m ((c.tc : Thread nD τ).loc main_arg1) _ = _
  refine congrArg (m ((c.tc : Thread nD τ).loc main_arg1)) (funext fun i => ?_)
  have e0 : win0_1.index t 0 = t.val := congrFun (index1 t) 0
  have e1 : win0_1.index t 1 = 0 := congrFun (index1 t) 1
  match i with
  | ⟨0, _⟩ => exact Fin.ext (show win0_1.index t 0 * 512 + 1 * r.val = t.val * 512 + r.val by omega)
  | ⟨1, _⟩ => exact Fin.ext (show win0_1.index t 1 * 512 + 1 * k.val = k.val by omega)

theorem rows2 (c : Dev nD) (t : Fin cfg0.N) (r : Fin 512) (k : Fin 1024) :
    iblk m c 2 t (ix2 r k : S512x1024.Idx) = m ((c.tc : Thread nD τ).loc main_arg2) (ix2 ⟨t.val * 512 + r.val, by have := pt_lt t; omega⟩ k : S32768x1024.Idx) := by
  show m ((c.tc : Thread nD τ).loc main_arg2) _ = _
  refine congrArg (m ((c.tc : Thread nD τ).loc main_arg2)) (funext fun i => ?_)
  have e0 : win0_2.index t 0 = t.val := congrFun (index2 t) 0
  have e1 : win0_2.index t 1 = 0 := congrFun (index2 t) 1
  match i with
  | ⟨0, _⟩ => exact Fin.ext (show win0_2.index t 0 * 512 + 1 * r.val = t.val * 512 + r.val by omega)
  | ⟨1, _⟩ => exact Fin.ext (show win0_2.index t 1 * 1024 + 1 * k.val = k.val by omega)

theorem mods3 (c : Dev nD) (t : Fin cfg0.N) (k : Fin 1024) :
    iblk m c 3 t (ix3 0 0 k : S1x1x1024.Idx) = m ((c.tc : Thread nD τ).loc main_arg3) (ix3 ⟨t.val / 4 * 6 + 2, by have := pt_lt t; omega⟩ 0 k : S192x1x1024.Idx) := by
  show m ((c.tc : Thread nD τ).loc main_arg3) _ = _
  refine congrArg (m ((c.tc : Thread nD τ).loc main_arg3)) (funext fun i => ?_)
  have e0 : win0_3.index t 0 = t.val / 4 * 6 + 2 := congrFun (index3 t) 0
  have e1 : win0_3.index t 1 = 0 := congrFun (index3 t) 1
  have e2 : win0_3.index t 2 = 0 := congrFun (index3 t) 2
  match i with
  | ⟨0, _⟩ => exact Fin.ext (show win0_3.index t 0 * 1 + 1 * 0 = t.val / 4 * 6 + 2 by omega)
  | ⟨1, _⟩ => exact Fin.ext (show win0_3.index t 1 * 1 + 1 * 0 = 0 by omega)
  | ⟨2, _⟩ => exact Fin.ext (show win0_3.index t 2 * 1024 + 1 * k.val = k.val by omega)

theorem mods4 (c : Dev nD) (t : Fin cfg0.N) (k : Fin 1024) :
    iblk m c 4 t (ix3 0 0 k : S1x1x1024.Idx) = m ((c.tc : Thread nD τ).loc main_arg3) (ix3 ⟨t.val / 4 * 6 + 3, by have := pt_lt t; omega⟩ 0 k : S192x1x1024.Idx) := by
  show m ((c.tc : Thread nD τ).loc main_arg3) _ = _
  refine congrArg (m ((c.tc : Thread nD τ).loc main_arg3)) (funext fun i => ?_)
  have e0 : win0_4.index t 0 = t.val / 4 * 6 + 3 := congrFun (index4 t) 0
  have e1 : win0_4.index t 1 = 0 := congrFun (index4 t) 1
  have e2 : win0_4.index t 2 = 0 := congrFun (index4 t) 2
  match i with
  | ⟨0, _⟩ => exact Fin.ext (show win0_4.index t 0 * 1 + 1 * 0 = t.val / 4 * 6 + 3 by omega)
  | ⟨1, _⟩ => exact Fin.ext (show win0_4.index t 1 * 1 + 1 * 0 = 0 by omega)
  | ⟨2, _⟩ => exact Fin.ext (show win0_4.index t 2 * 1024 + 1 * k.val = k.val by omega)

theorem mods5 (c : Dev nD) (t : Fin cfg0.N) (k : Fin 1024) :
    iblk m c 5 t (ix3 0 0 k : S1x1x1024.Idx) = m ((c.tc : Thread nD τ).loc main_arg3) (ix3 ⟨t.val / 4 * 6 + 4, by have := pt_lt t; omega⟩ 0 k : S192x1x1024.Idx) := by
  show m ((c.tc : Thread nD τ).loc main_arg3) _ = _
  refine congrArg (m ((c.tc : Thread nD τ).loc main_arg3)) (funext fun i => ?_)
  have e0 : win0_5.index t 0 = t.val / 4 * 6 + 4 := congrFun (index5 t) 0
  have e1 : win0_5.index t 1 = 0 := congrFun (index5 t) 1
  have e2 : win0_5.index t 2 = 0 := congrFun (index5 t) 2
  match i with
  | ⟨0, _⟩ => exact Fin.ext (show win0_5.index t 0 * 1 + 1 * 0 = t.val / 4 * 6 + 4 by omega)
  | ⟨1, _⟩ => exact Fin.ext (show win0_5.index t 1 * 1 + 1 * 0 = 0 by omega)
  | ⟨2, _⟩ => exact Fin.ext (show win0_5.index t 2 * 1024 + 1 * k.val = k.val by omega)

theorem whole6 (c : Dev nD) (t : Fin cfg0.N) (a : Fin 1) (b : Fin 1024) :
    iblk m c 6 t (ix2 a b : S1x1024.Idx) = m ((c.tc : Thread nD τ).loc main_arg4) (ix2 a b : S1x1024.Idx) := by
  show m ((c.tc : Thread nD τ).loc main_arg4) _ = _
  refine congrArg (m ((c.tc : Thread nD τ).loc main_arg4)) (funext fun i => ?_)
  have e0 : win0_6.index t 0 = 0 := congrFun (index6 t) 0
  have e1 : win0_6.index t 1 = 0 := congrFun (index6 t) 1
  match i with
  | ⟨0, _⟩ => exact Fin.ext (show win0_6.index t 0 * 1 + 1 * a.val = a.val by omega)
  | ⟨1, _⟩ => exact Fin.ext (show win0_6.index t 1 * 1024 + 1 * b.val = b.val by omega)

theorem whole7 (c : Dev nD) (t : Fin cfg0.N) (a : Fin 1) (b : Fin 1024) :
    iblk m c 7 t (ix2 a b : S1x1024.Idx) = m ((c.tc : Thread nD τ).loc main_arg5) (ix2 a b : S1x1024.Idx) := by
  show m ((c.tc : Thread nD τ).loc main_arg5) _ = _
  refine congrArg (m ((c.tc : Thread nD τ).loc main_arg5)) (funext fun i => ?_)
  have e0 : win0_7.index t 0 = 0 := congrFun (index7 t) 0
  have e1 : win0_7.index t 1 = 0 := congrFun (index7 t) 1
  match i with
  | ⟨0, _⟩ => exact Fin.ext (show win0_7.index t 0 * 1 + 1 * a.val = a.val by omega)
  | ⟨1, _⟩ => exact Fin.ext (show win0_7.index t 1 * 1024 + 1 * b.val = b.val by omega)

theorem whole8 (c : Dev nD) (t : Fin cfg0.N) (a : Fin 512) (b : Fin 1024) :
    iblk m c 8 t (ix2 a b : S512x1024.Idx) = m ((c.tc : Thread nD τ).loc main_arg6) (ix2 a b : S512x1024.Idx) := by
  show m ((c.tc : Thread nD τ).loc main_arg6) _ = _
  refine congrArg (m ((c.tc : Thread nD τ).loc main_arg6)) (funext fun i => ?_)
  have e0 : win0_8.index t 0 = 0 := congrFun (index8 t) 0
  have e1 : win0_8.index t 1 = 0 := congrFun (index8 t) 1
  match i with
  | ⟨0, _⟩ => exact Fin.ext (show win0_8.index t 0 * 512 + 1 * a.val = a.val by omega)
  | ⟨1, _⟩ => exact Fin.ext (show win0_8.index t 1 * 1024 + 1 * b.val = b.val by omega)

theorem whole9 (c : Dev nD) (t : Fin cfg0.N) (a : Fin 512) (b : Fin 1024) :
    iblk m c 9 t (ix2 a b : S512x1024.Idx) = m ((c.tc : Thread nD τ).loc main_arg7) (ix2 a b : S512x1024.Idx) := by
  show m ((c.tc : Thread nD τ).loc main_arg7) _ = _
  refine congrArg (m ((c.tc : Thread nD τ).loc main_arg7)) (funext fun i => ?_)
  have e0 : win0_9.index t 0 = 0 := congrFun (index9 t) 0
  have e1 : win0_9.index t 1 = 0 := congrFun (index9 t) 1
  match i with
  | ⟨0, _⟩ => exact Fin.ext (show win0_9.index t 0 * 512 + 1 * a.val = a.val by omega)
  | ⟨1, _⟩ => exact Fin.ext (show win0_9.index t 1 * 1024 + 1 * b.val = b.val by omega)

/-! A load of a whole block reads it. -/

theorem ld_branch (x : Vec Ideal S512x512 .bf16) : View.ld (Val := Elt Ideal) x r0_0 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_rows (x : Vec Ideal S512x1024 .f32) : View.ld (Val := Elt Ideal) x r0_1 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_half (x : Vec Ideal S512x1024 .bf16) : View.ld (Val := Elt Ideal) x r0_1 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_mod (x : Vec Ideal S1x1x1024 .f32) : View.ld (Val := Elt Ideal) x r0_2 = x := funext fun y => congrArg x (funext fun i => Fin.ext (by
  match i with
  | ⟨0, _⟩ => exact (show 0 + 1 * (y 0).val = (y 0).val by omega)
  | ⟨1, _⟩ => exact (show 0 + 1 * (y 1).val = (y 1).val by omega)
  | ⟨2, _⟩ => exact (show 0 + 1 * (y 2).val = (y 2).val by omega)))
theorem ld_gain (x : Vec Ideal S1x1024 .f32) : View.ld (Val := Elt Ideal) x r0_3 = x := funext fun y => congrArg x (funext fun i => Fin.ext (by
  match i with
  | ⟨0, _⟩ => exact (show 0 + 1 * (y 0).val = (y 0).val by omega)
  | ⟨1, _⟩ => exact (show 0 + 1 * (y 1).val = (y 1).val by omega)))

theorem full_emb (r : Fin 512) (n : Fin 1024) : r0_1.emb (ix2 r n) = (ix2 r n : S512x1024.Idx) := by
  funext a
  match a with
  | ⟨0, _⟩ => exact Fin.ext (show 0 + 1 * r.val = r.val by omega)
  | ⟨1, _⟩ => exact Fin.ext (show 0 + 1 * n.val = n.val by omega)

/-- The one store of a block leaves what it stores. -/
theorem canon_full {e : EltTy} (p : Vec Ideal S512x1024 e) (r : Fin 512) (n : Fin 1024) :
    View.canon (Val := Elt Ideal) [(⟨r0_1, p⟩ : View.Piece (Elt Ideal) S512x1024 e)] (ix2 r n) = p (ix2 r n) := by
  have h := View.canon_cons_emb (Val := Elt Ideal) r0_1 p [] (ix2 r n)
  rw [full_emb] at h
  exact h

section
variable (a b : Vec Ideal S512x512 .bf16) (x : Vec Ideal S512x1024 .f32) (gt sh sc : Vec Ideal S1x1x1024 .f32) (g g' : Vec Ideal S1x1024 .f32)
  (wa wb : Vec Ideal S512x1024 .bf16) (wr : Vec Ideal S64x1024 .bf16) (br : Vec Ideal S32x128 .f32)

theorem out12_at (r : Fin 512) (n : Fin 1024) : (out0_12 (F := Ideal) a b x gt sh sc g g' wa wb wr br (ix2 r n) : EReal)
    = gated (fun k => x (ix2 r k)) (mixed (fun k => a (ix2 r k)) (fun k => b (ix2 r k)) (fun k n => wa (ix2 k n)) (fun k n => wb (ix2 k n)))
        (fun k => gt (ix3 0 0 k)) (fun k => g (ix2 0 k)) n := by
  unfold out0_12
  rw [canon_full, ld_branch, ld_branch, ld_half, ld_half, ld_rows, ld_mod, ld_gain]
  exact pay1_at a b wa wb x gt g r n

theorem out13_at (r : Fin 512) (n : Fin 1024) : (out0_13 (F := Ideal) a b x gt sh sc g g' wa wb wr br (ix2 r n) : EReal)
    = normed (gated (fun k => x (ix2 r k)) (mixed (fun k => a (ix2 r k)) (fun k => b (ix2 r k)) (fun k n => wa (ix2 k n)) (fun k n => wb (ix2 k n)))
        (fun k => gt (ix3 0 0 k)) (fun k => g (ix2 0 k))) (fun k => g' (ix2 0 k)) (fun k => sc (ix3 0 0 k)) (fun k => sh (ix3 0 0 k)) n := by
  unfold out0_13 k0_pay44 k0_pay43 k0_pay42
  rw [canon_full]
  simp only [ld_branch, ld_half, ld_rows, ld_mod, ld_gain]
  exact pay5_normed a b wa wb x gt g g' sc sh r n

end

/-- The point that owns a row. -/
def owner (r : Fin 32768) : Fin cfg0.N := ⟨r.val / 512, show r.val / 512 < 64 by omega⟩

/-- The layer's row over the call's arguments. -/
abbrev entry (c : Dev nD) (r : Fin 32768) : Fin 1024 → EReal :=
  outcome (fun r k => m ((c.tc : Thread nD τ).loc main_arg0) (ix2 r k : S32768x512.Idx)) (fun r k => m ((c.tc : Thread nD τ).loc main_arg1) (ix2 r k : S32768x512.Idx))
    (fun r k => m ((c.tc : Thread nD τ).loc main_arg2) (ix2 r k : S32768x1024.Idx)) (fun r k => m ((c.tc : Thread nD τ).loc main_arg3) (ix3 r 0 k : S192x1x1024.Idx))
    (fun k => m ((c.tc : Thread nD τ).loc main_arg4) (ix2 0 k : S1x1024.Idx)) (fun k n => m ((c.tc : Thread nD τ).loc main_arg6) (ix2 k n : S512x1024.Idx))
    (fun k n => m ((c.tc : Thread nD τ).loc main_arg7) (ix2 k n : S512x1024.Idx)) r

/-- What the experts receive of it. -/
abbrev given (c : Dev nD) (r : Fin 32768) : Fin 1024 → EReal :=
  handed (fun r k => m ((c.tc : Thread nD τ).loc main_arg0) (ix2 r k : S32768x512.Idx)) (fun r k => m ((c.tc : Thread nD τ).loc main_arg1) (ix2 r k : S32768x512.Idx))
    (fun r k => m ((c.tc : Thread nD τ).loc main_arg2) (ix2 r k : S32768x1024.Idx)) (fun r k => m ((c.tc : Thread nD τ).loc main_arg3) (ix3 r 0 k : S192x1x1024.Idx))
    (fun k => m ((c.tc : Thread nD τ).loc main_arg4) (ix2 0 k : S1x1024.Idx)) (fun k => m ((c.tc : Thread nD τ).loc main_arg5) (ix2 0 k : S1x1024.Idx)) (fun k n => m ((c.tc : Thread nD τ).loc main_arg6) (ix2 k n : S512x1024.Idx))
    (fun k n => m ((c.tc : Thread nD τ).loc main_arg7) (ix2 k n : S512x1024.Idx)) r

theorem own0 (c : Dev nD) (r : Fin 32768) (k : Fin 512) : iblk m c 0 (owner r) (ix2 ⟨r.val % 512, by omega⟩ k : S512x512.Idx) = m ((c.tc : Thread nD τ).loc main_arg0) (ix2 r k : S32768x512.Idx) :=
  (rows0 m c _ _ k).trans (congrArg (fun i : Fin 32768 => m ((c.tc : Thread nD τ).loc main_arg0) (ix2 i k : S32768x512.Idx)) (Fin.ext (show r.val / 512 * 512 + r.val % 512 = r.val by omega)))
theorem own1 (c : Dev nD) (r : Fin 32768) (k : Fin 512) : iblk m c 1 (owner r) (ix2 ⟨r.val % 512, by omega⟩ k : S512x512.Idx) = m ((c.tc : Thread nD τ).loc main_arg1) (ix2 r k : S32768x512.Idx) :=
  (rows1 m c _ _ k).trans (congrArg (fun i : Fin 32768 => m ((c.tc : Thread nD τ).loc main_arg1) (ix2 i k : S32768x512.Idx)) (Fin.ext (show r.val / 512 * 512 + r.val % 512 = r.val by omega)))
theorem own2 (c : Dev nD) (r : Fin 32768) (k : Fin 1024) : iblk m c 2 (owner r) (ix2 ⟨r.val % 512, by omega⟩ k : S512x1024.Idx) = m ((c.tc : Thread nD τ).loc main_arg2) (ix2 r k : S32768x1024.Idx) :=
  (rows2 m c _ _ k).trans (congrArg (fun i : Fin 32768 => m ((c.tc : Thread nD τ).loc main_arg2) (ix2 i k : S32768x1024.Idx)) (Fin.ext (show r.val / 512 * 512 + r.val % 512 = r.val by omega)))
theorem own3 (c : Dev nD) (r : Fin 32768) (k : Fin 1024) : iblk m c 3 (owner r) (ix3 0 0 k : S1x1x1024.Idx) = m ((c.tc : Thread nD τ).loc main_arg3) (ix3 ⟨r.val / 2048 * 6 + 2, by omega⟩ 0 k : S192x1x1024.Idx) :=
  (mods3 m c _ k).trans (congrArg (fun i : Fin 192 => m ((c.tc : Thread nD τ).loc main_arg3) (ix3 i 0 k : S192x1x1024.Idx)) (Fin.ext (show r.val / 512 / 4 * 6 + 2 = r.val / 2048 * 6 + 2 by omega)))
theorem own4 (c : Dev nD) (r : Fin 32768) (k : Fin 1024) : iblk m c 4 (owner r) (ix3 0 0 k : S1x1x1024.Idx) = m ((c.tc : Thread nD τ).loc main_arg3) (ix3 ⟨r.val / 2048 * 6 + 3, by omega⟩ 0 k : S192x1x1024.Idx) :=
  (mods4 m c _ k).trans (congrArg (fun i : Fin 192 => m ((c.tc : Thread nD τ).loc main_arg3) (ix3 i 0 k : S192x1x1024.Idx)) (Fin.ext (show r.val / 512 / 4 * 6 + 3 = r.val / 2048 * 6 + 3 by omega)))
theorem own5 (c : Dev nD) (r : Fin 32768) (k : Fin 1024) : iblk m c 5 (owner r) (ix3 0 0 k : S1x1x1024.Idx) = m ((c.tc : Thread nD τ).loc main_arg3) (ix3 ⟨r.val / 2048 * 6 + 4, by omega⟩ 0 k : S192x1x1024.Idx) :=
  (mods5 m c _ k).trans (congrArg (fun i : Fin 192 => m ((c.tc : Thread nD τ).loc main_arg3) (ix3 i 0 k : S192x1x1024.Idx)) (Fin.ext (show r.val / 512 / 4 * 6 + 4 = r.val / 2048 * 6 + 4 by omega)))

/-- A point's row is the layer's. -/
theorem point_entry (c : Dev nD) (r : Fin 32768) :
    gated (fun k => iblk m c 2 (owner r) (ix2 ⟨r.val % 512, by omega⟩ k : S512x1024.Idx))
      (mixed (fun k => iblk m c 0 (owner r) (ix2 ⟨r.val % 512, by omega⟩ k : S512x512.Idx)) (fun k => iblk m c 1 (owner r) (ix2 ⟨r.val % 512, by omega⟩ k : S512x512.Idx))
        (fun k n => iblk m c 8 (owner r) (ix2 k n : S512x1024.Idx)) (fun k n => iblk m c 9 (owner r) (ix2 k n : S512x1024.Idx)))
      (fun k => iblk m c 3 (owner r) (ix3 0 0 k : S1x1x1024.Idx)) (fun k => iblk m c 6 (owner r) (ix2 0 k : S1x1024.Idx)) = entry m c r := by
  rw [funext (own2 m c r), funext (own0 m c r), funext (own1 m c r), funext fun k => funext (whole8 m c (owner r) k), funext fun k => funext (whole9 m c (owner r) k),
    funext (own3 m c r), funext (whole6 m c (owner r) 0)]
  rfl

theorem point_given (c : Dev nD) (r : Fin 32768) :
    normed (entry m c r) (fun k => iblk m c 7 (owner r) (ix2 0 k : S1x1024.Idx)) (fun k => iblk m c 5 (owner r) (ix3 0 0 k : S1x1x1024.Idx))
      (fun k => iblk m c 4 (owner r) (ix3 0 0 k : S1x1x1024.Idx)) = given m c r := by
  rw [funext (whole7 m c (owner r) 0), funext (own5 m c r), funext (own4 m c r)]
  rfl

theorem final12 (c : Dev nD) (r : Fin 32768) (n : Fin 1024) :
    ((dats m 0 c).arrAt 12 cfg0.N (ix2 r n : S32768x1024.Idx) : EReal) = entry m c r n := by
  have hb := congrFun ((Value.blocks12 m c (owner r) (flush0_12 _)).trans (Value.flushed12 m c (owner r))) (ix2 ⟨r.val % 512, by omega⟩ n : S512x1024.Idx)
  have e0 : win0_12.index (owner r) 0 = r.val / 512 := congrFun (index12 (owner r)) 0
  have e1 : win0_12.index (owner r) 1 = 0 := congrFun (index12 (owner r)) 1
  refine Eq.trans (congrArg ((dats m 0 c).arrAt 12 cfg0.N) (funext fun i => ?_)) (hb.trans ((out12_at _ _ _ _ _ _ _ _ _ _ _ _ _ n).trans (congrFun (point_entry m c r) n)))
  match i with
  | ⟨0, _⟩ => exact Fin.ext (show r.val = win0_12.index (owner r) 0 * 512 + 1 * (r.val % 512) by omega)
  | ⟨1, _⟩ => exact Fin.ext (show n.val = win0_12.index (owner r) 1 * 1024 + 1 * n.val by omega)

theorem final13 (c : Dev nD) (r : Fin 32768) (n : Fin 1024) :
    ((dats m 0 c).arrAt 13 cfg0.N (ix2 r n : S32768x1024.Idx) : EReal) = given m c r n := by
  have hb := congrFun ((Value.blocks13 m c (owner r) (flush0_13 _)).trans (Value.flushed13 m c (owner r))) (ix2 ⟨r.val % 512, by omega⟩ n : S512x1024.Idx)
  have e0 : win0_13.index (owner r) 0 = r.val / 512 := congrFun (index13 (owner r)) 0
  have e1 : win0_13.index (owner r) 1 = 0 := congrFun (index13 (owner r)) 1
  refine Eq.trans (congrArg ((dats m 0 c).arrAt 13 cfg0.N) (funext fun i => ?_)) (hb.trans ((out13_at _ _ _ _ _ _ _ _ _ _ _ _ _ n).trans ((congrArg (fun y => normed y _ _ _ n) (point_entry m c r)).trans (congrFun (point_given m c r) n))))
  match i with
  | ⟨0, _⟩ => exact Fin.ext (show r.val = win0_13.index (owner r) 0 * 512 + 1 * (r.val % 512) by omega)
  | ⟨1, _⟩ => exact Fin.ext (show n.val = win0_13.index (owner r) 1 * 1024 + 1 * n.val by omega)

end Cert.OutProjIdeal.Project

end
-- ==== Proof.OutProjHost.Stages.lean ====
module

public import proofs.«01_k».proof.Proof.Gen.OutProjRefIdeal.Run
public import proofs.«01_k».proof.Proof.Project.Residual
public import Idealize.ShloMosaic.Lib.Pointwise.IndexBridge

@[expose] public section

set_option maxRecDepth 16384

noncomputable section

/-! The output projection's reference, in stages, each read at one entry. -/

namespace Cert.OutProjRefIdeal.Value

open Cert.OutProjRefIdeal Cert.OutProjRefIdeal.Gen
open Idealize.ShloMosaic Idealize.ShloMosaic.TcCoe Idealize.SL.Sem
open Cert.Project

/-- The branches side by side times the two halves of the projection, one above the other. -/
def mixture (a b : FVec Ideal S32768x512 .bf16) (wa wb : FVec Ideal S512x1024 .bf16) : FVec Ideal S16x2048x1024 .f32 :=
  shapeCast _ (Host.dotGeneral dot_S32768x1024_S1024x1024_S32768x1024_1_0_0_1_n_n none (extf .f32 (concatenate S32768x1024 1 [⟨S32768x512, a⟩, ⟨S32768x512, b⟩] concatenates_S32768x512_S32768x512_S32768x1024_d1) bitsLt_bf16_f32) (extf .f32 (concatenate S1024x1024 0 [⟨S512x1024, wa⟩, ⟨S512x1024, wb⟩] concatenates_S512x1024_S512x1024_S1024x1024_d0) bitsLt_bf16_f32)) shapeCasts_S32768x1024_S16x2048x1024

/-- The factor of every token. -/
def roots (y : FVec Ideal S16x2048x1024 .f32) : FVec Ideal S16x2048x1 .f32 :=
  Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))

/-- Every token normalised. -/
def scaled (y : FVec Ideal S16x2048x1024 .f32) (g : FVec Ideal S1x1024 .f32) : FVec Ideal S16x2048x1024 .f32 :=
  mulf (mulf y (broadcastInDim S16x2048x1024 ![0, 1, 2] bcast_S16x2048x1_S16x2048x1024_0_1_2 (roots y))) (broadcastInDim S16x2048x1024 ![0, 1, 2] bcast_S1x1x1024_S16x2048x1024_0_1_2 (broadcastInDim S1x1x1024 ![1, 2] bcast_S1x1024_S1x1x1024_1_2 g))

/-- The rows of the modulation, by sequence. -/
def groups (a : FVec Ideal S192x1x1024 .f32) : FVec Ideal S16x6x1024 .f32 :=
  extractStridedSlice S16x6x1024 ![0, 0, 0] (shapeCast _ a shapeCasts_S192x1x1024_S32x6x1024) slices_S32x6x1024_S16x6x1024_0_0_0

/-- The tokens plus the gated mixture. -/
def added (x : FVec Ideal S32768x1024 .f32) (m : FVec Ideal S192x1x1024 .f32) (y : FVec Ideal S16x2048x1024 .f32) (g : FVec Ideal S1x1024 .f32) : FVec Ideal S16x2048x1024 .f32 :=
  addf (shapeCast _ x shapeCasts_S32768x1024_S16x2048x1024) (mulf (broadcastInDim S16x2048x1024 ![0, 1, 2] bcast_S16x1x1024_S16x2048x1024_0_1_2 (extractStridedSlice S16x1x1024 ![0, 2, 0] (groups m) slices_S16x6x1024_S16x1x1024_0_2_0)) (scaled y g))

/-- Normalised tokens, scaled and shifted. -/
def shifted (m : FVec Ideal S192x1x1024 .f32) (y : FVec Ideal S16x2048x1024 .f32) (g : FVec Ideal S1x1024 .f32) : FVec Ideal S16x2048x1024 .f32 :=
  addf (mulf (scaled y g) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 4, 0] (groups m) slices_S16x6x1024_S16x1x1024_0_4_0)))) (broadcastInDim S16x2048x1024 ![0, 1, 2] bcast_S16x1x1024_S16x2048x1024_0_1_2 (extractStridedSlice S16x1x1024 ![0, 3, 0] (groups m) slices_S16x6x1024_S16x1x1024_0_3_0))

/-- Tokens one below the other. -/
def flat (y : FVec Ideal S16x2048x1024 .f32) : FVec Ideal S32768x1024 .f32 := shapeCast _ y shapeCasts_S16x2048x1024_S32768x1024

theorem mixture_at (a b : FVec Ideal S32768x512 .bf16) (wa wb : FVec Ideal S512x1024 .bf16) (s : Fin 16) (t : Fin 2048) (n : Fin 1024) :
    (mixture a b wa wb (ix3 s t n) : EReal) = mixed (fun k => a (ix2 ⟨s.val * 2048 + t.val, by omega⟩ k)) (fun k => b (ix2 ⟨s.val * 2048 + t.val, by omega⟩ k))
      (fun k n => wa (ix2 k n)) (fun k n => wb (ix2 k n)) n := by
  unfold mixture mixed
  pointwise

theorem roots_at (y : FVec Ideal S16x2048x1024 .f32) (s : Fin 16) (t : Fin 2048) :
    (roots y (ix3 s t 0) : EReal) = Ideal.rsqrt (power fun k => y (ix3 s t k)) := by
  unfold roots power width eps
  pointwise

theorem scaled_at (y : FVec Ideal S16x2048x1024 .f32) (g : FVec Ideal S1x1024 .f32) (s : Fin 16) (t : Fin 2048) (n : Fin 1024) :
    (scaled y g (ix3 s t n) : EReal) = y (ix3 s t n) * Ideal.rsqrt (power fun k => y (ix3 s t k)) * g (ix2 0 n) := by
  unfold scaled
  pointwise
  rw [roots_at]

theorem groups_at (m : FVec Ideal S192x1x1024 .f32) (s : Fin 16) (j : Fin 6) (n : Fin 1024) :
    (groups m (ix3 s j n) : EReal) = m (ix3 ⟨s.val * 6 + j.val, by omega⟩ 0 n) := by
  unfold groups
  pointwise

theorem added_at (x : FVec Ideal S32768x1024 .f32) (m : FVec Ideal S192x1x1024 .f32) (y : FVec Ideal S16x2048x1024 .f32) (g : FVec Ideal S1x1024 .f32)
    (s : Fin 16) (t : Fin 2048) (n : Fin 1024) :
    (added x m y g (ix3 s t n) : EReal) = gated (fun k => x (ix2 ⟨s.val * 2048 + t.val, by omega⟩ k)) (fun k => y (ix3 s t k))
      (fun k => m (ix3 ⟨s.val * 6 + 2, by omega⟩ 0 k)) (fun k => g (ix2 0 k)) n := by
  have h := groups_at m s 2 n
  unfold added gated
  pointwise
  rw [scaled_at, h]
  rfl

theorem shifted_at (m : FVec Ideal S192x1x1024 .f32) (y : FVec Ideal S16x2048x1024 .f32) (g : FVec Ideal S1x1024 .f32)
    (s : Fin 16) (t : Fin 2048) (n : Fin 1024) :
    (shifted m y g (ix3 s t n) : EReal) = normed (fun k => y (ix3 s t k)) (fun k => g (ix2 0 k))
      (fun k => m (ix3 ⟨s.val * 6 + 4, by omega⟩ 0 k)) (fun k => m (ix3 ⟨s.val * 6 + 3, by omega⟩ 0 k)) n := by
  have h4 := groups_at m s 4 n
  have h3 := groups_at m s 3 n
  unfold shifted normed
  pointwise
  rw [scaled_at, h4, h3]
  rfl

theorem flat_at (y : FVec Ideal S16x2048x1024 .f32) (r : Fin 32768) (n : Fin 1024) :
    (flat y (ix2 r n) : EReal) = y (ix3 ⟨r.val / 2048, by omega⟩ ⟨r.val % 2048, by omega⟩ n) := by
  unfold flat
  pointwise

theorem row_eq (r : Fin 32768) : (⟨r.val / 2048 * 2048 + r.val % 2048, by omega⟩ : Fin 32768) = r :=
  Fin.ext (by show r.val / 2048 * 2048 + r.val % 2048 = r.val; omega)

variable (m : (ℓ : Loc nD τ sig) → Buf (Elt Ideal) ℓ) (c : Dev nD)

/-- The first result of the reference before it is laid flat. -/
abbrev first : FVec Ideal S16x2048x1024 .f32 :=
  added (m ((c.tc : Thread nD τ).loc main_arg2)) (m ((c.tc : Thread nD τ).loc main_arg3))
    (mixture (m ((c.tc : Thread nD τ).loc main_arg0)) (m ((c.tc : Thread nD τ).loc main_arg1)) (m ((c.tc : Thread nD τ).loc main_arg6)) (m ((c.tc : Thread nD τ).loc main_arg7)))
    (m ((c.tc : Thread nD τ).loc main_arg4))

/-- The second. -/
abbrev second : FVec Ideal S16x2048x1024 .f32 :=
  shifted (m ((c.tc : Thread nD τ).loc main_arg3)) (first m c) (m ((c.tc : Thread nD τ).loc main_arg5))

/-- The layer's row over the call's arguments. -/
abbrev entry (r : Fin 32768) : Fin 1024 → EReal :=
  outcome (fun r k => m ((c.tc : Thread nD τ).loc main_arg0) (ix2 r k : S32768x512.Idx)) (fun r k => m ((c.tc : Thread nD τ).loc main_arg1) (ix2 r k : S32768x512.Idx))
    (fun r k => m ((c.tc : Thread nD τ).loc main_arg2) (ix2 r k : S32768x1024.Idx)) (fun r k => m ((c.tc : Thread nD τ).loc main_arg3) (ix3 r 0 k : S192x1x1024.Idx))
    (fun k => m ((c.tc : Thread nD τ).loc main_arg4) (ix2 0 k : S1x1024.Idx)) (fun k n => m ((c.tc : Thread nD τ).loc main_arg6) (ix2 k n : S512x1024.Idx))
    (fun k n => m ((c.tc : Thread nD τ).loc main_arg7) (ix2 k n : S512x1024.Idx)) r

/-- What the experts receive of it. -/
abbrev given (r : Fin 32768) : Fin 1024 → EReal :=
  handed (fun r k => m ((c.tc : Thread nD τ).loc main_arg0) (ix2 r k : S32768x512.Idx)) (fun r k => m ((c.tc : Thread nD τ).loc main_arg1) (ix2 r k : S32768x512.Idx))
    (fun r k => m ((c.tc : Thread nD τ).loc main_arg2) (ix2 r k : S32768x1024.Idx)) (fun r k => m ((c.tc : Thread nD τ).loc main_arg3) (ix3 r 0 k : S192x1x1024.Idx))
    (fun k => m ((c.tc : Thread nD τ).loc main_arg4) (ix2 0 k : S1x1024.Idx)) (fun k => m ((c.tc : Thread nD τ).loc main_arg5) (ix2 0 k : S1x1024.Idx))
    (fun k n => m ((c.tc : Thread nD τ).loc main_arg6) (ix2 k n : S512x1024.Idx)) (fun k n => m ((c.tc : Thread nD τ).loc main_arg7) (ix2 k n : S512x1024.Idx)) r

theorem first_at (r : Fin 32768) (n : Fin 1024) : (first m c (ix3 ⟨r.val / 2048, by omega⟩ ⟨r.val % 2048, by omega⟩ n) : EReal) = entry m c r n := by
  have e := row_eq r
  refine (added_at _ _ _ _ _ _ n).trans ?_
  simp only [mixture_at]
  unfold entry outcome
  rw [e]

theorem second_at (r : Fin 32768) (n : Fin 1024) : (second m c (ix3 ⟨r.val / 2048, by omega⟩ ⟨r.val % 2048, by omega⟩ n) : EReal) = given m c r n := by
  refine (shifted_at _ _ _ _ _ n).trans ?_
  rw [show (fun k => (first m c (ix3 ⟨r.val / 2048, by omega⟩ ⟨r.val % 2048, by omega⟩ k) : EReal)) = entry m c r from funext fun k => first_at m c r k]
  rfl

/-- The two results. -/
def leaves : FVec Ideal S32768x1024 .f32 × FVec Ideal S32768x1024 .bf16 := (flat (first m c), truncf .bf16 (flat (second m c)) bitsLt_bf16_f32)

theorem leaves_first (r : Fin 32768) (n : Fin 1024) : ((leaves m c).1 (ix2 r n) : EReal) = entry m c r n := (flat_at _ r n).trans (first_at m c r n)
theorem leaves_second (r : Fin 32768) (n : Fin 1024) : ((leaves m c).2 (ix2 r n) : EReal) = given m c r n := (flat_at _ r n).trans (second_at m c r n)

/-- The run, over the stages. -/
theorem run_leaves (ρ : Dev nD → PrngReg) :
    θ_run defs (onTc (τ := τ) (main (F := Ideal))) ⟨m, fun _ => 0, ρ⟩ fun r => ∀ c : Dev nD,
      (r.2.mem ((c.tc : Thread nD τ).loc main_v47) = (leaves m c).1
      ∧ r.2.mem ((c.tc : Thread nD τ).loc main_v49) = (leaves m c).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨⟨(h c).1, (h c).2.1⟩, (h c).2.2⟩) (run (F := Ideal) m ρ)

end Cert.OutProjRefIdeal.Value

end
-- ==== Proof.Project.Modulation.lean ====
module

public import Idealize.ShloMosaic.Lib.Pointwise

@[expose] public section

noncomputable section

/-! The conditioning's entry: a weighted sum of the vector's coordinates, each times its logistic, plus a shift. -/

namespace Cert.Project

open Idealize.ShloMosaic

/-- One of the numbers that scale, shift and gate a sequence, from the sequence's vector. -/
def modulated (v w : Fin 1024 → EReal) (b : EReal) : EReal := (∑ k : Fin 1024, v k * Ideal.logistic (v k) * w k) + b

end Cert.Project

end
-- ==== Proof.AdaIdeal.Pay.lean ====
module

public import proofs.«01_k».proof.Proof.Gen.AdaIdeal.Skeleton
public import proofs.«01_k».proof.Proof.Project.Modulation

@[expose] public section

set_option maxRecDepth 16384

noncomputable section

/-! What the conditioning's kernel stores, read at one entry. -/

namespace Cert.AdaIdeal.Project

open Cert.AdaIdeal Cert.AdaIdeal.Gen
open Idealize.ShloMosaic
open Cert.Project

theorem pay_at (v : Vec Ideal S32x1024 .f32) (w : Vec Ideal S1024x1536 .f32) (b : Vec Ideal S1x1536 .f32) (r : Fin 32) (n : Fin 1536) :
    (k0_pay1 (F := Ideal) v w b (ix2 r n) : EReal) = modulated (fun k => v (ix2 r k)) (fun k => w (ix2 k n)) (b (ix2 0 n)) := by
  unfold modulated
  pointwise [k0_pay1]

end Cert.AdaIdeal.Project

end
-- ==== Proof.AdaIdeal.Value.lean ====
module

public import proofs.«01_k».proof.Proof.Gen.AdaIdeal.Value
public import proofs.«01_k».proof.Proof.AdaIdeal.Pay
public import Idealize.ShloMosaic.Lib.Pointwise.IndexBridge

@[expose] public section

set_option maxRecDepth 16384

noncomputable section

/-! The array the conditioning's kernel leaves, entry by entry. -/

namespace Cert.AdaIdeal.Project

open Cert.AdaIdeal Cert.AdaIdeal.Gen
open Idealize.ShloMosaic Idealize.ShloMosaic.TcCoe
open Cert.Project

variable (m : (ℓ : Loc nD τ sig) → Buf (Elt Ideal) ℓ)

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem index3 : ∀ t : Fin grid0.N, win0_3.index t = ![0, t.val] := by decide +kernel

theorem pt_lt (t : Fin cfg0.N) : t.val < 4 := t.isLt

/-- A vector laid as one row. -/
theorem row_at (x : FVec Ideal S6144 .f32) (n : Fin 6144) : (shapeCast S1x6144 x shapeCasts_S6144_S1x6144 (ix2 0 n) : EReal) = x (ix1 n) := by
  pointwise

/-- The shift as the region finds it: one row of it. -/
theorem shift_at (c : Dev nD) (n : Fin 6144) : (V m c main_v0 : FVec Ideal S1x6144 .f32) (ix2 0 n) = m ((c.tc : Thread nD τ).loc main_arg2) (ix1 n : S6144.Idx) := by
  have h : (V m c main_v0 : FVec Ideal S1x6144 .f32) = shapeCast S1x6144 (m ((c.tc : Thread nD τ).loc main_arg2) : FVec Ideal S6144 .f32) shapeCasts_S6144_S1x6144 := by
    show StableHlo.after hostOps0 _ _ = _
    after_results
    rfl
  exact (congrFun h _).trans (row_at _ n)

/-! The blocks of the arguments at a point. -/

theorem rows0 (c : Dev nD) (t : Fin cfg0.N) (r : Fin 32) (k : Fin 1024) :
    iblk m c 0 t (ix2 r k : S32x1024.Idx) = m ((c.tc : Thread nD τ).loc main_arg0) (ix2 r k : S32x1024.Idx) := by
  refine Eq.trans ?_ (congrFun (V_main_arg0 m c) _)
  show V m c main_arg0 _ = _
  refine congrArg (V m c main_arg0) (funext fun i => ?_)
  have e0 : win0_0.index t 0 = 0 := congrFun (index0 t) 0
  have e1 : win0_0.index t 1 = 0 := congrFun (index0 t) 1
  match i with
  | ⟨0, _⟩ => exact Fin.ext (show win0_0.index t 0 * 32 + 1 * r.val = r.val by omega)
  | ⟨1, _⟩ => exact Fin.ext (show win0_0.index t 1 * 1024 + 1 * k.val = k.val by omega)

theorem columns1 (c : Dev nD) (t : Fin cfg0.N) (k : Fin 1024) (n : Fin 1536) :
    iblk m c 1 t (ix2 k n : S1024x1536.Idx) = m ((c.tc : Thread nD τ).loc main_arg1) (ix2 k ⟨t.val * 1536 + n.val, by have := pt_lt t; omega⟩ : S1024x6144.Idx) := by
  refine Eq.trans ?_ (congrFun (V_main_arg1 m c) _)
  show V m c main_arg1 _ = _
  refine congrArg (V m c main_arg1) (funext fun i => ?_)
  have e0 : win0_1.index t 0 = 0 := congrFun (index1 t) 0
  have e1 : win0_1.index t 1 = t.val := congrFun (index1 t) 1
  match i with
  | ⟨0, _⟩ => exact Fin.ext (show win0_1.index t 0 * 1024 + 1 * k.val = k.val by omega)
  | ⟨1, _⟩ => exact Fin.ext (show win0_1.index t 1 * 1536 + 1 * n.val = t.val * 1536 + n.val by omega)

theorem columns2 (c : Dev nD) (t : Fin cfg0.N) (n : Fin 1536) :
    iblk m c 2 t (ix2 0 n : S1x1536.Idx) = m ((c.tc : Thread nD τ).loc main_arg2) (ix1 ⟨t.val * 1536 + n.val, by have := pt_lt t; omega⟩ : S6144.Idx) := by
  refine Eq.trans ?_ (shift_at m c _)
  show V m c main_v0 _ = _
  refine congrArg (V m c main_v0) (funext fun i => ?_)
  have e0 : win0_2.index t 0 = 0 := congrFun (index2 t) 0
  have e1 : win0_2.index t 1 = t.val := congrFun (index2 t) 1
  match i with
  | ⟨0, _⟩ => exact Fin.ext (show win0_2.index t 0 * 1 + 1 * 0 = 0 by omega)
  | ⟨1, _⟩ => exact Fin.ext (show win0_2.index t 1 * 1536 + 1 * n.val = t.val * 1536 + n.val by omega)

/-! A load of a whole block reads it. -/

theorem ld_vectors (x : Vec Ideal S32x1024 .f32) : View.ld (Val := Elt Ideal) x r0_0 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_weights (x : Vec Ideal S1024x1536 .f32) : View.ld (Val := Elt Ideal) x r0_1 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_shift (x : Vec Ideal S1x1536 .f32) : View.ld (Val := Elt Ideal) x r0_2 = x := funext fun y => congrArg x (funext fun i => Fin.ext (by
  match i with
  | ⟨0, _⟩ => exact (show 0 + 1 * (y 0).val = (y 0).val by omega)
  | ⟨1, _⟩ => exact (show 0 + 1 * (y 1).val = (y 1).val by omega)))

theorem full_emb (r : Fin 32) (n : Fin 1536) : r0_3.emb (ix2 r n) = (ix2 r n : S32x1536.Idx) := by
  funext a
  match a with
  | ⟨0, _⟩ => exact Fin.ext (show 0 + 1 * r.val = r.val by omega)
  | ⟨1, _⟩ => exact Fin.ext (show 0 + 1 * n.val = n.val by omega)

/-- The one store of a block leaves what it stores. -/
theorem canon_full (p : Vec Ideal S32x1536 .f32) (r : Fin 32) (n : Fin 1536) :
    View.canon (Val := Elt Ideal) [(⟨r0_3, p⟩ : View.Piece (Elt Ideal) S32x1536 .f32)] (ix2 r n) = p (ix2 r n) := by
  have h := View.canon_cons_emb (Val := Elt Ideal) r0_3 p [] (ix2 r n)
  rw [full_emb] at h
  exact h

theorem out_at (v : Vec Ideal S32x1024 .f32) (w : Vec Ideal S1024x1536 .f32) (b : Vec Ideal S1x1536 .f32) (r : Fin 32) (n : Fin 1536) :
    (out0_3 (F := Ideal) v w b (ix2 r n) : EReal) = modulated (fun k => v (ix2 r k)) (fun k => w (ix2 k n)) (b (ix2 0 n)) := by
  unfold out0_3
  rw [canon_full, ld_vectors, ld_weights, ld_shift]
  exact pay_at v w b r n

/-- The point that owns a column. -/
def owner (n : Fin 6144) : Fin cfg0.N := ⟨n.val / 1536, show n.val / 1536 < 4 by omega⟩

theorem column_eq (n : Fin 6144) : (⟨(owner n).val * 1536 + n.val % 1536, by show n.val / 1536 * 1536 + n.val % 1536 < 6144; omega⟩ : Fin 6144) = n :=
  Fin.ext (by show n.val / 1536 * 1536 + n.val % 1536 = n.val; omega)

/-- The conditioning's entry over the call's arguments. -/
abbrev entry (c : Dev nD) (r : Fin 32) (n : Fin 6144) : EReal :=
  modulated (fun k => m ((c.tc : Thread nD τ).loc main_arg0) (ix2 r k : S32x1024.Idx)) (fun k => m ((c.tc : Thread nD τ).loc main_arg1) (ix2 k n : S1024x6144.Idx))
    (m ((c.tc : Thread nD τ).loc main_arg2) (ix1 n : S6144.Idx))

theorem point_entry (c : Dev nD) (r : Fin 32) (n : Fin 6144) :
    modulated (fun k => iblk m c 0 (owner n) (ix2 r k : S32x1024.Idx)) (fun k => iblk m c 1 (owner n) (ix2 k ⟨n.val % 1536, by omega⟩ : S1024x1536.Idx))
      (iblk m c 2 (owner n) (ix2 0 ⟨n.val % 1536, by omega⟩ : S1x1536.Idx)) = entry m c r n := by
  rw [funext (rows0 m c (owner n) r), funext fun k => columns1 m c (owner n) k ⟨n.val % 1536, by omega⟩, columns2]
  show modulated _ (fun k => m ((c.tc : Thread nD τ).loc main_arg1) (ix2 k ⟨(owner n).val * 1536 + n.val % 1536, _⟩ : S1024x6144.Idx))
    (m ((c.tc : Thread nD τ).loc main_arg2) (ix1 ⟨(owner n).val * 1536 + n.val % 1536, _⟩ : S6144.Idx)) = _
  rw [column_eq n]

theorem final3 (c : Dev nD) (r : Fin 32) (n : Fin 6144) :
    ((dats m 0 c).arrAt 3 cfg0.N (ix2 r n : S32x6144.Idx) : EReal) = entry m c r n := by
  have hb := congrFun ((Value.blocks3 m c (owner n) (flush0_3 _)).trans (Value.flushed3 m c (owner n))) (ix2 r ⟨n.val % 1536, by omega⟩ : S32x1536.Idx)
  have e0 : win0_3.index (owner n) 0 = 0 := congrFun (index3 (owner n)) 0
  have e1 : win0_3.index (owner n) 1 = n.val / 1536 := congrFun (index3 (owner n)) 1
  refine Eq.trans (congrArg ((dats m 0 c).arrAt 3 cfg0.N) (funext fun i => ?_)) (hb.trans ((out_at _ _ _ r _).trans (point_entry m c r n)))
  match i with
  | ⟨0, _⟩ => exact Fin.ext (show r.val = win0_3.index (owner n) 0 * 32 + 1 * r.val by omega)
  | ⟨1, _⟩ => exact Fin.ext (show n.val = win0_3.index (owner n) 1 * 1536 + 1 * (n.val % 1536) by omega)

end Cert.AdaIdeal.Project

end
-- ==== Proof.AdaHost.Stages.lean ====
module

public import proofs.«01_k».proof.Proof.Gen.AdaRefIdeal.Run
public import proofs.«01_k».proof.Proof.Project.Modulation
public import Idealize.ShloMosaic.Lib.Pointwise.IndexBridge

@[expose] public section

set_option maxRecDepth 16384

noncomputable section

/-! The conditioning's reference, in stages, each read at one entry. -/

namespace Cert.AdaRefIdeal.Value

open Cert.AdaRefIdeal Cert.AdaRefIdeal.Gen
open Idealize.ShloMosaic Idealize.ShloMosaic.TcCoe Idealize.SL.Sem
open Cert.Project

/-- Every coordinate times its logistic. -/
def weighted (v : FVec Ideal S32x1024 .f32) : FVec Ideal S32x1024 .f32 :=
  mulf v (Host.divf (broadcastInDim S32x1024 ![] bcast_S_S32x1024 (constant S_ .f32 0x3F800000#32)) (addf (broadcastInDim S32x1024 ![] bcast_S_S32x1024 (constant S_ .f32 0x3F800000#32)) (Host.exp (Host.negf v))))

/-- The numbers of every sequence. -/
def numbers (v : FVec Ideal S32x1024 .f32) (w : FVec Ideal S1024x6144 .f32) (b : FVec Ideal S6144 .f32) : FVec Ideal S32x6144 .f32 :=
  addf (Host.dotGeneral dot_S32x1024_S1024x6144_S32x6144_1_0_0_1_n_n none (weighted v) w) (broadcastInDim S32x6144 ![0, 1] bcast_S1x6144_S32x6144_0_1 (broadcastInDim S1x6144 ![1] bcast_S6144_S1x6144_1 b))

theorem weighted_at (v : FVec Ideal S32x1024 .f32) (r : Fin 32) (k : Fin 1024) :
    (weighted v (ix2 r k) : EReal) = v (ix2 r k) * Ideal.logistic (v (ix2 r k)) := by
  unfold weighted Ideal.logistic
  pointwise

theorem numbers_at (v : FVec Ideal S32x1024 .f32) (w : FVec Ideal S1024x6144 .f32) (b : FVec Ideal S6144 .f32) (r : Fin 32) (n : Fin 6144) :
    (numbers v w b (ix2 r n) : EReal) = modulated (fun k => v (ix2 r k)) (fun k => w (ix2 k n)) (b (ix1 n)) := by
  unfold numbers modulated
  pointwise
  simp only [weighted_at]

variable (m : (ℓ : Loc nD τ sig) → Buf (Elt Ideal) ℓ) (c : Dev nD)

/-- The reference's result. -/
def leaf : FVec Ideal S32x6144 .f32 := numbers (m ((c.tc : Thread nD τ).loc main_arg0)) (m ((c.tc : Thread nD τ).loc main_arg1)) (m ((c.tc : Thread nD τ).loc main_arg2))

/-- The run, over the stages. -/
theorem run_leaf (ρ : Dev nD → PrngReg) :
    θ_run defs (onTc (τ := τ) (main (F := Ideal))) ⟨m, fun _ => 0, ρ⟩ fun r => ∀ c : Dev nD,
      r.2.mem ((c.tc : Thread nD τ).loc main_v4) = leaf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run (F := Ideal) m ρ

end Cert.AdaRefIdeal.Value

end
-- ==== Proof.Project.Attention.lean ====
module

public import proofs.«01_k».proof.Proof.Project.Law

@[expose] public section

noncomputable section

/-! The attention's mathematics: a token's head over the keys around its pair of grid rows, and the normalised row of eight heads. -/

namespace Cert.Project

open Idealize.ShloMosaic

/-- The largest of the keys' scores. -/
def top (s : Fin 640 → EReal) : EReal := Finset.univ.fold max (FloatOps.ofBits (F := Ideal) .f32 0xFF800000#32) s

/-- A key's weight: two to the power of its score below the largest. -/
def weight (s : Fin 640 → EReal) (n : Fin 640) : EReal := Ideal.exp2 (s n - top s)

/-- The weighted mean of the keys' values. -/
def weighted (s v : Fin 640 → EReal) : EReal := Ideal.div (∑ n, weight s n * v n) (∑ n, weight s n)

/-- A key's score: the query's product with it, and the bias. -/
def score (q : Fin 64 → EReal) (k : Fin 64 → Fin 640 → EReal) (b : Fin 640 → EReal) (n : Fin 640) : EReal := (∑ d, q d * k d n) + b n

/-- The first channel of the head a channel lies in. -/
def headChan (c : Fin 512) (d : Fin 64) : Fin 512 := ⟨c.val / 64 * 64 + d.val, by omega⟩

/-- The head a channel lies in. -/
def headOf (c : Fin 512) : Fin 8 := ⟨c.val / 64, by omega⟩

/-- One channel of a token's heads. -/
def attended (q : Fin 512 → EReal) (k : Fin 512 → Fin 640 → EReal) (v : Fin 640 → Fin 512 → EReal) (b : Fin 8 → Fin 640 → EReal) (c : Fin 512) : EReal :=
  weighted (score (fun d => q (headChan c d)) (fun d => k (headChan c d)) (b (headOf c))) (fun n => v n c)

/-- Five hundred and twelve, the heads' width. -/
def headsWidth : EReal := Ideal.ofBits .f32 0x44000000#32

/-- A row of 512 over its root mean square, times the gain. -/
def evened (a g : Fin 512 → EReal) (c : Fin 512) : EReal := a c * Ideal.rsqrt (Ideal.div (∑ k, a k * a k) headsWidth + eps) * g c

/-- The normalised row depends on its parts entry by entry. -/
theorem evened_congr {q q' : Fin 512 → EReal} {k k' : Fin 512 → Fin 640 → EReal} {v v' : Fin 640 → Fin 512 → EReal} {b b' : Fin 8 → Fin 640 → EReal} {g g' : Fin 512 → EReal}
    (hq : ∀ c, q c = q' c) (hk : ∀ c n, k c n = k' c n) (hv : ∀ n c, v n c = v' n c) (hb : ∀ h n, b h n = b' h n) (hg : ∀ c, g c = g' c) (c : Fin 512) :
    evened (attended q k v b) g c = evened (attended q' k' v' b') g' c := by
  rw [funext hq, funext fun c => funext (hk c), funext fun n => funext (hv n), funext fun h => funext (hb h), funext hg]

/-- The first of the 16 pairs of grid rows a pair looks at. -/
def origin (j : ℕ) : ℕ := min (j - 2) 11

/-- The bias table a pair takes. -/
def table (j : ℕ) : ℕ := if j < 2 then j else if 14 ≤ j then j - 11 else 2

end Cert.Project
-- ==== Proof.AttnIdeal.Unit.lean ====
module

public import proofs.«01_k».proof.Proof.Gen.AttnIdeal.Skeleton
public import proofs.«01_k».proof.Proof.Project.Attention

@[expose] public section

set_option maxRecDepth 16384

noncomputable section

/-! One tile of the attention's kernel: a pair of grid rows' tokens, two heads at a time, over the five key groups of its slab. -/

namespace Cert.AttnIdeal.Project

open Cert.AttnIdeal Cert.AttnIdeal.Gen
open Idealize.ShloMosaic
open Cert.Project

/-- Two heads' queries one over the other, each with the other head's channels at zero. -/
def queries (q : FVec Ideal S128x128 .bf16) : FVec Ideal S256x128 .bf16 :=
  concatenate S256x128 0 [⟨S128x128, select k0_pay1 q (broadcast S128x128 (Scalar.ofBits .bf16 0x0000#16))⟩, ⟨S128x128, select k0_pay1 (broadcast S128x128 (Scalar.ofBits .bf16 0x0000#16)) q⟩] concatenates_S128x128_S128x128_S256x128_d0

/-- The slab's key groups side by side, for the channels from `o`. -/
def keys (o : ℕ) (h0 : S5x512x128.Slices ![0, o, 0] S1x128x128) (h1 : S5x512x128.Slices ![1, o, 0] S1x128x128) (h2 : S5x512x128.Slices ![2, o, 0] S1x128x128)
    (h3 : S5x512x128.Slices ![3, o, 0] S1x128x128) (h4 : S5x512x128.Slices ![4, o, 0] S1x128x128) (k : FVec Ideal S5x512x128 .bf16) : FVec Ideal S128x640 .bf16 :=
  concatenate S128x640 1 [
    ⟨S128x128, shapeCast S128x128 (extractStridedSlice S1x128x128 ![0, o, 0] k h0) shapeCasts_S1x128x128_S128x128⟩,
    ⟨S128x128, shapeCast S128x128 (extractStridedSlice S1x128x128 ![1, o, 0] k h1) shapeCasts_S1x128x128_S128x128⟩,
    ⟨S128x128, shapeCast S128x128 (extractStridedSlice S1x128x128 ![2, o, 0] k h2) shapeCasts_S1x128x128_S128x128⟩,
    ⟨S128x128, shapeCast S128x128 (extractStridedSlice S1x128x128 ![3, o, 0] k h3) shapeCasts_S1x128x128_S128x128⟩,
    ⟨S128x128, shapeCast S128x128 (extractStridedSlice S1x128x128 ![4, o, 0] k h4) shapeCasts_S1x128x128_S128x128⟩]
    concatenates_S128x128_S128x128_S128x128_S128x128_S128x128_S128x640_d1

/-- Two heads' biases one over the other. -/
def biases (b c : FVec Ideal S1x1x128x640 .f32) : FVec Ideal S256x640 .f32 :=
  concatenate S256x640 0 [⟨S128x640, shapeCast S128x640 b shapeCasts_S1x1x128x640_S128x640⟩, ⟨S128x640, shapeCast S128x640 c shapeCasts_S1x1x128x640_S128x640⟩] concatenates_S128x640_S128x640_S256x640_d0

/-- Two heads' scores. -/
def scores (q : FVec Ideal S256x128 .bf16) (k : FVec Ideal S128x640 .bf16) (b : FVec Ideal S256x640 .f32) : FVec Ideal S256x640 .f32 :=
  addf (matmul dot_S256x128_S128x640_S256x640_1_0_0_1_n_n none q k (constant S256x640 .f32 0x00000000#32)) b

/-- Two heads' weights. -/
def weights (s : FVec Ideal S256x640 .f32) : FVec Ideal S256x640 .f32 :=
  exp2 (subf s (broadcastTo S256x640 (shapeCast S256x1 (multiReduction .maximumf [1] S256 s 0xFF800000#32 reduces_S256x640_S256 (.inl rfl) rfl) shapeCasts_S256_S256x1) broadcasts_S256x1_S256x640))

/-- Two heads' weighted means. -/
def means (e : FVec Ideal S256x640 .f32) (v : FVec Ideal S640x128 .bf16) : FVec Ideal S256x128 .f32 :=
  divf (matmul dot_S256x640_S640x128_S256x128_1_0_0_1_n_n none (truncf .bf16 e bitsLt_bf16_f32) v (constant S256x128 .f32 0x00000000#32))
    (broadcastTo S256x128 (shapeCast S256x1 (multiReduction .add [1] S256 e 0x00000000#32 reduces_S256x640_S256 (.inl rfl) rfl) shapeCasts_S256_S256x1) broadcasts_S256x1_S256x128)

/-- Each head's own channels. -/
def halves (m : FVec Ideal S256x128 .f32) : FVec Ideal S128x128 .f32 :=
  select k0_pay1 (extractStridedSlice S128x128 ![0, 0] m slices_S256x128_o0_0_S128x128) (extractStridedSlice S128x128 ![128, 0] m slices_S256x128_o128_0_S128x128)

/-- Two heads of a tile. -/
def duo (q : FVec Ideal S128x128 .bf16) (k : FVec Ideal S128x640 .bf16) (b c : FVec Ideal S1x1x128x640 .f32) (v : FVec Ideal S640x128 .bf16) : FVec Ideal S128x128 .f32 :=
  halves (means (weights (scores (queries q) k (biases b c))) v)

/-- The eight heads. -/
def heads (q : FVec Ideal S1x128x512 .bf16) (k : FVec Ideal S1x5x512x128 .bf16) (v : FVec Ideal S1x640x512 .bf16) (b : Fin 8 → FVec Ideal S1x1x128x640 .f32) : FVec Ideal S128x512 .f32 :=
  concatenate S128x512 1 [
    ⟨S128x128, duo (extractStridedSlice S128x128 ![0, 0] (shapeCast S128x512 q shapeCasts_S1x128x512_S128x512) slices_S128x512_o0_0_S128x128)
      (keys 0 slices_S5x512x128_o0_0_0_S1x128x128 slices_S5x512x128_o1_0_0_S1x128x128 slices_S5x512x128_o2_0_0_S1x128x128 slices_S5x512x128_o3_0_0_S1x128x128 slices_S5x512x128_o4_0_0_S1x128x128 (shapeCast S5x512x128 k shapeCasts_S1x5x512x128_S5x512x128))
      (b 0) (b 1) (extractStridedSlice S640x128 ![0, 0] (shapeCast S640x512 v shapeCasts_S1x640x512_S640x512) slices_S640x512_o0_0_S640x128)⟩,
    ⟨S128x128, duo (extractStridedSlice S128x128 ![0, 128] (shapeCast S128x512 q shapeCasts_S1x128x512_S128x512) slices_S128x512_o0_128_S128x128)
      (keys 128 slices_S5x512x128_o0_128_0_S1x128x128 slices_S5x512x128_o1_128_0_S1x128x128 slices_S5x512x128_o2_128_0_S1x128x128 slices_S5x512x128_o3_128_0_S1x128x128 slices_S5x512x128_o4_128_0_S1x128x128 (shapeCast S5x512x128 k shapeCasts_S1x5x512x128_S5x512x128))
      (b 2) (b 3) (extractStridedSlice S640x128 ![0, 128] (shapeCast S640x512 v shapeCasts_S1x640x512_S640x512) slices_S640x512_o0_128_S640x128)⟩,
    ⟨S128x128, duo (extractStridedSlice S128x128 ![0, 256] (shapeCast S128x512 q shapeCasts_S1x128x512_S128x512) slices_S128x512_o0_256_S128x128)
      (keys 256 slices_S5x512x128_o0_256_0_S1x128x128 slices_S5x512x128_o1_256_0_S1x128x128 slices_S5x512x128_o2_256_0_S1x128x128 slices_S5x512x128_o3_256_0_S1x128x128 slices_S5x512x128_o4_256_0_S1x128x128 (shapeCast S5x512x128 k shapeCasts_S1x5x512x128_S5x512x128))
      (b 4) (b 5) (extractStridedSlice S640x128 ![0, 256] (shapeCast S640x512 v shapeCasts_S1x640x512_S640x512) slices_S640x512_o0_256_S640x128)⟩,
    ⟨S128x128, duo (extractStridedSlice S128x128 ![0, 384] (shapeCast S128x512 q shapeCasts_S1x128x512_S128x512) slices_S128x512_o0_384_S128x128)
      (keys 384 slices_S5x512x128_o0_384_0_S1x128x128 slices_S5x512x128_o1_384_0_S1x128x128 slices_S5x512x128_o2_384_0_S1x128x128 slices_S5x512x128_o3_384_0_S1x128x128 slices_S5x512x128_o4_384_0_S1x128x128 (shapeCast S5x512x128 k shapeCasts_S1x5x512x128_S5x512x128))
      (b 6) (b 7) (extractStridedSlice S640x128 ![0, 384] (shapeCast S640x512 v shapeCasts_S1x640x512_S640x512) slices_S640x512_o0_384_S640x128)⟩]
    concatenates_S128x128_S128x128_S128x128_S128x128_S128x512_d1

/-- The heads over their root mean square, as stored. -/
def stored (a : FVec Ideal S128x512 .f32) (g : FVec Ideal S1x512 .f32) : FVec Ideal S1x128x512 .bf16 :=
  shapeCast S1x128x512 (truncf .bf16 (mulf (mulf a (broadcastTo S128x512 (rsqrt (addf (divf (shapeCast S128x1 (multiReduction .add [1] S128 (mulf a a) 0x00000000#32 reduces_S128x512_S128 (.inl rfl) rfl) shapeCasts_S128_S128x1)
    (broadcast S128x1 (Scalar.ofBits .f32 0x44000000#32))) (broadcast S128x1 (Scalar.ofBits .f32 0x358637BD#32)))) broadcasts_S128x1_S128x512)) (broadcastTo S128x512 g broadcasts_S1x512_S128x512)) bitsLt_bf16_f32) shapeCasts_S128x512_S1x128x512

/-- A tile. -/
def tile (q : FVec Ideal S1x128x512 .bf16) (k : FVec Ideal S1x5x512x128 .bf16) (v : FVec Ideal S1x640x512 .bf16) (b : Fin 8 → FVec Ideal S1x1x128x640 .f32) (g : FVec Ideal S1x512 .f32) : FVec Ideal S1x128x512 .bf16 :=
  stored (heads q k v b) g

end Cert.AttnIdeal.Project
-- ==== Proof.AttnIdeal.Trip.lean ====
module

public import proofs.«01_k».proof.Proof.Gen.AttnIdeal.Value
public import proofs.«01_k».proof.Proof.AttnIdeal.Unit

@[expose] public section

set_option maxRecDepth 65536

noncomputable section

/-! What one trip of the attention kernel's loop stores: four tiles, each of what the trip loads for its pair of grid rows. -/

namespace Cert.AttnIdeal.Project

open Cert.AttnIdeal Cert.AttnIdeal.Gen
open Idealize.ShloMosaic Idealize.ShloMosaic.TcCoe
open Cert.Project

/-- The tile of the trip's pair `p`, from what the trip loads for it. -/
def loaded (i : grid0.Coords) (arg2 : Memref sig .tc .vmem S1x1024x512 .bf16) (arg3 : Memref sig .tc .vmem S1x16x512x128 .bf16) (arg4 : Memref sig .tc .vmem S1x2048x512 .bf16)
  (arg5 : Memref sig .tc .vmem S5x8x128x640 .f32) (arg6 : Memref sig .tc .vmem S1x512 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
  (X_arg6 : BufTy.Contents (Elt Ideal) arg6.view.ty) (k : Fin k0_t1_loop.trips) (p : Fin 4) : FVec Ideal S1x128x512 .bf16 :=
  tile (View.readAt (Elt Ideal) arg2.view (Rect.unit (s := S1x1024x512) (k0_off1 k (BitVec.ofNat 32 p.val)) S1x128x512.size (k0_off1_inb k p)).toLoadRect X_arg2)
    (View.readAt (Elt Ideal) arg3.view (Rect.unit (s := S1x16x512x128) (k0_off2 i k (BitVec.ofNat 32 p.val)) S1x5x512x128.size (k0_off2_inb i k p)).toLoadRect X_arg3)
    (View.readAt (Elt Ideal) arg4.view (Rect.unit (s := S1x2048x512) (k0_off3 i k (BitVec.ofNat 32 p.val)) S1x640x512.size (k0_off3_inb i k p)).toLoadRect X_arg4)
    ![
      View.readAt (Elt Ideal) arg5.view (Rect.unit (s := S5x8x128x640) (k0_off4 i k (BitVec.ofNat 32 p.val)) S1x1x128x640.size (k0_off4_inb i k p)).toLoadRect X_arg5,
      View.readAt (Elt Ideal) arg5.view (Rect.unit (s := S5x8x128x640) (k0_off5 i k (BitVec.ofNat 32 p.val)) S1x1x128x640.size (k0_off5_inb i k p)).toLoadRect X_arg5,
      View.readAt (Elt Ideal) arg5.view (Rect.unit (s := S5x8x128x640) (k0_off6 i k (BitVec.ofNat 32 p.val)) S1x1x128x640.size (k0_off6_inb i k p)).toLoadRect X_arg5,
      View.readAt (Elt Ideal) arg5.view (Rect.unit (s := S5x8x128x640) (k0_off7 i k (BitVec.ofNat 32 p.val)) S1x1x128x640.size (k0_off7_inb i k p)).toLoadRect X_arg5,
      View.readAt (Elt Ideal) arg5.view (Rect.unit (s := S5x8x128x640) (k0_off8 i k (BitVec.ofNat 32 p.val)) S1x1x128x640.size (k0_off8_inb i k p)).toLoadRect X_arg5,
      View.readAt (Elt Ideal) arg5.view (Rect.unit (s := S5x8x128x640) (k0_off9 i k (BitVec.ofNat 32 p.val)) S1x1x128x640.size (k0_off9_inb i k p)).toLoadRect X_arg5,
      View.readAt (Elt Ideal) arg5.view (Rect.unit (s := S5x8x128x640) (k0_off10 i k (BitVec.ofNat 32 p.val)) S1x1x128x640.size (k0_off10_inb i k p)).toLoadRect X_arg5,
      View.readAt (Elt Ideal) arg5.view (Rect.unit (s := S5x8x128x640) (k0_off11 i k (BitVec.ofNat 32 p.val)) S1x1x128x640.size (k0_off11_inb i k p)).toLoadRect X_arg5]
    (View.readAt (Elt Ideal) arg6.view (Rect.unit (s := S1x512) ![0, 0] ![1, 512] inb_S1x512_S1x512_0_0).toLoadRect X_arg6)

set_option maxHeartbeats 4000000 in
/-- The trip's four stores, last first. -/
theorem trip_tiles (𝒱 : Variants) (c : Dev nD) (bd : Option 𝒱.V) (i : grid0.Coords) (arg2 : Memref sig .tc .vmem S1x1024x512 .bf16) (harg2 : arg2.IsWhole) (arg3 : Memref sig .tc .vmem S1x16x512x128 .bf16) (harg3 : arg3.IsWhole)
  (arg4 : Memref sig .tc .vmem S1x2048x512 .bf16) (harg4 : arg4.IsWhole) (arg5 : Memref sig .tc .vmem S5x8x128x640 .f32) (harg5 : arg5.IsWhole) (arg6 : Memref sig .tc .vmem S1x512 .f32) (harg6 : arg6.IsWhole)
  (arg7 : Memref sig .tc .vmem S1x1024x512 .bf16) (harg7 : arg7.IsWhole) (arg1 : BitVec 32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
  (X_arg6 : BufTy.Contents (Elt Ideal) arg6.view.ty) (k : Fin k0_t1_loop.trips) :
    (trip_k0_t1 (F := Ideal) 𝒱 c bd i arg2 harg2 arg3 harg3 arg4 harg4 arg5 harg5 arg6 harg6 arg7 harg7 arg1 X_arg2 X_arg3 X_arg4 X_arg5 X_arg6 k).1 = [
      ⟨Rect.unit (s := S1x1024x512) (k0_off1 k (BitVec.ofNat 32 3)) S1x128x512.size (k0_off1_inb k 3), loaded i arg2 arg3 arg4 arg5 arg6 X_arg2 X_arg3 X_arg4 X_arg5 X_arg6 k 3⟩,
      ⟨Rect.unit (s := S1x1024x512) (k0_off1 k (BitVec.ofNat 32 2)) S1x128x512.size (k0_off1_inb k 2), loaded i arg2 arg3 arg4 arg5 arg6 X_arg2 X_arg3 X_arg4 X_arg5 X_arg6 k 2⟩,
      ⟨Rect.unit (s := S1x1024x512) (k0_off1 k (BitVec.ofNat 32 1)) S1x128x512.size (k0_off1_inb k 1), loaded i arg2 arg3 arg4 arg5 arg6 X_arg2 X_arg3 X_arg4 X_arg5 X_arg6 k 1⟩,
      ⟨Rect.unit (s := S1x1024x512) (k0_off1 k (BitVec.ofNat 32 0)) S1x128x512.size (k0_off1_inb k 0), loaded i arg2 arg3 arg4 arg5 arg6 X_arg2 X_arg3 X_arg4 X_arg5 X_arg6 k 0⟩] := by
  unfold trip_k0_t1
  rfl

end Cert.AttnIdeal.Project
-- ==== Proof.AttnIdeal.Read.lean ====
module

public import proofs.«01_k».proof.Proof.AttnIdeal.Unit
public import Idealize.ShloMosaic.Lib.WordCmp

@[expose] public section

set_option maxRecDepth 16384

noncomputable section

/-! A tile of the attention's kernel, read at one entry. -/

namespace Cert.AttnIdeal.Project

open Cert.AttnIdeal Cert.AttnIdeal.Gen
open Idealize.ShloMosaic
open Cert.Project

/-- A lane below the first head's 64, by its word. -/
theorem select_first {α : Type} {k : ℕ} (hk : k < 128) (x y : α) : Scalar.select (IntOp.cmpi .slt (BitVec.ofNat 32 k) 64#32) x y = if k < 64 then x else y := by
  unfold Scalar.select
  have h : IntOp.cmpi .slt (BitVec.ofNat 32 k) 64#32 = 1 ↔ k < 64 := by
    show IntOp.cmpi .slt (BitVec.ofNat 32 k) 64#32 = 1#1 ↔ _
    rw [WordCmp.cmpi_slt_eq, WordCmp.ofBool_decide_eq_one_iff, WordCmp.toInt_ofNat_of_lt (by norm_num; omega), show (64#32 : BitVec 32).toInt = 64 from rfl]
    omega
  by_cases hc : k < 64
  · rw [if_pos hc, if_pos (h.2 hc)]
  · rw [if_neg hc, if_neg (mt h.1 hc)]

theorem queries_at (q : FVec Ideal S128x128 .bf16) (r : Fin 256) (d : Fin 128) :
    (queries q (ix2 r d) : EReal) = if h : r.val < 128 then (if d.val < 64 then q (ix2 ⟨r.val, h⟩ d) else 0) else (if d.val < 64 then 0 else q (ix2 ⟨r.val - 128, by omega⟩ d)) := by
  simp only [← select_first d.isLt]
  pointwise [queries, k0_pay1]

theorem keys_at (o : ℕ) (h0 h1 h2 h3 h4) (k : FVec Ideal S5x512x128 .bf16) (d : Fin 128) (n : Fin 640) (ho : o + 128 ≤ 512) :
    (keys o h0 h1 h2 h3 h4 k (ix2 d n) : EReal) = k (ix3 ⟨n.val / 128, by omega⟩ ⟨o + d.val, by omega⟩ ⟨n.val % 128, by omega⟩) := by
  pointwise [keys]
  have hn := n.isLt
  by_cases c0 : n.val < 128
  · rw [dif_pos c0]
    refine congrArg k (congrArg₂ (fun (a : Fin 5) (b : Fin 128) => ix3 a ⟨o + d.val, by omega⟩ b) (Fin.ext ?_) (Fin.ext ?_))
    · show 0 = n.val / 128
      omega
    · show n.val = n.val % 128
      omega
  rw [dif_neg c0]
  by_cases c1 : n.val - 128 < 128
  · rw [dif_pos c1]
    refine congrArg k (congrArg₂ (fun (a : Fin 5) (b : Fin 128) => ix3 a ⟨o + d.val, by omega⟩ b) (Fin.ext ?_) (Fin.ext ?_))
    · show 1 = n.val / 128
      omega
    · show n.val - 128 = n.val % 128
      omega
  rw [dif_neg c1]
  by_cases c2 : n.val - 128 - 128 < 128
  · rw [dif_pos c2]
    refine congrArg k (congrArg₂ (fun (a : Fin 5) (b : Fin 128) => ix3 a ⟨o + d.val, by omega⟩ b) (Fin.ext ?_) (Fin.ext ?_))
    · show 2 = n.val / 128
      omega
    · show n.val - 128 - 128 = n.val % 128
      omega
  rw [dif_neg c2]
  by_cases c3 : n.val - 128 - 128 - 128 < 128
  · rw [dif_pos c3]
    refine congrArg k (congrArg₂ (fun (a : Fin 5) (b : Fin 128) => ix3 a ⟨o + d.val, by omega⟩ b) (Fin.ext ?_) (Fin.ext ?_))
    · show 3 = n.val / 128
      omega
    · show n.val - 128 - 128 - 128 = n.val % 128
      omega
  rw [dif_neg c3]
  refine congrArg k (congrArg₂ (fun (a : Fin 5) (b : Fin 128) => ix3 a ⟨o + d.val, by omega⟩ b) (Fin.ext ?_) (Fin.ext ?_))
  · show 4 = n.val / 128
    omega
  · show n.val - 128 - 128 - 128 - 128 = n.val % 128
    omega

theorem biases_at (b c : FVec Ideal S1x1x128x640 .f32) (r : Fin 256) (n : Fin 640) :
    (biases b c (ix2 r n) : EReal) = if h : r.val < 128 then b (ix4 0 0 ⟨r.val, h⟩ n) else c (ix4 0 0 ⟨r.val - 128, by omega⟩ n) := by
  pointwise [biases]

theorem scores_at (q : FVec Ideal S256x128 .bf16) (k : FVec Ideal S128x640 .bf16) (b : FVec Ideal S256x640 .f32) (r : Fin 256) (n : Fin 640) :
    (scores q k b (ix2 r n) : EReal) = (∑ d : Fin 128, (q (ix2 r d) : EReal) * k (ix2 d n)) + b (ix2 r n) := by
  pointwise [scores]

theorem weights_at (s : FVec Ideal S256x640 .f32) (r : Fin 256) (n : Fin 640) : (weights s (ix2 r n) : EReal) = weight (fun n => s (ix2 r n)) n := by
  unfold weight top
  pointwise [weights]
  rfl

theorem means_at (e : FVec Ideal S256x640 .f32) (v : FVec Ideal S640x128 .bf16) (r : Fin 256) (d : Fin 128) :
    (means e v (ix2 r d) : EReal) = Ideal.div (∑ n : Fin 640, (e (ix2 r n) : EReal) * v (ix2 n d)) (∑ n : Fin 640, (e (ix2 r n) : EReal)) := by
  pointwise [means]

theorem halves_at (m : FVec Ideal S256x128 .f32) (r d : Fin 128) :
    (halves m (ix2 r d) : EReal) = if d.val < 64 then m (ix2 ⟨r.val, by omega⟩ d) else m (ix2 ⟨128 + r.val, by omega⟩ d) := by
  simp only [← select_first d.isLt]
  pointwise [halves, k0_pay1]

theorem stored_at (a : FVec Ideal S128x512 .f32) (g : FVec Ideal S1x512 .f32) (r : Fin 128) (c : Fin 512) :
    (stored a g (ix3 0 r c) : EReal) = evened (fun c => a (ix2 r c)) (fun c => g (ix2 0 c)) c := by
  unfold evened headsWidth eps
  pointwise [stored]

/-- A sum over 128 lanes of a row that is zero on the second 64. -/
theorem sum_first (q k : Fin 128 → EReal) : (∑ d : Fin 128, (if d.val < 64 then q d else 0) * k d) = ∑ d : Fin 64, q ⟨d.val, by omega⟩ * k ⟨d.val, by omega⟩ := by
  refine (Fin.sum_univ_add (a := 64) (b := 64) (fun d : Fin (64 + 64) => (if d.val < 64 then q d else 0) * k d)).trans ?_
  have h : (∑ i : Fin 64, (if (Fin.natAdd 64 i : Fin (64 + 64)).val < 64 then q (Fin.natAdd 64 i) else 0) * k (Fin.natAdd 64 i)) = 0 := by
    refine Finset.sum_eq_zero fun i _ => ?_
    rw [if_neg (by show ¬ 64 + i.val < 64; omega), zero_mul]
  rw [h, add_zero]
  refine Finset.sum_congr rfl fun i _ => ?_
  rw [if_pos (show (Fin.castAdd 64 i : Fin (64 + 64)).val < 64 from i.isLt)]
  rfl

/-- … and on the first 64. -/
theorem sum_second (q k : Fin 128 → EReal) : (∑ d : Fin 128, (if d.val < 64 then 0 else q d) * k d) = ∑ d : Fin 64, q ⟨64 + d.val, by omega⟩ * k ⟨64 + d.val, by omega⟩ := by
  refine (Fin.sum_univ_add (a := 64) (b := 64) (fun d : Fin (64 + 64) => (if d.val < 64 then 0 else q d) * k d)).trans ?_
  have h : (∑ i : Fin 64, (if (Fin.castAdd 64 i : Fin (64 + 64)).val < 64 then 0 else q (Fin.castAdd 64 i)) * k (Fin.castAdd 64 i)) = 0 := by
    refine Finset.sum_eq_zero fun i _ => ?_
    rw [if_pos (show (Fin.castAdd 64 i : Fin (64 + 64)).val < 64 from i.isLt), zero_mul]
  rw [h, zero_add]
  refine Finset.sum_congr rfl fun i _ => ?_
  rw [if_neg (by show ¬ 64 + i.val < 64; omega)]
  rfl

/-- Two heads' scores at a row of the first … -/
theorem scores_first (q : FVec Ideal S128x128 .bf16) (k : FVec Ideal S128x640 .bf16) (b c : FVec Ideal S1x1x128x640 .f32) (r : Fin 128) (n : Fin 640) :
    (scores (queries q) k (biases b c) (ix2 ⟨r.val, by omega⟩ n) : EReal)
      = score (fun d => q (ix2 r ⟨d.val, by omega⟩)) (fun d n => k (ix2 ⟨d.val, by omega⟩ n)) (fun n => b (ix4 0 0 r n)) n := by
  rw [scores_at, biases_at, dif_pos r.isLt]
  unfold score
  refine congrArg (· + (b (ix4 0 0 r n) : EReal)) ?_
  refine (Finset.sum_congr rfl fun d _ => ?_).trans (sum_first (fun d => q (ix2 r d)) (fun d => k (ix2 d n)))
  rw [queries_at, dif_pos r.isLt]

/-- … and of the second. -/
theorem scores_second (q : FVec Ideal S128x128 .bf16) (k : FVec Ideal S128x640 .bf16) (b c : FVec Ideal S1x1x128x640 .f32) (r : Fin 128) (n : Fin 640) :
    (scores (queries q) k (biases b c) (ix2 ⟨128 + r.val, by omega⟩ n) : EReal)
      = score (fun d => q (ix2 r ⟨64 + d.val, by omega⟩)) (fun d n => k (ix2 ⟨64 + d.val, by omega⟩ n)) (fun n => c (ix4 0 0 r n)) n := by
  have hr : ¬ (⟨128 + r.val, by omega⟩ : Fin 256).val < 128 := by show ¬ 128 + r.val < 128; omega
  have er : (⟨(⟨128 + r.val, by omega⟩ : Fin 256).val - 128, by show 128 + r.val - 128 < 128; omega⟩ : Fin 128) = r := Fin.ext (by show 128 + r.val - 128 = r.val; omega)
  rw [scores_at, biases_at, dif_neg hr, er]
  unfold score
  refine congrArg (· + (c (ix4 0 0 r n) : EReal)) ?_
  refine (Finset.sum_congr rfl fun d _ => ?_).trans (sum_second (fun d => q (ix2 r d)) (fun d => k (ix2 d n)))
  rw [queries_at, dif_neg hr, er]

/-- Two heads at an entry. -/
theorem duo_at (q : FVec Ideal S128x128 .bf16) (k : FVec Ideal S128x640 .bf16) (b c : FVec Ideal S1x1x128x640 .f32) (v : FVec Ideal S640x128 .bf16) (r d : Fin 128) :
    (duo q k b c v (ix2 r d) : EReal) = weighted (score (fun e => q (ix2 r ⟨d.val / 64 * 64 + e.val, by omega⟩)) (fun e n => k (ix2 ⟨d.val / 64 * 64 + e.val, by omega⟩ n))
      (fun n => if d.val < 64 then b (ix4 0 0 r n) else c (ix4 0 0 r n))) (fun n => v (ix2 n d)) := by
  unfold duo
  rw [halves_at]
  split_ifs with h
  · rw [means_at]
    simp only [weights_at, scores_first]
    have e : ∀ e : Fin 64, (⟨d.val / 64 * 64 + e.val, by omega⟩ : Fin 128) = ⟨e.val, by omega⟩ := fun e => Fin.ext (by show d.val / 64 * 64 + e.val = e.val; omega)
    simp only [e]
    rfl
  · rw [means_at]
    simp only [weights_at, scores_second]
    have e : ∀ e : Fin 64, (⟨d.val / 64 * 64 + e.val, by omega⟩ : Fin 128) = ⟨64 + e.val, by omega⟩ := fun e => Fin.ext (by show d.val / 64 * 64 + e.val = 64 + e.val; omega)
    simp only [e]
    rfl

theorem query_slice (o : ℕ) (ho : o + 128 ≤ 512) (h) (q : FVec Ideal S1x128x512 .bf16) (r d : Fin 128) :
    (extractStridedSlice S128x128 ![0, o] (shapeCast S128x512 q shapeCasts_S1x128x512_S128x512) h (ix2 r d) : EReal) = q (ix3 0 r ⟨o + d.val, by omega⟩) := by
  pointwise

theorem value_slice (o : ℕ) (ho : o + 128 ≤ 512) (h) (v : FVec Ideal S1x640x512 .bf16) (n : Fin 640) (d : Fin 128) :
    (extractStridedSlice S640x128 ![0, o] (shapeCast S640x512 v shapeCasts_S1x640x512_S640x512) h (ix2 n d) : EReal) = v (ix3 0 n ⟨o + d.val, by omega⟩) := by
  pointwise

theorem key_groups (k : FVec Ideal S1x5x512x128 .bf16) (g : Fin 5) (d : Fin 512) (l : Fin 128) :
    (shapeCast S5x512x128 k shapeCasts_S1x5x512x128_S5x512x128 (ix3 g d l) : EReal) = k (ix4 0 g d l) := by
  pointwise

/-- Two heads of a tile, at an entry of the slab's channels. -/
theorem duo_slab (o : ℕ) (ho : o + 128 ≤ 512) (h64 : o % 128 = 0) (hq h0 h1 h2 h3 h4 hv) (q : FVec Ideal S1x128x512 .bf16) (k : FVec Ideal S1x5x512x128 .bf16) (v : FVec Ideal S1x640x512 .bf16)
    (b : Fin 8 → FVec Ideal S1x1x128x640 .f32) (h h' : Fin 8) (eh : h.val = o / 64) (eh' : h'.val = o / 64 + 1) (r d : Fin 128) (C : Fin 512) (hC : C.val = o + d.val) :
    (duo (extractStridedSlice S128x128 ![0, o] (shapeCast S128x512 q shapeCasts_S1x128x512_S128x512) hq)
      (keys o h0 h1 h2 h3 h4 (shapeCast S5x512x128 k shapeCasts_S1x5x512x128_S5x512x128)) (b h) (b h')
      (extractStridedSlice S640x128 ![0, o] (shapeCast S640x512 v shapeCasts_S1x640x512_S640x512) hv) (ix2 r d) : EReal)
      = attended (fun c => q (ix3 0 r c)) (fun c n => k (ix4 0 ⟨n.val / 128, by omega⟩ c ⟨n.val % 128, by omega⟩)) (fun n c => v (ix3 0 n c)) (fun h n => b h (ix4 0 0 r n)) C := by
  rw [duo_at]
  unfold attended
  have ec : ∀ e : Fin 64, (⟨o + (⟨d.val / 64 * 64 + e.val, by omega⟩ : Fin 128).val, by show o + (d.val / 64 * 64 + e.val) < 512; omega⟩ : Fin 512) = headChan C e :=
    fun e => Fin.ext (by show o + (d.val / 64 * 64 + e.val) = C.val / 64 * 64 + e.val; omega)
  have eC : (⟨o + d.val, by omega⟩ : Fin 512) = C := Fin.ext hC.symm
  have eb : (fun n => if d.val < 64 then (b h (ix4 0 0 r n) : EReal) else b h' (ix4 0 0 r n)) = fun n => b (headOf C) (ix4 0 0 r n) := by
    funext n
    split_ifs with hd
    · rw [show headOf C = h from Fin.ext (by show C.val / 64 = h.val; omega)]
    · rw [show headOf C = h' from Fin.ext (by show C.val / 64 = h'.val; omega)]
  rw [eb]
  simp only [query_slice o ho, value_slice o ho, keys_at o _ _ _ _ _ _ _ _ ho, key_groups, ec, eC]

/-- Four pieces of 128 lanes side by side. -/
theorem four_at (x0 x1 x2 x3 : FVec Ideal S128x128 .f32) (r : Fin 128) (C : Fin 512) :
    (concatenate S128x512 1 [⟨S128x128, x0⟩, ⟨S128x128, x1⟩, ⟨S128x128, x2⟩, ⟨S128x128, x3⟩] concatenates_S128x128_S128x128_S128x128_S128x128_S128x512_d1 (ix2 r C) : EReal)
      = if h : C.val < 128 then x0 (ix2 r ⟨C.val, h⟩) else if h : C.val - 128 < 128 then x1 (ix2 r ⟨C.val - 128, h⟩)
        else if h : C.val - 128 - 128 < 128 then x2 (ix2 r ⟨C.val - 128 - 128, h⟩) else x3 (ix2 r ⟨C.val - 128 - 128 - 128, by omega⟩) := by
  pointwise

set_option maxHeartbeats 1000000 in
/-- The eight heads at an entry. -/
theorem heads_at (q : FVec Ideal S1x128x512 .bf16) (k : FVec Ideal S1x5x512x128 .bf16) (v : FVec Ideal S1x640x512 .bf16) (b : Fin 8 → FVec Ideal S1x1x128x640 .f32) (r : Fin 128) (C : Fin 512) :
    (heads q k v b (ix2 r C) : EReal)
      = attended (fun c => q (ix3 0 r c)) (fun c n => k (ix4 0 ⟨n.val / 128, by omega⟩ c ⟨n.val % 128, by omega⟩)) (fun n c => v (ix3 0 n c)) (fun h n => b h (ix4 0 0 r n)) C := by
  have hC := C.isLt
  unfold heads
  rw [four_at]
  split_ifs
  · exact duo_slab 0 (by omega) rfl _ _ _ _ _ _ _ q k v b 0 1 rfl rfl r _ C (by show C.val = 0 + C.val; omega)
  · exact duo_slab 128 (by omega) rfl _ _ _ _ _ _ _ q k v b 2 3 rfl rfl r _ C (by show C.val = 128 + (C.val - 128); omega)
  · exact duo_slab 256 (by omega) rfl _ _ _ _ _ _ _ q k v b 4 5 rfl rfl r _ C (by show C.val = 256 + (C.val - 128 - 128); omega)
  · exact duo_slab 384 (by omega) rfl _ _ _ _ _ _ _ q k v b 6 7 rfl rfl r _ C (by show C.val = 384 + (C.val - 128 - 128 - 128); omega)

/-- A tile at an entry. -/
theorem tile_at (q : FVec Ideal S1x128x512 .bf16) (k : FVec Ideal S1x5x512x128 .bf16) (v : FVec Ideal S1x640x512 .bf16) (b : Fin 8 → FVec Ideal S1x1x128x640 .f32) (g : FVec Ideal S1x512 .f32)
    (r : Fin 128) (C : Fin 512) :
    (tile q k v b g (ix3 0 r C) : EReal)
      = evened (attended (fun c => q (ix3 0 r c)) (fun c n => k (ix4 0 ⟨n.val / 128, by omega⟩ c ⟨n.val % 128, by omega⟩)) (fun n c => v (ix3 0 n c)) (fun h n => b h (ix4 0 0 r n)))
          (fun c => g (ix2 0 c)) C := by
  unfold tile
  rw [stored_at, funext fun c => heads_at q k v b r c]

end Cert.AttnIdeal.Project
-- ==== Proof.AttnIdeal.Value.lean ====
module

public import proofs.«01_k».proof.Proof.AttnIdeal.Trip
public import proofs.«01_k».proof.Proof.AttnIdeal.Read
public import Idealize.ShloMosaic.Lib.VecWindow
public import Idealize.ShloMosaic.Lib.Pointwise.IndexBridge

@[expose] public section

set_option maxRecDepth 16384

noncomputable section

/-! The array the attention's kernel leaves, entry by entry. -/

namespace Cert.AttnIdeal.Project

open Cert.AttnIdeal Cert.AttnIdeal.Gen
open Idealize.ShloMosaic Idealize.ShloMosaic.TcCoe
open Cert.Project

theorem index0 : ∀ t : Fin grid0.N, win0_0.index t = ![t.val / 2, t.val % 2, 0] := by decide +kernel
theorem index1 : ∀ t : Fin grid0.N, win0_1.index t = ![t.val / 2, 0, 0, 0] := by decide +kernel
theorem index2 : ∀ t : Fin grid0.N, win0_2.index t = ![t.val / 2, 0, 0] := by decide +kernel
theorem index3 : ∀ t : Fin grid0.N, win0_3.index t = ![0, 0, 0, 0] := by decide +kernel
theorem index4 : ∀ t : Fin grid0.N, win0_4.index t = ![0, 0] := by decide +kernel
theorem index5 : ∀ t : Fin grid0.N, win0_5.index t = ![t.val / 2, t.val % 2, 0] := by decide +kernel

theorem pt_lt (t : Fin cfg0.N) : t.val < 32 := t.isLt

theorem trips_lt (k : Fin k0_t1_loop.trips) : k.val < 2 := k.isLt

/-- The pair of grid rows a trip's tile is of. -/
def pair (t : ℕ) (k p : ℕ) : ℕ := t % 2 * 8 + (4 * k + p)

theorem pair_lt (t : Fin cfg0.N) (k : Fin k0_t1_loop.trips) (p : Fin 4) : pair t.val k.val p.val < 16 := by
  have := trips_lt k
  unfold pair
  omega

theorem origin_le (j : ℕ) : origin j ≤ 11 := Nat.min_le_right _ _

theorem table_lt {j : ℕ} (h : j < 16) : table j < 5 := by
  unfold table
  split_ifs <;> omega

/-! Where a trip reads and stores. -/

theorem off1_eq : ∀ (k : Fin k0_t1_loop.trips) (p : Fin 4), k0_off1 k (BitVec.ofNat 32 p.val) = ![0, (4 * k.val + p.val) * 128, 0] := by decide +kernel
theorem off2_eq : ∀ (t : Fin grid0.N) (k : Fin k0_t1_loop.trips) (p : Fin 4), k0_off2 (grid0.coords t) k (BitVec.ofNat 32 p.val) = ![0, origin (pair t.val k.val p.val), 0, 0] := by decide +kernel
theorem off3_eq : ∀ (t : Fin grid0.N) (k : Fin k0_t1_loop.trips) (p : Fin 4), k0_off3 (grid0.coords t) k (BitVec.ofNat 32 p.val) = ![0, origin (pair t.val k.val p.val) * 128, 0] := by decide +kernel
theorem off4_eq : ∀ (t : Fin grid0.N) (k : Fin k0_t1_loop.trips) (p : Fin 4), k0_off4 (grid0.coords t) k (BitVec.ofNat 32 p.val) = ![table (pair t.val k.val p.val), 0, 0, 0] := by decide +kernel
theorem off5_eq : ∀ (t : Fin grid0.N) (k : Fin k0_t1_loop.trips) (p : Fin 4), k0_off5 (grid0.coords t) k (BitVec.ofNat 32 p.val) = ![table (pair t.val k.val p.val), 1, 0, 0] := by decide +kernel
theorem off6_eq : ∀ (t : Fin grid0.N) (k : Fin k0_t1_loop.trips) (p : Fin 4), k0_off6 (grid0.coords t) k (BitVec.ofNat 32 p.val) = ![table (pair t.val k.val p.val), 2, 0, 0] := by decide +kernel
theorem off7_eq : ∀ (t : Fin grid0.N) (k : Fin k0_t1_loop.trips) (p : Fin 4), k0_off7 (grid0.coords t) k (BitVec.ofNat 32 p.val) = ![table (pair t.val k.val p.val), 3, 0, 0] := by decide +kernel
theorem off8_eq : ∀ (t : Fin grid0.N) (k : Fin k0_t1_loop.trips) (p : Fin 4), k0_off8 (grid0.coords t) k (BitVec.ofNat 32 p.val) = ![table (pair t.val k.val p.val), 4, 0, 0] := by decide +kernel
theorem off9_eq : ∀ (t : Fin grid0.N) (k : Fin k0_t1_loop.trips) (p : Fin 4), k0_off9 (grid0.coords t) k (BitVec.ofNat 32 p.val) = ![table (pair t.val k.val p.val), 5, 0, 0] := by decide +kernel
theorem off10_eq : ∀ (t : Fin grid0.N) (k : Fin k0_t1_loop.trips) (p : Fin 4), k0_off10 (grid0.coords t) k (BitVec.ofNat 32 p.val) = ![table (pair t.val k.val p.val), 6, 0, 0] := by decide +kernel
theorem off11_eq : ∀ (t : Fin grid0.N) (k : Fin k0_t1_loop.trips) (p : Fin 4), k0_off11 (grid0.coords t) k (BitVec.ofNat 32 p.val) = ![table (pair t.val k.val p.val), 7, 0, 0] := by decide +kernel

variable (t : Fin cfg0.N) (arg2 : Memref sig .tc .vmem S1x1024x512 .bf16) (harg2 : arg2.IsWhole) (arg3 : Memref sig .tc .vmem S1x16x512x128 .bf16) (harg3 : arg3.IsWhole)
  (arg4 : Memref sig .tc .vmem S1x2048x512 .bf16) (harg4 : arg4.IsWhole) (arg5 : Memref sig .tc .vmem S5x8x128x640 .f32) (harg5 : arg5.IsWhole) (arg6 : Memref sig .tc .vmem S1x512 .f32) (harg6 : arg6.IsWhole)
  (arg7 : Memref sig .tc .vmem S1x1024x512 .bf16) (harg7 : arg7.IsWhole)
  (x0 : Vec Ideal S1x1024x512 .bf16) (x1 : Vec Ideal S1x16x512x128 .bf16) (x2 : Vec Ideal S1x2048x512 .bf16) (x3 : Vec Ideal S5x8x128x640 .f32) (x4 : Vec Ideal S1x512 .f32)
  (k : Fin k0_t1_loop.trips) (p : Fin 4)

/-! What a trip loads for a pair, entry by entry. -/

theorem load_queries (r : Fin 128) (C : Fin 512) :
    View.readAt (Elt Ideal) arg2.view (Rect.unit (s := S1x1024x512) (k0_off1 k (BitVec.ofNat 32 p.val)) S1x128x512.size (k0_off1_inb k p)).toLoadRect (harg2.unread x0) (ix3 0 r C : S1x128x512.Idx)
      = x0 (ix3 0 ⟨(4 * k.val + p.val) * 128 + r.val, by have := trips_lt k; omega⟩ C) := by
  rw [View.readAt_unit _ _ _ (off1_eq k p) (off1_eq k p ▸ k0_off1_inb k p), harg2.read_unread]
  refine congrArg x0 (funext fun i => ?_)
  match i with
  | ⟨0, _⟩ => rfl
  | ⟨1, _⟩ => exact Fin.ext (show (4 * k.val + p.val) * 128 + 1 * r.val = (4 * k.val + p.val) * 128 + r.val by omega)
  | ⟨2, _⟩ => exact Fin.ext (show 0 + 1 * C.val = C.val by omega)

theorem load_keys (g : Fin 5) (d : Fin 512) (l : Fin 128) :
    View.readAt (Elt Ideal) arg3.view (Rect.unit (s := S1x16x512x128) (k0_off2 (grid0.coords t) k (BitVec.ofNat 32 p.val)) S1x5x512x128.size (k0_off2_inb (grid0.coords t) k p)).toLoadRect (harg3.unread x1) (ix4 0 g d l : S1x5x512x128.Idx)
      = x1 (ix4 0 ⟨origin (pair t.val k.val p.val) + g.val, by have := origin_le (pair t.val k.val p.val); omega⟩ d l) := by
  rw [View.readAt_unit _ _ _ (off2_eq t k p) (off2_eq t k p ▸ k0_off2_inb (grid0.coords t) k p), harg3.read_unread]
  refine congrArg x1 (funext fun i => ?_)
  match i with
  | ⟨0, _⟩ => rfl
  | ⟨1, _⟩ => exact Fin.ext (show origin (pair t.val k.val p.val) + 1 * g.val = origin (pair t.val k.val p.val) + g.val by omega)
  | ⟨2, _⟩ => exact Fin.ext (show 0 + 1 * d.val = d.val by omega)
  | ⟨3, _⟩ => exact Fin.ext (show 0 + 1 * l.val = l.val by omega)

theorem load_values (n : Fin 640) (C : Fin 512) :
    View.readAt (Elt Ideal) arg4.view (Rect.unit (s := S1x2048x512) (k0_off3 (grid0.coords t) k (BitVec.ofNat 32 p.val)) S1x640x512.size (k0_off3_inb (grid0.coords t) k p)).toLoadRect (harg4.unread x2) (ix3 0 n C : S1x640x512.Idx)
      = x2 (ix3 0 ⟨origin (pair t.val k.val p.val) * 128 + n.val, by have := origin_le (pair t.val k.val p.val); omega⟩ C) := by
  rw [View.readAt_unit _ _ _ (off3_eq t k p) (off3_eq t k p ▸ k0_off3_inb (grid0.coords t) k p), harg4.read_unread]
  refine congrArg x2 (funext fun i => ?_)
  match i with
  | ⟨0, _⟩ => rfl
  | ⟨1, _⟩ => exact Fin.ext (show origin (pair t.val k.val p.val) * 128 + 1 * n.val = origin (pair t.val k.val p.val) * 128 + n.val by omega)
  | ⟨2, _⟩ => exact Fin.ext (show 0 + 1 * C.val = C.val by omega)

theorem load_gain (C : Fin 512) :
    View.readAt (Elt Ideal) arg6.view (Rect.unit (s := S1x512) ![0, 0] ![1, 512] inb_S1x512_S1x512_0_0).toLoadRect (harg6.unread x4) (ix2 0 C : S1x512.Idx) = x4 (ix2 0 C) := by
  rw [View.readAt_unit _ _ _ rfl inb_S1x512_S1x512_0_0, harg6.read_unread]
  refine congrArg x4 (funext fun i => ?_)
  match i with
  | ⟨0, _⟩ => rfl
  | ⟨1, _⟩ => exact Fin.ext (show 0 + 1 * C.val = C.val by omega)

/-- A head's bias, wherever its load is. -/
theorem load_bias (h : Fin 8) (off : Fin 4 → ℕ) (inb : ∀ a, off a + S1x1x128x640.size a ≤ S5x8x128x640.size a) (e : off = ![table (pair t.val k.val p.val), h.val, 0, 0]) (r : Fin 128) (n : Fin 640) :
    View.readAt (Elt Ideal) arg5.view (Rect.unit (s := S5x8x128x640) off S1x1x128x640.size inb).toLoadRect (harg5.unread x3) (ix4 0 0 r n : S1x1x128x640.Idx)
      = x3 (ix4 ⟨table (pair t.val k.val p.val), table_lt (pair_lt t k p)⟩ h r n) := by
  rw [View.readAt_unit _ _ _ e (e ▸ inb), harg5.read_unread]
  refine congrArg x3 (funext fun i => ?_)
  match i with
  | ⟨0, _⟩ => rfl
  | ⟨1, _⟩ => rfl
  | ⟨2, _⟩ => exact Fin.ext (show 0 + 1 * r.val = r.val by omega)
  | ⟨3, _⟩ => exact Fin.ext (show 0 + 1 * n.val = n.val by omega)

/-- A trip's tile at an entry. -/
theorem loaded_at (r : Fin 128) (C : Fin 512) :
    (loaded (grid0.coords t) arg2 arg3 arg4 arg5 arg6 (harg2.unread x0) (harg3.unread x1) (harg4.unread x2) (harg5.unread x3) (harg6.unread x4) k p (ix3 0 r C) : EReal)
      = evened (attended (fun c => x0 (ix3 0 ⟨(4 * k.val + p.val) * 128 + r.val, by have := trips_lt k; omega⟩ c))
          (fun c n => x1 (ix4 0 ⟨origin (pair t.val k.val p.val) + n.val / 128, by have := origin_le (pair t.val k.val p.val); omega⟩ c ⟨n.val % 128, by omega⟩))
          (fun n c => x2 (ix3 0 ⟨origin (pair t.val k.val p.val) * 128 + n.val, by have := origin_le (pair t.val k.val p.val); omega⟩ c))
          (fun h n => x3 (ix4 ⟨table (pair t.val k.val p.val), table_lt (pair_lt t k p)⟩ h r n))) (fun c => x4 (ix2 0 c)) C := by
  unfold loaded
  refine (tile_at _ _ _ _ _ r C).trans (evened_congr (fun c => load_queries arg2 harg2 x0 k p r c) (fun c n => load_keys t arg3 harg3 x1 k p _ c _) (fun n c => load_values t arg4 harg4 x2 k p n c) (fun h n => ?_)
    (fun c => load_gain arg6 harg6 x4 c) C)
  match h with
  | ⟨0, _⟩ => exact load_bias t arg5 harg5 x3 k p 0 _ _ (off4_eq t k p) r n
  | ⟨1, _⟩ => exact load_bias t arg5 harg5 x3 k p 1 _ _ (off5_eq t k p) r n
  | ⟨2, _⟩ => exact load_bias t arg5 harg5 x3 k p 2 _ _ (off6_eq t k p) r n
  | ⟨3, _⟩ => exact load_bias t arg5 harg5 x3 k p 3 _ _ (off7_eq t k p) r n
  | ⟨4, _⟩ => exact load_bias t arg5 harg5 x3 k p 4 _ _ (off8_eq t k p) r n
  | ⟨5, _⟩ => exact load_bias t arg5 harg5 x3 k p 5 _ _ (off9_eq t k p) r n
  | ⟨6, _⟩ => exact load_bias t arg5 harg5 x3 k p 6 _ _ (off10_eq t k p) r n
  | ⟨7, _⟩ => exact load_bias t arg5 harg5 x3 k p 7 _ _ (off11_eq t k p) r n

/-- The loop's first trip … -/
def trip0 : Fin k0_t1_loop.trips := ⟨0, by decide⟩
/-- … and its second. -/
def trip1 : Fin k0_t1_loop.trips := ⟨1, by decide⟩

/-- The pieces a point's body stores: its two trips', last first. -/
theorem pieces (c : Dev nD) : (kernelRun0_A (F := Ideal) c (grid0.coords t) arg2 harg2 arg3 harg3 arg4 harg4 arg5 harg5 arg6 harg6 arg7 harg7 x0 x1 x2 x3 x4).1 = [
      ⟨Rect.unit (s := S1x1024x512) (k0_off1 trip1 (BitVec.ofNat 32 3)) S1x128x512.size (k0_off1_inb trip1 3), loaded (grid0.coords t) arg2 arg3 arg4 arg5 arg6 (harg2.unread x0) (harg3.unread x1) (harg4.unread x2) (harg5.unread x3) (harg6.unread x4) trip1 3⟩,
      ⟨Rect.unit (s := S1x1024x512) (k0_off1 trip1 (BitVec.ofNat 32 2)) S1x128x512.size (k0_off1_inb trip1 2), loaded (grid0.coords t) arg2 arg3 arg4 arg5 arg6 (harg2.unread x0) (harg3.unread x1) (harg4.unread x2) (harg5.unread x3) (harg6.unread x4) trip1 2⟩,
      ⟨Rect.unit (s := S1x1024x512) (k0_off1 trip1 (BitVec.ofNat 32 1)) S1x128x512.size (k0_off1_inb trip1 1), loaded (grid0.coords t) arg2 arg3 arg4 arg5 arg6 (harg2.unread x0) (harg3.unread x1) (harg4.unread x2) (harg5.unread x3) (harg6.unread x4) trip1 1⟩,
      ⟨Rect.unit (s := S1x1024x512) (k0_off1 trip1 (BitVec.ofNat 32 0)) S1x128x512.size (k0_off1_inb trip1 0), loaded (grid0.coords t) arg2 arg3 arg4 arg5 arg6 (harg2.unread x0) (harg3.unread x1) (harg4.unread x2) (harg5.unread x3) (harg6.unread x4) trip1 0⟩,
      ⟨Rect.unit (s := S1x1024x512) (k0_off1 trip0 (BitVec.ofNat 32 3)) S1x128x512.size (k0_off1_inb trip0 3), loaded (grid0.coords t) arg2 arg3 arg4 arg5 arg6 (harg2.unread x0) (harg3.unread x1) (harg4.unread x2) (harg5.unread x3) (harg6.unread x4) trip0 3⟩,
      ⟨Rect.unit (s := S1x1024x512) (k0_off1 trip0 (BitVec.ofNat 32 2)) S1x128x512.size (k0_off1_inb trip0 2), loaded (grid0.coords t) arg2 arg3 arg4 arg5 arg6 (harg2.unread x0) (harg3.unread x1) (harg4.unread x2) (harg5.unread x3) (harg6.unread x4) trip0 2⟩,
      ⟨Rect.unit (s := S1x1024x512) (k0_off1 trip0 (BitVec.ofNat 32 1)) S1x128x512.size (k0_off1_inb trip0 1), loaded (grid0.coords t) arg2 arg3 arg4 arg5 arg6 (harg2.unread x0) (harg3.unread x1) (harg4.unread x2) (harg5.unread x3) (harg6.unread x4) trip0 1⟩,
      ⟨Rect.unit (s := S1x1024x512) (k0_off1 trip0 (BitVec.ofNat 32 0)) S1x128x512.size (k0_off1_inb trip0 0), loaded (grid0.coords t) arg2 arg3 arg4 arg5 arg6 (harg2.unread x0) (harg3.unread x1) (harg4.unread x2) (harg5.unread x3) (harg6.unread x4) trip0 0⟩] := by
  have h := fun (arg1 : BitVec 32) => pb_k0_t1_succ (F := Ideal) Variants.none c none (grid0.coords t) arg2 harg2 arg3 harg3 arg4 harg4 arg5 harg5 arg6 harg6 arg7 harg7 arg1
    (harg2.unread x0) (harg3.unread x1) (harg4.unread x2) (harg5.unread x3) (harg6.unread x4)
  simp only [tripL_k0_t1, trip_tiles] at h
  unfold kernelRun0_A
  refine (h _ trip1).trans ?_
  refine (congrArg _ (h _ trip0)).trans ?_
  rfl

set_option maxHeartbeats 1000000 in
/-- A point's block at an entry: the tile its row lies in. -/
theorem out_at (c : Dev nD) (k : Fin k0_t1_loop.trips) (p : Fin 4) (r : Fin 128) (C : Fin 512) :
    out0_A_5 (F := Ideal) c (grid0.coords t) arg2 harg2 arg3 harg3 arg4 harg4 arg5 harg5 arg6 harg6 arg7 harg7 x0 x1 x2 x3 x4 (ix3 0 ⟨(4 * k.val + p.val) * 128 + r.val, by have := trips_lt k; omega⟩ C : S1x1024x512.Idx)
      = loaded (grid0.coords t) arg2 arg3 arg4 arg5 arg6 (harg2.unread x0) (harg3.unread x1) (harg4.unread x2) (harg5.unread x3) (harg6.unread x4) k p (ix3 0 r C : S1x128x512.Idx) := by
  unfold out0_A_5
  rw [pieces]
  have hk := trips_lt k
  have hr := r.isLt
  have hp := p.isLt
  by_cases h13 : k.val = 1 ∧ p.val = 3
  · obtain rfl : k = trip1 := Fin.ext (show k.val = 1 by omega)
    obtain rfl : p = 3 := Fin.ext (show p.val = 3 by omega)
    refine View.read_writes_cons_unit_of_mem VO0_5 _ (k0_off1_inb trip1 3) _ _ _ (ix3 0 r C : S1x128x512.Idx) (off1_eq trip1 3) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip1 3) _ _ _ (off1_eq trip1 3) 1 (by
    show (4 * k.val + p.val) * 128 + r.val < (4 * 1 + 3) * 128 ∨ (4 * 1 + 3) * 128 + 128 ≤ (4 * k.val + p.val) * 128 + r.val
    omega)).trans ?_
  by_cases h12 : k.val = 1 ∧ p.val = 2
  · obtain rfl : k = trip1 := Fin.ext (show k.val = 1 by omega)
    obtain rfl : p = 2 := Fin.ext (show p.val = 2 by omega)
    refine View.read_writes_cons_unit_of_mem VO0_5 _ (k0_off1_inb trip1 2) _ _ _ (ix3 0 r C : S1x128x512.Idx) (off1_eq trip1 2) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip1 2) _ _ _ (off1_eq trip1 2) 1 (by
    show (4 * k.val + p.val) * 128 + r.val < (4 * 1 + 2) * 128 ∨ (4 * 1 + 2) * 128 + 128 ≤ (4 * k.val + p.val) * 128 + r.val
    omega)).trans ?_
  by_cases h11 : k.val = 1 ∧ p.val = 1
  · obtain rfl : k = trip1 := Fin.ext (show k.val = 1 by omega)
    obtain rfl : p = 1 := Fin.ext (show p.val = 1 by omega)
    refine View.read_writes_cons_unit_of_mem VO0_5 _ (k0_off1_inb trip1 1) _ _ _ (ix3 0 r C : S1x128x512.Idx) (off1_eq trip1 1) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip1 1) _ _ _ (off1_eq trip1 1) 1 (by
    show (4 * k.val + p.val) * 128 + r.val < (4 * 1 + 1) * 128 ∨ (4 * 1 + 1) * 128 + 128 ≤ (4 * k.val + p.val) * 128 + r.val
    omega)).trans ?_
  by_cases h10 : k.val = 1 ∧ p.val = 0
  · obtain rfl : k = trip1 := Fin.ext (show k.val = 1 by omega)
    obtain rfl : p = 0 := Fin.ext (show p.val = 0 by omega)
    refine View.read_writes_cons_unit_of_mem VO0_5 _ (k0_off1_inb trip1 0) _ _ _ (ix3 0 r C : S1x128x512.Idx) (off1_eq trip1 0) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip1 0) _ _ _ (off1_eq trip1 0) 1 (by
    show (4 * k.val + p.val) * 128 + r.val < (4 * 1 + 0) * 128 ∨ (4 * 1 + 0) * 128 + 128 ≤ (4 * k.val + p.val) * 128 + r.val
    omega)).trans ?_
  by_cases h03 : k.val = 0 ∧ p.val = 3
  · obtain rfl : k = trip0 := Fin.ext (show k.val = 0 by omega)
    obtain rfl : p = 3 := Fin.ext (show p.val = 3 by omega)
    refine View.read_writes_cons_unit_of_mem VO0_5 _ (k0_off1_inb trip0 3) _ _ _ (ix3 0 r C : S1x128x512.Idx) (off1_eq trip0 3) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip0 3) _ _ _ (off1_eq trip0 3) 1 (by
    show (4 * k.val + p.val) * 128 + r.val < (4 * 0 + 3) * 128 ∨ (4 * 0 + 3) * 128 + 128 ≤ (4 * k.val + p.val) * 128 + r.val
    omega)).trans ?_
  by_cases h02 : k.val = 0 ∧ p.val = 2
  · obtain rfl : k = trip0 := Fin.ext (show k.val = 0 by omega)
    obtain rfl : p = 2 := Fin.ext (show p.val = 2 by omega)
    refine View.read_writes_cons_unit_of_mem VO0_5 _ (k0_off1_inb trip0 2) _ _ _ (ix3 0 r C : S1x128x512.Idx) (off1_eq trip0 2) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip0 2) _ _ _ (off1_eq trip0 2) 1 (by
    show (4 * k.val + p.val) * 128 + r.val < (4 * 0 + 2) * 128 ∨ (4 * 0 + 2) * 128 + 128 ≤ (4 * k.val + p.val) * 128 + r.val
    omega)).trans ?_
  by_cases h01 : k.val = 0 ∧ p.val = 1
  · obtain rfl : k = trip0 := Fin.ext (show k.val = 0 by omega)
    obtain rfl : p = 1 := Fin.ext (show p.val = 1 by omega)
    refine View.read_writes_cons_unit_of_mem VO0_5 _ (k0_off1_inb trip0 1) _ _ _ (ix3 0 r C : S1x128x512.Idx) (off1_eq trip0 1) fun a => ?_
    match a with
    | ⟨0, _⟩ => rfl
    | ⟨1, _⟩ => rfl
    | ⟨2, _⟩ => exact (show C.val = 0 + C.val by omega)
  refine (View.read_writes_cons_unit_of_not_mem VO0_5 _ (k0_off1_inb trip0 1) _ _ _ (off1_eq trip0 1) 1 (by
    show (4 * k.val + p.val) * 128 + r.val < (4 * 0 + 1) * 128 ∨ (4 * 0 + 1) * 128 + 128 ≤ (4 * k.val + p.val) * 128 + r.val
    omega)).trans ?_
  obtain rfl : k = trip0 := Fin.ext (show k.val = 0 by omega)
  obtain rfl : p = 0 := Fin.ext (show p.val = 0 by omega)
  refine View.read_writes_cons_unit_of_mem VO0_5 _ (k0_off1_inb trip0 0) _ _ _ (ix3 0 r C : S1x128x512.Idx) (off1_eq trip0 0) fun a => ?_
  match a with
  | ⟨0, _⟩ => rfl
  | ⟨1, _⟩ => rfl
  | ⟨2, _⟩ => exact (show C.val = 0 + C.val by omega)

variable (m : (ℓ : Loc nD τ sig) → Buf (Elt Ideal) ℓ)

/-! The blocks of the arguments at a point. -/

theorem block0 (c : Dev nD) (r : Fin 1024) (C : Fin 512) :
    iblk m c 0 t (ix3 0 r C : S1x1024x512.Idx) = m ((c.tc : Thread nD τ).loc main_arg0) (ix3 ⟨t.val / 2, by have := pt_lt t; omega⟩ ⟨t.val % 2 * 1024 + r.val, by omega⟩ C : S16x2048x512.Idx) := by
  refine Eq.trans ?_ (congrFun (V_main_arg0 m c) _)
  show V m c main_arg0 _ = _
  refine congrArg (V m c main_arg0) (funext fun i => ?_)
  have e0 : win0_0.index t 0 = t.val / 2 := congrFun (index0 t) 0
  have e1 : win0_0.index t 1 = t.val % 2 := congrFun (index0 t) 1
  have e2 : win0_0.index t 2 = 0 := congrFun (index0 t) 2
  match i with
  | ⟨0, _⟩ => exact Fin.ext (show win0_0.index t 0 * 1 + 1 * 0 = t.val / 2 by omega)
  | ⟨1, _⟩ => exact Fin.ext (show win0_0.index t 1 * 1024 + 1 * r.val = t.val % 2 * 1024 + r.val by omega)
  | ⟨2, _⟩ => exact Fin.ext (show win0_0.index t 2 * 512 + 1 * C.val = C.val by omega)

theorem block1 (c : Dev nD) (g : Fin 16) (d : Fin 512) (l : Fin 128) :
    iblk m c 1 t (ix4 0 g d l : S1x16x512x128.Idx) = m ((c.tc : Thread nD τ).loc main_arg1) (ix4 ⟨t.val / 2, by have := pt_lt t; omega⟩ g d l : S16x16x512x128.Idx) := by
  refine Eq.trans ?_ (congrFun (V_main_arg1 m c) _)
  show V m c main_arg1 _ = _
  refine congrArg (V m c main_arg1) (funext fun i => ?_)
  have e0 : win0_1.index t 0 = t.val / 2 := congrFun (index1 t) 0
  have e1 : win0_1.index t 1 = 0 := congrFun (index1 t) 1
  have e2 : win0_1.index t 2 = 0 := congrFun (index1 t) 2
  have e3 : win0_1.index t 3 = 0 := congrFun (index1 t) 3
  match i with
  | ⟨0, _⟩ => exact Fin.ext (show win0_1.index t 0 * 1 + 1 * 0 = t.val / 2 by omega)
  | ⟨1, _⟩ => exact Fin.ext (show win0_1.index t 1 * 16 + 1 * g.val = g.val by omega)
  | ⟨2, _⟩ => exact Fin.ext (show win0_1.index t 2 * 512 + 1 * d.val = d.val by omega)
  | ⟨3, _⟩ => exact Fin.ext (show win0_1.index t 3 * 128 + 1 * l.val = l.val by omega)

theorem block2 (c : Dev nD) (n : Fin 2048) (C : Fin 512) :
    iblk m c 2 t (ix3 0 n C : S1x2048x512.Idx) = m ((c.tc : Thread nD τ).loc main_arg2) (ix3 ⟨t.val / 2, by have := pt_lt t; omega⟩ n C : S16x2048x512.Idx) := by
  refine Eq.trans ?_ (congrFun (V_main_arg2 m c) _)
  show V m c main_arg2 _ = _
  refine congrArg (V m c main_arg2) (funext fun i => ?_)
  have e0 : win0_2.index t 0 = t.val / 2 := congrFun (index2 t) 0
  have e1 : win0_2.index t 1 = 0 := congrFun (index2 t) 1
  have e2 : win0_2.index t 2 = 0 := congrFun (index2 t) 2
  match i with
  | ⟨0, _⟩ => exact Fin.ext (show win0_2.index t 0 * 1 + 1 * 0 = t.val / 2 by omega)
  | ⟨1, _⟩ => exact Fin.ext (show win0_2.index t 1 * 2048 + 1 * n.val = n.val by omega)
  | ⟨2, _⟩ => exact Fin.ext (show win0_2.index t 2 * 512 + 1 * C.val = C.val by omega)

theorem block3 (c : Dev nD) (v : Fin 5) (h : Fin 8) (r : Fin 128) (n : Fin 640) :
    iblk m c 3 t (ix4 v h r n : S5x8x128x640.Idx) = m ((c.tc : Thread nD τ).loc main_arg3) (ix4 v h r n : S5x8x128x640.Idx) := by
  refine Eq.trans ?_ (congrFun (V_main_arg3 m c) _)
  show V m c main_arg3 _ = _
  refine congrArg (V m c main_arg3) (funext fun i => ?_)
  have e0 : win0_3.index t 0 = 0 := congrFun (index3 t) 0
  have e1 : win0_3.index t 1 = 0 := congrFun (index3 t) 1
  have e2 : win0_3.index t 2 = 0 := congrFun (index3 t) 2
  have e3 : win0_3.index t 3 = 0 := congrFun (index3 t) 3
  match i with
  | ⟨0, _⟩ => exact Fin.ext (show win0_3.index t 0 * 5 + 1 * v.val = v.val by omega)
  | ⟨1, _⟩ => exact Fin.ext (show win0_3.index t 1 * 8 + 1 * h.val = h.val by omega)
  | ⟨2, _⟩ => exact Fin.ext (show win0_3.index t 2 * 128 + 1 * r.val = r.val by omega)
  | ⟨3, _⟩ => exact Fin.ext (show win0_3.index t 3 * 640 + 1 * n.val = n.val by omega)

theorem block4 (c : Dev nD) (C : Fin 512) : iblk m c 4 t (ix2 0 C : S1x512.Idx) = m ((c.tc : Thread nD τ).loc main_arg4) (ix2 0 C : S1x512.Idx) := by
  refine Eq.trans ?_ (congrFun (V_main_arg4 m c) _)
  show V m c main_arg4 _ = _
  refine congrArg (V m c main_arg4) (funext fun i => ?_)
  have e0 : win0_4.index t 0 = 0 := congrFun (index4 t) 0
  have e1 : win0_4.index t 1 = 0 := congrFun (index4 t) 1
  match i with
  | ⟨0, _⟩ => exact Fin.ext (show win0_4.index t 0 * 1 + 1 * 0 = 0 by omega)
  | ⟨1, _⟩ => exact Fin.ext (show win0_4.index t 1 * 512 + 1 * C.val = C.val by omega)

/-- The attention's entry over the call's arguments: token `r` of the pair of grid rows `j` of element `b`. -/
abbrev entry (c : Dev nD) (b : Fin 16) (j : Fin 16) (r : Fin 128) (C : Fin 512) : EReal :=
  evened (attended (fun c' => m ((c.tc : Thread nD τ).loc main_arg0) (ix3 b ⟨j.val * 128 + r.val, by omega⟩ c' : S16x2048x512.Idx))
      (fun c' n => m ((c.tc : Thread nD τ).loc main_arg1) (ix4 b ⟨origin j.val + n.val / 128, by have := origin_le j.val; omega⟩ c' ⟨n.val % 128, by omega⟩ : S16x16x512x128.Idx))
      (fun n c' => m ((c.tc : Thread nD τ).loc main_arg2) (ix3 b ⟨origin j.val * 128 + n.val, by have := origin_le j.val; omega⟩ c' : S16x2048x512.Idx))
      (fun h n => m ((c.tc : Thread nD τ).loc main_arg3) (ix4 ⟨table j.val, table_lt j.isLt⟩ h r n : S5x8x128x640.Idx)))
    (fun c' => m ((c.tc : Thread nD τ).loc main_arg4) (ix2 0 c' : S1x512.Idx)) C

/-- The point that owns a pair of grid rows of an element. -/
def owner (b j : Fin 16) : Fin cfg0.N := ⟨b.val * 2 + j.val / 8, show b.val * 2 + j.val / 8 < 32 by omega⟩

theorem owner_div (b j : Fin 16) : (⟨(owner b j).val / 2, by have := pt_lt (owner b j); omega⟩ : Fin 16) = b := Fin.ext (by show (b.val * 2 + j.val / 8) / 2 = b.val; omega)

/-- The trip and the place of a pair. -/
def tripOf (j : Fin 16) : Fin k0_t1_loop.trips := ⟨j.val % 8 / 4, show j.val % 8 / 4 < 2 by omega⟩
def placeOf (j : Fin 16) : Fin 4 := ⟨j.val % 4, by omega⟩

theorem pair_owner (b j : Fin 16) : pair (owner b j).val (tripOf j).val (placeOf j).val = j.val := by
  show (b.val * 2 + j.val / 8) % 2 * 8 + (4 * (j.val % 8 / 4) + j.val % 4) = j.val
  omega

theorem final5 (c : Dev nD) (b j : Fin 16) (r : Fin 128) (C : Fin 512) :
    ((dats m 0 c).arrAt 5 cfg0.N (ix3 b ⟨j.val * 128 + r.val, by omega⟩ C : S16x2048x512.Idx) : EReal) = entry m c b j r C := by
  have hb := congrFun ((Value.blocks5 m c (owner b j) (flush0_5 _)).trans (Value.flushed5_A m c (owner b j)))
    (ix3 0 ⟨(4 * (tripOf j).val + (placeOf j).val) * 128 + r.val, by have := trips_lt (tripOf j); omega⟩ C : S1x1024x512.Idx)
  have e0 : win0_5.index (owner b j) 0 = (b.val * 2 + j.val / 8) / 2 := congrFun (index5 (owner b j)) 0
  have e1 : win0_5.index (owner b j) 1 = (b.val * 2 + j.val / 8) % 2 := congrFun (index5 (owner b j)) 1
  have e2 : win0_5.index (owner b j) 2 = 0 := congrFun (index5 (owner b j)) 2
  refine Eq.trans (congrArg ((dats m 0 c).arrAt 5 cfg0.N) (funext fun i => ?_)) (hb.trans ((out_at (owner b j) _ _ _ _ _ _ _ _ _ _ _ _ _ _ _ _ _ c (tripOf j) (placeOf j) r C).trans ((loaded_at _ _ _ _ _ _ _ _ _ _ _ _ _ _ _ _ _ _ r C).trans ?_)))
  · match i with
    | ⟨0, _⟩ => exact Fin.ext (show b.val = win0_5.index (owner b j) 0 * 1 + 1 * 0 by omega)
    | ⟨1, _⟩ => exact Fin.ext (show j.val * 128 + r.val = win0_5.index (owner b j) 1 * 1024 + 1 * ((4 * (j.val % 8 / 4) + j.val % 4) * 128 + r.val) by omega)
    | ⟨2, _⟩ => exact Fin.ext (show C.val = win0_5.index (owner b j) 2 * 512 + 1 * C.val by omega)
  · have er : (⟨(owner b j).val % 2 * 1024 + ((4 * (tripOf j).val + (placeOf j).val) * 128 + r.val), by have := trips_lt (tripOf j); omega⟩ : Fin 2048) = ⟨j.val * 128 + r.val, by omega⟩ :=
      Fin.ext (by show (b.val * 2 + j.val / 8) % 2 * 1024 + ((4 * (j.val % 8 / 4) + j.val % 4) * 128 + r.val) = j.val * 128 + r.val; omega)
    have ej := pair_owner b j
    refine evened_congr (fun c' => ?_) (fun c' n => ?_) (fun n c' => ?_) (fun h n => ?_) (fun c' => block4 _ m c c') C
    · rw [block0, owner_div, er]
    · rw [block1, owner_div]
      refine congrArg (fun g => m ((c.tc : Thread nD τ).loc main_arg1) (ix4 b g c' ⟨n.val % 128, by omega⟩ : S16x16x512x128.Idx)) (Fin.ext ?_)
      show origin (pair _ _ _) + n.val / 128 = origin j.val + n.val / 128
      rw [ej]
    · rw [block2, owner_div]
      refine congrArg (fun g => m ((c.tc : Thread nD τ).loc main_arg2) (ix3 b g c' : S16x2048x512.Idx)) (Fin.ext ?_)
      show origin (pair _ _ _) * 128 + n.val = origin j.val * 128 + n.val
      rw [ej]
    · rw [block3]
      refine congrArg (fun g => m ((c.tc : Thread nD τ).loc main_arg3) (ix4 g h r n : S5x8x128x640.Idx)) (Fin.ext ?_)
      show table (pair _ _ _) = table j.val
      rw [ej]

end Cert.AttnIdeal.Project
-- ==== Proof.AttnHost.Gather.lean ====
module

public import Idealize.ShloMosaic.PureOps
public import Idealize.ShloMosaic.Lib.Pointwise

@[expose] public section

set_option maxRecDepth 16384

noncomputable section

/-! Rows of a stack taken by a table of row numbers, and tables taken by a column of table numbers. -/

namespace Cert.Entry

open Idealize.ShloMosaic

/-- A stack of `K` rows read at a table of row numbers: the result's row is the one its number names, when the number is in range. -/
theorem gather_rows {α : Type} {K A B W N : ℕ} (d : GatherDims ⟨3, ![K, A, B]⟩ ⟨3, ![W, N, 1]⟩ ⟨4, ![W, N, A, B]⟩) (ho : d.offsetDims = [2, 3]) (hc : d.collapsedSliceDims = [0])
    (hb : d.operandBatchingDims = []) (hm : d.startIndexMap = [0]) (hv : d.indexVectorDim = 2) (x : (⟨3, ![K, A, B]⟩ : Shape).Idx → α) (idx : IVec ⟨3, ![W, N, 1]⟩ 32)
    (w : Fin W) (n : Fin N) (y : Fin A) (z : Fin B) (k : Fin K) (hk : (idx (ix3 w n 0)).toInt = k.val) : Host.gather d x idx (ix4 w n y z) = x (ix3 k y z) := by
  obtain ⟨od, cd, ob, sb, sm, iv, ss, wf⟩ := d
  dsimp only at ho hc hb hm hv
  subst ho hc hb hm hv
  have hs : ss 0 = 1 := wf.2.2.2.2.2.2.2.2.2.2.2.1 0 (List.mem_singleton.2 rfl)
  refine congrArg x (funext fun a => Fin.ext ?_)
  match a with
  | ⟨0, _⟩ =>
    show min (idx _).toInt.toNat (K - ss 0) + 0 + 0 = k.val
    have hm : min (idx (ix3 w n 0)).toInt.toNat (K - ss 0) + 0 + 0 = k.val := by
      rw [hk, hs]
      have := k.isLt
      omega
    refine (congrArg (fun v : BitVec 32 => min v.toInt.toNat (K - ss 0) + 0 + 0) (?_ : _ = idx (ix3 w n 0))).trans hm
    refine congrArg idx (funext fun a => ?_)
    match a with
    | ⟨0, _⟩ => rfl
    | ⟨1, _⟩ => rfl
    | ⟨2, _⟩ => rfl
  | ⟨1, _⟩ => exact (Nat.zero_add _).trans rfl
  | ⟨2, _⟩ => exact (Nat.zero_add _).trans rfl

/-- `K` tables read at a column of table numbers: the result's table is the one its number names, when the number is in range. -/
theorem gather_tables {α : Type} {K A B C N : ℕ} (d : GatherDims ⟨4, ![K, A, B, C]⟩ ⟨2, ![N, 1]⟩ ⟨4, ![N, A, B, C]⟩) (ho : d.offsetDims = [1, 2, 3]) (hc : d.collapsedSliceDims = [0])
    (hb : d.operandBatchingDims = []) (hm : d.startIndexMap = [0]) (hv : d.indexVectorDim = 1) (x : (⟨4, ![K, A, B, C]⟩ : Shape).Idx → α) (idx : IVec ⟨2, ![N, 1]⟩ 32)
    (b : Fin N) (y : Fin A) (z : Fin B) (u : Fin C) (k : Fin K) (hk : (idx (ix2 b 0)).toInt = k.val) : Host.gather d x idx (ix4 b y z u) = x (ix4 k y z u) := by
  obtain ⟨od, cd, ob, sb, sm, iv, ss, wf⟩ := d
  dsimp only at ho hc hb hm hv
  subst ho hc hb hm hv
  have hs : ss 0 = 1 := wf.2.2.2.2.2.2.2.2.2.2.2.1 0 (List.mem_singleton.2 rfl)
  refine congrArg x (funext fun a => Fin.ext ?_)
  match a with
  | ⟨0, _⟩ =>
    show min (idx _).toInt.toNat (K - ss 0) + 0 + 0 = k.val
    have hm : min (idx (ix2 b 0)).toInt.toNat (K - ss 0) + 0 + 0 = k.val := by
      rw [hk, hs]
      have := k.isLt
      omega
    refine (congrArg (fun v : BitVec 32 => min v.toInt.toNat (K - ss 0) + 0 + 0) (?_ : _ = idx (ix2 b 0))).trans hm
    refine congrArg idx (funext fun a => ?_)
    match a with
    | ⟨0, _⟩ => rfl
    | ⟨1, _⟩ => rfl
  | ⟨1, _⟩ => exact (Nat.zero_add _).trans rfl
  | ⟨2, _⟩ => exact (Nat.zero_add _).trans rfl
  | ⟨3, _⟩ => exact (Nat.zero_add _).trans rfl

end Cert.Entry

end
-- ==== Proof.AttnHost.Stages.lean ====
module

public import proofs.«01_k».proof.Proof.Gen.AttnRefIdeal.Run
public import proofs.«01_k».proof.Proof.Project.Attention
public import proofs.«01_k».proof.Proof.AttnHost.Gather
public import Idealize.ShloMosaic.Lib.Pointwise.IndexBridge
public import Idealize.ShloMosaic.Lib.WordCmp

@[expose] public section

set_option maxRecDepth 16384

noncomputable section

/-! The attention's reference, in stages, each read at one entry. -/

namespace Cert.AttnRefIdeal.Value

open Cert.AttnRefIdeal Cert.AttnRefIdeal.Gen
open Idealize.ShloMosaic Idealize.ShloMosaic.TcCoe Idealize.SL.Sem
open Cert.Project

/-- The first token of every pair's slab. -/
def starts : IVec S16 32 :=
  muli (minsi (broadcastInDim S16 ![] bcast_S_S16 (id (constantI S_ 32 11#32))) (maxsi (broadcastInDim S16 ![] bcast_S_S16 (id (constantI S_ 32 0#32))) (subi (iotaInDim S16 32 0) (broadcastInDim S16 ![] bcast_S_S16 (constantI S_ 32 2#32)))))
    (broadcastInDim S16 ![] bcast_S_S16 (constantI S_ 32 128#32))

/-- Every window's keys, by number. -/
def near : IVec S256x640 32 :=
  addi (broadcastInDim S256x640 ![0, 1] bcast_S256x1_S256x640_0_1 (broadcastInDim S256x1 ![0] bcast_S256_S256x1_0 (shapeCast _ (addi (broadcastInDim S16x16 ![0, 1] bcast_S16x1_S16x16_0_1 (muli (broadcastInDim S16x1 ![0] bcast_S16_S16x1_0 (iotaInDim S16 32 0)) (broadcastInDim S16x1 ![] bcast_S_S16x1 (constantI S_ 32 2048#32)))) (broadcastInDim S16x16 ![0, 1] bcast_S1x16_S16x16_0_1 (broadcastInDim S1x16 ![1] bcast_S16_S1x16_1 starts))) shapeCasts_S16x16_S256)))
    (broadcastInDim S256x640 ![0, 1] bcast_S1x640_S256x640_0_1 (broadcastInDim S1x640 ![1] bcast_S640_S1x640_1 (iotaInDim S640 32 0)))

/-- Row numbers as the rows are taken by: one below zero counts from the end. -/
def rows (x : IVec S256x640 32) : IVec S256x640x1 32 :=
  broadcastInDim S256x640x1 ![0, 1] bcast_S256x640_S256x640x1_0_1 (select (cmpi .slt x (broadcastInDim S256x640 ![] bcast_S_S256x640 (constantI S_ 32 0#32))) (addi x (broadcastInDim S256x640 ![] bcast_S_S256x640 (constantI S_ 32 32768#32))) x)

/-- The bias table of every pair. -/
def tables : IVec S16 32 :=
  select (cmpi .slt (iotaInDim S16 32 0) (broadcastInDim S16 ![] bcast_S_S16 (constantI S_ 32 2#32))) (iotaInDim S16 32 0) (select (cmpi .sge (iotaInDim S16 32 0) (broadcastInDim S16 ![] bcast_S_S16 (constantI S_ 32 14#32))) (addi (subi (iotaInDim S16 32 0) (broadcastInDim S16 ![] bcast_S_S16 (constantI S_ 32 16#32))) (broadcastInDim S16 ![] bcast_S_S16 (constantI S_ 32 5#32))) (broadcastInDim S16 ![] bcast_S_S16 (id (constantI S_ 32 2#32))))

/-- … and of every window. -/
def windows : IVec S256 32 := shapeCast _ (broadcastInDim S16x16 ![1] bcast_S16_S16x16_1 tables) shapeCasts_S16x16_S256

/-- Table numbers as the tables are taken by. -/
def picks (x : IVec S256 32) : IVec S256x1 32 :=
  broadcastInDim S256x1 ![0] bcast_S256_S256x1_0 (select (cmpi .slt x (broadcastInDim S256 ![] bcast_S_S256 (constantI S_ 32 0#32))) (addi x (broadcastInDim S256 ![] bcast_S_S256 (constantI S_ 32 5#32))) x)

def queries (q : FVec Ideal S16x2048x512 .bf16) : FVec Ideal S256x128x8x64 .f32 := shapeCast _ (extf .f32 q bitsLt_bf16_f32) shapeCasts_S16x2048x512_S256x128x8x64

def keys (k : FVec Ideal S16x16x512x128 .bf16) : FVec Ideal S32768x8x64 .f32 :=
  shapeCast _ (transpose S16x16x128x512 [0, 1, 3, 2] (extf .f32 k bitsLt_bf16_f32) transposes_S16x16x512x128_S16x16x128x512_0_1_3_2) shapeCasts_S16x16x128x512_S32768x8x64

def values (v : FVec Ideal S16x2048x512 .bf16) : FVec Ideal S32768x8x64 .f32 := shapeCast _ (extf .f32 v bitsLt_bf16_f32) shapeCasts_S16x2048x512_S32768x8x64

/-- A window's own rows. -/
def taken (x : FVec Ideal S32768x8x64 .f32) : FVec Ideal S256x640x8x64 .f32 := Host.gather gather_S32768x8x64_S256x640x1_S256x640x8x64_23_0_n_n_0_2_1864 x (rows near)

/-- A window's own bias. -/
def biases (b : FVec Ideal S5x8x128x640 .f32) : FVec Ideal S256x8x128x640 .f32 := Host.gather gather_S5x8x128x640_S256x1_S256x8x128x640_123_0_n_n_0_1_18128640 b (picks windows)

def scores (q : FVec Ideal S256x128x8x64 .f32) (k : FVec Ideal S256x640x8x64 .f32) (b : FVec Ideal S256x8x128x640 .f32) : FVec Ideal S256x8x128x640 .f32 :=
  addf (Host.dotGeneral dot_S256x128x8x64_S256x640x8x64_S256x8x128x640_3_3_1_1_02_02 none q k) b

def weights (s : FVec Ideal S256x8x128x640 .f32) : FVec Ideal S256x8x128x640 .f32 :=
  Host.powf (broadcastInDim S256x8x128x640 ![] bcast_S_S256x8x128x640 (constant S_ .f32 0x40000000#32)) (subf s (broadcastInDim S256x8x128x640 ![0, 1, 2, 3] bcast_S256x8x128x1_S256x8x128x640_0_1_2_3 (broadcastInDim S256x8x128x1 ![0, 1, 2] bcast_S256x8x128_S256x8x128x1_0_1_2 (Host.reduce FloatOps.maximumf s (constant S_ .f32 0xFF800000#32) reducesTo_S256x8x128x640_S256x8x128_d3 h_S_))))

def means (e : FVec Ideal S256x8x128x640 .f32) (v : FVec Ideal S256x640x8x64 .f32) : FVec Ideal S256x8x128x64 .f32 :=
  Host.divf (Host.dotGeneral dot_S256x8x128x640_S256x640x8x64_S256x8x128x64_3_1_2_3_01_02 none e v) (broadcastInDim S256x8x128x64 ![0, 1, 2, 3] bcast_S256x8x128x1_S256x8x128x64_0_1_2_3 (broadcastInDim S256x8x128x1 ![0, 1, 2] bcast_S256x8x128_S256x8x128x1_0_1_2 (Host.reduceAdd e (constant S_ .f32 0x00000000#32) reducesTo_S256x8x128x640_S256x8x128_d3 h_S_)))

def joined (o : FVec Ideal S256x8x128x64 .f32) : FVec Ideal S16x2048x512 .f32 :=
  shapeCast _ (transpose S256x128x8x64 [0, 2, 1, 3] o transposes_S256x8x128x64_S256x128x8x64_0_2_1_3) shapeCasts_S256x128x8x64_S16x2048x512

def normed (a : FVec Ideal S16x2048x512 .f32) (g : FVec Ideal S1x512 .f32) : FVec Ideal S16x2048x512 .bf16 :=
  truncf .bf16 (mulf (mulf a (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf a a) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![1, 2] bcast_S1x512_S1x1x512_1_2 g))) bitsLt_bf16_f32

/-- The reference over its arguments. -/
def whole (q : FVec Ideal S16x2048x512 .bf16) (k : FVec Ideal S16x16x512x128 .bf16) (v : FVec Ideal S16x2048x512 .bf16) (b : FVec Ideal S5x8x128x640 .f32) (g : FVec Ideal S1x512 .f32) : FVec Ideal S16x2048x512 .bf16 :=
  normed (joined (means (weights (scores (queries q) (taken (keys k)) (biases b))) (taken (values v)))) g

variable (m : (ℓ : Loc nD τ sig) → Buf (Elt Ideal) ℓ) (c : Dev nD)

/-- The reference's result. -/
def leaf : FVec Ideal S16x2048x512 .bf16 :=
  whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

set_option maxHeartbeats 2000000 in
theorem leaf_eq : (res_main_v89 (F := Ideal) m c : FVec Ideal S16x2048x512 .bf16) = leaf m c := by
  unfold res_main_v89 leaf whole normed joined means weights scores queries taken keys values biases picks windows tables rows near starts
  rfl

/-- The run, over the stages. -/
theorem run_leaf (ρ : Dev nD → PrngReg) :
    θ_run defs (onTc (τ := τ) (main (F := Ideal))) ⟨m, fun _ => 0, ρ⟩ fun r => ∀ c : Dev nD,
      r.2.mem ((c.tc : Thread nD τ).loc main_v89) = leaf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := run (F := Ideal) m ρ
  simp only [leaf_eq] at h
  exact h

end Cert.AttnRefIdeal.Value

end
-- ==== Proof.AttnHost.Read.lean ====
module

public import proofs.«01_k».proof.Proof.AttnHost.Stages

@[expose] public section

set_option maxRecDepth 16384

noncomputable section

/-! The attention's reference, entry by entry. -/

namespace Cert.AttnRefIdeal.Value

open Cert.AttnRefIdeal Cert.AttnRefIdeal.Gen
open Idealize.ShloMosaic Idealize.ShloMosaic.TcCoe Idealize.SL.Sem
open Cert.Project

/-! The numbers. -/

theorem starts_at (j : Fin 16) : starts (ix1 j) = BitVec.ofNat 32 (origin j.val * 128) := by
  revert j
  decide +kernel

theorem tables_at (j : Fin 16) : tables (ix1 j) = BitVec.ofNat 32 (table j.val) := by
  revert j
  decide +kernel

theorem windows_at (w : Fin 256) : windows (ix1 w) = tables (ix1 ⟨w.val % 16, by omega⟩) := by
  unfold windows
  pointwise

/-- The number of a window's key. -/
def number (w : Fin 256) (n : Fin 640) : ℕ := w.val / 16 * 2048 + origin (w.val % 16) * 128 + n.val

theorem number_lt (w : Fin 256) (n : Fin 640) : number w n < 32768 := by
  have : origin (w.val % 16) ≤ 11 := Nat.min_le_right _ _
  unfold number
  omega

theorem near_at (w : Fin 256) (n : Fin 640) : near (ix2 w n) = BitVec.ofNat 32 (number w n) := by
  have h : near (ix2 w n) = BitVec.ofNat 32 (w.val / 16) * 2048#32 + starts (ix1 ⟨w.val % 16, by omega⟩) + BitVec.ofNat 32 n.val := by
    unfold near
    pointwise
    rfl
  rw [h, starts_at]
  show BitVec.ofNat 32 (w.val / 16) * BitVec.ofNat 32 2048 + BitVec.ofNat 32 (origin (w.val % 16) * 128) + BitVec.ofNat 32 n.val = _
  rw [← BitVec.ofNat_mul, ← BitVec.ofNat_add, ← BitVec.ofNat_add]
  rfl

/-- A small number is not below zero. -/
theorem select_small {k : ℕ} (hk : k < 2 ^ 31) (y : BitVec 32) : Scalar.select (IntOp.cmpi .slt (BitVec.ofNat 32 k) 0#32) y (BitVec.ofNat 32 k) = BitVec.ofNat 32 k := by
  have hn : ¬ IntOp.cmpi .slt (BitVec.ofNat 32 k) 0#32 = 1 := by
    show ¬ IntOp.cmpi .slt (BitVec.ofNat 32 k) 0#32 = 1#1
    rw [WordCmp.cmpi_slt_eq, WordCmp.ofBool_decide_eq_one_iff, WordCmp.toInt_ofNat_of_lt (by simpa using hk)]
    simp
  unfold Scalar.select
  rw [if_neg hn]

theorem rows_at (x : IVec S256x640 32) (w : Fin 256) (n : Fin 640) {k : ℕ} (hk : k < 2 ^ 31) (h : x (ix2 w n) = BitVec.ofNat 32 k) : (rows x (ix3 w n 0)).toInt = k := by
  have e : rows x (ix3 w n 0) = Scalar.select (IntOp.cmpi .slt (x (ix2 w n)) 0#32) (IntOp.addi (x (ix2 w n)) 32768#32) (x (ix2 w n)) := by
    unfold rows
    pointwise
  rw [e, h, select_small hk, WordCmp.toInt_ofNat_of_lt (by simpa using hk)]

theorem picks_at (x : IVec S256 32) (w : Fin 256) {k : ℕ} (hk : k < 2 ^ 31) (h : x (ix1 w) = BitVec.ofNat 32 k) : (picks x (ix2 w 0)).toInt = k := by
  have e : picks x (ix2 w 0) = Scalar.select (IntOp.cmpi .slt (x (ix1 w)) 0#32) (IntOp.addi (x (ix1 w)) 5#32) (x (ix1 w)) := by
    unfold picks
    pointwise
  rw [e, h, select_small hk, WordCmp.toInt_ofNat_of_lt (by simpa using hk)]

/-! The arguments as the windows see them. -/

theorem queries_at (q : FVec Ideal S16x2048x512 .bf16) (w : Fin 256) (r : Fin 128) (h : Fin 8) (d : Fin 64) :
    (queries q (ix4 w r h d) : EReal) = q (ix3 ⟨w.val / 16, by omega⟩ ⟨w.val % 16 * 128 + r.val, by omega⟩ ⟨h.val * 64 + d.val, by omega⟩) := by
  unfold queries
  pointwise

theorem keys_at (k : FVec Ideal S16x16x512x128 .bf16) (b : Fin 16) (g : Fin 16) (l : Fin 128) (h : Fin 8) (d : Fin 64) :
    (keys k (ix3 ⟨b.val * 2048 + g.val * 128 + l.val, by omega⟩ h d) : EReal) = k (ix4 b g ⟨h.val * 64 + d.val, by omega⟩ l) := by
  unfold keys
  pointwise

theorem values_at (v : FVec Ideal S16x2048x512 .bf16) (b : Fin 16) (n : Fin 2048) (h : Fin 8) (d : Fin 64) :
    (values v (ix3 ⟨b.val * 2048 + n.val, by omega⟩ h d) : EReal) = v (ix3 b n ⟨h.val * 64 + d.val, by omega⟩) := by
  unfold values
  pointwise

theorem taken_at (x : FVec Ideal S32768x8x64 .f32) (w : Fin 256) (n : Fin 640) (h : Fin 8) (d : Fin 64) :
    taken x (ix4 w n h d) = x (ix3 ⟨number w n, number_lt w n⟩ h d) :=
  Cert.Entry.gather_rows _ rfl rfl rfl rfl rfl x (rows near) w n h d _ (rows_at near w n (by have := number_lt w n; omega) (near_at w n))

theorem table_lt {j : ℕ} (h : j < 16) : table j < 5 := by
  unfold table
  split_ifs <;> omega

theorem biases_at (b : FVec Ideal S5x8x128x640 .f32) (w : Fin 256) (h : Fin 8) (r : Fin 128) (n : Fin 640) :
    biases b (ix4 w h r n) = b (ix4 ⟨table (w.val % 16), table_lt (by omega)⟩ h r n) :=
  Cert.Entry.gather_tables _ rfl rfl rfl rfl rfl b (picks windows) w h r n _
    (picks_at windows w (by have := table_lt (show w.val % 16 < 16 by omega); omega) ((windows_at w).trans (tables_at _)))

/-! The arithmetic. -/

/-- Two, as the power's base. -/
theorem two : Ideal.ofBits .f32 0x40000000#32 = ((2 : ℝ) : EReal) := by
  simp [Ideal.ofBits, Ideal.ieee, -EReal.coe_mul]; norm_num

/-- Two to a power. -/
theorem pow_two (x : EReal) : Ideal.pow ((2 : ℝ) : EReal) x = Ideal.exp2 x := by
  induction x using EReal.rec with
  | bot => rw [Ideal.pow_coe_bot, if_neg (by norm_num), if_pos (by norm_num), Ideal.exp2_bot]
  | coe r => rw [Ideal.pow_coe_coe, Ideal.exp2_coe]
  | top => rw [Ideal.pow_coe_top, if_neg (by norm_num), if_pos (by norm_num), Ideal.exp2_top]

theorem scores_at (q : FVec Ideal S256x128x8x64 .f32) (k : FVec Ideal S256x640x8x64 .f32) (b : FVec Ideal S256x8x128x640 .f32) (w : Fin 256) (h : Fin 8) (r : Fin 128) (n : Fin 640) :
    (scores q k b (ix4 w h r n) : EReal) = score (fun d => q (ix4 w r h d)) (fun d n => k (ix4 w n h d)) (fun n => b (ix4 w h r n)) n := by
  unfold scores score
  pointwise

theorem weights_at (s : FVec Ideal S256x8x128x640 .f32) (w : Fin 256) (h : Fin 8) (r : Fin 128) (n : Fin 640) :
    (weights s (ix4 w h r n) : EReal) = weight (fun n => s (ix4 w h r n)) n := by
  have e : (weights s (ix4 w h r n) : EReal) = Ideal.pow (Ideal.ofBits .f32 0x40000000#32) (s (ix4 w h r n) - top (fun n => s (ix4 w h r n))) := by
    unfold weights top
    pointwise
  rw [e, two, pow_two]
  rfl

theorem means_at (e : FVec Ideal S256x8x128x640 .f32) (v : FVec Ideal S256x640x8x64 .f32) (w : Fin 256) (h : Fin 8) (r : Fin 128) (d : Fin 64) :
    (means e v (ix4 w h r d) : EReal) = Ideal.div (∑ n : Fin 640, (e (ix4 w h r n) : EReal) * v (ix4 w n h d)) (∑ n : Fin 640, (e (ix4 w h r n) : EReal)) := by
  unfold means
  pointwise

theorem joined_at (o : FVec Ideal S256x8x128x64 .f32) (b j : Fin 16) (r : Fin 128) (C : Fin 512) :
    (joined o (ix3 b ⟨j.val * 128 + r.val, by omega⟩ C) : EReal) = o (ix4 ⟨b.val * 16 + j.val, by omega⟩ (headOf C) r ⟨C.val % 64, by omega⟩) := by
  have e : b.val * 16 + (j.val * 128 + r.val) / 128 = b.val * 16 + j.val := by omega
  unfold joined
  pointwise
  exact congrArg (fun w => o (ix4 w (headOf C) r ⟨C.val % 64, by omega⟩)) (Fin.ext e)

theorem normed_at (a : FVec Ideal S16x2048x512 .f32) (g : FVec Ideal S1x512 .f32) (b : Fin 16) (t : Fin 2048) (C : Fin 512) :
    (normed a g (ix3 b t C) : EReal) = evened (fun c => a (ix3 b t c)) (fun c => g (ix2 0 c)) C := by
  unfold normed evened headsWidth eps
  pointwise

end Cert.AttnRefIdeal.Value

end
-- ==== Proof.AttnHost.Value.lean ====
module

public import proofs.«01_k».proof.Proof.AttnHost.Read

@[expose] public section

set_option maxRecDepth 16384

noncomputable section

/-! The reference's result is the attention's mathematics. -/

namespace Cert.AttnRefIdeal.Value

open Cert.AttnRefIdeal Cert.AttnRefIdeal.Gen
open Idealize.ShloMosaic Idealize.ShloMosaic.TcCoe Idealize.SL.Sem
open Cert.Project

theorem origin_le (j : ℕ) : origin j ≤ 11 := Nat.min_le_right _ _

/-- The window of a pair of grid rows of an element. -/
def window (b j : Fin 16) : Fin 256 := ⟨b.val * 16 + j.val, by omega⟩

theorem window_mod (b j : Fin 16) : (window b j).val % 16 = j.val := by
  show (b.val * 16 + j.val) % 16 = j.val
  omega

theorem window_div (b j : Fin 16) : (window b j).val / 16 = b.val := by
  show (b.val * 16 + j.val) / 16 = b.val
  omega

theorem number_window (b j : Fin 16) (n : Fin 640) : number (window b j) n = b.val * 2048 + origin j.val * 128 + n.val := by
  unfold number
  rw [window_mod, window_div]

variable (q : FVec Ideal S16x2048x512 .bf16) (k : FVec Ideal S16x16x512x128 .bf16) (v : FVec Ideal S16x2048x512 .bf16) (b : FVec Ideal S5x8x128x640 .f32) (g : FVec Ideal S1x512 .f32)

theorem query (e j : Fin 16) (r : Fin 128) (C : Fin 512) (d : Fin 64) :
    queries q (ix4 (window e j) r (headOf C) d) = q (ix3 e ⟨j.val * 128 + r.val, by omega⟩ (headChan C d)) := by
  refine (queries_at q (window e j) r (headOf C) d).trans ?_
  have h0 : (⟨(window e j).val / 16, by have := (window e j).isLt; omega⟩ : Fin 16) = e := Fin.ext (window_div e j)
  have h1 : (⟨(window e j).val % 16 * 128 + r.val, by omega⟩ : Fin 2048) = ⟨j.val * 128 + r.val, by omega⟩ :=
    Fin.ext (by show (window e j).val % 16 * 128 + r.val = j.val * 128 + r.val; rw [window_mod])
  rw [h0, h1]
  rfl

theorem key (e j : Fin 16) (n : Fin 640) (C : Fin 512) (d : Fin 64) :
    taken (keys k) (ix4 (window e j) n (headOf C) d) = k (ix4 e ⟨origin j.val + n.val / 128, by have := origin_le j.val; omega⟩ (headChan C d) ⟨n.val % 128, by omega⟩) := by
  have ho := origin_le j.val
  refine (taken_at (keys k) (window e j) n (headOf C) d).trans ?_
  have h : (⟨number (window e j) n, number_lt _ n⟩ : Fin 32768) = ⟨e.val * 2048 + (⟨origin j.val + n.val / 128, by omega⟩ : Fin 16).val * 128 + (⟨n.val % 128, by omega⟩ : Fin 128).val, by have := n.isLt; show e.val * 2048 + (origin j.val + n.val / 128) * 128 + n.val % 128 < 32768; omega⟩ :=
    Fin.ext ((number_window e j n).trans (by show e.val * 2048 + origin j.val * 128 + n.val = e.val * 2048 + (origin j.val + n.val / 128) * 128 + n.val % 128; omega))
  rw [h]
  exact keys_at k e _ _ (headOf C) d

theorem value (e j : Fin 16) (n : Fin 640) (C : Fin 512) :
    taken (values v) (ix4 (window e j) n (headOf C) ⟨C.val % 64, by omega⟩) = v (ix3 e ⟨origin j.val * 128 + n.val, by have := origin_le j.val; omega⟩ C) := by
  have ho := origin_le j.val
  refine (taken_at (values v) (window e j) n (headOf C) _).trans ?_
  have h : (⟨number (window e j) n, number_lt _ n⟩ : Fin 32768) = ⟨e.val * 2048 + (⟨origin j.val * 128 + n.val, by omega⟩ : Fin 2048).val, by have := n.isLt; show e.val * 2048 + (origin j.val * 128 + n.val) < 32768; omega⟩ :=
    Fin.ext ((number_window e j n).trans (by show e.val * 2048 + origin j.val * 128 + n.val = e.val * 2048 + (origin j.val * 128 + n.val); omega))
  rw [h]
  refine (values_at v e _ (headOf C) _).trans ?_
  have hc : (⟨(headOf C).val * 64 + (⟨C.val % 64, by omega⟩ : Fin 64).val, by show C.val / 64 * 64 + C.val % 64 < 512; omega⟩ : Fin 512) = C :=
    Fin.ext (by show C.val / 64 * 64 + C.val % 64 = C.val; omega)
  rw [hc]

theorem bias (e j : Fin 16) (h : Fin 8) (r : Fin 128) (n : Fin 640) :
    biases b (ix4 (window e j) h r n) = b (ix4 ⟨table j.val, table_lt j.isLt⟩ h r n) := by
  refine (biases_at b (window e j) h r n).trans ?_
  have hj : (⟨table ((window e j).val % 16), table_lt (by omega)⟩ : Fin 5) = ⟨table j.val, table_lt j.isLt⟩ := Fin.ext (congrArg table (window_mod e j))
  rw [hj]

/-- One channel of a token's heads, before the normalisation. -/
theorem heads_at (e j : Fin 16) (r : Fin 128) (C : Fin 512) :
    (joined (means (weights (scores (queries q) (taken (keys k)) (biases b))) (taken (values v))) (ix3 e ⟨j.val * 128 + r.val, by omega⟩ C) : EReal)
      = attended (fun c => q (ix3 e ⟨j.val * 128 + r.val, by omega⟩ c))
          (fun c n => k (ix4 e ⟨origin j.val + n.val / 128, by have := origin_le j.val; omega⟩ c ⟨n.val % 128, by omega⟩))
          (fun n c => v (ix3 e ⟨origin j.val * 128 + n.val, by have := origin_le j.val; omega⟩ c))
          (fun h n => b (ix4 ⟨table j.val, table_lt j.isLt⟩ h r n)) C := by
  refine (joined_at _ e j r C).trans ((means_at _ _ (window e j) (headOf C) r _).trans ?_)
  have hs : (fun n : Fin 640 => (scores (queries q) (taken (keys k)) (biases b) (ix4 (window e j) (headOf C) r n) : EReal))
      = score (fun d => q (ix3 e ⟨j.val * 128 + r.val, by omega⟩ (headChan C d)))
          (fun d n => k (ix4 e ⟨origin j.val + n.val / 128, by have := origin_le j.val; omega⟩ (headChan C d) ⟨n.val % 128, by omega⟩))
          (fun n => b (ix4 ⟨table j.val, table_lt j.isLt⟩ (headOf C) r n)) := by
    funext n
    refine (scores_at _ _ _ (window e j) (headOf C) r n).trans ?_
    rw [funext fun d => query q e j r C d, funext fun d => funext fun n => key k e j n C d, funext fun n => bias b e j (headOf C) r n]
  have hw : ∀ n : Fin 640, (weights (scores (queries q) (taken (keys k)) (biases b)) (ix4 (window e j) (headOf C) r n) : EReal) = weight _ n :=
    fun n => (weights_at _ (window e j) (headOf C) r n).trans (congrArg (fun s => weight s n) hs)
  unfold attended weighted
  exact congrArg₂ Ideal.div (Finset.sum_congr rfl fun n _ => congrArg₂ (· * ·) (hw n) (value v e j n C)) (Finset.sum_congr rfl fun n _ => hw n)

/-- An entry of the reference. -/
theorem whole_at (e j : Fin 16) (r : Fin 128) (C : Fin 512) :
    (whole q k v b g (ix3 e ⟨j.val * 128 + r.val, by omega⟩ C) : EReal)
      = evened (attended (fun c => q (ix3 e ⟨j.val * 128 + r.val, by omega⟩ c))
          (fun c n => k (ix4 e ⟨origin j.val + n.val / 128, by have := origin_le j.val; omega⟩ c ⟨n.val % 128, by omega⟩))
          (fun n c => v (ix3 e ⟨origin j.val * 128 + n.val, by have := origin_le j.val; omega⟩ c))
          (fun h n => b (ix4 ⟨table j.val, table_lt j.isLt⟩ h r n)))
        (fun c => g (ix2 0 c)) C := by
  unfold whole
  refine (normed_at _ g e _ C).trans ?_
  rw [funext fun c => heads_at q k v b e j r c]

end Cert.AttnRefIdeal.Value

end
-- ==== Proof.Project.Fourier.lean ====
module

public import proofs.«01_k».proof.Proof.Project.Attention
public import Idealize.ShloMosaic.Lib.Pipeline.ValueKit.Acc

@[expose] public section

noncomputable section

/-! The Fourier branch's mathematics: a matrix along the grid's rows, one along its columns, the linear map of each group of channels. -/

namespace Cert.Project

open Idealize.ShloMosaic

/-- One where the two columns are the same, zero elsewhere. -/
def same (i j : Fin 16) : EReal := if i = j then 1 else 0

/-- A matrix's row times a column of 32 entries. -/
def crossed (f x : Fin 32 → EReal) : EReal := ∑ r, f r * x r

/-- Of the entries of 16 columns the ones of another column count nothing. -/
theorem crossed_eq (f : Fin 32 → EReal) (c : Fin 16) (F : Fin 512 → EReal)
    (x : Fin 32 → Fin 16 → EReal)
    (h : ∀ (r : Fin 32) (j : Fin 16) (hl : r.val * 16 + j.val < 512), F ⟨r.val * 16 + j.val, hl⟩ = f r * same c j * x r j) :
    ∑ l, F l = crossed f (fun r => x r c) := by
  rw [← Fin.sum_mul_add_fin 32 16 F rfl]
  unfold crossed
  refine Finset.sum_congr rfl fun r _ => ?_
  rw [Finset.sum_eq_single c]
  · rw [h]; simp [same]
  · intro j _ hj
    rw [h]; simp [same, Ne.symm hj]
  · simp

/-- Two stretches of 64 rows, one above the other. -/
def stacked (a b : Fin 64 → Fin 512 → EReal) (j : Fin 128) (n : Fin 512) : EReal := if h : j.val < 64 then a ⟨j.val, h⟩ n else b ⟨j.val - 64, by omega⟩ n

/-- A matrix along the rows. -/
def turned (m : Fin 128 → Fin 128 → EReal) (y : Fin 128 → Fin 512 → EReal) (i : Fin 128) (n : Fin 512) : EReal := ∑ j, m i j * y j n

/-- A group's channels, the two halves of a token through the two halves of a matrix. -/
def folded (re im : Fin 512 → EReal) (w : Fin 256 → Fin 128 → EReal) (g : Fin 4) (l : Fin 128) : EReal :=
  ∑ j : Fin 128, re ⟨g.val * 128 + j.val, by omega⟩ * w ⟨j.val, by omega⟩ l + ∑ j : Fin 128, im ⟨g.val * 128 + j.val, by omega⟩ * w ⟨128 + j.val, by omega⟩ l

/-- A channel of the group's linear map. -/
def mapped (re im : Fin 512 → EReal) (w : Fin 256 → Fin 128 → EReal) (u : Fin 4 → Fin 128 → Fin 128 → EReal) (C : Fin 512) : EReal :=
  ∑ l : Fin 128, folded re im w ⟨C.val / 128, by omega⟩ l * u ⟨C.val / 128, by omega⟩ l ⟨C.val % 128, by omega⟩

/-- A token of the branch: the first half of the column's product and the second, through the groups' maps, normalised. -/
def spectral (m : Fin 128 → Fin 128 → EReal) (a b : Fin 64 → Fin 512 → EReal) (w : Fin 256 → Fin 128 → EReal) (u : Fin 4 → Fin 128 → Fin 128 → EReal)
    (g : Fin 512 → EReal) (k : Fin 64) (C : Fin 512) : EReal :=
  evened (mapped (turned m (stacked a b) ⟨k.val, by omega⟩) (turned m (stacked a b) ⟨64 + k.val, by omega⟩) w u) g C

/-- The token depends on its parts entry by entry. -/
theorem spectral_congr {m m' : Fin 128 → Fin 128 → EReal} {a a' b b' : Fin 64 → Fin 512 → EReal} {w w' : Fin 256 → Fin 128 → EReal} {u u' : Fin 4 → Fin 128 → Fin 128 → EReal}
    {g g' : Fin 512 → EReal} (hm : ∀ i j, m i j = m' i j) (ha : ∀ j n, a j n = a' j n) (hb : ∀ j n, b j n = b' j n) (hw : ∀ j l, w j l = w' j l) (hu : ∀ k j l, u k j l = u' k j l)
    (hg : ∀ n, g n = g' n) (k : Fin 64) (C : Fin 512) : spectral m a b w u g k C = spectral m' a' b' w' u' g' k C := by
  rw [funext fun i => funext (hm i), funext fun j => funext (ha j), funext fun j => funext (hb j), funext fun j => funext (hw j), funext fun k => funext fun j => funext (hu k j), funext hg]

end Cert.Project

end
-- ==== Proof.RowsIdeal.Value.lean ====
module

public import proofs.«01_k».proof.Proof.Gen.RowsIdeal.Value
public import proofs.«01_k».proof.Proof.Project.Fourier
public import Idealize.ShloMosaic.Lib.Pointwise.IndexBridge

@[expose] public section

set_option maxRecDepth 16384

noncomputable section

/-! The array the kernel of the grid's rows leaves, entry by entry. -/

namespace Cert.RowsIdeal.Project

open Cert.RowsIdeal Cert.RowsIdeal.Gen
open Idealize.ShloMosaic Idealize.ShloMosaic.TcCoe
open Cert.Project

variable (m : (ℓ : Loc nD τ sig) → Buf (Elt Ideal) ℓ)

theorem index0 : ∀ t : Fin grid0.N, win0_0.index t = ![0, 0] := by decide +kernel
theorem index1 : ∀ t : Fin grid0.N, win0_1.index t = ![t.val / 4, 0, t.val % 4, 0] := by decide +kernel
theorem index2 : ∀ t : Fin grid0.N, win0_2.index t = ![t.val / 4, 0, t.val % 4, 0] := by decide +kernel

theorem pt_lt (t : Fin cfg0.N) : t.val < 64 := t.isLt

/-! The table. -/

/-- Whether two columns are the same, as bits. -/
def bits : IVec S16x16 1 := cmpi .eq (addi (iotaInDim S16x16 32 0) (broadcastInDim S16x16 ![] bcast_S_S16x16 (constantI S_ 32 0#32))) (iotaInDim S16x16 32 1)

/-- The identity of 16 columns. -/
def identity : FVec Ideal S16x16 .f32 := uitofp .f32 bits

theorem bits_at : ∀ i j : Fin 16, bits (ix2 i j) = if i = j then 1#1 else 0#1 := by decide +kernel

theorem identity_at (i j : Fin 16) : (identity (ix2 i j) : EReal) = same i j := by
  show ((((bits (ix2 i j)).toNat : ℕ) : ℝ) : EReal) = _
  rw [bits_at]
  unfold same
  split <;> simp

/-- The matrix of the rows against the identity, on four axes. -/
def spread (f : FVec Ideal S64x32 .f32) : FVec Ideal S64x16x32x16 .f32 := mulf
  (broadcastInDim S64x16x32x16 ![0, 1, 2, 3] bcast_S64x1x32x1_S64x16x32x16_0_1_2_3 (broadcastInDim S64x1x32x1 ![0, 2] bcast_S64x32_S64x1x32x1_0_2 f))
  (broadcastInDim S64x16x32x16 ![0, 1, 2, 3] bcast_S1x16x1x16_S64x16x32x16_0_1_2_3 (broadcastInDim S1x16x1x16 ![1, 3] bcast_S16x16_S1x16x1x16_1_3 identity))

/-- The matrix of the rows spread over 16 columns. -/
def table (f : FVec Ideal S64x32 .f32) : FVec Ideal S1024x512 .bf16 := truncf .bf16 (shapeCast S1024x512 (spread f) shapeCasts_S64x16x32x16_S1024x512) bitsLt_bf16_f32

theorem left_at (f : FVec Ideal S64x32 .f32) (k : Fin 64) (c : Fin 16) (r : Fin 32) (j : Fin 16) :
    (broadcastInDim S64x16x32x16 ![0, 1, 2, 3] bcast_S64x1x32x1_S64x16x32x16_0_1_2_3 (broadcastInDim S64x1x32x1 ![0, 2] bcast_S64x32_S64x1x32x1_0_2 f) (ix4 k c r j) : EReal) = f (ix2 k r) := by
  pointwise

theorem right_at (f : FVec Ideal S16x16 .f32) (k : Fin 64) (c : Fin 16) (r : Fin 32) (j : Fin 16) :
    (broadcastInDim S64x16x32x16 ![0, 1, 2, 3] bcast_S1x16x1x16_S64x16x32x16_0_1_2_3 (broadcastInDim S1x16x1x16 ![1, 3] bcast_S16x16_S1x16x1x16_1_3 f) (ix4 k c r j) : EReal) = f (ix2 c j) := by
  pointwise

theorem table_at (f : FVec Ideal S64x32 .f32) (k : Fin 64) (c : Fin 16) (r : Fin 32) (j : Fin 16) :
    (table f (ix2 (⟨k.val * 16 + c.val, by omega⟩ : Fin 1024) (⟨r.val * 16 + j.val, by omega⟩ : Fin 512)) : EReal) = f (ix2 k r) * same c j := by
  have h : (table f (ix2 (⟨k.val * 16 + c.val, by omega⟩ : Fin 1024) (⟨r.val * 16 + j.val, by omega⟩ : Fin 512)) : EReal) = spread f (ix4 k c r j) := by
    unfold table
    pointwise
  refine h.trans ?_
  exact congrArg₂ (fun a b : EReal => a * b) (left_at f k c r j) ((right_at identity k c r j).trans (identity_at c j))

theorem V_table (c : Dev nD) : (V m c main_v7 : FVec Ideal S1024x512 .bf16) = table (m ((c.tc : Thread nD τ).loc main_arg0)) := by
  show StableHlo.after (List.flatten [hostOps0, hostOps0_1, hostOps0_2]) _ _ = _
  simp only [List.flatten_cons, List.flatten_nil, List.append_nil, List.cons_append, List.nil_append]
  after_results
  rfl

theorem V_rows (c : Dev nD) : (V m c main_v8 : FVec Ideal S16x32x64x512 .bf16) = shapeCast S16x32x64x512 (m ((c.tc : Thread nD τ).loc main_arg1) : FVec Ideal S32768x512 .bf16) shapeCasts_S32768x512_S16x32x64x512 := by
  show StableHlo.after (List.flatten [hostOps0, hostOps0_1, hostOps0_2]) _ _ = _
  simp only [List.flatten_cons, List.flatten_nil, List.append_nil, List.cons_append, List.nil_append]
  after_results
  rfl

theorem grid_at (u : FVec Ideal S32768x512 .bf16) (b : Fin 16) (r : Fin 32) (c : Fin 64) (n : Fin 512) :
    (shapeCast S16x32x64x512 u shapeCasts_S32768x512_S16x32x64x512 (ix4 b r c n) : EReal) = u (ix2 ⟨b.val * 2048 + r.val * 64 + c.val, by omega⟩ n) := by
  pointwise

/-! The blocks at a point. -/

theorem whole0 (c : Dev nD) (t : Fin cfg0.N) (k : Fin 1024) (n : Fin 512) :
    iblk m c 0 t (ix2 k n : S1024x512.Idx) = V m c main_v7 (ix2 k n : S1024x512.Idx) := by
  show V m c main_v7 _ = _
  refine congrArg (V m c main_v7) (funext fun i => ?_)
  have e0 : win0_0.index t 0 = 0 := congrFun (index0 t) 0
  have e1 : win0_0.index t 1 = 0 := congrFun (index0 t) 1
  match i with
  | ⟨0, _⟩ => exact Fin.ext (show win0_0.index t 0 * 1024 + 1 * k.val = k.val by omega)
  | ⟨1, _⟩ => exact Fin.ext (show win0_0.index t 1 * 512 + 1 * n.val = n.val by omega)

theorem tile1 (c : Dev nD) (t : Fin cfg0.N) (r : Fin 32) (j : Fin 16) (n : Fin 512) :
    iblk m c 1 t (ix4 0 r j n : S1x32x16x512.Idx)
      = V m c main_v8 (ix4 ⟨t.val / 4, by have := pt_lt t; omega⟩ r ⟨t.val % 4 * 16 + j.val, by omega⟩ n : S16x32x64x512.Idx) := by
  show V m c main_v8 _ = _
  refine congrArg (V m c main_v8) (funext fun i => ?_)
  have e0 : win0_1.index t 0 = t.val / 4 := congrFun (index1 t) 0
  have e1 : win0_1.index t 1 = 0 := congrFun (index1 t) 1
  have e2 : win0_1.index t 2 = t.val % 4 := congrFun (index1 t) 2
  have e3 : win0_1.index t 3 = 0 := congrFun (index1 t) 3
  match i with
  | ⟨0, _⟩ => exact Fin.ext (show win0_1.index t 0 * 1 + 1 * 0 = t.val / 4 by omega)
  | ⟨1, _⟩ => exact Fin.ext (show win0_1.index t 1 * 32 + 1 * r.val = r.val by omega)
  | ⟨2, _⟩ => exact Fin.ext (show win0_1.index t 2 * 16 + 1 * j.val = t.val % 4 * 16 + j.val by omega)
  | ⟨3, _⟩ => exact Fin.ext (show win0_1.index t 3 * 512 + 1 * n.val = n.val by omega)

/-! A load of a whole block reads it. -/

theorem ld_grid (x : Vec Ideal S1x32x16x512 .bf16) : View.ld (Val := Elt Ideal) x r0_0 = x := funext fun y => congrArg x (funext fun i => Fin.ext (by
  match i with
  | ⟨0, _⟩ => exact (show 0 + 1 * (y 0).val = (y 0).val by omega)
  | ⟨1, _⟩ => exact (show 0 + 1 * (y 1).val = (y 1).val by omega)
  | ⟨2, _⟩ => exact (show 0 + 1 * (y 2).val = (y 2).val by omega)
  | ⟨3, _⟩ => exact (show 0 + 1 * (y 3).val = (y 3).val by omega)))
theorem ld_table (x : Vec Ideal S1024x512 .bf16) : View.ld (Val := Elt Ideal) x r0_1 = x := funext fun y => congrArg x (funext fun i => Fin.ext (by
  match i with
  | ⟨0, _⟩ => exact (show 0 + 1 * (y 0).val = (y 0).val by omega)
  | ⟨1, _⟩ => exact (show 0 + 1 * (y 1).val = (y 1).val by omega)))

theorem full_emb (k : Fin 64) (c : Fin 16) (n : Fin 512) : r0_2.emb (ix4 0 k c n) = (ix4 0 k c n : S1x64x16x512.Idx) := by
  funext a
  match a with
  | ⟨0, _⟩ => exact Fin.ext (show 0 + 1 * 0 = 0 by omega)
  | ⟨1, _⟩ => exact Fin.ext (show 0 + 1 * k.val = k.val by omega)
  | ⟨2, _⟩ => exact Fin.ext (show 0 + 1 * c.val = c.val by omega)
  | ⟨3, _⟩ => exact Fin.ext (show 0 + 1 * n.val = n.val by omega)

/-- The one store of a block leaves what it stores. -/
theorem canon_full (p : Vec Ideal S1x64x16x512 .bf16) (k : Fin 64) (c : Fin 16) (n : Fin 512) :
    View.canon (Val := Elt Ideal) [(⟨r0_2, p⟩ : View.Piece (Elt Ideal) S1x64x16x512 .bf16)] (ix4 0 k c n) = p (ix4 0 k c n) := by
  have h := View.canon_cons_emb (Val := Elt Ideal) r0_2 p [] (ix4 0 k c n)
  rw [full_emb] at h
  exact h

theorem pay_at (x : Vec Ideal S1x32x16x512 .bf16) (w : Vec Ideal S1024x512 .bf16) (k : Fin 64) (c : Fin 16) (n : Fin 512) :
    (k0_pay1 (F := Ideal) x w (ix4 0 k c n) : EReal)
      = ∑ l : Fin 512, w (ix2 ⟨k.val * 16 + c.val, by omega⟩ l) * x (ix4 0 ⟨l.val / 16, by omega⟩ ⟨l.val % 16, by omega⟩ n) := by
  pointwise [k0_pay1]

/-- The entry over the call's arguments. -/
abbrev entry (c : Dev nD) (b : Fin 16) (k q : Fin 64) (n : Fin 512) : EReal :=
  crossed (fun r => m ((c.tc : Thread nD τ).loc main_arg0) (ix2 k r : S64x32.Idx))
    (fun r => m ((c.tc : Thread nD τ).loc main_arg1) (ix2 ⟨b.val * 2048 + r.val * 64 + q.val, by omega⟩ n : S32768x512.Idx))

theorem out_at (c : Dev nD) (t : Fin cfg0.N) (k : Fin 64) (j : Fin 16) (n : Fin 512) :
    (out0_2 (F := Ideal) (iblk m c 0 t) (iblk m c 1 t) (ix4 0 k j n) : EReal)
      = entry m c ⟨t.val / 4, by have := pt_lt t; omega⟩ k ⟨t.val % 4 * 16 + j.val, by omega⟩ n := by
  unfold out0_2
  rw [canon_full, ld_grid, ld_table]
  refine (pay_at _ _ k j n).trans ?_
  refine crossed_eq (fun r => m ((c.tc : Thread nD τ).loc main_arg0) (ix2 k r : S64x32.Idx)) j _
    (fun r i => m ((c.tc : Thread nD τ).loc main_arg1) (ix2 ⟨t.val / 4 * 2048 + r.val * 64 + (t.val % 4 * 16 + i.val), by have := pt_lt t; omega⟩ n : S32768x512.Idx)) ?_
  intro r i hl
  have e1 : (⟨(r.val * 16 + i.val) / 16, by omega⟩ : Fin 32) = r := Fin.ext (by show (r.val * 16 + i.val) / 16 = r.val; omega)
  have e2 : (⟨(r.val * 16 + i.val) % 16, by omega⟩ : Fin 16) = i := Fin.ext (by show (r.val * 16 + i.val) % 16 = i.val; omega)
  have ha := (whole0 m c t ⟨k.val * 16 + j.val, by omega⟩ ⟨r.val * 16 + i.val, hl⟩).trans ((congrFun (V_table m c) _).trans (table_at _ k j r i))
  have hb := (tile1 m c t r i n).trans ((congrFun (V_rows m c) _).trans (grid_at _ _ _ _ _))
  refine congrArg₂ (fun a b : EReal => a * b) ha (Eq.trans ?_ hb)
  show (iblk m c 1 t (ix4 0 (⟨(r.val * 16 + i.val) / 16, _⟩ : Fin 32) (⟨(r.val * 16 + i.val) % 16, _⟩ : Fin 16) n : S1x32x16x512.Idx) : EReal) = _
  rw [e1, e2]

/-- The point that owns a column of a sequence. -/
def owner (b : Fin 16) (q : Fin 64) : Fin cfg0.N := ⟨b.val * 4 + q.val / 16, show b.val * 4 + q.val / 16 < 64 by omega⟩

theorem final2 (c : Dev nD) (b : Fin 16) (k q : Fin 64) (n : Fin 512) :
    ((dats m 0 c).arrAt 2 cfg0.N (ix4 b k q n : S16x64x64x512.Idx) : EReal) = entry m c b k q n := by
  have hb := congrFun ((Value.blocks2 m c (owner b q) (flush0_2 _)).trans (Value.flushed2 m c (owner b q))) (ix4 0 k ⟨q.val % 16, by omega⟩ n : S1x64x16x512.Idx)
  have v : (owner b q).val = b.val * 4 + q.val / 16 := rfl
  have e0 : win0_2.index (owner b q) 0 = (owner b q).val / 4 := congrFun (index2 (owner b q)) 0
  have e1 : win0_2.index (owner b q) 1 = 0 := congrFun (index2 (owner b q)) 1
  have e2 : win0_2.index (owner b q) 2 = (owner b q).val % 4 := congrFun (index2 (owner b q)) 2
  have e3 : win0_2.index (owner b q) 3 = 0 := congrFun (index2 (owner b q)) 3
  refine Eq.trans (congrArg ((dats m 0 c).arrAt 2 cfg0.N) (funext fun i => ?_)) (hb.trans ((out_at m c _ k _ n).trans ?_))
  · match i with
    | ⟨0, _⟩ => exact Fin.ext (show b.val = win0_2.index (owner b q) 0 * 1 + 1 * 0 by omega)
    | ⟨1, _⟩ => exact Fin.ext (show k.val = win0_2.index (owner b q) 1 * 64 + 1 * k.val by omega)
    | ⟨2, _⟩ => exact Fin.ext (show q.val = win0_2.index (owner b q) 2 * 16 + 1 * (q.val % 16) by omega)
    | ⟨3, _⟩ => exact Fin.ext (show n.val = win0_2.index (owner b q) 3 * 512 + 1 * n.val by omega)
  · have f1 : (⟨(owner b q).val / 4, by omega⟩ : Fin 16) = b := Fin.ext (by show (owner b q).val / 4 = b.val; omega)
    have f2 : (⟨(owner b q).val % 4 * 16 + q.val % 16, by omega⟩ : Fin 64) = q := Fin.ext (by show (owner b q).val % 4 * 16 + q.val % 16 = q.val; omega)
    exact congrArg₂ (fun (x : Fin 16) (y : Fin 64) => entry m c x k y n) f1 f2

end Cert.RowsIdeal.Project

end
-- ==== Proof.RowsHost.Stages.lean ====
module

public import proofs.«01_k».proof.Proof.Gen.RowsRefIdeal.Run
public import proofs.«01_k».proof.Proof.Project.Fourier
public import Idealize.ShloMosaic.Lib.Pointwise.IndexBridge

@[expose] public section

set_option maxRecDepth 16384

noncomputable section

/-! The reference of the grid's rows, entry by entry. -/

namespace Cert.RowsRefIdeal.Value

open Cert.RowsRefIdeal Cert.RowsRefIdeal.Gen
open Idealize.ShloMosaic Idealize.ShloMosaic.TcCoe Idealize.SL.Sem
open Cert.Project

/-- The tokens as a grid. -/
def laid (u : FVec Ideal S32768x512 .bf16) : FVec Ideal S16x32x64x512 .f32 := shapeCast _ (extf .f32 u bitsLt_bf16_f32) shapeCasts_S32768x512_S16x32x64x512

/-- The product with the matrix. -/
def product (f : FVec Ideal S64x32 .f32) (x : FVec Ideal S16x32x64x512 .f32) : FVec Ideal S16x64x512x64 .f32 :=
  Host.dotGeneral dot_S16x32x64x512_S64x32_S16x64x512x64_1_1_023_0_n_n none x f

/-- The rows' axis put second. -/
def whole (f : FVec Ideal S64x32 .f32) (u : FVec Ideal S32768x512 .bf16) : FVec Ideal S16x64x64x512 .bf16 :=
  truncf .bf16 (transpose S16x64x64x512 [0, 3, 1, 2] (product f (laid u)) transposes_S16x64x512x64_S16x64x64x512_0_3_1_2) bitsLt_bf16_f32

theorem laid_at (u : FVec Ideal S32768x512 .bf16) (b : Fin 16) (r : Fin 32) (c : Fin 64) (n : Fin 512) :
    (laid u (ix4 b r c n) : EReal) = u (ix2 ⟨b.val * 2048 + r.val * 64 + c.val, by omega⟩ n) := by
  unfold laid
  pointwise

theorem product_at (f : FVec Ideal S64x32 .f32) (x : FVec Ideal S16x32x64x512 .f32) (b : Fin 16) (c : Fin 64) (n : Fin 512) (k : Fin 64) :
    (product f x (ix4 b c n k) : EReal) = ∑ r : Fin 32, x (ix4 b r c n) * f (ix2 k r) := by
  unfold product
  pointwise

theorem whole_at (f : FVec Ideal S64x32 .f32) (u : FVec Ideal S32768x512 .bf16) (b : Fin 16) (k c : Fin 64) (n : Fin 512) :
    (whole f u (ix4 b k c n) : EReal) = crossed (fun r => f (ix2 k r)) (fun r => u (ix2 ⟨b.val * 2048 + r.val * 64 + c.val, by omega⟩ n)) := by
  have h : (whole f u (ix4 b k c n) : EReal) = product f (laid u) (ix4 b c n k) := by
    unfold whole
    pointwise
  rw [h, product_at]
  unfold crossed
  exact Finset.sum_congr rfl fun r _ => (congrArg (fun a : EReal => a * f (ix2 k r)) (laid_at u b r c n)).trans (mul_comm _ _)

variable (m : (ℓ : Loc nD τ sig) → Buf (Elt Ideal) ℓ)

/-- What the reference leaves. -/
def leaf (c : Dev nD) : FVec Ideal S16x64x64x512 .bf16 := whole (m ((c.tc : Thread nD τ).loc main_arg0)) (m ((c.tc : Thread nD τ).loc main_arg1))

/-- The run, over the stages. -/
theorem run_leaf (ρ : Dev nD → PrngReg) :
    θ_run defs (onTc (τ := τ) (main (F := Ideal))) ⟨m, fun _ => 0, ρ⟩ fun r => ∀ c : Dev nD,
      r.2.mem ((c.tc : Thread nD τ).loc main_v4) = leaf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.RowsRefIdeal.Value

end
-- ==== Proof.ColsIdeal.Columns.lean ====
module

public import proofs.«01_k».proof.Proof.Gen.ColsIdeal.Frame
public import proofs.«01_k».proof.Proof.Project.Fourier
public import Idealize.ShloMosaic.Lib.Pointwise.IndexBridge

@[expose] public section

set_option maxRecDepth 16384

noncomputable section

/-! What the kernel of the grid's columns computes of its blocks, read at one entry. -/

namespace Cert.ColsIdeal.Project

open Cert.ColsIdeal Cert.ColsIdeal.Gen
open Idealize.ShloMosaic
open Cert.Project

/-! One column. -/

/-- Two blocks of rows one above the other. -/
def above (y0 y1 : FVec Ideal S1x1x64x512 .bf16) : FVec Ideal S128x512 .bf16 :=
  concatenate S128x512 0 [⟨S64x512, shapeCast S64x512 y0 shapeCasts_S1x1x64x512_S64x512⟩, ⟨S64x512, shapeCast S64x512 y1 shapeCasts_S1x1x64x512_S64x512⟩] concatenates_S64x512_S64x512_S128x512_d0

/-- … through the column's matrix. -/
def column (y0 y1 : FVec Ideal S1x1x64x512 .bf16) (w : FVec Ideal S1x128x128 .bf16) : FVec Ideal S128x512 .f32 :=
  matmul dot_S128x128_S128x512_S128x512_1_0_0_1_n_n none (shapeCast S128x128 w shapeCasts_S1x128x128_S128x128) (above y0 y1) (constant S128x512 .f32 0x00000000#32)

/-- The product's first half … -/
def front (x : FVec Ideal S128x512 .f32) : FVec Ideal S64x512 .f32 := extractStridedSlice S64x512 ![0, 0] x slices_S128x512_o0_0_S64x512
/-- … and its second. -/
def rear (x : FVec Ideal S128x512 .f32) : FVec Ideal S64x512 .f32 := extractStridedSlice S64x512 ![64, 0] x slices_S128x512_o64_0_S64x512

theorem above_at (y0 y1 : FVec Ideal S1x1x64x512 .bf16) (j : Fin 128) (n : Fin 512) :
    (above y0 y1 (ix2 j n) : EReal) = stacked (fun j n => y0 (ix4 0 0 j n)) (fun j n => y1 (ix4 0 0 j n)) j n := by
  unfold stacked
  pointwise [above]

theorem column_at (y0 y1 : FVec Ideal S1x1x64x512 .bf16) (w : FVec Ideal S1x128x128 .bf16) (i : Fin 128) (n : Fin 512) :
    (column y0 y1 w (ix2 i n) : EReal) = turned (fun i j => w (ix3 0 i j)) (stacked (fun j n => y0 (ix4 0 0 j n)) (fun j n => y1 (ix4 0 0 j n))) i n := by
  have h : (column y0 y1 w (ix2 i n) : EReal) = ∑ j : Fin 128, w (ix3 0 i j) * above y0 y1 (ix2 j n) := by
    unfold column
    pointwise
  rw [h]
  exact Finset.sum_congr rfl fun j _ => congrArg (fun a : EReal => w (ix3 0 i j) * a) (above_at y0 y1 j n)

theorem front_at (x : FVec Ideal S128x512 .f32) (r : Fin 64) (n : Fin 512) : (front x (ix2 r n) : EReal) = x (ix2 ⟨r.val, by omega⟩ n) := by
  pointwise [front]
theorem rear_at (x : FVec Ideal S128x512 .f32) (r : Fin 64) (n : Fin 512) : (rear x (ix2 r n) : EReal) = x (ix2 ⟨64 + r.val, by omega⟩ n) := by
  pointwise [rear]

/-! The loads of a column. -/

theorem ld_rows (x : Vec Ideal S1x16x64x512 .bf16) (s : Fin 16) (h) (j : Fin 64) (n : Fin 512) :
    View.ld (Val := Elt Ideal) x (Rect.unit (s := S1x16x64x512) ![0, s.val, 0, 0] S1x1x64x512.size h) (ix4 0 0 j n : S1x1x64x512.Idx) = x (ix4 0 s j n) := congrArg x (funext fun i => Fin.ext (by
  match i with
  | ⟨0, _⟩ => exact (show 0 + 1 * 0 = 0 by omega)
  | ⟨1, _⟩ => exact (show s.val + 1 * 0 = s.val by omega)
  | ⟨2, _⟩ => exact (show 0 + 1 * j.val = j.val by omega)
  | ⟨3, _⟩ => exact (show 0 + 1 * n.val = n.val by omega)))
theorem ld_matrix (x : Vec Ideal S16x128x128 .bf16) (s : Fin 16) (h) (i j : Fin 128) :
    View.ld (Val := Elt Ideal) x (Rect.unit (s := S16x128x128) ![s.val, 0, 0] S1x128x128.size h) (ix3 0 i j : S1x128x128.Idx) = x (ix3 s i j) := congrArg x (funext fun a => Fin.ext (by
  match a with
  | ⟨0, _⟩ => exact (show s.val + 1 * 0 = s.val by omega)
  | ⟨1, _⟩ => exact (show 0 + 1 * i.val = i.val by omega)
  | ⟨2, _⟩ => exact (show 0 + 1 * j.val = j.val by omega)))
theorem ld_group (x : Vec Ideal S4x128x128 .bf16) (s : Fin 4) (h) (i j : Fin 128) :
    View.ld (Val := Elt Ideal) x (Rect.unit (s := S4x128x128) ![s.val, 0, 0] S1x128x128.size h) (ix3 0 i j : S1x128x128.Idx) = x (ix3 s i j) := congrArg x (funext fun a => Fin.ext (by
  match a with
  | ⟨0, _⟩ => exact (show s.val + 1 * 0 = s.val by omega)
  | ⟨1, _⟩ => exact (show 0 + 1 * i.val = i.val by omega)
  | ⟨2, _⟩ => exact (show 0 + 1 * j.val = j.val by omega)))
theorem ld_fold (x : Vec Ideal S256x128 .bf16) : View.ld (Val := Elt Ideal) x r0_32 = x := funext fun y => congrArg x (funext fun i => Fin.ext (by
  match i with
  | ⟨0, _⟩ => exact (show 0 + 1 * (y 0).val = (y 0).val by omega)
  | ⟨1, _⟩ => exact (show 0 + 1 * (y 1).val = (y 1).val by omega)))
theorem ld_gain (x : Vec Ideal S1x512 .f32) : View.ld (Val := Elt Ideal) x r0_37 = x := funext fun y => congrArg x (funext fun i => Fin.ext (by
  match i with
  | ⟨0, _⟩ => exact (show 0 + 1 * (y 0).val = (y 0).val by omega)
  | ⟨1, _⟩ => exact (show 0 + 1 * (y 1).val = (y 1).val by omega)))

section
variable (x0 x1 : Vec Ideal S1x16x64x512 .bf16) (x2 : Vec Ideal S16x128x128 .bf16)

/-- A column's product, over the blocks. -/
abbrev product (s : Fin 16) : Fin 128 → Fin 512 → EReal :=
  turned (fun i j => x2 (ix3 s i j)) (stacked (fun j n => x0 (ix4 0 s j n)) (fun j n => x1 (ix4 0 s j n)))

theorem loaded_at (s : Fin 16) (h0 h1 h2) (i : Fin 128) (n : Fin 512) :
    (column (View.ld (Val := Elt Ideal) x0 (Rect.unit (s := S1x16x64x512) ![0, s.val, 0, 0] S1x1x64x512.size h0)) (View.ld (Val := Elt Ideal) x1 (Rect.unit (s := S1x16x64x512) ![0, s.val, 0, 0] S1x1x64x512.size h1))
      (View.ld (Val := Elt Ideal) x2 (Rect.unit (s := S16x128x128) ![s.val, 0, 0] S1x128x128.size h2)) (ix2 i n) : EReal) = product x0 x1 x2 s i n := by
  refine (column_at _ _ _ i n).trans ?_
  rw [funext fun i => funext fun j => ld_matrix x2 s h2 i j, funext fun j => funext fun n => ld_rows x0 s h0 j n, funext fun j => funext fun n => ld_rows x1 s h1 j n]

theorem front_loaded (s : Fin 16) (h0 h1 h2) (r : Fin 64) (n : Fin 512) :
    (front (column (View.ld (Val := Elt Ideal) x0 (Rect.unit (s := S1x16x64x512) ![0, s.val, 0, 0] S1x1x64x512.size h0)) (View.ld (Val := Elt Ideal) x1 (Rect.unit (s := S1x16x64x512) ![0, s.val, 0, 0] S1x1x64x512.size h1))
      (View.ld (Val := Elt Ideal) x2 (Rect.unit (s := S16x128x128) ![s.val, 0, 0] S1x128x128.size h2))) (ix2 r n) : EReal) = product x0 x1 x2 s ⟨r.val, by omega⟩ n :=
  (front_at _ r n).trans (loaded_at x0 x1 x2 s h0 h1 h2 _ n)
theorem rear_loaded (s : Fin 16) (h0 h1 h2) (r : Fin 64) (n : Fin 512) :
    (rear (column (View.ld (Val := Elt Ideal) x0 (Rect.unit (s := S1x16x64x512) ![0, s.val, 0, 0] S1x1x64x512.size h0)) (View.ld (Val := Elt Ideal) x1 (Rect.unit (s := S1x16x64x512) ![0, s.val, 0, 0] S1x1x64x512.size h1))
      (View.ld (Val := Elt Ideal) x2 (Rect.unit (s := S16x128x128) ![s.val, 0, 0] S1x128x128.size h2))) (ix2 r n) : EReal) = product x0 x1 x2 s ⟨64 + r.val, by omega⟩ n :=
  (rear_at _ r n).trans (loaded_at x0 x1 x2 s h0 h1 h2 _ n)

end

/-! The sixteen columns together. -/

/-- Sixteen blocks of 64 rows, one above the other. -/
def pile (y : Fin 16 → FVec Ideal S64x512 .f32) : FVec Ideal S1024x512 .bf16 :=
  truncf .bf16 (concatenate S1024x512 0 [⟨S64x512, y 0⟩, ⟨S64x512, y 1⟩, ⟨S64x512, y 2⟩, ⟨S64x512, y 3⟩, ⟨S64x512, y 4⟩, ⟨S64x512, y 5⟩, ⟨S64x512, y 6⟩, ⟨S64x512, y 7⟩, ⟨S64x512, y 8⟩, ⟨S64x512, y 9⟩, ⟨S64x512, y 10⟩, ⟨S64x512, y 11⟩, ⟨S64x512, y 12⟩, ⟨S64x512, y 13⟩, ⟨S64x512, y 14⟩, ⟨S64x512, y 15⟩] concatenates_S64x512_S64x512_S64x512_S64x512_S64x512_S64x512_S64x512_S64x512_S64x512_S64x512_S64x512_S64x512_S64x512_S64x512_S64x512_S64x512_S1024x512_d0) bitsLt_bf16_f32

theorem pile_at (y : Fin 16 → FVec Ideal S64x512 .f32) (s : Fin 16) (r : Fin 64) (n : Fin 512) :
    (pile y (ix2 (⟨s.val * 64 + r.val, by omega⟩ : Fin 1024) n) : EReal) = y s (ix2 r n) :=
  concatenate_ofFn_apply (t := S1024x512) (s₁ := S64x512) 0 y concatenates_S64x512_S64x512_S64x512_S64x512_S64x512_S64x512_S64x512_S64x512_S64x512_S64x512_S64x512_S64x512_S64x512_S64x512_S64x512_S64x512_S1024x512_d0 rfl 64 rfl (ix2 (⟨s.val * 64 + r.val, by omega⟩ : Fin 1024) n) s
    (show (s.val * 64 + r.val) / 64 = s.val by omega) (ix2 r n) (show r.val = (s.val * 64 + r.val) % 64 by omega) (fun b hb => by
      match b with
      | ⟨0, _⟩ => exact absurd rfl hb
      | ⟨1, _⟩ => rfl)

section
variable (x0 x1 : Vec Ideal S1x16x64x512 .bf16) (x2 : Vec Ideal S16x128x128 .bf16) (x3 : Vec Ideal S256x128 .bf16) (x4 : Vec Ideal S4x128x128 .bf16) (x5 : Vec Ideal S1x512 .f32)

/-- The columns' products as the kernel computes them. -/
def parts (s : Fin 16) : FVec Ideal S128x512 .f32 :=
  match s with
  | ⟨0, _⟩ => column (View.ld (Val := Elt Ideal) x0 r0_0) (View.ld (Val := Elt Ideal) x1 r0_0) (View.ld (Val := Elt Ideal) x2 r0_1)
  | ⟨1, _⟩ => column (View.ld (Val := Elt Ideal) x0 r0_2) (View.ld (Val := Elt Ideal) x1 r0_2) (View.ld (Val := Elt Ideal) x2 r0_3)
  | ⟨2, _⟩ => column (View.ld (Val := Elt Ideal) x0 r0_4) (View.ld (Val := Elt Ideal) x1 r0_4) (View.ld (Val := Elt Ideal) x2 r0_5)
  | ⟨3, _⟩ => column (View.ld (Val := Elt Ideal) x0 r0_6) (View.ld (Val := Elt Ideal) x1 r0_6) (View.ld (Val := Elt Ideal) x2 r0_7)
  | ⟨4, _⟩ => column (View.ld (Val := Elt Ideal) x0 r0_8) (View.ld (Val := Elt Ideal) x1 r0_8) (View.ld (Val := Elt Ideal) x2 r0_9)
  | ⟨5, _⟩ => column (View.ld (Val := Elt Ideal) x0 r0_10) (View.ld (Val := Elt Ideal) x1 r0_10) (View.ld (Val := Elt Ideal) x2 r0_11)
  | ⟨6, _⟩ => column (View.ld (Val := Elt Ideal) x0 r0_12) (View.ld (Val := Elt Ideal) x1 r0_12) (View.ld (Val := Elt Ideal) x2 r0_13)
  | ⟨7, _⟩ => column (View.ld (Val := Elt Ideal) x0 r0_14) (View.ld (Val := Elt Ideal) x1 r0_14) (View.ld (Val := Elt Ideal) x2 r0_15)
  | ⟨8, _⟩ => column (View.ld (Val := Elt Ideal) x0 r0_16) (View.ld (Val := Elt Ideal) x1 r0_16) (View.ld (Val := Elt Ideal) x2 r0_17)
  | ⟨9, _⟩ => column (View.ld (Val := Elt Ideal) x0 r0_18) (View.ld (Val := Elt Ideal) x1 r0_18) (View.ld (Val := Elt Ideal) x2 r0_19)
  | ⟨10, _⟩ => column (View.ld (Val := Elt Ideal) x0 r0_20) (View.ld (Val := Elt Ideal) x1 r0_20) (View.ld (Val := Elt Ideal) x2 r0_21)
  | ⟨11, _⟩ => column (View.ld (Val := Elt Ideal) x0 r0_22) (View.ld (Val := Elt Ideal) x1 r0_22) (View.ld (Val := Elt Ideal) x2 r0_23)
  | ⟨12, _⟩ => column (View.ld (Val := Elt Ideal) x0 r0_24) (View.ld (Val := Elt Ideal) x1 r0_24) (View.ld (Val := Elt Ideal) x2 r0_25)
  | ⟨13, _⟩ => column (View.ld (Val := Elt Ideal) x0 r0_26) (View.ld (Val := Elt Ideal) x1 r0_26) (View.ld (Val := Elt Ideal) x2 r0_27)
  | ⟨14, _⟩ => column (View.ld (Val := Elt Ideal) x0 r0_28) (View.ld (Val := Elt Ideal) x1 r0_28) (View.ld (Val := Elt Ideal) x2 r0_29)
  | ⟨15, _⟩ => column (View.ld (Val := Elt Ideal) x0 r0_30) (View.ld (Val := Elt Ideal) x1 r0_30) (View.ld (Val := Elt Ideal) x2 r0_31)
  | ⟨k + 16, h⟩ => absurd h (by omega)

theorem parts_front (s : Fin 16) (r : Fin 64) (n : Fin 512) : (front (parts x0 x1 x2 s) (ix2 r n) : EReal) = product x0 x1 x2 s ⟨r.val, by omega⟩ n := by
  match s with
  | ⟨0, _⟩ => exact front_loaded x0 x1 x2 0 _ _ _ r n
  | ⟨1, _⟩ => exact front_loaded x0 x1 x2 1 _ _ _ r n
  | ⟨2, _⟩ => exact front_loaded x0 x1 x2 2 _ _ _ r n
  | ⟨3, _⟩ => exact front_loaded x0 x1 x2 3 _ _ _ r n
  | ⟨4, _⟩ => exact front_loaded x0 x1 x2 4 _ _ _ r n
  | ⟨5, _⟩ => exact front_loaded x0 x1 x2 5 _ _ _ r n
  | ⟨6, _⟩ => exact front_loaded x0 x1 x2 6 _ _ _ r n
  | ⟨7, _⟩ => exact front_loaded x0 x1 x2 7 _ _ _ r n
  | ⟨8, _⟩ => exact front_loaded x0 x1 x2 8 _ _ _ r n
  | ⟨9, _⟩ => exact front_loaded x0 x1 x2 9 _ _ _ r n
  | ⟨10, _⟩ => exact front_loaded x0 x1 x2 10 _ _ _ r n
  | ⟨11, _⟩ => exact front_loaded x0 x1 x2 11 _ _ _ r n
  | ⟨12, _⟩ => exact front_loaded x0 x1 x2 12 _ _ _ r n
  | ⟨13, _⟩ => exact front_loaded x0 x1 x2 13 _ _ _ r n
  | ⟨14, _⟩ => exact front_loaded x0 x1 x2 14 _ _ _ r n
  | ⟨15, _⟩ => exact front_loaded x0 x1 x2 15 _ _ _ r n
  | ⟨k + 16, h⟩ => exact absurd h (by omega)

theorem parts_rear (s : Fin 16) (r : Fin 64) (n : Fin 512) : (rear (parts x0 x1 x2 s) (ix2 r n) : EReal) = product x0 x1 x2 s ⟨64 + r.val, by omega⟩ n := by
  match s with
  | ⟨0, _⟩ => exact rear_loaded x0 x1 x2 0 _ _ _ r n
  | ⟨1, _⟩ => exact rear_loaded x0 x1 x2 1 _ _ _ r n
  | ⟨2, _⟩ => exact rear_loaded x0 x1 x2 2 _ _ _ r n
  | ⟨3, _⟩ => exact rear_loaded x0 x1 x2 3 _ _ _ r n
  | ⟨4, _⟩ => exact rear_loaded x0 x1 x2 4 _ _ _ r n
  | ⟨5, _⟩ => exact rear_loaded x0 x1 x2 5 _ _ _ r n
  | ⟨6, _⟩ => exact rear_loaded x0 x1 x2 6 _ _ _ r n
  | ⟨7, _⟩ => exact rear_loaded x0 x1 x2 7 _ _ _ r n
  | ⟨8, _⟩ => exact rear_loaded x0 x1 x2 8 _ _ _ r n
  | ⟨9, _⟩ => exact rear_loaded x0 x1 x2 9 _ _ _ r n
  | ⟨10, _⟩ => exact rear_loaded x0 x1 x2 10 _ _ _ r n
  | ⟨11, _⟩ => exact rear_loaded x0 x1 x2 11 _ _ _ r n
  | ⟨12, _⟩ => exact rear_loaded x0 x1 x2 12 _ _ _ r n
  | ⟨13, _⟩ => exact rear_loaded x0 x1 x2 13 _ _ _ r n
  | ⟨14, _⟩ => exact rear_loaded x0 x1 x2 14 _ _ _ r n
  | ⟨15, _⟩ => exact rear_loaded x0 x1 x2 15 _ _ _ r n
  | ⟨k + 16, h⟩ => exact absurd h (by omega)

theorem fronts_eq : k0_pay109 x0 x1 x2 x3 x4 x5 = pile fun s => front (parts x0 x1 x2 s) := rfl
theorem rears_eq : k0_pay110 x0 x1 x2 x3 x4 x5 = pile fun s => rear (parts x0 x1 x2 s) := rfl

theorem fronts_at (s : Fin 16) (r : Fin 64) (n : Fin 512) :
    (k0_pay109 x0 x1 x2 x3 x4 x5 (ix2 (⟨s.val * 64 + r.val, by omega⟩ : Fin 1024) n) : EReal) = product x0 x1 x2 s ⟨r.val, by omega⟩ n := by
  rw [fronts_eq]
  exact (pile_at _ s r n).trans (parts_front x0 x1 x2 s r n)
theorem rears_at (s : Fin 16) (r : Fin 64) (n : Fin 512) :
    (k0_pay110 x0 x1 x2 x3 x4 x5 (ix2 (⟨s.val * 64 + r.val, by omega⟩ : Fin 1024) n) : EReal) = product x0 x1 x2 s ⟨64 + r.val, by omega⟩ n := by
  rw [rears_eq]
  exact (pile_at _ s r n).trans (parts_rear x0 x1 x2 s r n)

end

end Cert.ColsIdeal.Project

end
-- ==== Proof.ColsIdeal.Groups.lean ====
module

public import proofs.«01_k».proof.Proof.ColsIdeal.Columns

@[expose] public section

set_option maxRecDepth 16384

noncomputable section

/-! The groups' maps and the norm, read at one entry. -/

namespace Cert.ColsIdeal.Project

open Cert.ColsIdeal Cert.ColsIdeal.Gen
open Idealize.ShloMosaic
open Cert.Project

/-- A group's channels. -/
def lanes (o : ℕ) (x : FVec Ideal S1024x512 .bf16) (h : S1024x512.Slices ![0, o] S1024x128) : FVec Ideal S1024x128 .bf16 := extractStridedSlice S1024x128 ![0, o] x h

theorem lanes_at (o : ℕ) (x : FVec Ideal S1024x512 .bf16) (h) (ho : o + 128 ≤ 512) (R : Fin 1024) (j : Fin 128) :
    (lanes o x h (ix2 R j) : EReal) = x (ix2 R ⟨o + j.val, by omega⟩) := by
  pointwise [lanes]

/-- Two halves side by side. -/
def beside (a b : FVec Ideal S1024x128 .bf16) : FVec Ideal S1024x256 .bf16 := concatenate S1024x256 1 [⟨S1024x128, a⟩, ⟨S1024x128, b⟩] concatenates_S1024x128_S1024x128_S1024x256_d1

theorem beside_at (a b : FVec Ideal S1024x128 .bf16) (R : Fin 1024) (j : Fin 256) :
    (beside a b (ix2 R j) : EReal) = if h : j.val < 128 then a (ix2 R ⟨j.val, h⟩) else b (ix2 R ⟨j.val - 128, by omega⟩) := by
  pointwise [beside]

/-- … through the one matrix. -/
def fold (a b : FVec Ideal S1024x128 .bf16) (w : FVec Ideal S256x128 .bf16) : FVec Ideal S1024x128 .bf16 :=
  truncf .bf16 (matmul dot_S1024x256_S256x128_S1024x128_1_0_0_1_n_n none (beside a b) w (constant S1024x128 .f32 0x00000000#32)) bitsLt_bf16_f32

theorem fold_at (a b : FVec Ideal S1024x128 .bf16) (w : FVec Ideal S256x128 .bf16) (R : Fin 1024) (l : Fin 128) :
    (fold a b w (ix2 R l) : EReal) = ∑ j : Fin 128, a (ix2 R j) * w (ix2 ⟨j.val, by omega⟩ l) + ∑ j : Fin 128, b (ix2 R j) * w (ix2 ⟨128 + j.val, by omega⟩ l) := by
  have h : (fold a b w (ix2 R l) : EReal) = ∑ j : Fin 256, beside a b (ix2 R j) * w (ix2 j l) := by
    unfold fold
    pointwise
  rw [h]
  refine (Fin.sum_univ_add (a := 128) (b := 128) (fun j : Fin (128 + 128) => (beside a b (ix2 R j) : EReal) * w (ix2 j l))).trans (congrArg₂ (fun x y : EReal => x + y) ?_ ?_)
  · refine Finset.sum_congr rfl fun j _ => congrArg₂ (fun x y : EReal => x * y) ?_ rfl
    exact (beside_at a b R _).trans (dif_pos (show (Fin.castAdd 128 j : Fin (128 + 128)).val < 128 from j.isLt))
  · refine Finset.sum_congr rfl fun j _ => congrArg₂ (fun x y : EReal => x * y) ?_ rfl
    refine (beside_at a b R _).trans ((dif_neg (show ¬ (Fin.natAdd 128 j : Fin (128 + 128)).val < 128 by show ¬ 128 + j.val < 128; omega)).trans ?_)
    exact congrArg (fun q : Fin 128 => b (ix2 R q)) (Fin.ext (show 128 + j.val - 128 = j.val by omega))

/-- … and the group's own. -/
def group (z : FVec Ideal S1024x128 .bf16) (u : FVec Ideal S1x128x128 .bf16) : FVec Ideal S1024x128 .f32 :=
  matmul dot_S1024x128_S128x128_S1024x128_1_0_0_1_n_n none z (shapeCast S128x128 u shapeCasts_S1x128x128_S128x128) (constant S1024x128 .f32 0x00000000#32)

theorem group_at (z : FVec Ideal S1024x128 .bf16) (u : FVec Ideal S1x128x128 .bf16) (R : Fin 1024) (e : Fin 128) :
    (group z u (ix2 R e) : EReal) = ∑ l : Fin 128, z (ix2 R l) * u (ix3 0 l e) := by
  unfold group
  pointwise

/-- Four groups side by side. -/
def four (y : Fin 4 → FVec Ideal S1024x128 .f32) : FVec Ideal S1024x512 .f32 :=
  concatenate S1024x512 1 [⟨S1024x128, y 0⟩, ⟨S1024x128, y 1⟩, ⟨S1024x128, y 2⟩, ⟨S1024x128, y 3⟩] concatenates_S1024x128_S1024x128_S1024x128_S1024x128_S1024x512_d1

theorem four_ladder (y : Fin 4 → FVec Ideal S1024x128 .f32) (R : Fin 1024) (C : Fin 512) :
    (four y (ix2 R C) : EReal)
      = if h : C.val < 128 then y 0 (ix2 R ⟨C.val, h⟩) else if h : C.val - 128 < 128 then y 1 (ix2 R ⟨C.val - 128, h⟩)
        else if h : C.val - 128 - 128 < 128 then y 2 (ix2 R ⟨C.val - 128 - 128, h⟩) else y 3 (ix2 R ⟨C.val - 128 - 128 - 128, by omega⟩) := by
  pointwise [four]

theorem four_at (y : Fin 4 → FVec Ideal S1024x128 .f32) (R : Fin 1024) (C : Fin 512) :
    (four y (ix2 R C) : EReal) = y ⟨C.val / 128, by omega⟩ (ix2 R ⟨C.val % 128, by omega⟩) := by
  obtain ⟨g, e, rfl⟩ : ∃ (g : Fin 4) (e : Fin 128), C = ⟨g.val * 128 + e.val, by omega⟩ :=
    ⟨⟨C.val / 128, by omega⟩, ⟨C.val % 128, by omega⟩, Fin.ext (by show C.val = C.val / 128 * 128 + C.val % 128; omega)⟩
  have e1 : (⟨(g.val * 128 + e.val) / 128, by omega⟩ : Fin 4) = g := Fin.ext (by show (g.val * 128 + e.val) / 128 = g.val; omega)
  have e2 : (⟨(g.val * 128 + e.val) % 128, by omega⟩ : Fin 128) = e := Fin.ext (by show (g.val * 128 + e.val) % 128 = e.val; omega)
  refine Eq.trans ?_ (congrArg₂ (fun (a : Fin 4) (b : Fin 128) => (y a (ix2 R b) : EReal)) e1 e2).symm
  refine (four_ladder y R _).trans ?_
  match g with
  | ⟨0, _⟩ => exact (dif_pos (show 0 * 128 + e.val < 128 by omega)).trans <| congrArg (fun q : Fin 128 => y 0 (ix2 R q)) (Fin.ext (show 0 * 128 + e.val = e.val by omega))
  | ⟨1, _⟩ => exact (dif_neg (show ¬ 1 * 128 + e.val < 128 by omega)).trans <| (dif_pos (show 1 * 128 + e.val - 128 < 128 by omega)).trans <| congrArg (fun q : Fin 128 => y 1 (ix2 R q)) (Fin.ext (show 1 * 128 + e.val - 128 = e.val by omega))
  | ⟨2, _⟩ => exact (dif_neg (show ¬ 2 * 128 + e.val < 128 by omega)).trans <| (dif_neg (show ¬ 2 * 128 + e.val - 128 < 128 by omega)).trans <| (dif_pos (show 2 * 128 + e.val - 128 - 128 < 128 by omega)).trans <| congrArg (fun q : Fin 128 => y 2 (ix2 R q)) (Fin.ext (show 2 * 128 + e.val - 128 - 128 = e.val by omega))
  | ⟨3, _⟩ => exact (dif_neg (show ¬ 3 * 128 + e.val < 128 by omega)).trans <| (dif_neg (show ¬ 3 * 128 + e.val - 128 < 128 by omega)).trans <| (dif_neg (show ¬ 3 * 128 + e.val - 128 - 128 < 128 by omega)).trans <| congrArg (fun q : Fin 128 => y 3 (ix2 R q)) (Fin.ext (show 3 * 128 + e.val - 128 - 128 - 128 = e.val by omega))

/-- Rows over their root mean square. -/
def even (a : FVec Ideal S1024x512 .f32) (g : FVec Ideal S1x512 .f32) : FVec Ideal S1024x512 .bf16 :=
  truncf .bf16 (mulf (mulf a (broadcastTo S1024x512 (rsqrt (addf (divf (shapeCast S1024x1 (multiReduction .add [1] S1024 (mulf a a) 0x00000000#32 reduces_S1024x512_S1024 (.inl rfl) rfl) shapeCasts_S1024_S1024x1)
    (broadcast S1024x1 (Scalar.ofBits .f32 0x44000000#32))) (broadcast S1024x1 (Scalar.ofBits .f32 0x358637BD#32)))) broadcasts_S1024x1_S1024x512)) (broadcastTo S1024x512 g broadcasts_S1x512_S1024x512)) bitsLt_bf16_f32

theorem even_at (a : FVec Ideal S1024x512 .f32) (g : FVec Ideal S1x512 .f32) (R : Fin 1024) (C : Fin 512) :
    (even a g (ix2 R C) : EReal) = evened (fun c => a (ix2 R c)) (fun c => g (ix2 0 c)) C := by
  unfold evened headsWidth eps
  pointwise [even]

section
variable (x0 x1 : Vec Ideal S1x16x64x512 .bf16) (x2 : Vec Ideal S16x128x128 .bf16) (x3 : Vec Ideal S256x128 .bf16) (x4 : Vec Ideal S4x128x128 .bf16) (x5 : Vec Ideal S1x512 .f32)

/-- The groups as the kernel computes them. -/
def groups (g : Fin 4) : FVec Ideal S1024x128 .f32 :=
  match g with
  | ⟨0, _⟩ => group (fold (lanes 0 (k0_pay109 x0 x1 x2 x3 x4 x5) slices_S1024x512_o0_0_S1024x128) (lanes 0 (k0_pay110 x0 x1 x2 x3 x4 x5) slices_S1024x512_o0_0_S1024x128) (View.ld (Val := Elt Ideal) x3 r0_32)) (View.ld (Val := Elt Ideal) x4 r0_33)
  | ⟨1, _⟩ => group (fold (lanes 128 (k0_pay109 x0 x1 x2 x3 x4 x5) slices_S1024x512_o0_128_S1024x128) (lanes 128 (k0_pay110 x0 x1 x2 x3 x4 x5) slices_S1024x512_o0_128_S1024x128) (View.ld (Val := Elt Ideal) x3 r0_32)) (View.ld (Val := Elt Ideal) x4 r0_34)
  | ⟨2, _⟩ => group (fold (lanes 256 (k0_pay109 x0 x1 x2 x3 x4 x5) slices_S1024x512_o0_256_S1024x128) (lanes 256 (k0_pay110 x0 x1 x2 x3 x4 x5) slices_S1024x512_o0_256_S1024x128) (View.ld (Val := Elt Ideal) x3 r0_32)) (View.ld (Val := Elt Ideal) x4 r0_35)
  | ⟨3, _⟩ => group (fold (lanes 384 (k0_pay109 x0 x1 x2 x3 x4 x5) slices_S1024x512_o0_384_S1024x128) (lanes 384 (k0_pay110 x0 x1 x2 x3 x4 x5) slices_S1024x512_o0_384_S1024x128) (View.ld (Val := Elt Ideal) x3 r0_32)) (View.ld (Val := Elt Ideal) x4 r0_36)

theorem tokens_eq : k0_pay116 x0 x1 x2 x3 x4 x5 = even (four (groups x0 x1 x2 x3 x4 x5)) (View.ld (Val := Elt Ideal) x5 r0_37) := rfl

theorem one_at (g : Fin 4) (h h' hu) (s : Fin 16) (r : Fin 64) (e : Fin 128) :
    (group (fold (lanes (128 * g.val) (k0_pay109 x0 x1 x2 x3 x4 x5) h) (lanes (128 * g.val) (k0_pay110 x0 x1 x2 x3 x4 x5) h') (View.ld (Val := Elt Ideal) x3 r0_32))
        (View.ld (Val := Elt Ideal) x4 (Rect.unit (s := S4x128x128) ![g.val, 0, 0] S1x128x128.size hu)) (ix2 (⟨s.val * 64 + r.val, by omega⟩ : Fin 1024) e) : EReal)
      = ∑ l : Fin 128, folded (product x0 x1 x2 s ⟨r.val, by omega⟩) (product x0 x1 x2 s ⟨64 + r.val, by omega⟩) (fun j l => x3 (ix2 j l)) g l * x4 (ix3 g l e) := by
  refine (group_at _ _ _ e).trans (Finset.sum_congr rfl fun l _ => congrArg₂ (fun a b : EReal => a * b) ?_ (ld_group x4 g hu l e))
  rw [ld_fold]
  refine (fold_at _ _ x3 _ l).trans (congrArg₂ (fun a b : EReal => a + b) (Finset.sum_congr rfl fun j _ => congrArg (fun a : EReal => a * _) ?_) (Finset.sum_congr rfl fun j _ => congrArg (fun a : EReal => a * _) ?_))
  · refine (lanes_at _ _ h (by omega) _ j).trans ((fronts_at x0 x1 x2 x3 x4 x5 s r _).trans ?_)
    exact congrArg (product x0 x1 x2 s ⟨r.val, _⟩) (Fin.ext (show 128 * g.val + j.val = g.val * 128 + j.val by omega))
  · refine (lanes_at _ _ h' (by omega) _ j).trans ((rears_at x0 x1 x2 x3 x4 x5 s r _).trans ?_)
    exact congrArg (product x0 x1 x2 s ⟨64 + r.val, _⟩) (Fin.ext (show 128 * g.val + j.val = g.val * 128 + j.val by omega))

theorem groups_at (g : Fin 4) (s : Fin 16) (r : Fin 64) (e : Fin 128) :
    (groups x0 x1 x2 x3 x4 x5 g (ix2 (⟨s.val * 64 + r.val, by omega⟩ : Fin 1024) e) : EReal)
      = ∑ l : Fin 128, folded (product x0 x1 x2 s ⟨r.val, by omega⟩) (product x0 x1 x2 s ⟨64 + r.val, by omega⟩) (fun j l => x3 (ix2 j l)) g l * x4 (ix3 g l e) := by
  match g with
  | ⟨0, _⟩ => exact one_at x0 x1 x2 x3 x4 x5 0 _ _ _ s r e
  | ⟨1, _⟩ => exact one_at x0 x1 x2 x3 x4 x5 1 _ _ _ s r e
  | ⟨2, _⟩ => exact one_at x0 x1 x2 x3 x4 x5 2 _ _ _ s r e
  | ⟨3, _⟩ => exact one_at x0 x1 x2 x3 x4 x5 3 _ _ _ s r e

/-- A token of the block. -/
theorem tokens_at (s : Fin 16) (r : Fin 64) (C : Fin 512) :
    (k0_pay116 x0 x1 x2 x3 x4 x5 (ix2 (⟨s.val * 64 + r.val, by omega⟩ : Fin 1024) C) : EReal)
      = spectral (fun i j => x2 (ix3 s i j)) (fun j n => x0 (ix4 0 s j n)) (fun j n => x1 (ix4 0 s j n)) (fun j l => x3 (ix2 j l)) (fun g l e => x4 (ix3 g l e)) (fun n => x5 (ix2 0 n)) r C := by
  rw [tokens_eq, ld_gain]
  refine (even_at _ x5 _ C).trans ?_
  unfold spectral
  refine congrArg (fun a => evened a (fun n => x5 (ix2 0 n)) C) (funext fun c => ?_)
  exact (four_at _ _ c).trans (groups_at x0 x1 x2 x3 x4 x5 _ s r _)

end

end Cert.ColsIdeal.Project

end
-- ==== Proof.ColsIdeal.Value.lean ====
module

public import proofs.«01_k».proof.Proof.Gen.ColsIdeal.Value
public import proofs.«01_k».proof.Proof.ColsIdeal.Groups
public import Idealize.ShloMosaic.Lib.Pipeline.CanonAppend

@[expose] public section

set_option maxRecDepth 16384

noncomputable section

/-! The array the kernel of the grid's columns leaves, entry by entry. -/

namespace Cert.ColsIdeal.Project

open Cert.ColsIdeal Cert.ColsIdeal.Gen
open Idealize.ShloMosaic Idealize.ShloMosaic.TcCoe
open Cert.Project

theorem index0 : ∀ t : Fin grid0.N, win0_0.index t = ![t.val / 2, t.val % 2, 0, 0] := by decide +kernel
theorem index1 : ∀ t : Fin grid0.N, win0_1.index t = ![t.val / 2, 2 + t.val % 2, 0, 0] := by decide +kernel
theorem index2 : ∀ t : Fin grid0.N, win0_2.index t = ![t.val % 2, 0, 0] := by decide +kernel
theorem index3 : ∀ t : Fin grid0.N, win0_3.index t = ![0, 0] := by decide +kernel
theorem index4 : ∀ t : Fin grid0.N, win0_4.index t = ![0, 0, 0] := by decide +kernel
theorem index5 : ∀ t : Fin grid0.N, win0_5.index t = ![0, 0] := by decide +kernel
theorem index6 : ∀ t : Fin grid0.N, win0_6.index t = ![t.val / 2, 0, t.val % 2] := by decide +kernel

theorem pt_lt (t : Fin cfg0.N) : t.val < 32 := t.isLt

/-! A column's tokens, stored side by side with the others'. -/

theorem slices (j : Fin 16) : S1024x512.Slices ![64 * j.val, 0] S64x512 := by
  revert j
  decide +kernel

/-- The tokens of one column. -/
def slab (j : Fin 16) (P : FVec Ideal S1024x512 .bf16) : FVec Ideal S1x64x512 .bf16 :=
  shapeCast S1x64x512 (extractStridedSlice S64x512 ![64 * j.val, 0] P (slices j)) shapeCasts_S64x512_S1x64x512

theorem slab_at (j : Fin 16) (P : FVec Ideal S1024x512 .bf16) (r : Fin 64) (n : Fin 512) :
    (slab j P (ix3 0 r n) : EReal) = P (ix2 ⟨64 * j.val + r.val, by omega⟩ n) := by
  pointwise [slab]

/-- The block's entry at an index. -/
def placed (P : FVec Ideal S1024x512 .bf16) (y : S1x64x8192.Idx) : Elt Ideal .bf16 :=
  P (ix2 ⟨64 * ((y 2).val / 512) + (y 1).val, by
    have h2 : (y 2).val < 8192 := (y 2).isLt
    have h1 : (y 1).val < 64 := (y 1).isLt
    omega⟩ ⟨(y 2).val % 512, by omega⟩)

theorem fits (j : Fin 16) : ∀ a, (![0, 0, 512 * j.val] : Fin 3 → ℕ) a + S1x64x512.size a ≤ S1x64x8192.size a := by
  revert j
  decide +kernel

theorem slab_emb (P : FVec Ideal S1024x512 .bf16) (j : Fin 16) (h) (x : S1x64x512.Idx) :
    slab j P x = placed P ((Rect.unit (s := S1x64x8192) ![0, 0, 512 * j.val] S1x64x512.size h).emb x) := by
  obtain ⟨z, r, n, rfl⟩ : ∃ (z : Fin 1) (r : Fin 64) (n : Fin 512), x = ix3 z r n := ⟨x 0, x 1, x 2, eq_ix3 x⟩
  obtain rfl : z = 0 := Subsingleton.elim _ _
  refine (slab_at j P r n).trans ?_
  unfold placed
  refine congrArg P (congrArg₂ (fun (a : Fin 1024) (b : Fin 512) => (ix2 a b : S1024x512.Idx)) (Fin.ext ?_) (Fin.ext ?_))
  · show 64 * j.val + r.val = 64 * ((512 * j.val + 1 * n.val) / 512) + (0 + 1 * r.val)
    omega
  · show n.val = (512 * j.val + 1 * n.val) % 512
    omega

/-- The block's stores, last first. -/
def pieces (P : FVec Ideal S1024x512 .bf16) : List (View.Piece (Elt Ideal) S1x64x8192 .bf16) :=
  [⟨r0_53, slab 15 P⟩,
   ⟨r0_52, slab 14 P⟩,
   ⟨r0_51, slab 13 P⟩,
   ⟨r0_50, slab 12 P⟩,
   ⟨r0_49, slab 11 P⟩,
   ⟨r0_48, slab 10 P⟩,
   ⟨r0_47, slab 9 P⟩,
   ⟨r0_46, slab 8 P⟩,
   ⟨r0_45, slab 7 P⟩,
   ⟨r0_44, slab 6 P⟩,
   ⟨r0_43, slab 5 P⟩,
   ⟨r0_42, slab 4 P⟩,
   ⟨r0_41, slab 3 P⟩,
   ⟨r0_40, slab 2 P⟩,
   ⟨r0_39, slab 1 P⟩,
   ⟨r0_38, slab 0 P⟩]

theorem pieces_at (P : FVec Ideal S1024x512 .bf16) (y : S1x64x8192.Idx) : View.canon (pieces P) y = placed P y := by
  have h := View.canon_append_of_pieces (Val := Elt Ideal) (placed P) [] (pieces P) ?_ y (cover0_6 (F := Ideal) (slab 15 P) (slab 14 P) (slab 13 P) (slab 12 P) (slab 11 P) (slab 10 P) (slab 9 P) (slab 8 P) (slab 7 P) (slab 6 P) (slab 5 P) (slab 4 P) (slab 3 P) (slab 2 P) (slab 1 P) (slab 0 P) y)
  · rwa [List.append_nil] at h
  unfold pieces
  refine List.forall_mem_cons.mpr ⟨fun x => slab_emb P 15 (fits 15) x, ?_⟩
  refine List.forall_mem_cons.mpr ⟨fun x => slab_emb P 14 (fits 14) x, ?_⟩
  refine List.forall_mem_cons.mpr ⟨fun x => slab_emb P 13 (fits 13) x, ?_⟩
  refine List.forall_mem_cons.mpr ⟨fun x => slab_emb P 12 (fits 12) x, ?_⟩
  refine List.forall_mem_cons.mpr ⟨fun x => slab_emb P 11 (fits 11) x, ?_⟩
  refine List.forall_mem_cons.mpr ⟨fun x => slab_emb P 10 (fits 10) x, ?_⟩
  refine List.forall_mem_cons.mpr ⟨fun x => slab_emb P 9 (fits 9) x, ?_⟩
  refine List.forall_mem_cons.mpr ⟨fun x => slab_emb P 8 (fits 8) x, ?_⟩
  refine List.forall_mem_cons.mpr ⟨fun x => slab_emb P 7 (fits 7) x, ?_⟩
  refine List.forall_mem_cons.mpr ⟨fun x => slab_emb P 6 (fits 6) x, ?_⟩
  refine List.forall_mem_cons.mpr ⟨fun x => slab_emb P 5 (fits 5) x, ?_⟩
  refine List.forall_mem_cons.mpr ⟨fun x => slab_emb P 4 (fits 4) x, ?_⟩
  refine List.forall_mem_cons.mpr ⟨fun x => slab_emb P 3 (fits 3) x, ?_⟩
  refine List.forall_mem_cons.mpr ⟨fun x => slab_emb P 2 (fits 2) x, ?_⟩
  refine List.forall_mem_cons.mpr ⟨fun x => slab_emb P 1 (fits 1) x, ?_⟩
  refine List.forall_mem_cons.mpr ⟨fun x => slab_emb P 0 (fits 0) x, ?_⟩
  intro p hp
  exact absurd hp List.not_mem_nil

section
variable (x0 x1 : Vec Ideal S1x16x64x512 .bf16) (x2 : Vec Ideal S16x128x128 .bf16) (x3 : Vec Ideal S256x128 .bf16) (x4 : Vec Ideal S4x128x128 .bf16) (x5 : Vec Ideal S1x512 .f32)

theorem stores_eq : out0_6 (F := Ideal) x0 x1 x2 x3 x4 x5 = View.canon (pieces (k0_pay116 x0 x1 x2 x3 x4 x5)) := rfl

theorem stored_at (s : Fin 16) (k : Fin 64) (C : Fin 512) :
    (out0_6 (F := Ideal) x0 x1 x2 x3 x4 x5 (ix3 0 k (⟨s.val * 512 + C.val, by omega⟩ : Fin 8192)) : EReal)
      = spectral (fun i j => x2 (ix3 s i j)) (fun j n => x0 (ix4 0 s j n)) (fun j n => x1 (ix4 0 s j n)) (fun j l => x3 (ix2 j l)) (fun g l e => x4 (ix3 g l e)) (fun n => x5 (ix2 0 n)) k C := by
  rw [stores_eq, pieces_at]
  refine Eq.trans ?_ (tokens_at x0 x1 x2 x3 x4 x5 s k C)
  unfold placed
  refine congrArg (k0_pay116 x0 x1 x2 x3 x4 x5) (congrArg₂ (fun (a : Fin 1024) (b : Fin 512) => (ix2 a b : S1024x512.Idx)) (Fin.ext ?_) (Fin.ext ?_))
  · show 64 * ((s.val * 512 + C.val) / 512) + k.val = s.val * 64 + k.val
    omega
  · show (s.val * 512 + C.val) % 512 = C.val
    omega
end

variable (m : (ℓ : Loc nD τ sig) → Buf (Elt Ideal) ℓ)

/-! The blocks at a point. -/

theorem tile0 (c : Dev nD) (t : Fin cfg0.N) (s : Fin 16) (j : Fin 64) (n : Fin 512) :
    iblk m c 0 t (ix4 0 s j n : S1x16x64x512.Idx)
      = V m c main_arg0 (ix4 ⟨t.val / 2, by have := pt_lt t; omega⟩ ⟨t.val % 2 * 16 + s.val, by omega⟩ j n : S16x64x64x512.Idx) := by
  show V m c main_arg0 _ = _
  refine congrArg (V m c main_arg0) (funext fun i => ?_)
  have e0 : win0_0.index t 0 = t.val / 2 := congrFun (index0 t) 0
  have e1 : win0_0.index t 1 = t.val % 2 := congrFun (index0 t) 1
  have e2 : win0_0.index t 2 = 0 := congrFun (index0 t) 2
  have e3 : win0_0.index t 3 = 0 := congrFun (index0 t) 3
  match i with
  | ⟨0, _⟩ => exact Fin.ext (show win0_0.index t 0 * 1 + 1 * 0 = t.val / 2 by omega)
  | ⟨1, _⟩ => exact Fin.ext (show win0_0.index t 1 * 16 + 1 * s.val = t.val % 2 * 16 + s.val by omega)
  | ⟨2, _⟩ => exact Fin.ext (show win0_0.index t 2 * 64 + 1 * j.val = j.val by omega)
  | ⟨3, _⟩ => exact Fin.ext (show win0_0.index t 3 * 512 + 1 * n.val = n.val by omega)

theorem tile1 (c : Dev nD) (t : Fin cfg0.N) (s : Fin 16) (j : Fin 64) (n : Fin 512) :
    iblk m c 1 t (ix4 0 s j n : S1x16x64x512.Idx)
      = V m c main_arg0 (ix4 ⟨t.val / 2, by have := pt_lt t; omega⟩ ⟨32 + (t.val % 2 * 16 + s.val), by omega⟩ j n : S16x64x64x512.Idx) := by
  show V m c main_arg0 _ = _
  refine congrArg (V m c main_arg0) (funext fun i => ?_)
  have e0 : win0_1.index t 0 = t.val / 2 := congrFun (index1 t) 0
  have e1 : win0_1.index t 1 = 2 + t.val % 2 := congrFun (index1 t) 1
  have e2 : win0_1.index t 2 = 0 := congrFun (index1 t) 2
  have e3 : win0_1.index t 3 = 0 := congrFun (index1 t) 3
  match i with
  | ⟨0, _⟩ => exact Fin.ext (show win0_1.index t 0 * 1 + 1 * 0 = t.val / 2 by omega)
  | ⟨1, _⟩ => exact Fin.ext (show win0_1.index t 1 * 16 + 1 * s.val = 32 + (t.val % 2 * 16 + s.val) by omega)
  | ⟨2, _⟩ => exact Fin.ext (show win0_1.index t 2 * 64 + 1 * j.val = j.val by omega)
  | ⟨3, _⟩ => exact Fin.ext (show win0_1.index t 3 * 512 + 1 * n.val = n.val by omega)

theorem tile2 (c : Dev nD) (t : Fin cfg0.N) (s : Fin 16) (i j : Fin 128) :
    iblk m c 2 t (ix3 s i j : S16x128x128.Idx) = V m c main_arg1 (ix3 ⟨t.val % 2 * 16 + s.val, by omega⟩ i j : S32x128x128.Idx) := by
  show V m c main_arg1 _ = _
  refine congrArg (V m c main_arg1) (funext fun a => ?_)
  have e0 : win0_2.index t 0 = t.val % 2 := congrFun (index2 t) 0
  have e1 : win0_2.index t 1 = 0 := congrFun (index2 t) 1
  have e2 : win0_2.index t 2 = 0 := congrFun (index2 t) 2
  match a with
  | ⟨0, _⟩ => exact Fin.ext (show win0_2.index t 0 * 16 + 1 * s.val = t.val % 2 * 16 + s.val by omega)
  | ⟨1, _⟩ => exact Fin.ext (show win0_2.index t 1 * 128 + 1 * i.val = i.val by omega)
  | ⟨2, _⟩ => exact Fin.ext (show win0_2.index t 2 * 128 + 1 * j.val = j.val by omega)

theorem whole3 (c : Dev nD) (t : Fin cfg0.N) (j : Fin 256) (l : Fin 128) : iblk m c 3 t (ix2 j l : S256x128.Idx) = V m c main_arg2 (ix2 j l : S256x128.Idx) := by
  show V m c main_arg2 _ = _
  refine congrArg (V m c main_arg2) (funext fun a => ?_)
  have e0 : win0_3.index t 0 = 0 := congrFun (index3 t) 0
  have e1 : win0_3.index t 1 = 0 := congrFun (index3 t) 1
  match a with
  | ⟨0, _⟩ => exact Fin.ext (show win0_3.index t 0 * 256 + 1 * j.val = j.val by omega)
  | ⟨1, _⟩ => exact Fin.ext (show win0_3.index t 1 * 128 + 1 * l.val = l.val by omega)

theorem whole4 (c : Dev nD) (t : Fin cfg0.N) (g : Fin 4) (l e : Fin 128) : iblk m c 4 t (ix3 g l e : S4x128x128.Idx) = V m c main_arg3 (ix3 g l e : S4x128x128.Idx) := by
  show V m c main_arg3 _ = _
  refine congrArg (V m c main_arg3) (funext fun a => ?_)
  have e0 : win0_4.index t 0 = 0 := congrFun (index4 t) 0
  have e1 : win0_4.index t 1 = 0 := congrFun (index4 t) 1
  have e2 : win0_4.index t 2 = 0 := congrFun (index4 t) 2
  match a with
  | ⟨0, _⟩ => exact Fin.ext (show win0_4.index t 0 * 4 + 1 * g.val = g.val by omega)
  | ⟨1, _⟩ => exact Fin.ext (show win0_4.index t 1 * 128 + 1 * l.val = l.val by omega)
  | ⟨2, _⟩ => exact Fin.ext (show win0_4.index t 2 * 128 + 1 * e.val = e.val by omega)

theorem whole5 (c : Dev nD) (t : Fin cfg0.N) (n : Fin 512) : iblk m c 5 t (ix2 0 n : S1x512.Idx) = V m c main_arg4 (ix2 0 n : S1x512.Idx) := by
  show V m c main_arg4 _ = _
  refine congrArg (V m c main_arg4) (funext fun a => ?_)
  have e0 : win0_5.index t 0 = 0 := congrFun (index5 t) 0
  have e1 : win0_5.index t 1 = 0 := congrFun (index5 t) 1
  match a with
  | ⟨0, _⟩ => exact Fin.ext (show win0_5.index t 0 * 1 + 1 * 0 = 0 by omega)
  | ⟨1, _⟩ => exact Fin.ext (show win0_5.index t 1 * 512 + 1 * n.val = n.val by omega)

/-- The entry over the call's arguments. -/
abbrev entry (c : Dev nD) (b : Fin 16) (s : Fin 32) (k : Fin 64) (C : Fin 512) : EReal :=
  spectral (fun i j => m ((c.tc : Thread nD τ).loc main_arg1) (ix3 s i j : S32x128x128.Idx))
    (fun j n => m ((c.tc : Thread nD τ).loc main_arg0) (ix4 b ⟨s.val, by omega⟩ j n : S16x64x64x512.Idx))
    (fun j n => m ((c.tc : Thread nD τ).loc main_arg0) (ix4 b ⟨32 + s.val, by omega⟩ j n : S16x64x64x512.Idx))
    (fun j l => m ((c.tc : Thread nD τ).loc main_arg2) (ix2 j l : S256x128.Idx))
    (fun g l e => m ((c.tc : Thread nD τ).loc main_arg3) (ix3 g l e : S4x128x128.Idx))
    (fun n => m ((c.tc : Thread nD τ).loc main_arg4) (ix2 0 n : S1x512.Idx)) k C

theorem out_at (c : Dev nD) (t : Fin cfg0.N) (s : Fin 16) (k : Fin 64) (C : Fin 512) :
    (out0_6 (F := Ideal) (iblk m c 0 t) (iblk m c 1 t) (iblk m c 2 t) (iblk m c 3 t) (iblk m c 4 t) (iblk m c 5 t) (ix3 0 k (⟨s.val * 512 + C.val, by omega⟩ : Fin 8192)) : EReal)
      = entry m c ⟨t.val / 2, by have := pt_lt t; omega⟩ ⟨t.val % 2 * 16 + s.val, by omega⟩ k C :=
  (stored_at _ _ _ _ _ _ s k C).trans (spectral_congr (fun i j => tile2 m c t s i j) (fun j n => tile0 m c t s j n) (fun j n => tile1 m c t s j n)
    (fun j l => whole3 m c t j l) (fun g l e => whole4 m c t g l e) (fun n => whole5 m c t n) k C)

/-- The point that owns a column of a sequence. -/
def owner (b : Fin 16) (s : Fin 32) : Fin cfg0.N := ⟨b.val * 2 + s.val / 16, show b.val * 2 + s.val / 16 < 32 by omega⟩

theorem final6 (c : Dev nD) (b : Fin 16) (k : Fin 64) (s : Fin 32) (C : Fin 512) :
    ((dats m 0 c).arrAt 6 cfg0.N (ix3 b k (⟨s.val * 512 + C.val, by omega⟩ : Fin 16384) : S16x64x16384.Idx) : EReal) = entry m c b s k C := by
  have hb := congrFun ((Value.blocks6 m c (owner b s) (flush0_6 _)).trans (Value.flushed6 m c (owner b s))) (ix3 0 k (⟨s.val % 16 * 512 + C.val, by omega⟩ : Fin 8192) : S1x64x8192.Idx)
  have v : (owner b s).val = b.val * 2 + s.val / 16 := rfl
  have e0 : win0_6.index (owner b s) 0 = (owner b s).val / 2 := congrFun (index6 (owner b s)) 0
  have e1 : win0_6.index (owner b s) 1 = 0 := congrFun (index6 (owner b s)) 1
  have e2 : win0_6.index (owner b s) 2 = (owner b s).val % 2 := congrFun (index6 (owner b s)) 2
  refine Eq.trans (congrArg ((dats m 0 c).arrAt 6 cfg0.N) (funext fun i => ?_)) (hb.trans ((out_at m c _ (⟨s.val % 16, by omega⟩ : Fin 16) k C).trans ?_))
  · match i with
    | ⟨0, _⟩ => exact Fin.ext (show b.val = win0_6.index (owner b s) 0 * 1 + 1 * 0 by omega)
    | ⟨1, _⟩ => exact Fin.ext (show k.val = win0_6.index (owner b s) 1 * 64 + 1 * k.val by omega)
    | ⟨2, _⟩ => exact Fin.ext (show s.val * 512 + C.val = win0_6.index (owner b s) 2 * 8192 + 1 * (s.val % 16 * 512 + C.val) by omega)
  · have f1 : (⟨(owner b s).val / 2, by omega⟩ : Fin 16) = b := Fin.ext (by show (owner b s).val / 2 = b.val; omega)
    have f2 : (⟨(owner b s).val % 2 * 16 + s.val % 16, by omega⟩ : Fin 32) = s := Fin.ext (by show (owner b s).val % 2 * 16 + s.val % 16 = s.val; omega)
    exact congrArg₂ (fun (x : Fin 16) (y : Fin 32) => entry m c x y k C) f1 f2

end Cert.ColsIdeal.Project

end
-- ==== Proof.ColsHost.Stages.lean ====
module

public import proofs.«01_k».proof.Proof.Gen.ColsRefIdeal.Run
public import proofs.«01_k».proof.Proof.Project.Fourier
public import Idealize.ShloMosaic.Lib.Pointwise.IndexBridge

@[expose] public section

set_option maxRecDepth 16384

noncomputable section

/-! The reference of the grid's columns, in stages, each read at one entry. -/

namespace Cert.ColsRefIdeal.Value

open Cert.ColsRefIdeal Cert.ColsRefIdeal.Gen
open Idealize.ShloMosaic Idealize.ShloMosaic.TcCoe Idealize.SL.Sem
open Cert.Project

/-- The first 32 columns of rows over the other 32. -/
def both (y : FVec Ideal S16x64x64x512 .bf16) : FVec Ideal S16x32x128x512 .f32 :=
  concatenate S16x32x128x512 2 [⟨S16x32x64x512, (extractStridedSlice S16x32x64x512 ![0, 0, 0, 0] (extf .f32 y bitsLt_bf16_f32) slices_S16x64x64x512_S16x32x64x512_0_0_0_0)⟩, ⟨S16x32x64x512, (extractStridedSlice S16x32x64x512 ![0, 32, 0, 0] (extf .f32 y bitsLt_bf16_f32) slices_S16x64x64x512_S16x32x64x512_0_32_0_0)⟩] concatenates_S16x32x64x512_S16x32x64x512_S16x32x128x512_d2

/-- … each through its own matrix. -/
def product (x : FVec Ideal S16x32x128x512 .f32) (w : FVec Ideal S32x128x128 .bf16) : FVec Ideal S32x16x512x128 .f32 :=
  Host.dotGeneral dot_S16x32x128x512_S32x128x128_S32x16x512x128_2_2_03_1_1_0 none x (extf .f32 w bitsLt_bf16_f32)

/-- The channels by groups. -/
def grouped (x : FVec Ideal S32x16x512x128 .f32) : FVec Ideal S16x32x128x4x128 .f32 :=
  shapeCast _ (transpose S16x32x128x512 [1, 0, 3, 2] x transposes_S32x16x512x128_S16x32x128x512_1_0_3_2) shapeCasts_S16x32x128x512_S16x32x128x4x128

def upper (x : FVec Ideal S16x32x128x4x128 .f32) (w : FVec Ideal S256x128 .bf16) : FVec Ideal S16x32x64x4x128 .f32 :=
  Host.dotGeneral dot_S16x32x64x4x128_S128x128_S16x32x64x4x128_4_0_0123_1_n_n none (extractStridedSlice S16x32x64x4x128 ![0, 0, 0, 0, 0] x slices_S16x32x128x4x128_S16x32x64x4x128_0_0_0_0_0) (extractStridedSlice S128x128 ![0, 0] (extf .f32 w bitsLt_bf16_f32) slices_S256x128_S128x128_0_0)

def lower (x : FVec Ideal S16x32x128x4x128 .f32) (w : FVec Ideal S256x128 .bf16) : FVec Ideal S16x32x64x4x128 .f32 :=
  Host.dotGeneral dot_S16x32x64x4x128_S128x128_S16x32x64x4x128_4_0_0123_1_n_n none (extractStridedSlice S16x32x64x4x128 ![0, 0, 64, 0, 0] x slices_S16x32x128x4x128_S16x32x64x4x128_0_0_64_0_0) (extractStridedSlice S128x128 ![128, 0] (extf .f32 w bitsLt_bf16_f32) slices_S256x128_S128x128_128_0)

/-- The groups' own maps. -/
def linear (u : FVec Ideal S4x128x128 .bf16) (z : FVec Ideal S16x32x64x4x128 .f32) : FVec Ideal S4x128x16x32x64 .f32 :=
  Host.dotGeneral dot_S4x128x128_S16x32x64x4x128_S4x128x16x32x64_1_4_2_012_0_3 none (extf .f32 u bitsLt_bf16_f32) z

/-- The tokens in a row. -/
def lined (x : FVec Ideal S4x128x16x32x64 .f32) : FVec Ideal S16x2048x512 .f32 :=
  shapeCast _ (transpose S16x64x32x4x128 [2, 4, 3, 0, 1] x transposes_S4x128x16x32x64_S16x64x32x4x128_2_4_3_0_1) shapeCasts_S16x64x32x4x128_S16x2048x512

def normed (a : FVec Ideal S16x2048x512 .f32) (g : FVec Ideal S1x512 .f32) : FVec Ideal S16x2048x512 .bf16 :=
  truncf .bf16 (mulf (mulf a (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf a a) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![1, 2] bcast_S1x512_S1x1x512_1_2 g))) bitsLt_bf16_f32

section
variable (y : FVec Ideal S16x64x64x512 .bf16) (w : FVec Ideal S32x128x128 .bf16) (cs : FVec Ideal S256x128 .bf16) (u : FVec Ideal S4x128x128 .bf16) (g : FVec Ideal S1x512 .f32)

/-- The tokens before the norm. -/
def tokens : FVec Ideal S16x2048x512 .f32 :=
  lined (linear u (addf (upper (grouped (product (both y) w)) cs) (lower (grouped (product (both y) w)) cs)))

/-- The reference over its arguments. -/
def whole : FVec Ideal S16x64x16384 .bf16 := shapeCast _ (normed (tokens y w cs u) g) shapeCasts_S16x2048x512_S16x64x16384

theorem both_at (b : Fin 16) (s : Fin 32) (j : Fin 128) (n : Fin 512) :
    (both y (ix4 b s j n) : EReal) = stacked (fun j n => y (ix4 b ⟨s.val, by omega⟩ j n)) (fun j n => y (ix4 b ⟨32 + s.val, by omega⟩ j n)) j n := by
  unfold both stacked
  pointwise

theorem product_at (x : FVec Ideal S16x32x128x512 .f32) (s : Fin 32) (b : Fin 16) (n : Fin 512) (i : Fin 128) :
    (product x w (ix4 s b n i) : EReal) = ∑ j : Fin 128, x (ix4 b s j n) * w (ix3 s i j) := by
  unfold product
  pointwise

theorem grouped_at (x : FVec Ideal S32x16x512x128 .f32) (b : Fin 16) (s : Fin 32) (i : Fin 128) (q : Fin 4) (e : Fin 128) :
    (grouped x (ix5 b s i q e) : EReal) = x (ix4 s b ⟨q.val * 128 + e.val, by omega⟩ i) := by
  unfold grouped
  pointwise

theorem upper_at (x : FVec Ideal S16x32x128x4x128 .f32) (b : Fin 16) (s : Fin 32) (k : Fin 64) (q : Fin 4) (l : Fin 128) :
    (upper x cs (ix5 b s k q l) : EReal) = ∑ j : Fin 128, x (ix5 b s ⟨k.val, by omega⟩ q j) * cs (ix2 ⟨j.val, by omega⟩ l) := by
  unfold upper
  pointwise

theorem lower_at (x : FVec Ideal S16x32x128x4x128 .f32) (b : Fin 16) (s : Fin 32) (k : Fin 64) (q : Fin 4) (l : Fin 128) :
    (lower x cs (ix5 b s k q l) : EReal) = ∑ j : Fin 128, x (ix5 b s ⟨64 + k.val, by omega⟩ q j) * cs (ix2 ⟨128 + j.val, by omega⟩ l) := by
  unfold lower
  pointwise

theorem linear_at (z : FVec Ideal S16x32x64x4x128 .f32) (q : Fin 4) (e : Fin 128) (b : Fin 16) (s : Fin 32) (k : Fin 64) :
    (linear u z (ix5 q e b s k) : EReal) = ∑ l : Fin 128, u (ix3 q l e) * z (ix5 b s k q l) := by
  unfold linear
  pointwise

theorem lined_at (x : FVec Ideal S4x128x16x32x64 .f32) (b : Fin 16) (k : Fin 64) (s : Fin 32) (C : Fin 512) :
    (lined x (ix3 b (⟨k.val * 32 + s.val, by omega⟩ : Fin 2048) C) : EReal) = x (ix5 ⟨C.val / 128, by omega⟩ ⟨C.val % 128, by omega⟩ b s k) := by
  unfold lined
  pointwise

theorem normed_at (a : FVec Ideal S16x2048x512 .f32) (b : Fin 16) (t : Fin 2048) (C : Fin 512) :
    (normed a g (ix3 b t C) : EReal) = evened (fun c => a (ix3 b t c)) (fun c => g (ix2 0 c)) C := by
  unfold normed evened headsWidth eps
  pointwise

/-- The two halves of a column's product are the matrix's rows against the stacked rows. -/
theorem turned_at (b : Fin 16) (s : Fin 32) (i : Fin 128) (q : Fin 4) (e : Fin 128) :
    (grouped (product (both y) w) (ix5 b s i q e) : EReal)
      = turned (fun i j => w (ix3 s i j)) (stacked (fun j n => y (ix4 b ⟨s.val, by omega⟩ j n)) (fun j n => y (ix4 b ⟨32 + s.val, by omega⟩ j n))) i ⟨q.val * 128 + e.val, by omega⟩ := by
  refine (grouped_at _ b s i q e).trans ((product_at w _ s b _ i).trans ?_)
  unfold turned
  exact Finset.sum_congr rfl fun j _ => (congrArg (fun a : EReal => a * w (ix3 s i j)) (both_at y b s j _)).trans (mul_comm _ _)

theorem folded_at (b : Fin 16) (s : Fin 32) (k : Fin 64) (q : Fin 4) (l : Fin 128) :
    (addf (upper (grouped (product (both y) w)) cs) (lower (grouped (product (both y) w)) cs) (ix5 b s k q l) : EReal)
      = folded (turned (fun i j => w (ix3 s i j)) (stacked (fun j n => y (ix4 b ⟨s.val, by omega⟩ j n)) (fun j n => y (ix4 b ⟨32 + s.val, by omega⟩ j n))) ⟨k.val, by omega⟩)
        (turned (fun i j => w (ix3 s i j)) (stacked (fun j n => y (ix4 b ⟨s.val, by omega⟩ j n)) (fun j n => y (ix4 b ⟨32 + s.val, by omega⟩ j n))) ⟨64 + k.val, by omega⟩)
        (fun j l => cs (ix2 j l)) q l := by
  show (upper (grouped (product (both y) w)) cs (ix5 b s k q l) : EReal) + lower (grouped (product (both y) w)) cs (ix5 b s k q l) = _
  rw [upper_at, lower_at]
  unfold folded
  exact congrArg₂ (fun a b : EReal => a + b)
    (Finset.sum_congr rfl fun j _ => congrArg (fun a : EReal => a * cs (ix2 ⟨j.val, by omega⟩ l)) (turned_at y w b s _ q j))
    (Finset.sum_congr rfl fun j _ => congrArg (fun a : EReal => a * cs (ix2 ⟨128 + j.val, by omega⟩ l)) (turned_at y w b s _ q j))

theorem whole_at (b : Fin 16) (k : Fin 64) (s : Fin 32) (C : Fin 512) :
    (whole y w cs u g (ix3 b k (⟨s.val * 512 + C.val, by omega⟩ : Fin 16384)) : EReal)
      = spectral (fun i j => w (ix3 s i j)) (fun j n => y (ix4 b ⟨s.val, by omega⟩ j n)) (fun j n => y (ix4 b ⟨32 + s.val, by omega⟩ j n)) (fun j l => cs (ix2 j l)) (fun q l e => u (ix3 q l e)) (fun n => g (ix2 0 n)) k C := by
  have h : (whole y w cs u g (ix3 b k (⟨s.val * 512 + C.val, by omega⟩ : Fin 16384)) : EReal) = normed (tokens y w cs u) g (ix3 b (⟨k.val * 32 + s.val, by omega⟩ : Fin 2048) C) := by
    unfold whole
    pointwise
    exact congrArg (fun q : Fin 2048 => normed (tokens y w cs u) g (ix3 b q C)) (Fin.ext (show k.val * 32 + (s.val * 512 + C.val) / 512 = k.val * 32 + s.val by omega))
  rw [h, normed_at]
  unfold spectral
  refine congrArg (fun a => evened a (fun n => g (ix2 0 n)) C) (funext fun c => ?_)
  unfold tokens mapped
  refine (lined_at _ b k s c).trans ((linear_at u _ _ _ b s k).trans ?_)
  exact Finset.sum_congr rfl fun l _ => (mul_comm _ _).trans (congrArg (fun a : EReal => a * u (ix3 _ l _)) (folded_at y w cs b s k _ l))

end

variable (m : (ℓ : Loc nD τ sig) → Buf (Elt Ideal) ℓ) (c : Dev nD)

/-- The reference's result. -/
def leaf : FVec Ideal S16x64x16384 .bf16 :=
  whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

set_option maxHeartbeats 2000000 in
theorem leaf_eq : (res_main_v34 (F := Ideal) m c : FVec Ideal S16x64x16384 .bf16) = leaf m c := by
  unfold res_main_v34 leaf whole normed tokens lined linear upper lower grouped product both
  rfl

/-- The run, over the stages. -/
theorem run_leaf (ρ : Dev nD → PrngReg) :
    θ_run defs (onTc (τ := τ) (main (F := Ideal))) ⟨m, fun _ => 0, ρ⟩ fun r => ∀ c : Dev nD,
      r.2.mem ((c.tc : Thread nD τ).loc main_v34) = leaf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := run (F := Ideal) m ρ
  simp only [leaf_eq] at h
  exact h

end Cert.ColsRefIdeal.Value

end
-- ==== Proof.Gate.Top.lean ====
module

public import Idealize.ShloMosaic.Lib.Pointwise

@[expose] public section

noncomputable section

/-! The largest scores in order: taking the maximum again and again, each time striking out its first place, gives the scores by their rank. -/

namespace Cert.Gate

open Idealize.ShloMosaic

variable (L : Fin 32 → EReal)

/-- Score `b` comes before score `a`. -/
def before (a b : Fin 32) : Prop := L a < L b ∨ (L b = L a ∧ b < a)

instance (a b : Fin 32) : Decidable (before L a b) := Classical.propDecidable _

/-- How many come before. -/
def place (a : Fin 32) : EReal := ∑ b : Fin 32, if before L a b then (1 : EReal) else 0

/-- The score at place `k`. -/
def nth (k : EReal) : EReal := ∑ a : Fin 32, if place L a = k then L a else 0

/-- The largest. -/
def best (c : Fin 32 → EReal) : EReal := Finset.univ.fold max ⊥ c

/-- The first place it stands at. -/
def pick (c : Fin 32 → EReal) : BitVec 32 :=
  Finset.univ.fold IntOp.minsi 2147483647#32 fun e : Fin 32 => if c e = best c then BitVec.ofNat 32 e.val else 32#32

/-- The rest. -/
def rest (c : Fin 32 → EReal) (e : Fin 32) : EReal := if BitVec.ofNat 32 e.val = pick c then ⊥ else c e

theorem not_before {a b : Fin 32} (h : before L a b) : ¬ before L b a := by
  rintro (h1 | ⟨h1, h2⟩)
  · rcases h with h | ⟨h, _⟩
    · exact absurd h1 (not_lt.mpr h.le)
    · exact absurd h1 (by rw [h]; exact lt_irrefl _)
  · rcases h with h | ⟨_, h⟩
    · exact absurd h (by rw [h1]; exact lt_irrefl _)
    · omega

theorem not_self (a : Fin 32) : ¬ before L a a := by
  rintro (h | ⟨_, h⟩)
  · exact lt_irrefl _ h
  · exact lt_irrefl _ h

theorem place_card (a : Fin 32) : place L a = ((Finset.univ.filter fun b => before L a b).card : EReal) := Finset.sum_boole _ _

theorem le_best (c : Fin 32 → EReal) (e : Fin 32) : c e ≤ best c := Finset.le_sup (f := c) (Finset.mem_univ e)

theorem best_mem (c : Fin 32 → EReal) : ∃ e, c e = best c := by
  obtain ⟨e, _, h⟩ := Finset.exists_mem_eq_sup Finset.univ ⟨0, Finset.mem_univ _⟩ c
  exact ⟨e, h.symm⟩

theorem minsi_toInt (x y : BitVec 32) : (IntOp.minsi x y).toInt = min x.toInt y.toInt := by
  unfold IntOp.minsi
  simp only [BitVec.sle_iff_toInt_le, BitVec.slt_iff_toInt_lt, min_def]
  split <;> split <;> first | rfl | omega

theorem small_toInt (e : Fin 32) : (BitVec.ofNat 32 e.val).toInt = e.val := by revert e; decide

/-- The pick names the first place of the largest. -/
theorem pick_eq (c : Fin 32 → EReal) (p : Fin 32) (hp : c p = best c) (hf : ∀ e, c e = best c → p ≤ e) : pick c = BitVec.ofNat 32 p.val := by
  have key : ∀ x : BitVec 32, x.toInt ≤ (pick c).toInt ↔ x.toInt ≤ (2147483647#32).toInt ∧ ∀ e ∈ (Finset.univ : Finset (Fin 32)), x.toInt ≤ (if c e = best c then BitVec.ofNat 32 e.val else 32#32).toInt := by
    intro x
    exact Finset.fold_op_rel_iff_and (r := fun a b : BitVec 32 => a.toInt ≤ b.toInt) (f := fun e : Fin 32 => if c e = best c then BitVec.ofNat 32 e.val else 32#32)
      (hr := by intro a y z; simp only [minsi_toInt]; exact le_min_iff) (c := x)
  apply BitVec.eq_of_toInt_eq
  apply le_antisymm
  · have h := ((key _).mp le_rfl).2 p (Finset.mem_univ p)
    rwa [if_pos hp] at h
  · refine (key _).mpr ⟨?_, fun e _ => ?_⟩
    · rw [small_toInt]
      have : (2147483647#32 : BitVec 32).toInt = 2147483647 := rfl
      rw [this]; omega
    · rw [small_toInt]
      split
      · next h => rw [small_toInt]; exact_mod_cast hf e h
      · have : (32#32 : BitVec 32).toInt = 32 := rfl
        rw [this]; omega

/-- What holds after some rounds: the struck places are `S`, and each of them comes before every other. -/
structure Struck (c : Fin 32 → EReal) (S : Finset (Fin 32)) : Prop where
  value : ∀ e, c e = if e ∈ S then ⊥ else L e
  ahead : ∀ s ∈ S, ∀ e, e ∉ S → before L e s

theorem struck_step (hL : ∀ e, L e ≠ ⊥) {c : Fin 32 → EReal} {S : Finset (Fin 32)} (h : Struck L c S) (hS : S.card < 32) :
    best c = nth L S.card ∧ ∃ p, p ∉ S ∧ Struck L (rest c) (insert p S) ∧ ∀ e, BitVec.ofNat 32 e.val = pick c ↔ place L e = (S.card : EReal) := by
  obtain ⟨q, hq⟩ := best_mem c
  have ne : (Finset.univ.filter fun e => c e = best c).Nonempty := ⟨q, by simp [hq]⟩
  obtain ⟨p, hp, hmin⟩ : ∃ p, c p = best c ∧ ∀ e, c e = best c → p ≤ e := by
    refine ⟨(Finset.univ.filter fun e => c e = best c).min' ne, ?_, fun e he => Finset.min'_le _ _ (by simp [he])⟩
    have := Finset.min'_mem _ ne
    simpa using this
  obtain ⟨f, hf⟩ : ∃ f, f ∉ S := by
    by_contra hc
    push Not at hc
    have : S = Finset.univ := Finset.eq_univ_iff_forall.mpr hc
    rw [this] at hS
    simp at hS
  have hpS : p ∉ S := by
    intro hin
    have h1 : c p = ⊥ := by rw [h.value, if_pos hin]
    have h2 := le_best c f
    rw [← hp, h1, h.value, if_neg hf] at h2
    exact hL f (le_bot_iff.mp h2)
  have hcp : L p = best c := by rw [← hp, h.value, if_neg hpS]
  have rival : ∀ e, e ∉ S → e ≠ p → before L e p := by
    intro e he hne
    have h1 := le_best c e
    rw [h.value, if_neg he, ← hcp] at h1
    rcases lt_or_eq_of_le h1 with h2 | h2
    · exact Or.inl h2
    · refine Or.inr ⟨h2.symm, lt_of_le_of_ne (hmin e ?_) (Ne.symm hne)⟩
      rw [h.value, if_neg he, h2, hcp]
  have front : (Finset.univ.filter fun b => before L p b) = S := by
    ext b
    simp only [Finset.mem_filter, Finset.mem_univ, true_and]
    constructor
    · intro hb
      by_contra hbS
      by_cases e : b = p
      · exact not_self L p (e ▸ hb)
      · exact not_before L (rival b hbS e) hb
    · intro hb
      exact h.ahead b hb p hpS
  have other : ∀ a, a ≠ p → place L a ≠ (S.card : EReal) := by
    intro a hne
    rw [place_card]
    intro hc
    have hc' : (Finset.univ.filter fun b => before L a b).card = S.card := by exact_mod_cast hc
    by_cases ha : a ∈ S
    · have : (Finset.univ.filter fun b => before L a b) ⊂ S := by
        refine Finset.ssubset_iff_subset_ne.mpr ⟨fun b hb => ?_, fun heq => ?_⟩
        · by_contra hbS
          exact not_before L (h.ahead a ha b hbS) (Finset.mem_filter.mp hb).2
        · rw [← heq] at ha
          exact not_self L a (Finset.mem_filter.mp ha).2
      exact absurd hc' (Finset.card_lt_card this).ne
    · have : insert p S ⊆ Finset.univ.filter fun b => before L a b := by
        intro b hb
        rcases Finset.mem_insert.mp hb with rfl | hb
        · exact Finset.mem_filter.mpr ⟨Finset.mem_univ _, rival a ha hne⟩
        · exact Finset.mem_filter.mpr ⟨Finset.mem_univ _, h.ahead b hb a ha⟩
      have := Finset.card_le_card this
      rw [Finset.card_insert_of_notMem hpS] at this
      omega
  have iff : ∀ e : Fin 32, BitVec.ofNat 32 e.val = BitVec.ofNat 32 p.val ↔ e = p := by
    intro e
    constructor
    · intro he
      have := congrArg BitVec.toInt he
      rw [small_toInt, small_toInt] at this
      exact Fin.ext (by exact_mod_cast this)
    · rintro rfl; rfl
  refine ⟨?_, p, hpS, ⟨?_, ?_⟩, ?_⟩
  · unfold nth
    rw [Finset.sum_eq_single p (fun a _ hne => if_neg (other a hne)) (fun hn => absurd (Finset.mem_univ p) hn),
      if_pos (by rw [place_card, front]), hcp]
  · intro e
    unfold rest
    rw [pick_eq c p hp hmin]
    by_cases e1 : e = p
    · rw [if_pos ((iff e).mpr e1), if_pos (Finset.mem_insert.mpr (Or.inl e1))]
    · rw [if_neg (fun hh => e1 ((iff e).mp hh)), h.value]
      simp [Finset.mem_insert, e1]
  · intro s hs e he
    have he' : e ≠ p ∧ e ∉ S := by simpa [Finset.mem_insert, not_or] using he
    rcases Finset.mem_insert.mp hs with rfl | hs
    · exact rival e he'.2 he'.1
    · exact h.ahead s hs e he'.2
  · intro e
    rw [pick_eq c p hp hmin, iff e]
    constructor
    · rintro rfl
      rw [place_card, front]
    · intro he
      by_contra hne
      exact other e hne he

/-- After `k` rounds. -/
theorem struck (hL : ∀ e, L e ≠ ⊥) : ∀ k : Nat, k ≤ 32 → ∃ S : Finset (Fin 32), S.card = k ∧ Struck L (rest^[k] L) S
  | 0, _ => ⟨∅, rfl, ⟨fun e => by simp, fun s hs => absurd hs (Finset.notMem_empty s)⟩⟩
  | k + 1, hk => by
    obtain ⟨S, hc, hs⟩ := struck hL k (by omega)
    obtain ⟨_, p, hp, h, _⟩ := struck_step L hL hs (by omega)
    refine ⟨insert p S, by rw [Finset.card_insert_of_notMem hp, hc], ?_⟩
    rw [Function.iterate_succ_apply']
    exact h

/-- The largest after `k` rounds is the score at place `k`. -/
theorem best_rest (hL : ∀ e, L e ≠ ⊥) (k : Nat) (hk : k < 32) : best (rest^[k] L) = nth L (k : EReal) := by
  obtain ⟨S, hc, hs⟩ := struck L hL k hk.le
  have h := (struck_step L hL hs (by omega)).1
  rwa [hc] at h

/-- The expert picked after `k` rounds is the one at place `k`. -/
theorem pick_rest (hL : ∀ e, L e ≠ ⊥) (k : Nat) (hk : k < 32) (e : Fin 32) : BitVec.ofNat 32 e.val = pick (rest^[k] L) ↔ place L e = (k : EReal) := by
  obtain ⟨S, hc, hs⟩ := struck L hL k hk.le
  obtain ⟨_, _, _, _, h⟩ := struck_step L hL hs (by omega)
  rw [h e, hc]

/-- Whether an expert is picked in one of four rounds, as the kernel adds it up. -/
def taken (e : Fin 32) : EReal :=
  (if BitVec.ofNat 32 e.val = pick L then (1 : EReal) else 0) + (if BitVec.ofNat 32 e.val = pick (rest L) then 1 else 0)
    + (if BitVec.ofNat 32 e.val = pick (rest (rest L)) then 1 else 0) + (if BitVec.ofNat 32 e.val = pick (rest (rest (rest L))) then 1 else 0)

theorem taken_eq (hL : ∀ e, L e ≠ ⊥) (e : Fin 32) : taken L e = if place L e < 4 then 1 else 0 := by
  have h := fun k hk => pick_rest L hL k hk e
  have h0 := h 0 (by decide)
  have h1 := h 1 (by decide)
  have h2 := h 2 (by decide)
  have h3 := h 3 (by decide)
  simp only [Function.iterate_succ, Function.iterate_zero, Function.comp, id] at h0 h1 h2 h3
  unfold taken
  simp only [h0, h1, h2, h3]
  rw [place_card]
  generalize (Finset.univ.filter fun b => before L e b).card = n
  have lt : ((n : EReal) < 4) ↔ n < 4 := by exact_mod_cast Nat.cast_lt (α := EReal) (m := n) (n := 4)
  simp only [Nat.cast_inj, lt]
  by_cases hn : n < 4
  · interval_cases n <;> simp
  · rw [if_neg (by omega), if_neg (by omega), if_neg (by omega), if_neg (by omega), if_neg hn]
    simp

end Cert.Gate

end
-- ==== Proof.Gate.Scores.lean ====
module

public import proofs.«01_k».proof.Proof.OutProjIdeal.Value
public import proofs.«01_k».proof.Proof.Gate.Top

@[expose] public section

set_option maxRecDepth 16384

noncomputable section

/-! The gates the output projection's kernel stores, read at one entry. -/

namespace Cert.Gate

open Cert.OutProjIdeal Cert.OutProjIdeal.Gen
open Idealize.ShloMosaic
open Cert.Project Cert.OutProjIdeal.Project

section
variable (y : FVec Ideal S512x1024 .f32) (g' : FVec Ideal S1x1024 .f32) (p q : FVec Ideal S512x1 .f32) (sc sh : FVec Ideal S1x1x1024 .f32)
  (w : FVec Ideal S64x1024 .bf16) (w' : FVec Ideal S32x1024 .bf16) (b : FVec Ideal S32x1 .f32)

theorem pay6_at (e : Fin 32) (r : Fin 512) : (k0_pay6 (F := Ideal) y g' p q sc sh w w' b (ix2 e r) : EReal)
    = (∑ k : Fin 1024, (w (ix2 ⟨e.val, by omega⟩ k) : EReal) * k0_pay5 (F := Ideal) y g' p q sc sh (ix2 r k))
      + (∑ k : Fin 1024, (w (ix2 ⟨32 + e.val, by omega⟩ k) : EReal) * k0_pay5 (F := Ideal) y g' p q sc sh (ix2 r k))
      + (∑ k : Fin 1024, (w' (ix2 e k) : EReal) * ((k0_pay4 (F := Ideal) y g' p q sc sh (ix2 r k) : EReal) - k0_pay5 (F := Ideal) y g' p q sc sh (ix2 r k))) + b (ix2 e 0) := by
  pointwise [k0_pay6]

theorem bits_bot : Ideal.ofBits .f32 0xFF800000#32 = ⊥ := by simp [Ideal.ofBits, Ideal.ieee]

theorem pay7_at (r : Fin 512) : (k0_pay7 (F := Ideal) y g' p q sc sh w w' b (ix2 0 r) : EReal)
    = best fun e => k0_pay6 (F := Ideal) y g' p q sc sh w w' b (ix2 e r) := by
  unfold best
  pointwise [k0_pay7]
  rw [bits_bot]

theorem pay8_at (e : Fin 32) (r : Fin 512) : k0_pay8 (F := Ideal) y g' p q sc sh w w' b (ix2 e r)
    = BitVec.ofBool (decide ((k0_pay6 (F := Ideal) y g' p q sc sh w w' b (ix2 e r) : EReal) = best (fun e => k0_pay6 (F := Ideal) y g' p q sc sh w w' b (ix2 e r)))) := by
  have h := pay7_at y g' p q sc sh w w' b r
  pointwise [k0_pay8]
  rw [h]

end

theorem pick_bit {α : Type} (c : Prop) [Decidable c] (a b : α) : Scalar.select (BitVec.ofBool (decide c)) a b = if c then a else b := by
  by_cases h : c <;> simp [h, Scalar.select]

theorem eq_bit (a b : BitVec 32) : IntOp.cmpi .eq a b = BitVec.ofBool (decide (a = b)) := rfl

section
variable (v : FVec Ideal S32x512 .f32) (i : IVec S32x512 32) (o : IVec S32x512 1) (r : Fin 512)

/-- One token's scores. -/
def col (v : FVec Ideal S32x512 .f32) (r : Fin 512) : Fin 32 → EReal := fun e => v (ix2 e r)

variable (hi : ∀ e : Fin 32, i (ix2 e r) = BitVec.ofNat 32 e.val) (ho : ∀ e : Fin 32, o (ix2 e r) = BitVec.ofBool (decide (col v r e = best (col v r))))

include hi ho in
theorem pay10_at (e : Fin 32) : col (k0_pay10 (F := Ideal) v i o 32#32) r e = rest (col v r) e := by
  unfold rest pick
  show (k0_pay10 (F := Ideal) v i o 32#32 (ix2 e r) : EReal) = _
  pointwise [k0_pay10, k0_pay9]
  simp only [hi, ho, eq_bit, pick_bit, bits_bot]
  rfl

theorem pay11_at : (k0_pay11 (F := Ideal) v i o 32#32 (ix2 0 r) : EReal) = best (col (k0_pay10 (F := Ideal) v i o 32#32) r) := by
  unfold best
  pointwise [k0_pay11]
  rw [bits_bot]
  rfl

include hi in
theorem pay13_at (e : Fin 32) : col (k0_pay13 (F := Ideal) v i o 32#32) r e = rest (col (k0_pay10 (F := Ideal) v i o 32#32) r) e := by
  have h := pay11_at v i o r
  unfold rest pick
  show (k0_pay13 (F := Ideal) v i o 32#32 (ix2 e r) : EReal) = _
  pointwise [k0_pay13, k0_pay12]
  simp only [hi, h, eq_bit, pick_bit, bits_bot]
  rfl

theorem pay14_at : (k0_pay14 (F := Ideal) v i o 32#32 (ix2 0 r) : EReal) = best (col (k0_pay13 (F := Ideal) v i o 32#32) r) := by
  unfold best
  pointwise [k0_pay14]
  rw [bits_bot]
  rfl

include hi in
theorem pay16_at (e : Fin 32) : col (k0_pay16 (F := Ideal) v i o 32#32) r e = rest (col (k0_pay13 (F := Ideal) v i o 32#32) r) e := by
  have h := pay14_at v i o r
  unfold rest pick
  show (k0_pay16 (F := Ideal) v i o 32#32 (ix2 e r) : EReal) = _
  pointwise [k0_pay16, k0_pay15]
  simp only [hi, h, eq_bit, pick_bit, bits_bot]
  rfl

theorem pay17_at : (k0_pay17 (F := Ideal) v i o 32#32 (ix2 0 r) : EReal) = best (col (k0_pay16 (F := Ideal) v i o 32#32) r) := by
  unfold best
  pointwise [k0_pay17]
  rw [bits_bot]
  rfl

include hi ho in
/-- The second, third and fourth largest. -/
theorem second_at : (k0_pay11 (F := Ideal) v i o 32#32 (ix2 0 r) : EReal) = best (rest (col v r)) :=
  (pay11_at v i o r).trans (congrArg best (funext (pay10_at v i o r hi ho)))

include hi ho in
theorem third_at : (k0_pay14 (F := Ideal) v i o 32#32 (ix2 0 r) : EReal) = best (rest (rest (col v r))) :=
  (pay14_at v i o r).trans (congrArg best ((funext (pay13_at v i o r hi)).trans (congrArg rest (funext (pay10_at v i o r hi ho)))))

include hi ho in
theorem fourth_at : (k0_pay17 (F := Ideal) v i o 32#32 (ix2 0 r) : EReal) = best (rest (rest (rest (col v r)))) :=
  (pay17_at v i o r).trans (congrArg best ((funext (pay16_at v i o r hi)).trans (congrArg rest
    ((funext (pay13_at v i o r hi)).trans (congrArg rest (funext (pay10_at v i o r hi ho)))))))

end

/-- The part of one number among four. -/
def part (t : Fin 4 → EReal) (k : Fin 4) : EReal :=
  Ideal.div (Ideal.exp (t k - t 0)) (Ideal.exp (t 0 - t 0) + Ideal.exp (t 1 - t 0) + Ideal.exp (t 2 - t 0) + Ideal.exp (t 3 - t 0))

end Cert.Gate

end
-- ==== Proof.Gate.Tile.lean ====
module

public import proofs.«01_k».proof.Proof.Gate.Scores
public import Idealize.ShloMosaic.Lib.Pipeline.CanonAppend

@[expose] public section

set_option maxRecDepth 16384

noncomputable section

/-! The gates of a block of tokens, and of every token. -/

namespace Cert.Gate

open Cert.OutProjIdeal Cert.OutProjIdeal.Gen
open Idealize.ShloMosaic Idealize.ShloMosaic.TcCoe
open Cert.Project Cert.OutProjIdeal.Project

/-- The four largest, one after the other. -/
def four (L : Fin 32 → EReal) : Fin 4 → EReal := ![best L, best (rest L), best (rest (rest L)), best (rest (rest (rest L)))]

/-- The score of one expert as the kernel adds it up. -/
def tally (h w₁ w₂ : Fin 1024 → EReal) (b : EReal) : EReal :=
  (∑ k : Fin 1024, w₁ k * h k) + (∑ k : Fin 1024, w₂ k * h k) + (∑ k : Fin 1024, w₁ k * (h k - h k)) + b

section
variable (x0 x1 : Vec Ideal S512x512 .bf16) (x2 : Vec Ideal S512x1024 .f32) (x3 x4 x5 : Vec Ideal S1x1x1024 .f32) (x6 x7 : Vec Ideal S1x1024 .f32)
  (x8 x9 : Vec Ideal S512x1024 .bf16) (x10 : Vec Ideal S64x1024 .bf16) (x11 : Vec Ideal S32x128 .f32)

/-- A token of the block as the router reads it. -/
abbrev read (j : Fin 512) : Fin 1024 → EReal :=
  normed (gated (fun k => x2 (ix2 j k)) (mixed (fun k => x0 (ix2 j k)) (fun k => x1 (ix2 j k)) (fun k n => x8 (ix2 k n)) (fun k n => x9 (ix2 k n)))
    (fun k => x3 (ix3 0 0 k)) (fun k => x6 (ix2 0 k))) (fun k => x7 (ix2 0 k)) (fun k => x5 (ix3 0 0 k)) (fun k => x4 (ix3 0 0 k))

/-- The block's scores. -/
abbrev S : FVec Ideal S32x512 .f32 := k0_pay46 (F := Ideal) x0 x1 x2 x3 x4 x5 x6 x7 x8 x9 x10 x11

theorem ld_table (x : Vec Ideal S64x1024 .bf16) : View.ld (Val := Elt Ideal) x r0_4 = x := funext fun y => congrArg x (funext fun i => Fin.ext (by
  match i with
  | ⟨0, _⟩ => exact (show 0 + 1 * (y 0).val = (y 0).val by omega)
  | ⟨1, _⟩ => exact (show 0 + 1 * (y 1).val = (y 1).val by omega)))

theorem ld_upper (x : Vec Ideal S64x1024 .bf16) (e : Fin 32) (k : Fin 1024) : View.ld (Val := Elt Ideal) x r0_5 (ix2 e k : S32x1024.Idx) = x (ix2 ⟨e.val, by omega⟩ k) :=
  congrArg x (funext fun i => by
    match i with
    | ⟨0, _⟩ => exact Fin.ext (show 0 + 1 * e.val = e.val by omega)
    | ⟨1, _⟩ => exact Fin.ext (show 0 + 1 * k.val = k.val by omega))

theorem ld_bias (x : Vec Ideal S32x128 .f32) (e : Fin 32) : View.ld (Val := Elt Ideal) x r0_6 (ix2 e 0 : S32x1.Idx) = x (ix2 e 0) :=
  congrArg x (funext fun i => by
    match i with
    | ⟨0, _⟩ => exact Fin.ext (show 0 + 1 * e.val = e.val by omega)
    | ⟨1, _⟩ => exact Fin.ext (show 0 + 1 * 0 = 0 by omega))

theorem scores_at (e : Fin 32) (j : Fin 512) : col (S x0 x1 x2 x3 x4 x5 x6 x7 x8 x9 x10 x11) j e
    = tally (read x0 x1 x2 x3 x4 x5 x6 x7 x8 x9 j) (fun k => x10 (ix2 ⟨e.val, by omega⟩ k)) (fun k => x10 (ix2 ⟨32 + e.val, by omega⟩ k)) (x11 (ix2 e 0)) := by
  have h5 : ∀ k, (k0_pay5 (F := Ideal) (k0_pay1 x0 x8 x1 x9 x2 x3 x6) x7 (k0_pay2 x0 x8 x1 x9 x2 x3 x6) k0_pay3 x5 x4 (ix2 j k) : EReal) = read x0 x1 x2 x3 x4 x5 x6 x7 x8 x9 j k :=
    fun k => pay5_normed x0 x1 x8 x9 x2 x3 x6 x7 x5 x4 j k
  have h4 : ∀ k, (k0_pay4 (F := Ideal) (k0_pay1 x0 x8 x1 x9 x2 x3 x6) x7 (k0_pay2 x0 x8 x1 x9 x2 x3 x6) k0_pay3 x5 x4 (ix2 j k) : EReal) = read x0 x1 x2 x3 x4 x5 x6 x7 x8 x9 j k := h5
  show (k0_pay46 (F := Ideal) x0 x1 x2 x3 x4 x5 x6 x7 x8 x9 x10 x11 (ix2 e j) : EReal) = _
  unfold k0_pay46 k0_pay44 k0_pay43 k0_pay42
  simp only [ld_branch, ld_half, ld_rows, ld_mod, ld_gain, ld_table]
  rw [pay6_at]
  simp only [h4, h5]
  exact congrArg₂ (fun a b : EReal => _ + a + b) (Finset.sum_congr rfl fun k _ => congrArg (fun a : EReal => a * _) (ld_upper x10 e k)) (ld_bias x11 e)

theorem places_at (e : Fin 32) (j : Fin 512) : k0_pay45 (F := Ideal) x0 x1 x2 x3 x4 x5 x6 x7 x8 x9 x10 x11 (ix2 e j) = BitVec.ofNat 32 e.val := by
  unfold k0_pay45
  pointwise

theorem first_at (j : Fin 512) : (k0_pay47 (F := Ideal) x0 x1 x2 x3 x4 x5 x6 x7 x8 x9 x10 x11 (ix2 0 j) : EReal) = best (col (S x0 x1 x2 x3 x4 x5 x6 x7 x8 x9 x10 x11) j) :=
  pay7_at _ _ _ _ _ _ _ _ _ j

theorem hits_at (e : Fin 32) (j : Fin 512) : k0_pay48 (F := Ideal) x0 x1 x2 x3 x4 x5 x6 x7 x8 x9 x10 x11 (ix2 e j)
    = BitVec.ofBool (decide (col (S x0 x1 x2 x3 x4 x5 x6 x7 x8 x9 x10 x11) j e = best (col (S x0 x1 x2 x3 x4 x5 x6 x7 x8 x9 x10 x11) j))) :=
  pay8_at _ _ _ _ _ _ _ _ _ e j

/-- What the kernel makes of the four largest. -/
def share (a b c d : EReal) : Fin 4 → EReal := part ![a, b, c, d]

section
variable (v a : FVec Ideal S1x512 .f32) (p q s : FVec Ideal S1x512 .f32) (j : Fin 512)

theorem pay25_at : (k0_pay25 (F := Ideal) v a p q s (ix2 0 j) : EReal) = Ideal.div (p (ix2 0 j)) ((p (ix2 0 j) : EReal) + q (ix2 0 j) + Ideal.exp (s (ix2 0 j)) + Ideal.exp ((a (ix2 0 j) : EReal) - v (ix2 0 j))) := by
  pointwise [k0_pay25, k0_pay24, k0_pay23, k0_pay22]
theorem pay26_at : (k0_pay26 (F := Ideal) v a p q s (ix2 0 j) : EReal) = Ideal.div (q (ix2 0 j)) ((p (ix2 0 j) : EReal) + q (ix2 0 j) + Ideal.exp (s (ix2 0 j)) + Ideal.exp ((a (ix2 0 j) : EReal) - v (ix2 0 j))) := by
  pointwise [k0_pay26, k0_pay24, k0_pay23, k0_pay22]
theorem pay27_at : (k0_pay27 (F := Ideal) v a p q s (ix2 0 j) : EReal) = Ideal.div (Ideal.exp (s (ix2 0 j))) ((p (ix2 0 j) : EReal) + q (ix2 0 j) + Ideal.exp (s (ix2 0 j)) + Ideal.exp ((a (ix2 0 j) : EReal) - v (ix2 0 j))) := by
  pointwise [k0_pay27, k0_pay24, k0_pay23, k0_pay22]
theorem pay28_at : (k0_pay28 (F := Ideal) v a p q s (ix2 0 j) : EReal) = Ideal.div (Ideal.exp ((a (ix2 0 j) : EReal) - v (ix2 0 j))) ((p (ix2 0 j) : EReal) + q (ix2 0 j) + Ideal.exp (s (ix2 0 j)) + Ideal.exp ((a (ix2 0 j) : EReal) - v (ix2 0 j))) := by
  pointwise [k0_pay28, k0_pay24, k0_pay23, k0_pay22]

end

theorem fourth (j : Fin 512) : (k0_pay52 (F := Ideal) x0 x1 x2 x3 x4 x5 x6 x7 x8 x9 x10 x11 (ix2 0 j) : EReal) = four (col (S x0 x1 x2 x3 x4 x5 x6 x7 x8 x9 x10 x11) j) 3 :=
  fourth_at _ _ _ j (fun e => places_at _ _ _ _ _ _ _ _ _ _ _ _ e j) (fun e => hits_at _ _ _ _ _ _ _ _ _ _ _ _ e j)

theorem exp0 (j : Fin 512) : (k0_pay54 (F := Ideal) x0 x1 x2 x3 x4 x5 x6 x7 x8 x9 x10 x11 (ix2 0 j) : EReal)
    = Ideal.exp (four (col (S x0 x1 x2 x3 x4 x5 x6 x7 x8 x9 x10 x11) j) 0 - four (col (S x0 x1 x2 x3 x4 x5 x6 x7 x8 x9 x10 x11) j) 0) := by
  have h := first_at x0 x1 x2 x3 x4 x5 x6 x7 x8 x9 x10 x11 j
  unfold k0_pay54
  pointwise [k0_pay19]
  rw [h]
  rfl

theorem exp1 (j : Fin 512) : (k0_pay55 (F := Ideal) x0 x1 x2 x3 x4 x5 x6 x7 x8 x9 x10 x11 (ix2 0 j) : EReal)
    = Ideal.exp (four (col (S x0 x1 x2 x3 x4 x5 x6 x7 x8 x9 x10 x11) j) 1 - four (col (S x0 x1 x2 x3 x4 x5 x6 x7 x8 x9 x10 x11) j) 0) := by
  have h := first_at x0 x1 x2 x3 x4 x5 x6 x7 x8 x9 x10 x11 j
  have h2 := second_at (S x0 x1 x2 x3 x4 x5 x6 x7 x8 x9 x10 x11) _ _ j (fun e => places_at x0 x1 x2 x3 x4 x5 x6 x7 x8 x9 x10 x11 e j) (fun e => hits_at x0 x1 x2 x3 x4 x5 x6 x7 x8 x9 x10 x11 e j)
  unfold k0_pay55
  pointwise [k0_pay20]
  rw [h, h2]
  rfl

theorem gap2 (j : Fin 512) : (k0_pay56 (F := Ideal) x0 x1 x2 x3 x4 x5 x6 x7 x8 x9 x10 x11 (ix2 0 j) : EReal)
    = four (col (S x0 x1 x2 x3 x4 x5 x6 x7 x8 x9 x10 x11) j) 2 - four (col (S x0 x1 x2 x3 x4 x5 x6 x7 x8 x9 x10 x11) j) 0 := by
  have h := first_at x0 x1 x2 x3 x4 x5 x6 x7 x8 x9 x10 x11 j
  have h2 := third_at (S x0 x1 x2 x3 x4 x5 x6 x7 x8 x9 x10 x11) _ _ j (fun e => places_at x0 x1 x2 x3 x4 x5 x6 x7 x8 x9 x10 x11 e j) (fun e => hits_at x0 x1 x2 x3 x4 x5 x6 x7 x8 x9 x10 x11 e j)
  unfold k0_pay56
  pointwise [k0_pay21]
  rw [h, h2]
  rfl

/-- The block of gates. -/
def gates (L : Fin 512 → Fin 32 → EReal) (y : S4x512.Idx) : EReal := part (four (L ⟨(y 1).val, (y 1).isLt⟩)) ⟨(y 0).val, (y 0).isLt⟩

theorem gates_row (L : Fin 512 → Fin 32 → EReal) (y : S4x512.Idx) (k : Fin 4) (j : Fin 512) (h0 : (y 0).val = k.val) (h1 : (y 1).val = j.val) :
    gates L y = part (four (L j)) k := by
  unfold gates
  exact congrArg₂ (fun a b => part (four (L a)) b) (Fin.ext h1) (Fin.ext h0)

/-- The block's stores, last first. -/
def stores : List (View.Piece (Elt Ideal) S4x512 .f32) :=
  [⟨r0_10, k0_pay28 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)⟩,
   ⟨r0_9, k0_pay27 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)⟩,
   ⟨r0_8, k0_pay26 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)⟩,
   ⟨r0_7, k0_pay25 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)⟩]

theorem stores_eq : out0_14 (F := Ideal) x0 x1 x2 x3 x4 x5 x6 x7 x8 x9 x10 x11 = View.canon (stores x0 x1 x2 x3 x4 x5 x6 x7 x8 x9 x10 x11) := rfl

theorem out14_at (k : Fin 4) (j : Fin 512) : (out0_14 (F := Ideal) x0 x1 x2 x3 x4 x5 x6 x7 x8 x9 x10 x11 (ix2 k j) : EReal)
    = part (four (col (S x0 x1 x2 x3 x4 x5 x6 x7 x8 x9 x10 x11) j)) k := by
  have e0 := exp0 x0 x1 x2 x3 x4 x5 x6 x7 x8 x9 x10 x11
  have e1 := exp1 x0 x1 x2 x3 x4 x5 x6 x7 x8 x9 x10 x11
  have e2 := gap2 x0 x1 x2 x3 x4 x5 x6 x7 x8 x9 x10 x11
  have e3 := fourth x0 x1 x2 x3 x4 x5 x6 x7 x8 x9 x10 x11
  have f := first_at x0 x1 x2 x3 x4 x5 x6 x7 x8 x9 x10 x11
  rw [stores_eq]
  have h := View.canon_append_of_pieces (Val := Elt Ideal) (e := .f32) (gates fun j => col (S x0 x1 x2 x3 x4 x5 x6 x7 x8 x9 x10 x11) j) [] (stores x0 x1 x2 x3 x4 x5 x6 x7 x8 x9 x10 x11) ?_ (ix2 k j) (cover0_14 (F := Ideal) (k0_pay28 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)) (k0_pay27 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)) (k0_pay26 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)) (k0_pay25 (F := Ideal) (k0_pay47 x0 x1 x2 x3 x4 x5 x6 x7 x8 x9 x10 x11) (k0_pay52 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11)) (ix2 k j))
  · rw [List.append_nil] at h
    exact h
  unfold stores
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    refine (pay28_at _ _ _ _ _ j).trans (Eq.trans ?_ (gates_row _ _ 3 j rfl (show 0 + 1 * j.val = j.val by omega)).symm)
    rw [e0, e1, e2, e3, f]
    rfl
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    refine (pay27_at _ _ _ _ _ j).trans (Eq.trans ?_ (gates_row _ _ 2 j rfl (show 0 + 1 * j.val = j.val by omega)).symm)
    rw [e0, e1, e2, e3, f]
    rfl
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    refine (pay26_at _ _ _ _ _ j).trans (Eq.trans ?_ (gates_row _ _ 1 j rfl (show 0 + 1 * j.val = j.val by omega)).symm)
    rw [e0, e1, e2, e3, f]
    rfl
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    refine (pay25_at _ _ _ _ _ j).trans (Eq.trans ?_ (gates_row _ _ 0 j rfl (show 0 + 1 * j.val = j.val by omega)).symm)
    rw [e0, e1, e2, e3, f]
    rfl
  intro p hp
  exact absurd hp List.not_mem_nil

end

end Cert.Gate

end
-- ==== Proof.Gate.Real.lean ====
module

public import proofs.«01_k».proof.Proof.Gate.Tile

@[expose] public section

noncomputable section

/-! Over finite numbers the kernel's score is the plain one, and no score is minus infinity. -/

namespace Cert.Gate

/-- A number that is neither infinity. -/
def Fine (x : EReal) : Prop := x ≠ ⊤ ∧ x ≠ ⊥

theorem Fine.real {x : EReal} (h : Fine x) : ((x.toReal : ℝ) : EReal) = x := EReal.coe_toReal h.1 h.2

theorem sum_real {n : Nat} (f : Fin n → ℝ) : (∑ k : Fin n, ((f k : ℝ) : EReal)) = ((∑ k : Fin n, f k : ℝ) : EReal) := by
  induction (Finset.univ : Finset (Fin n)) using Finset.induction_on with
  | empty => simp
  | insert a s ha ih => rw [Finset.sum_insert ha, Finset.sum_insert ha, ih, EReal.coe_add]

/-- The plain score of one expert. -/
def score (h w₁ w₂ : Fin 1024 → EReal) (b : EReal) : EReal := (∑ k : Fin 1024, h k * (w₁ k + w₂ k)) + b

section
variable (h w₁ w₂ : Fin 1024 → EReal) (b : EReal) (fh : ∀ k, Fine (h k)) (f₁ : ∀ k, Fine (w₁ k)) (f₂ : ∀ k, Fine (w₂ k)) (fb : Fine b)
include fh f₁ f₂ fb

theorem score_real : score h w₁ w₂ b = (((∑ k : Fin 1024, (h k).toReal * ((w₁ k).toReal + (w₂ k).toReal)) + b.toReal : ℝ) : EReal) := by
  unfold score
  rw [EReal.coe_add, ← sum_real, fb.real]
  refine congrArg (· + b) (Finset.sum_congr rfl fun k _ => ?_)
  rw [EReal.coe_mul, EReal.coe_add, (fh k).real, (f₁ k).real, (f₂ k).real]

theorem tally_real : tally h w₁ w₂ b = score h w₁ w₂ b := by
  rw [score_real h w₁ w₂ b fh f₁ f₂ fb]
  have e₁ : (∑ k : Fin 1024, w₁ k * h k) = ((∑ k : Fin 1024, (w₁ k).toReal * (h k).toReal : ℝ) : EReal) := by
    rw [← sum_real]
    refine Finset.sum_congr rfl fun k _ => ?_
    rw [EReal.coe_mul, (fh k).real, (f₁ k).real]
  have e₂ : (∑ k : Fin 1024, w₂ k * h k) = ((∑ k : Fin 1024, (w₂ k).toReal * (h k).toReal : ℝ) : EReal) := by
    rw [← sum_real]
    refine Finset.sum_congr rfl fun k _ => ?_
    rw [EReal.coe_mul, (fh k).real, (f₂ k).real]
  have e₃ : (∑ k : Fin 1024, w₁ k * (h k - h k)) = ((0 : ℝ) : EReal) := by
    refine (Finset.sum_eq_zero fun k _ => ?_).trans EReal.coe_zero.symm
    rw [← (fh k).real, ← EReal.coe_sub, sub_self, EReal.coe_zero, mul_zero]
  unfold tally
  rw [e₁, e₂, e₃, ← EReal.coe_add, ← EReal.coe_add]
  conv_lhs => rw [← fb.real]
  rw [← EReal.coe_add]
  refine congrArg (fun z : ℝ => (z : EReal)) ?_
  rw [add_zero, ← Finset.sum_add_distrib]
  refine congrArg (· + b.toReal) (Finset.sum_congr rfl fun k _ => ?_)
  ring

theorem score_ne : score h w₁ w₂ b ≠ ⊥ := by
  rw [score_real h w₁ w₂ b fh f₁ f₂ fb]
  exact EReal.coe_ne_bot _

end

/-- The four largest are the numbers in the first four places. -/
theorem four_nth (L : Fin 32 → EReal) (hL : ∀ e, L e ≠ ⊥) (i : Fin 4) : four L i = nth L (i.val : EReal) := by
  have h := fun k hk => best_rest L hL k hk
  have h0 := h 0 (by decide)
  have h1 := h 1 (by decide)
  have h2 := h 2 (by decide)
  have h3 := h 3 (by decide)
  simp only [Function.iterate_succ, Function.iterate_zero, Function.comp, id] at h0 h1 h2 h3
  match i with
  | ⟨0, _⟩ => exact h0
  | ⟨1, _⟩ => exact h1
  | ⟨2, _⟩ => exact h2
  | ⟨3, _⟩ => exact h3

end Cert.Gate

end
-- ==== Proof.Gate.Runs.lean ====
module

public import proofs.«01_k».proof.Proof.Gate.Scores

@[expose] public section

noncomputable section

/-! Where a token stands in its tile: the experts' runs one after another, each with room for a multiple of eight, and within a run the tokens in order. -/

namespace Cert.Gate

open Idealize.ShloMosaic

theorem slt_far (a b : Fin 512) : IntOp.cmpi .slt (BitVec.ofNat 32 b.val) (BitVec.ofNat 32 a.val) = BitVec.ofBool (decide (b < a)) := by
  have h : ∀ x : Fin 512, (BitVec.ofNat 32 x.val).toInt = x.val := by
    intro x
    have hx : (BitVec.ofNat 32 x.val).toNat = x.val := by
      rw [BitVec.toNat_ofNat]
      exact Nat.mod_eq_of_lt (by omega)
    rw [BitVec.toInt_eq_toNat_of_lt (by rw [hx]; omega), hx]
  refine congrArg BitVec.ofBool ?_
  rw [Bool.eq_iff_iff, BitVec.slt_iff_toInt_lt, h, h, decide_eq_true_iff, Fin.lt_def]
  exact Nat.cast_lt

theorem slt_near (a b : Fin 32) : IntOp.cmpi .slt (BitVec.ofNat 32 b.val) (BitVec.ofNat 32 a.val) = BitVec.ofBool (decide (b < a)) :=
  slt_far ⟨a.val, by omega⟩ ⟨b.val, by omega⟩

/-- Rounding up to a multiple of eight, two ways. -/
theorem floor_ceil (n : ℕ) : Ideal.liftRound Int.floor (((n : EReal) + 7) * ((1 / 8 : ℝ) : EReal)) = Ideal.liftRound Int.ceil (Ideal.div (n : EReal) 8) := by
  have e8 : (8 : EReal) = ((8 : ℝ) : EReal) := rfl
  have e7 : (7 : EReal) = ((7 : ℝ) : EReal) := rfl
  have en : (n : EReal) = ((n : ℝ) : EReal) := (EReal.coe_natCast (n := n)).symm
  rw [e8, Ideal.div_coe (by norm_num), e7, en, ← EReal.coe_add, ← EReal.coe_mul, ← EReal.coe_mul, Ideal.liftRound_coe, Ideal.liftRound_coe]
  obtain ⟨q, h1, h2⟩ : ∃ q : ℕ, 8 * q ≤ n + 7 ∧ n ≤ 8 * q := ⟨(n + 7) / 8, by omega, by omega⟩
  have c1 : (8 : ℝ) * q ≤ n + 7 := by exact_mod_cast h1
  have c2 : (n : ℝ) ≤ 8 * q := by exact_mod_cast h2
  have hf : ⌊((n : ℝ) + 7) * (1 / 8)⌋ = (q : ℤ) := by
    rw [Int.floor_eq_iff]
    push_cast
    constructor <;> linarith
  have hc : ⌈(n : ℝ) * (1 / 8)⌉ = (q : ℤ) := by
    rw [Int.ceil_eq_iff]
    push_cast
    constructor <;> linarith
  rw [hf, hc]

/-- Where token `j` stands with expert `e`, from who chooses whom. -/
def standing (T : Fin 512 → Fin 32 → EReal) (j : Fin 512) (e : Fin 32) : EReal :=
  8 * (∑ b : Fin 32, if b < e then Ideal.liftRound Int.ceil (Ideal.div (∑ s : Fin 512, T s b) 8) else 0) + ∑ s : Fin 512, if s < j then T s e else 0

/-- The same, as the kernel adds it up. -/
def placed (T : Fin 512 → Fin 32 → EReal) (j : Fin 512) (e : Fin 32) : EReal :=
  8 * (∑ b : Fin 32, (if b < e then (1 : EReal) else 0) * Ideal.liftRound Int.floor (((∑ s : Fin 512, T s b) + 7) * ((1 / 8 : ℝ) : EReal)))
    + ∑ s : Fin 512, T s e * (if s < j then (1 : EReal) else 0)

theorem placed_eq (p : Fin 512 → Fin 32 → Prop) [∀ s b, Decidable (p s b)] (j : Fin 512) (e : Fin 32) :
    placed (fun s b => if p s b then 1 else 0) j e = standing (fun s b => if p s b then 1 else 0) j e := by
  unfold placed standing
  refine congrArg₂ (fun a b : EReal => 8 * a + b) (Finset.sum_congr rfl fun b _ => ?_) (Finset.sum_congr rfl fun s _ => ?_)
  · rw [Finset.sum_boole, floor_ceil]
    by_cases h : b < e <;> simp [h]
  · by_cases h : s < j <;> simp [h]

/-- A token's position with its `k`-th choice, as the kernel adds it up. -/
def spot (L : Fin 512 → Fin 32 → EReal) (T : Fin 512 → Fin 32 → EReal) (j : Fin 512) (k : Nat) : BitVec 32 :=
  Ideal.fptosi 32 (∑ e : Fin 32, (if BitVec.ofNat 32 e.val = pick (rest^[k] (L j)) then (1 : EReal) else 0) * placed T j e)

theorem spot_eq (L : Fin 512 → Fin 32 → EReal) (hL : ∀ s e, L s e ≠ ⊥) (j : Fin 512) (k : Nat) (hk : k < 32) :
    spot L (fun s e => taken (L s) e) j k = Ideal.fptosi 32 (∑ e : Fin 32, if place (L j) e = (k : EReal) then standing (fun s b => if place (L s) b < 4 then 1 else 0) j e else 0) := by
  unfold spot
  refine congrArg (Ideal.fptosi 32) (Finset.sum_congr rfl fun e _ => ?_)
  rw [show (fun s e => taken (L s) e) = fun s b => if place (L s) b < 4 then (1 : EReal) else 0 from funext fun s => funext fun b => taken_eq _ (hL s) b, placed_eq]
  have h := pick_rest (L j) (hL j) k hk e
  by_cases hp : place (L j) e = (k : EReal)
  · rw [if_pos hp, if_pos (h.mpr hp), one_mul]
  · rw [if_neg hp, if_neg (fun x => hp (h.mp x)), zero_mul]

end Cert.Gate

end
-- ==== Proof.GateHost.Stages.lean ====
module

public import proofs.«01_k».proof.Proof.Gen.GatesRefIdeal.Run
public import proofs.«01_k».proof.Proof.OutProjHost.Stages
public import proofs.«01_k».proof.Proof.Gate.Real
public import proofs.«01_k».proof.Proof.Gate.Runs
public import Idealize.ShloMosaic.Lib.Pointwise.IndexBridge

@[expose] public section

set_option maxRecDepth 16384

noncomputable section

/-! The router's reference, in stages, each read at one entry. -/

namespace Cert.GatesRefIdeal.Value

open Cert.GatesRefIdeal Cert.GatesRefIdeal.Gen
open Idealize.ShloMosaic Idealize.ShloMosaic.TcCoe Idealize.SL.Sem
open Cert.Gate (score before place nth part)

/-- Every token's score of every expert. -/
def scores (h : FVec Ideal S32768x1024 .f32) (w : FVec Ideal S64x1024 .bf16) (b : FVec Ideal S32x128 .f32) : FVec Ideal S32768x32 .f32 :=
  addf (Host.dotGeneral dot_S32768x1024_S1024x32_S32768x32_1_0_0_1_n_n none h
    (transpose S1024x32 [1, 0] (addf (extf .f32 (extractStridedSlice S32x1024 ![0, 0] w slices_S64x1024_S32x1024_0_0) bitsLt_bf16_f32) (extf .f32 (extractStridedSlice S32x1024 ![32, 0] w slices_S64x1024_S32x1024_32_0) bitsLt_bf16_f32)) transposes_S32x1024_S1024x32_1_0))
    (broadcastInDim S32768x32 ![0, 1] bcast_S1x32_S32768x32_0_1 (broadcastInDim S1x32 ![1] bcast_S32_S1x32_1 (shapeCast _ (extractStridedSlice S32x1 ![0, 0] b slices_S32x128_S32x1_0_0) shapeCasts_S32x1_S32)))

theorem scores_at (h : FVec Ideal S32768x1024 .f32) (w : FVec Ideal S64x1024 .bf16) (b : FVec Ideal S32x128 .f32) (r : Fin 32768) (e : Fin 32) :
    (scores h w b (ix2 r e) : EReal) = score (fun k => h (ix2 r k)) (fun k => w (ix2 ⟨e.val, by omega⟩ k)) (fun k => w (ix2 ⟨32 + e.val, by omega⟩ k)) (b (ix2 e 0)) := by
  unfold scores score
  pointwise

/-- Whether one expert comes before another, for every token. -/
def beats (v : FVec Ideal S32768x32 .f32) : IVec S32768x32x32 1 :=
  ori (cmpf .ogt (broadcastInDim S32768x32x32 ![0, 1, 2] bcast_S32768x1x32_S32768x32x32_0_1_2 (broadcastInDim S32768x1x32 ![0, 2] bcast_S32768x32_S32768x1x32_0_2 v)) (broadcastInDim S32768x32x32 ![0, 1, 2] bcast_S32768x32x1_S32768x32x32_0_1_2 (broadcastInDim S32768x32x1 ![0, 1] bcast_S32768x32_S32768x32x1_0_1 v)))
    (andi (cmpf .oeq (broadcastInDim S32768x32x32 ![0, 1, 2] bcast_S32768x1x32_S32768x32x32_0_1_2 (broadcastInDim S32768x1x32 ![0, 2] bcast_S32768x32_S32768x1x32_0_2 v)) (broadcastInDim S32768x32x32 ![0, 1, 2] bcast_S32768x32x1_S32768x32x32_0_1_2 (broadcastInDim S32768x32x1 ![0, 1] bcast_S32768x32_S32768x32x1_0_1 v)))
      (broadcastInDim S32768x32x32 ![0, 1, 2] bcast_S1x32x32_S32768x32x32_0_1_2 (cmpi .slt (broadcastInDim S1x32x32 ![0, 1, 2] bcast_S1x1x32_S1x32x32_0_1_2 (broadcastInDim S1x1x32 ![2] bcast_S32_S1x1x32_2 (iotaInDim S32 32 0))) (broadcastInDim S1x32x32 ![0, 1, 2] bcast_S1x32x1_S1x32x32_0_1_2 (broadcastInDim S1x32x1 ![1] bcast_S32_S1x32x1_1 (iotaInDim S32 32 0))))))

theorem slt_at (a b : Fin 32) : IntOp.cmpi .slt (BitVec.ofNat 32 b.val) (BitVec.ofNat 32 a.val) = BitVec.ofBool (decide (b < a)) := by
  revert a b; decide +kernel

theorem bit_or {p q r s : Prop} [Decidable p] [Decidable q] [Decidable r] [Decidable s] (h : s ↔ p ∨ (q ∧ r)) :
    IntOp.ori (BitVec.ofBool (decide p)) (IntOp.andi (BitVec.ofBool (decide q)) (BitVec.ofBool (decide r))) = BitVec.ofBool (decide s) := by
  by_cases hp : p <;> by_cases hq : q <;> by_cases hr : r <;> simp [h, hp, hq, hr, IntOp.ori, IntOp.andi]

theorem beats_at (v : FVec Ideal S32768x32 .f32) (r : Fin 32768) (a b : Fin 32) :
    beats v (ix3 r a b) = BitVec.ofBool (decide (before (fun e => v (ix2 r e)) a b)) := by
  unfold beats
  pointwise
  rw [slt_at]
  exact bit_or Iff.rfl

/-- The place of every expert among a token's scores. -/
def places (v : FVec Ideal S32768x32 .f32) : FVec Ideal S32768x32 .f32 :=
  Host.reduceAdd (id (select (beats v) (broadcastInDim S32768x32x32 ![] bcast_S_S32768x32x32 (constant S_ .f32 0x3F800000#32)) (broadcastInDim S32768x32x32 ![] bcast_S_S32768x32x32 (constant S_ .f32 0x00000000#32)))) (constant S_ .f32 0x00000000#32) reducesTo_S32768x32x32_S32768x32_d2 h_S_

theorem one_bits : Ideal.ofBits .f32 0x3F800000#32 = 1 := by
  simp [Ideal.ofBits, Ideal.ieee]
  rw [← EReal.coe_mul]
  norm_num
theorem zero_bits : Ideal.ofBits .f32 0x00000000#32 = 0 := by simp [Ideal.ofBits, Ideal.ieee]

theorem places_at (v : FVec Ideal S32768x32 .f32) (r : Fin 32768) (a : Fin 32) :
    (places v (ix2 r a) : EReal) = place (fun e => v (ix2 r e)) a := by
  unfold places place
  pointwise
  refine Finset.sum_congr rfl fun b _ => ?_
  show Scalar.select (beats v (ix3 r a b)) (Ideal.ofBits .f32 0x3F800000#32) (Ideal.ofBits .f32 0x00000000#32) = _
  rw [beats_at, one_bits, zero_bits, Cert.Gate.pick_bit]

/-- The scores in the first four places. -/
def tops (v : FVec Ideal S32768x32 .f32) : FVec Ideal S32768x4 .f32 :=
  Host.reduceAdd (select (cmpf .oeq (broadcastInDim S32768x32x4 ![0, 1, 2] bcast_S32768x32x1_S32768x32x4_0_1_2 (broadcastInDim S32768x32x1 ![0, 1] bcast_S32768x32_S32768x32x1_0_1 (places v))) (broadcastInDim S32768x32x4 ![0, 1, 2] bcast_S1x1x4_S32768x32x4_0_1_2 (broadcastInDim S1x1x4 ![2] bcast_S4_S1x1x4_2 (sitofp .f32 (iotaInDim S4 32 0)))))
    (broadcastInDim S32768x32x4 ![0, 1, 2] bcast_S32768x32x1_S32768x32x4_0_1_2 (broadcastInDim S32768x32x1 ![0, 1] bcast_S32768x32_S32768x32x1_0_1 v)) (broadcastInDim S32768x32x4 ![] bcast_S_S32768x32x4 (id (constant S_ .f32 0x00000000#32)))) (constant S_ .f32 0x00000000#32) reducesTo_S32768x32x4_S32768x4_d1 h_S_

theorem count_at (k : Fin 4) : (FloatOps.sitofp (F := Ideal) .f32 (BitVec.ofNat 32 k.val) : EReal) = (k.val : EReal) := by
  have h : (BitVec.ofNat 32 k.val).toInt = (k.val : Int) := by revert k; decide
  show (((BitVec.ofNat 32 k.val).toInt : ℝ) : EReal) = _
  rw [h]
  simp

theorem tops_at (v : FVec Ideal S32768x32 .f32) (r : Fin 32768) (k : Fin 4) :
    (tops v (ix2 r k) : EReal) = nth (fun e => v (ix2 r e)) (k.val : EReal) := by
  unfold tops nth
  pointwise
  rw [count_at]
  refine Finset.sum_congr rfl fun a _ => ?_
  rw [places_at, show (id (constant (F := Ideal) S_ .f32 0x00000000#32) ix0 : EReal) = 0 from zero_bits]

/-- Their exponentials. -/
def ups (t : FVec Ideal S32768x4 .f32) : FVec Ideal S32768x4 .f32 :=
  Host.exp (subf t (broadcastInDim S32768x4 ![0, 1] bcast_S32768x1_S32768x4_0_1 (extractStridedSlice S32768x1 ![0, 0] t slices_S32768x4_S32768x1_0_0)))

/-- Their shares. -/
def shares (u : FVec Ideal S32768x4 .f32) : FVec Ideal S4x32768 .f32 :=
  transpose S4x32768 [1, 0] (Host.divf u (broadcastInDim S32768x4 ![0, 1] bcast_S32768x1_S32768x4_0_1 (broadcastInDim S32768x1 ![0] bcast_S32768_S32768x1_0 (Host.reduceAdd u (constant S_ .f32 0x00000000#32) reducesTo_S32768x4_S32768_d1 h_S_)))) transposes_S32768x4_S4x32768_1_0

theorem shares_at (t : FVec Ideal S32768x4 .f32) (r : Fin 32768) (k : Fin 4) :
    (shares (ups t) (ix2 k r) : EReal) = part (fun k => t (ix2 r k)) k := by
  unfold shares ups part
  pointwise
  rw [Fin.sum_univ_four]

theorem four_bits : Ideal.ofBits .f32 0x40800000#32 = 4 := by
  simp [Ideal.ofBits, Ideal.ieee]
  rw [← EReal.coe_mul]
  norm_num
  rfl

theorem eight_bits : Ideal.ofBits .f32 0x41000000#32 = 8 := by
  simp [Ideal.ofBits, Ideal.ieee]
  rw [← EReal.coe_mul]
  norm_num
  rfl

/-- Whether an expert is among the first four places of a token, tile by tile. -/
def chosen (p : FVec Ideal S32768x32 .f32) : FVec Ideal S64x512x32 .f32 :=
  shapeCast _ (select (cmpf .olt p (broadcastInDim S32768x32 ![] bcast_S_S32768x32 (constant S_ .f32 0x40800000#32))) (broadcastInDim S32768x32 ![] bcast_S_S32768x32 (constant S_ .f32 0x3F800000#32)) (broadcastInDim S32768x32 ![] bcast_S_S32768x32 (constant S_ .f32 0x00000000#32))) shapeCasts_S32768x32_S64x512x32

theorem chosen_at (p : FVec Ideal S32768x32 .f32) (t : Fin 64) (j : Fin 512) (e : Fin 32) :
    (chosen p (ix3 t j e) : EReal) = if (p (ix2 ⟨t.val * 512 + j.val, by omega⟩ e) : EReal) < 4 then (1 : EReal) else 0 := by
  unfold chosen
  pointwise
  rw [four_bits]

/-- How many tokens of a tile choose an expert. -/
def sums (h : FVec Ideal S64x512x32 .f32) : FVec Ideal S64x32 .f32 := Host.reduceAdd (id h) (constant S_ .f32 0x00000000#32) reducesTo_S64x512x32_S64x32_d1 h_S_

theorem sums_at (h : FVec Ideal S64x512x32 .f32) (t : Fin 64) (e : Fin 32) : (sums h (ix2 t e) : EReal) = ∑ j : Fin 512, h (ix3 t j e) := by
  unfold sums
  pointwise
  rfl

/-- The same, along the lanes. -/
def counts (n : FVec Ideal S64x32 .f32) : FVec Ideal S2048x128 .f32 := broadcastInDim S2048x128 ![0, 1] bcast_S2048x1_S2048x128_0_1 (shapeCast _ n shapeCasts_S64x32_S2048x1)

theorem counts_at (n : FVec Ideal S64x32 .f32) (q : Fin 2048) (l : Fin 128) : (counts n (ix2 q l) : EReal) = n (ix2 ⟨q.val / 32, by omega⟩ ⟨q.val % 32, by omega⟩) := by
  unfold counts
  pointwise

/-- Where each expert's run starts. -/
def starts (n : FVec Ideal S64x32 .f32) : FVec Ideal S64x32 .f32 :=
  mulf (broadcastInDim S64x32 ![] bcast_S_S64x32 (constant S_ .f32 0x41000000#32)) (Host.reduceAdd (select (broadcastInDim S64x32x32 ![0, 1, 2] bcast_S1x32x32_S64x32x32_0_1_2 (cmpi .slt (broadcastInDim S1x32x32 ![0, 1, 2] bcast_S1x1x32_S1x32x32_0_1_2 (broadcastInDim S1x1x32 ![2] bcast_S32_S1x1x32_2 (iotaInDim S32 32 0))) (broadcastInDim S1x32x32 ![0, 1, 2] bcast_S1x32x1_S1x32x32_0_1_2 (broadcastInDim S1x32x1 ![1] bcast_S32_S1x32x1_1 (iotaInDim S32 32 0)))))
    (broadcastInDim S64x32x32 ![0, 1, 2] bcast_S64x1x32_S64x32x32_0_1_2 (broadcastInDim S64x1x32 ![0, 2] bcast_S64x32_S64x1x32_0_2 (Host.ceil (Host.divf n (broadcastInDim S64x32 ![] bcast_S_S64x32 (constant S_ .f32 0x41000000#32)))))) (broadcastInDim S64x32x32 ![] bcast_S_S64x32x32 (id (constant S_ .f32 0x00000000#32)))) (constant S_ .f32 0x00000000#32) reducesTo_S64x32x32_S64x32_d2 h_S_)

theorem starts_at (n : FVec Ideal S64x32 .f32) (t : Fin 64) (e : Fin 32) :
    (starts n (ix2 t e) : EReal) = 8 * ∑ b : Fin 32, if b < e then Ideal.liftRound Int.ceil (Ideal.div (n (ix2 t b)) 8) else 0 := by
  unfold starts
  pointwise
  rw [eight_bits]
  refine congrArg (8 * ·) (Finset.sum_congr rfl fun b _ => ?_)
  rw [slt_at, Cert.Gate.pick_bit, show (id (constant (F := Ideal) S_ .f32 0x00000000#32) ix0 : EReal) = 0 from zero_bits]

/-- How many earlier tokens of the tile choose an expert. -/
def earlier (h : FVec Ideal S64x512x32 .f32) : FVec Ideal S64x512x32 .f32 :=
  Host.reduceAdd (id (select (broadcastInDim S64x512x512x32 ![0, 1, 2, 3] bcast_S1x512x512x1_S64x512x512x32_0_1_2_3 (cmpi .slt (broadcastInDim S1x512x512x1 ![0, 1, 2, 3] bcast_S1x1x512x1_S1x512x512x1_0_1_2_3 (broadcastInDim S1x1x512x1 ![2] bcast_S512_S1x1x512x1_2 (iotaInDim S512 32 0))) (broadcastInDim S1x512x512x1 ![0, 1, 2, 3] bcast_S1x512x1x1_S1x512x512x1_0_1_2_3 (broadcastInDim S1x512x1x1 ![1] bcast_S512_S1x512x1x1_1 (iotaInDim S512 32 0)))))
    (broadcastInDim S64x512x512x32 ![0, 1, 2, 3] bcast_S64x1x512x32_S64x512x512x32_0_1_2_3 (broadcastInDim S64x1x512x32 ![0, 2, 3] bcast_S64x512x32_S64x1x512x32_0_2_3 h)) (broadcastInDim S64x512x512x32 ![] bcast_S_S64x512x512x32 (constant S_ .f32 0x00000000#32)))) (constant S_ .f32 0x00000000#32) reducesTo_S64x512x512x32_S64x512x32_d2 h_S_

theorem earlier_at (h : FVec Ideal S64x512x32 .f32) (t : Fin 64) (j : Fin 512) (e : Fin 32) :
    (earlier h (ix3 t j e) : EReal) = ∑ s : Fin 512, if s < j then (h (ix3 t s e) : EReal) else 0 := by
  unfold earlier
  pointwise
  refine Finset.sum_congr rfl fun s _ => ?_
  show (select _ _ _ (ix4 t j s e) : EReal) = _
  pointwise
  rw [Cert.Gate.slt_far, Cert.Gate.pick_bit]

/-- Where a token would stand among an expert's. -/
def slots (b : FVec Ideal S64x32 .f32) (h : FVec Ideal S64x512x32 .f32) : FVec Ideal S32768x32 .f32 :=
  shapeCast _ (addf (broadcastInDim S64x512x32 ![0, 1, 2] bcast_S64x1x32_S64x512x32_0_1_2 (broadcastInDim S64x1x32 ![0, 2] bcast_S64x32_S64x1x32_0_2 b)) h) shapeCasts_S64x512x32_S32768x32

theorem slots_at (b : FVec Ideal S64x32 .f32) (h : FVec Ideal S64x512x32 .f32) (r : Fin 32768) (e : Fin 32) :
    (slots b h (ix2 r e) : EReal) = (b (ix2 ⟨r.val / 512, by omega⟩ e) : EReal) + h (ix3 ⟨r.val / 512, by omega⟩ ⟨r.val % 512, by omega⟩ e) := by
  unfold slots
  pointwise

/-- Where a token stands with each of its four choices. -/
def seats (p y : FVec Ideal S32768x32 .f32) : IVec S4x32768 32 :=
  transpose S4x32768 [1, 0] (fptosi 32 (Host.reduceAdd (select (cmpf .oeq (broadcastInDim S32768x32x4 ![0, 1, 2] bcast_S32768x32x1_S32768x32x4_0_1_2 (broadcastInDim S32768x32x1 ![0, 1] bcast_S32768x32_S32768x32x1_0_1 p)) (broadcastInDim S32768x32x4 ![0, 1, 2] bcast_S1x1x4_S32768x32x4_0_1_2 (broadcastInDim S1x1x4 ![2] bcast_S4_S1x1x4_2 (sitofp .f32 (iotaInDim S4 32 0)))))
    (broadcastInDim S32768x32x4 ![0, 1, 2] bcast_S32768x32x1_S32768x32x4_0_1_2 (broadcastInDim S32768x32x1 ![0, 1] bcast_S32768x32_S32768x32x1_0_1 y)) (broadcastInDim S32768x32x4 ![] bcast_S_S32768x32x4 (id (constant S_ .f32 0x00000000#32)))) (constant S_ .f32 0x00000000#32) reducesTo_S32768x32x4_S32768x4_d1 h_S_)) transposes_S32768x4_S4x32768_1_0

theorem seats_at (p y : FVec Ideal S32768x32 .f32) (k : Fin 4) (r : Fin 32768) :
    seats p y (ix2 k r) = Ideal.fptosi 32 (∑ a : Fin 32, if (p (ix2 r a) : EReal) = (k.val : EReal) then (y (ix2 r a) : EReal) else 0) := by
  unfold seats
  pointwise
  rw [count_at]
  refine congrArg (Ideal.fptosi 32) (Finset.sum_congr rfl fun a _ => ?_)
  rw [show (id (constant (F := Ideal) S_ .f32 0x00000000#32) ix0 : EReal) = 0 from zero_bits]

variable (m : (ℓ : Loc nD τ sig) → Buf (Elt Ideal) ℓ) (c : Dev nD)

/-- The tokens the router reads. -/
abbrev tokens : FVec Ideal S32768x1024 .f32 :=
  Cert.OutProjRefIdeal.Value.flat (Cert.OutProjRefIdeal.Value.shifted (m ((c.tc : Thread nD τ).loc main_arg3)) (Cert.OutProjRefIdeal.Value.added (m ((c.tc : Thread nD τ).loc main_arg2)) (m ((c.tc : Thread nD τ).loc main_arg3))
    (Cert.OutProjRefIdeal.Value.mixture (m ((c.tc : Thread nD τ).loc main_arg0)) (m ((c.tc : Thread nD τ).loc main_arg1)) (m ((c.tc : Thread nD τ).loc main_arg6)) (m ((c.tc : Thread nD τ).loc main_arg7)))
    (m ((c.tc : Thread nD τ).loc main_arg4))) (m ((c.tc : Thread nD τ).loc main_arg5)))

/-- The scores over the call's arguments. -/
def rated : FVec Ideal S32768x32 .f32 := scores (tokens m c) (m ((c.tc : Thread nD τ).loc main_arg8)) (m ((c.tc : Thread nD τ).loc main_arg9))

/-- The gates. -/
def leaf : FVec Ideal S4x32768 .f32 := shares (ups (tops (rated m c)))

/-- The counts. -/
def tail : FVec Ideal S2048x128 .f32 := counts (sums (chosen (places (rated m c))))

/-- The positions. -/
def spots : IVec S4x32768 32 := seats (places (rated m c)) (slots (starts (sums (chosen (places (rated m c))))) (earlier (chosen (places (rated m c)))))

theorem leaf_at (r : Fin 32768) (k : Fin 4) : (leaf m c (ix2 k r) : EReal) = part (fun i => nth (fun e => rated m c (ix2 r e)) (i.val : EReal)) k :=
  (shares_at _ r k).trans (congrArg (fun t => part t k) (funext fun i => tops_at _ r i))

theorem rated_eq : res_main_v60 (StableHlo.launchContents m c) = rated m c := by
  unfold res_main_v60 rated
  rfl

set_option maxHeartbeats 2000000 in
theorem places_eq : res_main_v80 (StableHlo.launchContents m c) = places (rated m c) := by
  unfold res_main_v80 res_main_v61 res_main_v62 res_main_v63
  rw [rated_eq]
  rfl

set_option maxHeartbeats 2000000 in
theorem tops_eq : res_main_v90 (StableHlo.launchContents m c) = tops (rated m c) := by
  unfold res_main_v90 res_main_v82
  rw [places_eq, rated_eq]
  rfl

set_option maxHeartbeats 2000000 in
theorem ups_eq : res_main_v94 (StableHlo.launchContents m c) = ups (tops (rated m c)) := by
  unfold res_main_v94
  rw [tops_eq]
  rfl

theorem chosen_eq : res_main_v103 (StableHlo.launchContents m c) = chosen (places (rated m c)) := by
  unfold res_main_v103
  rw [places_eq]
  rfl

theorem sums_eq : res_main_v105 (StableHlo.launchContents m c) = sums (chosen (places (rated m c))) := by
  unfold res_main_v105
  rw [chosen_eq]
  rfl

/-- The run, over the stages. -/
theorem run_leaf (ρ : Dev nD → PrngReg) :
    θ_run defs (onTc (τ := τ) (main (F := Ideal))) ⟨m, fun _ => 0, ρ⟩ fun r => ∀ c : Dev nD,
      r.2.mem ((c.tc : Thread nD τ).loc main_v99) = leaf m c
      ∧ r.2.mem ((c.tc : Thread nD τ).loc main_v142) = spots m c
      ∧ r.2.mem ((c.tc : Thread nD τ).loc main_v144) = tail m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by rw [ups_eq]; rfl), (h c).2.1.trans (by rw [places_eq, chosen_eq, sums_eq]; unfold res_main_v82 res_main_v63 res_main_v119; rfl), (h c).2.2.1.trans (by rw [sums_eq]; rfl), (h c).2.2.2⟩) (run (F := Ideal) m ρ)

end Cert.GatesRefIdeal.Value

end
-- ==== Proof.GateHost.Finite.lean ====
module

public import proofs.«01_k».proof.Proof.GateHost.Stages
public import proofs.«01_k».proof.Proof.Gen.Pre_finite
public import Idealize.ShloMosaic.Lib.ReduceAll
public import Idealize.ShloMosaic.Lib.WordCmp

@[expose] public section

set_option maxRecDepth 16384

noncomputable section

/-! What the precondition says: the tokens the router reads, its table and its bias are finite. -/

namespace Cert.GatesRefIdeal.Value

open Cert.GatesRefIdeal.Gen
open Idealize.ShloMosaic
open Cert.Gate (Fine)

theorem both (a b : BitVec 1) (h : a &&& b = 1#1) : a = 1#1 ∧ b = 1#1 := by
  revert a b; decide

theorem holds (p : Bool) (h : BitVec.ofBool p = 1#1) : p = true := by
  revert p; decide

theorem fine_of_abs (x : EReal) (h : max x (-x) < Ideal.ofBits .f32 0x7F800000#32) : Fine x := by
  have e : Ideal.ofBits .f32 0x7F800000#32 = ⊤ := by simp [Ideal.ofBits, Ideal.ieee]
  rw [e] at h
  refine ⟨fun t => ?_, fun b => ?_⟩
  · rw [t] at h
    simp at h
  · rw [b] at h
    simp at h

instance : Subsingleton Pre_finite.S_.Idx := ⟨fun a b => funext fun k => k.elim0⟩

section
variable (a0 a1 : FVec Ideal Pre_finite.S32768x512 .bf16) (a2 : FVec Ideal Pre_finite.S32768x1024 .f32) (a3 : FVec Ideal Pre_finite.S192x1x1024 .f32) (a4 a5 : FVec Ideal Pre_finite.S1x1024 .f32)
  (a6 a7 : FVec Ideal Pre_finite.S512x1024 .bf16) (a8 : FVec Ideal Pre_finite.S64x1024 .bf16) (a9 : FVec Ideal Pre_finite.S32x128 .f32)

/-- The tokens, from the arguments. -/
abbrev flow : FVec Ideal Pre_finite.S32768x1024 .f32 :=
  Cert.OutProjRefIdeal.Value.flat (Cert.OutProjRefIdeal.Value.shifted a3 (Cert.OutProjRefIdeal.Value.added a2 a3 (Cert.OutProjRefIdeal.Value.mixture a0 a1 a6 a7) a4) a5)

set_option maxHeartbeats 1000000 in
theorem split (h : Cert.Pre_finite.fn (F := Ideal) a0 a1 a2 a3 a4 a5 a6 a7 a8 a9 = fun _ => 1#1) :
    (∀ i, Fine (flow a0 a1 a2 a3 a4 a5 a6 a7 i)) ∧ (∀ i, Fine (a8 i)) ∧ (∀ e : Fin 32, Fine (a9 (ix2 e 0))) := by
  have e := congrFun h (fun k => k.elim0)
  unfold Pre_finite.fn Pre_finite.fn_part1 Pre_finite.fn_part2 Pre_finite.fn_part3 at e
  obtain ⟨e1, e4⟩ := both _ _ e
  obtain ⟨e2, e3⟩ := both _ _ e1
  refine ⟨fun i => fine_of_abs _ ?_, fun i => fine_of_abs _ ?_, fun i => ?_⟩
  · exact of_decide_eq_true (holds _ (Host.reduce_andi_all _ _ _ _ _ e2 i))
  · exact of_decide_eq_true (holds _ (Host.reduce_andi_all _ _ _ _ _ e3 i))
  · have h9 := fine_of_abs _ (of_decide_eq_true (holds _ (Host.reduce_andi_all _ _ _ _ _ e4 (ix1 i))))
    pointwise at h9
    exact h9

end

end Cert.GatesRefIdeal.Value

end
-- ==== Proof.Gate.Final.lean ====
module

public import proofs.«01_k».proof.Proof.Gate.Tile

@[expose] public section

set_option maxRecDepth 16384

noncomputable section

/-! The gates of every token. -/

namespace Cert.Gate

open Cert.OutProjIdeal Cert.OutProjIdeal.Gen
open Idealize.ShloMosaic Idealize.ShloMosaic.TcCoe
open Cert.Project Cert.OutProjIdeal.Project

variable (m : (ℓ : Loc nD τ sig) → Buf (Elt Ideal) ℓ)

theorem index10 : ∀ t : Fin grid0.N, win0_10.index t = ![0, 0] := by decide +kernel
theorem index11 : ∀ t : Fin grid0.N, win0_11.index t = ![0, 0] := by decide +kernel
theorem index14 : ∀ t : Fin grid0.N, win0_14.index t = ![0, t.val] := by decide +kernel

theorem whole10 (c : Dev nD) (t : Fin cfg0.N) (a : Fin 64) (b : Fin 1024) :
    iblk m c 10 t (ix2 a b : S64x1024.Idx) = m ((c.tc : Thread nD τ).loc main_arg8) (ix2 a b : S64x1024.Idx) := by
  show m ((c.tc : Thread nD τ).loc main_arg8) _ = _
  refine congrArg (m ((c.tc : Thread nD τ).loc main_arg8)) (funext fun i => ?_)
  have e0 : win0_10.index t 0 = 0 := congrFun (index10 t) 0
  have e1 : win0_10.index t 1 = 0 := congrFun (index10 t) 1
  match i with
  | ⟨0, _⟩ => exact Fin.ext (show win0_10.index t 0 * 64 + 1 * a.val = a.val by omega)
  | ⟨1, _⟩ => exact Fin.ext (show win0_10.index t 1 * 1024 + 1 * b.val = b.val by omega)

theorem whole11 (c : Dev nD) (t : Fin cfg0.N) (a : Fin 32) (b : Fin 128) :
    iblk m c 11 t (ix2 a b : S32x128.Idx) = m ((c.tc : Thread nD τ).loc main_arg9) (ix2 a b : S32x128.Idx) := by
  show m ((c.tc : Thread nD τ).loc main_arg9) _ = _
  refine congrArg (m ((c.tc : Thread nD τ).loc main_arg9)) (funext fun i => ?_)
  have e0 : win0_11.index t 0 = 0 := congrFun (index11 t) 0
  have e1 : win0_11.index t 1 = 0 := congrFun (index11 t) 1
  match i with
  | ⟨0, _⟩ => exact Fin.ext (show win0_11.index t 0 * 32 + 1 * a.val = a.val by omega)
  | ⟨1, _⟩ => exact Fin.ext (show win0_11.index t 1 * 128 + 1 * b.val = b.val by omega)

/-- A token's score of one expert, from the call's arguments. -/
abbrev scored (c : Dev nD) (r : Fin 32768) (e : Fin 32) : EReal :=
  tally (given m c r) (fun k => m ((c.tc : Thread nD τ).loc main_arg8) (ix2 ⟨e.val, by omega⟩ k : S64x1024.Idx))
    (fun k => m ((c.tc : Thread nD τ).loc main_arg8) (ix2 ⟨32 + e.val, by omega⟩ k : S64x1024.Idx)) (m ((c.tc : Thread nD τ).loc main_arg9) (ix2 e 0 : S32x128.Idx))

theorem point_scores (c : Dev nD) (r : Fin 32768) :
    col (S (iblk m c 0 (owner r)) (iblk m c 1 (owner r)) (iblk m c 2 (owner r)) (iblk m c 3 (owner r)) (iblk m c 4 (owner r)) (iblk m c 5 (owner r)) (iblk m c 6 (owner r)) (iblk m c 7 (owner r))
      (iblk m c 8 (owner r)) (iblk m c 9 (owner r)) (iblk m c 10 (owner r)) (iblk m c 11 (owner r))) ⟨r.val % 512, by omega⟩ = scored m c r := by
  funext e
  refine (scores_at _ _ _ _ _ _ _ _ _ _ _ _ e _).trans ?_
  have h := (congrArg (fun y => normed y (fun k => iblk m c 7 (owner r) (ix2 0 k : S1x1024.Idx)) (fun k => iblk m c 5 (owner r) (ix3 0 0 k : S1x1x1024.Idx)) (fun k => iblk m c 4 (owner r) (ix3 0 0 k : S1x1x1024.Idx)))
    (point_entry m c r)).trans (point_given m c r)
  refine (congrArg (fun y => tally y _ _ _) h).trans ?_
  rw [funext (whole10 m c (owner r) _), funext (whole10 m c (owner r) _), whole11 m c (owner r) e 0]

theorem final14 (c : Dev nD) (k : Fin 4) (r : Fin 32768) :
    ((dats m 0 c).arrAt 14 cfg0.N (ix2 k r : S4x32768.Idx) : EReal) = part (four (scored m c r)) k := by
  have hb := congrFun ((Value.blocks14 m c (owner r) (flush0_14 _)).trans (Value.flushed14 m c (owner r))) (ix2 k ⟨r.val % 512, by omega⟩ : S4x512.Idx)
  have e0 : win0_14.index (owner r) 0 = 0 := congrFun (index14 (owner r)) 0
  have e1 : win0_14.index (owner r) 1 = r.val / 512 := congrFun (index14 (owner r)) 1
  refine Eq.trans (congrArg ((dats m 0 c).arrAt 14 cfg0.N) (funext fun i => ?_)) (hb.trans ((out14_at _ _ _ _ _ _ _ _ _ _ _ _ k _).trans (congrArg (fun L => part (four L) k) (point_scores m c r))))
  match i with
  | ⟨0, _⟩ => exact Fin.ext (show k.val = win0_14.index (owner r) 0 * 4 + 1 * k.val by omega)
  | ⟨1, _⟩ => exact Fin.ext (show r.val = win0_14.index (owner r) 1 * 512 + 1 * (r.val % 512) by omega)

end Cert.Gate

end
-- ==== Proof.Gate.Counts.lean ====
module

public import proofs.«01_k».proof.Proof.Gate.Final

@[expose] public section

set_option maxRecDepth 16384

noncomputable section

/-! How many tokens of a tile choose each expert. -/

namespace Cert.Gate

open Cert.OutProjIdeal Cert.OutProjIdeal.Gen
open Idealize.ShloMosaic Idealize.ShloMosaic.TcCoe
open Cert.Project Cert.OutProjIdeal.Project

/-- A bit as a number. -/
theorem number_bit (c : Prop) [Decidable c] : (FloatOps.sitofp (F := Ideal) .f32 ((BitVec.ofBool (decide c)).setWidth 32) : EReal) = if c then 1 else 0 := by
  show ((((BitVec.ofBool (decide c)).setWidth 32).toInt : ℝ) : EReal) = _
  by_cases h : c <;> simp [h]

section
variable (v : FVec Ideal S32x512 .f32) (i : IVec S32x512 32) (o : IVec S32x512 1) (r : Fin 512)
variable (hi : ∀ e : Fin 32, i (ix2 e r) = BitVec.ofNat 32 e.val) (ho : ∀ e : Fin 32, o (ix2 e r) = BitVec.ofBool (decide (col v r e = best (col v r))))

include hi ho in
theorem pick0_at (e : Fin 32) : k0_pay9 i o 32#32 (ix2 e r) = BitVec.ofBool (decide (BitVec.ofNat 32 e.val = pick (col v r))) := by
  unfold pick
  pointwise [k0_pay9]
  simp only [hi, ho, eq_bit, pick_bit]

include hi ho in
theorem pick1_at (e : Fin 32) : k0_pay12 (F := Ideal) v i o 32#32 (ix2 e r) = BitVec.ofBool (decide (BitVec.ofNat 32 e.val = pick (rest (col v r)))) := by
  have h := pay11_at v i o r
  rw [← funext (pay10_at v i o r hi ho)]
  unfold pick
  pointwise [k0_pay12]
  simp only [hi, h, eq_bit, pick_bit]
  rfl

include hi ho in
theorem pick2_at (e : Fin 32) : k0_pay15 (F := Ideal) v i o 32#32 (ix2 e r) = BitVec.ofBool (decide (BitVec.ofNat 32 e.val = pick (rest (rest (col v r))))) := by
  have h := pay14_at v i o r
  rw [← funext (pay10_at v i o r hi ho), ← funext (pay13_at v i o r hi)]
  unfold pick
  pointwise [k0_pay15]
  simp only [hi, h, eq_bit, pick_bit]
  rfl

include hi ho in
theorem pick3_at (e : Fin 32) : k0_pay18 (F := Ideal) v i o 32#32 (ix2 e r) = BitVec.ofBool (decide (BitVec.ofNat 32 e.val = pick (rest (rest (rest (col v r)))))) := by
  have h := pay17_at v i o r
  rw [← funext (pay10_at v i o r hi ho), ← funext (pay13_at v i o r hi), ← funext (pay16_at v i o r hi)]
  unfold pick
  pointwise [k0_pay18]
  simp only [hi, h, eq_bit, pick_bit]
  rfl

include hi ho in
theorem taken_at (e : Fin 32) : (k0_pay33 (F := Ideal) (k0_pay9 i o 32#32) (k0_pay12 (F := Ideal) v i o 32#32) (k0_pay15 (F := Ideal) v i o 32#32) (k0_pay18 (F := Ideal) v i o 32#32) (ix2 e r) : EReal)
    = taken (col v r) e := by
  unfold taken
  pointwise [k0_pay33, k0_pay29, k0_pay30, k0_pay31, k0_pay32]
  rw [pick0_at v i o r hi ho, pick1_at v i o r hi ho, pick2_at v i o r hi ho, pick3_at v i o r hi ho]
  simp only [number_bit]

end

theorem pay35_at (a b c d : IVec S32x512 1) (e : Fin 32) (l : Fin 128) : (k0_pay35 (F := Ideal) a b c d (ix2 e l) : EReal) = ∑ j : Fin 512, k0_pay33 (F := Ideal) a b c d (ix2 e j) := by
  pointwise [k0_pay35]

theorem canon_whole (p : Vec Ideal S32x128 .f32) (e : Fin 32) (l : Fin 128) :
    View.canon (Val := Elt Ideal) [(⟨r0_11, p⟩ : View.Piece (Elt Ideal) S32x128 .f32)] (ix2 e l) = p (ix2 e l) := by
  have h := View.canon_cons_emb (Val := Elt Ideal) r0_11 p [] (ix2 e l)
  refine Eq.trans (congrArg _ (funext fun i => ?_)) h
  match i with
  | ⟨0, _⟩ => exact Fin.ext (show e.val = 0 + 1 * e.val by omega)
  | ⟨1, _⟩ => exact Fin.ext (show l.val = 0 + 1 * l.val by omega)

section
variable (x0 x1 : Vec Ideal S512x512 .bf16) (x2 : Vec Ideal S512x1024 .f32) (x3 x4 x5 : Vec Ideal S1x1x1024 .f32) (x6 x7 : Vec Ideal S1x1024 .f32)
  (x8 x9 : Vec Ideal S512x1024 .bf16) (x10 : Vec Ideal S64x1024 .bf16) (x11 : Vec Ideal S32x128 .f32)

theorem out16_at (e : Fin 32) (l : Fin 128) : (out0_16 (F := Ideal) x0 x1 x2 x3 x4 x5 x6 x7 x8 x9 x10 x11 (ix2 e l) : EReal)
    = ∑ j : Fin 512, taken (col (S x0 x1 x2 x3 x4 x5 x6 x7 x8 x9 x10 x11) j) e := by
  unfold out0_16
  rw [canon_whole, pay35_at]
  refine Finset.sum_congr rfl fun j _ => ?_
  exact taken_at _ _ _ j (fun e => places_at x0 x1 x2 x3 x4 x5 x6 x7 x8 x9 x10 x11 e j) (fun e => hits_at x0 x1 x2 x3 x4 x5 x6 x7 x8 x9 x10 x11 e j) e

end

variable (m : (ℓ : Loc nD τ sig) → Buf (Elt Ideal) ℓ)

theorem index16 : ∀ t : Fin grid0.N, win0_16.index t = ![t.val, 0] := by decide +kernel

theorem tile_scores (c : Dev nD) (t : Fin cfg0.N) (j : Fin 512) (r : Fin 32768) (hr : r.val = t.val * 512 + j.val) :
    col (S (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t)) j = scored m c r := by
  obtain rfl : owner r = t := Fin.ext (show r.val / 512 = t.val by omega)
  rw [show j = ⟨r.val % 512, by omega⟩ from Fin.ext (show j.val = r.val % 512 by omega)]
  exact point_scores m c r

theorem final16 (c : Dev nD) (q : Fin 2048) (l : Fin 128) :
    ((dats m 0 c).arrAt 16 cfg0.N (ix2 q l : S2048x128.Idx) : EReal) = ∑ j : Fin 512, taken (scored m c ⟨q.val / 32 * 512 + j.val, by omega⟩) ⟨q.val % 32, by omega⟩ := by
  obtain ⟨t, ht⟩ : ∃ t : Fin cfg0.N, t.val = q.val / 32 := ⟨⟨q.val / 32, show q.val / 32 < 64 by omega⟩, rfl⟩
  have hb := congrFun ((Value.blocks16 m c t (flush0_16 _)).trans (Value.flushed16 m c t)) (ix2 ⟨q.val % 32, by omega⟩ l : S32x128.Idx)
  have e0 : win0_16.index t 0 = t.val := congrFun (index16 t) 0
  have e1 : win0_16.index t 1 = 0 := congrFun (index16 t) 1
  refine Eq.trans (congrArg ((dats m 0 c).arrAt 16 cfg0.N) (funext fun i => ?_)) (hb.trans ((out16_at _ _ _ _ _ _ _ _ _ _ _ _ _ l).trans
    (Finset.sum_congr rfl fun j _ => congrArg (fun L => taken L _) (tile_scores m c t j ⟨q.val / 32 * 512 + j.val, by omega⟩ (by rw [ht])))))
  match i with
  | ⟨0, _⟩ => exact Fin.ext (show q.val = win0_16.index t 0 * 32 + 1 * (q.val % 32) by omega)
  | ⟨1, _⟩ => exact Fin.ext (show l.val = win0_16.index t 1 * 128 + 1 * l.val by omega)

end Cert.Gate

end
-- ==== Proof.Gate.Positions.lean ====
module

public import proofs.«01_k».proof.Proof.Gate.Counts
public import proofs.«01_k».proof.Proof.Gate.Runs

@[expose] public section

set_option maxRecDepth 16384

noncomputable section

/-! Where each token stands with each of its four choices. -/

namespace Cert.Gate

open Cert.OutProjIdeal Cert.OutProjIdeal.Gen
open Idealize.ShloMosaic Idealize.ShloMosaic.TcCoe
open Cert.Project Cert.OutProjIdeal.Project

theorem seven_bits : Ideal.ofBits .f32 0x40E00000#32 = 7 := by
  simp [Ideal.ofBits, Ideal.ieee]
  rw [← EReal.coe_mul]
  norm_num
  rfl

theorem eight_bits : Ideal.ofBits .f32 0x41000000#32 = 8 := by
  simp [Ideal.ofBits, Ideal.ieee]
  rw [← EReal.coe_mul]
  norm_num
  rfl

theorem eighth_bits : Ideal.ofBits .f32 0x3E000000#32 = ((1 / 8 : ℝ) : EReal) := by
  simp [Ideal.ofBits, Ideal.ieee]
  rw [← EReal.coe_mul]
  norm_num

theorem pay34_at (a b c d : IVec S32x512 1) (e : Fin 32) (j : Fin 512) : (k0_pay34 (F := Ideal) a b c d (ix2 e j) : EReal)
    = ∑ s : Fin 512, (k0_pay33 (F := Ideal) a b c d (ix2 e s) : EReal) * (if s < j then (1 : EReal) else 0) := by
  pointwise [k0_pay34]
  refine Finset.sum_congr rfl fun s _ => ?_
  rw [slt_far, pick_bit]
  by_cases h : s < j <;> simp [h]

theorem pay36_at (e : Fin 32) (l : Fin 128) : (k0_pay36 (F := Ideal) (ix2 e l) : EReal) = 7 := by
  pointwise [k0_pay36]
  exact seven_bits

theorem pay37_at (u : FVec Ideal S32x512 .f32) (n s : FVec Ideal S32x128 .f32) (e : Fin 32) (j : Fin 512) : (k0_pay37 (F := Ideal) u n s (ix2 e j) : EReal)
    = 8 * (∑ b : Fin 32, (if b < e then (1 : EReal) else 0) * Ideal.liftRound Int.floor (((n (ix2 b 0) : EReal) + s (ix2 b 0)) * ((1 / 8 : ℝ) : EReal))) + u (ix2 e j) := by
  pointwise [k0_pay37]
  rw [eight_bits]
  refine congrArg (fun a : EReal => 8 * a + u (ix2 e j)) (Finset.sum_congr rfl fun b _ => ?_)
  rw [slt_near, pick_bit, eighth_bits]
  by_cases h : b < e <;> simp [h]

theorem pay38_at (a : IVec S32x512 1) (c : Fin 32 → Prop) [∀ e, Decidable (c e)] (u : FVec Ideal S32x512 .f32) (n s : FVec Ideal S32x128 .f32) (j : Fin 512)
    (ha : ∀ e : Fin 32, a (ix2 e j) = BitVec.ofBool (decide (c e))) : k0_pay38 (F := Ideal) (k0_pay29 (F := Ideal) a) u n s (ix2 0 j)
    = Ideal.fptosi 32 (∑ e : Fin 32, (if c e then (1 : EReal) else 0) * k0_pay37 (F := Ideal) u n s (ix2 e j)) := by
  pointwise [k0_pay38, k0_pay29]
  simp only [ha, number_bit]
  rfl

theorem pay39_at (a : IVec S32x512 1) (c : Fin 32 → Prop) [∀ e, Decidable (c e)] (u : FVec Ideal S32x512 .f32) (n s : FVec Ideal S32x128 .f32) (j : Fin 512)
    (ha : ∀ e : Fin 32, a (ix2 e j) = BitVec.ofBool (decide (c e))) : k0_pay39 (F := Ideal) (k0_pay30 (F := Ideal) a) u n s (ix2 0 j)
    = Ideal.fptosi 32 (∑ e : Fin 32, (if c e then (1 : EReal) else 0) * k0_pay37 (F := Ideal) u n s (ix2 e j)) := by
  pointwise [k0_pay39, k0_pay30]
  simp only [ha, number_bit]
  rfl

theorem pay40_at (a : IVec S32x512 1) (c : Fin 32 → Prop) [∀ e, Decidable (c e)] (u : FVec Ideal S32x512 .f32) (n s : FVec Ideal S32x128 .f32) (j : Fin 512)
    (ha : ∀ e : Fin 32, a (ix2 e j) = BitVec.ofBool (decide (c e))) : k0_pay40 (F := Ideal) (k0_pay31 (F := Ideal) a) u n s (ix2 0 j)
    = Ideal.fptosi 32 (∑ e : Fin 32, (if c e then (1 : EReal) else 0) * k0_pay37 (F := Ideal) u n s (ix2 e j)) := by
  pointwise [k0_pay40, k0_pay31]
  simp only [ha, number_bit]
  rfl

theorem pay41_at (a : IVec S32x512 1) (c : Fin 32 → Prop) [∀ e, Decidable (c e)] (u : FVec Ideal S32x512 .f32) (n s : FVec Ideal S32x128 .f32) (j : Fin 512)
    (ha : ∀ e : Fin 32, a (ix2 e j) = BitVec.ofBool (decide (c e))) : k0_pay41 (F := Ideal) (k0_pay32 (F := Ideal) a) u n s (ix2 0 j)
    = Ideal.fptosi 32 (∑ e : Fin 32, (if c e then (1 : EReal) else 0) * k0_pay37 (F := Ideal) u n s (ix2 e j)) := by
  pointwise [k0_pay41, k0_pay32]
  simp only [ha, number_bit]
  rfl

section
variable (x0 x1 : Vec Ideal S512x512 .bf16) (x2 : Vec Ideal S512x1024 .f32) (x3 x4 x5 : Vec Ideal S1x1x1024 .f32) (x6 x7 : Vec Ideal S1x1024 .f32)
  (x8 x9 : Vec Ideal S512x1024 .bf16) (x10 : Vec Ideal S64x1024 .bf16) (x11 : Vec Ideal S32x128 .f32)

theorem spot0 (L T : Fin 512 → Fin 32 → EReal) (j : Fin 512) : spot L T j 0 = Ideal.fptosi 32 (∑ e : Fin 32, (if BitVec.ofNat 32 e.val = pick (L j) then (1 : EReal) else 0) * placed T j e) := by
  have h : rest^[0] (L j) = L j := by simp only [Function.iterate_succ, Function.iterate_zero, Function.comp, id]
  unfold spot
  rw [h]

theorem spot1 (L T : Fin 512 → Fin 32 → EReal) (j : Fin 512) : spot L T j 1 = Ideal.fptosi 32 (∑ e : Fin 32, (if BitVec.ofNat 32 e.val = pick (rest (L j)) then (1 : EReal) else 0) * placed T j e) := by
  have h : rest^[1] (L j) = rest (L j) := by simp only [Function.iterate_succ, Function.iterate_zero, Function.comp, id]
  unfold spot
  rw [h]

theorem spot2 (L T : Fin 512 → Fin 32 → EReal) (j : Fin 512) : spot L T j 2 = Ideal.fptosi 32 (∑ e : Fin 32, (if BitVec.ofNat 32 e.val = pick (rest (rest (L j))) then (1 : EReal) else 0) * placed T j e) := by
  have h : rest^[2] (L j) = rest (rest (L j)) := by simp only [Function.iterate_succ, Function.iterate_zero, Function.comp, id]
  unfold spot
  rw [h]

theorem spot3 (L T : Fin 512 → Fin 32 → EReal) (j : Fin 512) : spot L T j 3 = Ideal.fptosi 32 (∑ e : Fin 32, (if BitVec.ofNat 32 e.val = pick (rest (rest (rest (L j)))) then (1 : EReal) else 0) * placed T j e) := by
  have h : rest^[3] (L j) = rest (rest (rest (L j))) := by simp only [Function.iterate_succ, Function.iterate_zero, Function.comp, id]
  unfold spot
  rw [h]

/-- The block's scores, token by token. -/
abbrev cols (j : Fin 512) : Fin 32 → EReal := col (S x0 x1 x2 x3 x4 x5 x6 x7 x8 x9 x10 x11) j

theorem chosen_at (e : Fin 32) (s : Fin 512) : (k0_pay33 (F := Ideal) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay53 x0 x1 x2 x3 x4 x5 x6 x7 x8 x9 x10 x11) (ix2 e s) : EReal) = taken (cols x0 x1 x2 x3 x4 x5 x6 x7 x8 x9 x10 x11 s) e :=
  taken_at _ _ _ s (fun e => places_at x0 x1 x2 x3 x4 x5 x6 x7 x8 x9 x10 x11 e s) (fun e => hits_at x0 x1 x2 x3 x4 x5 x6 x7 x8 x9 x10 x11 e s) e

theorem stand_at (e : Fin 32) (j : Fin 512) : (k0_pay37 (F := Ideal) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11) (ix2 e j) : EReal) = placed (fun s e => taken (cols x0 x1 x2 x3 x4 x5 x6 x7 x8 x9 x10 x11 s) e) j e := by
  rw [pay37_at]
  unfold placed k0_pay57 k0_pay58 k0_pay59
  simp only [pay34_at, pay35_at, pay36_at, chosen_at]

theorem row3_at (j : Fin 512) : k0_pay41 (F := Ideal) (k0_pay32 (F := Ideal) (k0_pay53 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11) (ix2 0 j) = spot (cols x0 x1 x2 x3 x4 x5 x6 x7 x8 x9 x10 x11) (fun s e => taken (cols x0 x1 x2 x3 x4 x5 x6 x7 x8 x9 x10 x11 s) e) j 3 := by
  refine (pay41_at _ (fun e => BitVec.ofNat 32 e.val = pick (rest (rest (rest (cols x0 x1 x2 x3 x4 x5 x6 x7 x8 x9 x10 x11 j))))) _ _ _ j (fun e => pick3_at (S x0 x1 x2 x3 x4 x5 x6 x7 x8 x9 x10 x11) _ _ j (fun e => places_at x0 x1 x2 x3 x4 x5 x6 x7 x8 x9 x10 x11 e j) (fun e => hits_at x0 x1 x2 x3 x4 x5 x6 x7 x8 x9 x10 x11 e j) e)).trans ?_
  refine Eq.trans ?_ (spot3 _ _ j).symm
  exact congrArg (Ideal.fptosi 32) (Finset.sum_congr rfl fun e _ => congrArg _ (stand_at x0 x1 x2 x3 x4 x5 x6 x7 x8 x9 x10 x11 e j))

theorem row2_at (j : Fin 512) : k0_pay40 (F := Ideal) (k0_pay31 (F := Ideal) (k0_pay51 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11) (ix2 0 j) = spot (cols x0 x1 x2 x3 x4 x5 x6 x7 x8 x9 x10 x11) (fun s e => taken (cols x0 x1 x2 x3 x4 x5 x6 x7 x8 x9 x10 x11 s) e) j 2 := by
  refine (pay40_at _ (fun e => BitVec.ofNat 32 e.val = pick (rest (rest (cols x0 x1 x2 x3 x4 x5 x6 x7 x8 x9 x10 x11 j)))) _ _ _ j (fun e => pick2_at (S x0 x1 x2 x3 x4 x5 x6 x7 x8 x9 x10 x11) _ _ j (fun e => places_at x0 x1 x2 x3 x4 x5 x6 x7 x8 x9 x10 x11 e j) (fun e => hits_at x0 x1 x2 x3 x4 x5 x6 x7 x8 x9 x10 x11 e j) e)).trans ?_
  refine Eq.trans ?_ (spot2 _ _ j).symm
  exact congrArg (Ideal.fptosi 32) (Finset.sum_congr rfl fun e _ => congrArg _ (stand_at x0 x1 x2 x3 x4 x5 x6 x7 x8 x9 x10 x11 e j))

theorem row1_at (j : Fin 512) : k0_pay39 (F := Ideal) (k0_pay30 (F := Ideal) (k0_pay50 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11) (ix2 0 j) = spot (cols x0 x1 x2 x3 x4 x5 x6 x7 x8 x9 x10 x11) (fun s e => taken (cols x0 x1 x2 x3 x4 x5 x6 x7 x8 x9 x10 x11 s) e) j 1 := by
  refine (pay39_at _ (fun e => BitVec.ofNat 32 e.val = pick (rest (cols x0 x1 x2 x3 x4 x5 x6 x7 x8 x9 x10 x11 j))) _ _ _ j (fun e => pick1_at (S x0 x1 x2 x3 x4 x5 x6 x7 x8 x9 x10 x11) _ _ j (fun e => places_at x0 x1 x2 x3 x4 x5 x6 x7 x8 x9 x10 x11 e j) (fun e => hits_at x0 x1 x2 x3 x4 x5 x6 x7 x8 x9 x10 x11 e j) e)).trans ?_
  refine Eq.trans ?_ (spot1 _ _ j).symm
  exact congrArg (Ideal.fptosi 32) (Finset.sum_congr rfl fun e _ => congrArg _ (stand_at x0 x1 x2 x3 x4 x5 x6 x7 x8 x9 x10 x11 e j))

theorem row0_at (j : Fin 512) : k0_pay38 (F := Ideal) (k0_pay29 (F := Ideal) (k0_pay49 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11) (ix2 0 j) = spot (cols x0 x1 x2 x3 x4 x5 x6 x7 x8 x9 x10 x11) (fun s e => taken (cols x0 x1 x2 x3 x4 x5 x6 x7 x8 x9 x10 x11 s) e) j 0 := by
  refine (pay38_at _ (fun e => BitVec.ofNat 32 e.val = pick (cols x0 x1 x2 x3 x4 x5 x6 x7 x8 x9 x10 x11 j)) _ _ _ j (fun e => pick0_at (S x0 x1 x2 x3 x4 x5 x6 x7 x8 x9 x10 x11) _ _ j (fun e => places_at x0 x1 x2 x3 x4 x5 x6 x7 x8 x9 x10 x11 e j) (fun e => hits_at x0 x1 x2 x3 x4 x5 x6 x7 x8 x9 x10 x11 e j) e)).trans ?_
  refine Eq.trans ?_ (spot0 _ _ j).symm
  exact congrArg (Ideal.fptosi 32) (Finset.sum_congr rfl fun e _ => congrArg _ (stand_at x0 x1 x2 x3 x4 x5 x6 x7 x8 x9 x10 x11 e j))

/-- The block of positions. -/
def spots (L : Fin 512 → Fin 32 → EReal) (y : S4x512.Idx) : BitVec 32 := spot L (fun s e => taken (L s) e) ⟨(y 1).val, (y 1).isLt⟩ (y 0).val

theorem spots_row (L : Fin 512 → Fin 32 → EReal) (y : S4x512.Idx) (k : Nat) (j : Fin 512) (h0 : (y 0).val = k) (h1 : (y 1).val = j.val) :
    spots L y = spot L (fun s e => taken (L s) e) j k := by
  unfold spots
  exact congrArg₂ (fun a b => spot L _ a b) (Fin.ext h1) h0

/-- The block's stores, last first. -/
def seats : List (View.Piece (Elt Ideal) S4x512 .i32) :=
  [⟨r0_10, k0_pay41 (F := Ideal) (k0_pay32 (F := Ideal) (k0_pay53 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)⟩,
   ⟨r0_9, k0_pay40 (F := Ideal) (k0_pay31 (F := Ideal) (k0_pay51 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)⟩,
   ⟨r0_8, k0_pay39 (F := Ideal) (k0_pay30 (F := Ideal) (k0_pay50 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)⟩,
   ⟨r0_7, k0_pay38 (F := Ideal) (k0_pay29 (F := Ideal) (k0_pay49 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)⟩]

theorem seats_eq : out0_15 (F := Ideal) x0 x1 x2 x3 x4 x5 x6 x7 x8 x9 x10 x11 = View.canon (seats x0 x1 x2 x3 x4 x5 x6 x7 x8 x9 x10 x11) := rfl

theorem out15_at (k : Fin 4) (j : Fin 512) : out0_15 (F := Ideal) x0 x1 x2 x3 x4 x5 x6 x7 x8 x9 x10 x11 (ix2 k j) = spot (cols x0 x1 x2 x3 x4 x5 x6 x7 x8 x9 x10 x11) (fun s e => taken (cols x0 x1 x2 x3 x4 x5 x6 x7 x8 x9 x10 x11 s) e) j k.val := by
  rw [seats_eq]
  have h := View.canon_append_of_pieces (Val := Elt Ideal) (e := .i32) (spots (cols x0 x1 x2 x3 x4 x5 x6 x7 x8 x9 x10 x11)) [] (seats x0 x1 x2 x3 x4 x5 x6 x7 x8 x9 x10 x11) ?_ (ix2 k j) (cover0_15 (F := Ideal) (k0_pay41 (F := Ideal) (k0_pay32 (F := Ideal) (k0_pay53 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)) (k0_pay40 (F := Ideal) (k0_pay31 (F := Ideal) (k0_pay51 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)) (k0_pay39 (F := Ideal) (k0_pay30 (F := Ideal) (k0_pay50 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)) (k0_pay38 (F := Ideal) (k0_pay29 (F := Ideal) (k0_pay49 x0 x1 x2 x3 x4 x5 x6 x7 x8 x9 x10 x11)) (k0_pay57 (F := Ideal) x0 x1 x2 x3 x4 x5 x6 x7 x8 x9 x10 x11) (k0_pay58 (F := Ideal) x0 x1 x2 x3 x4 x5 x6 x7 x8 x9 x10 x11) (k0_pay59 (F := Ideal) x0 x1 x2 x3 x4 x5 x6 x7 x8 x9 x10 x11)) (ix2 k j))
  · rw [List.append_nil] at h
    exact h
  unfold seats
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    exact (row3_at x0 x1 x2 x3 x4 x5 x6 x7 x8 x9 x10 x11 j).trans (spots_row _ _ 3 j rfl (show 0 + 1 * j.val = j.val by omega)).symm
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    exact (row2_at x0 x1 x2 x3 x4 x5 x6 x7 x8 x9 x10 x11 j).trans (spots_row _ _ 2 j rfl (show 0 + 1 * j.val = j.val by omega)).symm
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    exact (row1_at x0 x1 x2 x3 x4 x5 x6 x7 x8 x9 x10 x11 j).trans (spots_row _ _ 1 j rfl (show 0 + 1 * j.val = j.val by omega)).symm
  refine List.forall_mem_cons.mpr ⟨fun x => ?_, ?_⟩
  · obtain ⟨z, j, rfl⟩ : ∃ (z : Fin 1) (j : Fin 512), x = (ix2 z j : S1x512.Idx) := ⟨x 0, x 1, funext fun i => by match i with | ⟨0, _⟩ => rfl | ⟨1, _⟩ => rfl⟩
    obtain rfl : z = 0 := Subsingleton.elim _ _
    exact (row0_at x0 x1 x2 x3 x4 x5 x6 x7 x8 x9 x10 x11 j).trans (spots_row _ _ 0 j rfl (show 0 + 1 * j.val = j.val by omega)).symm
  intro p hp
  exact absurd hp List.not_mem_nil

end

variable (m : (ℓ : Loc nD τ sig) → Buf (Elt Ideal) ℓ)

theorem index15 : ∀ t : Fin grid0.N, win0_15.index t = ![0, t.val] := by decide +kernel

/-- The scores of a token's tile. -/
abbrev near (L : Fin 32768 → Fin 32 → EReal) (r : Fin 32768) (s : Fin 512) : Fin 32 → EReal := L ⟨r.val / 512 * 512 + s.val, by omega⟩

theorem final15 (c : Dev nD) (k : Fin 4) (r : Fin 32768) :
    (dats m 0 c).arrAt 15 cfg0.N (ix2 k r : S4x32768.Idx) = spot (near (scored m c) r) (fun s e => taken (near (scored m c) r s) e) ⟨r.val % 512, by omega⟩ k.val := by
  have hb := congrFun ((Value.blocks15 m c (owner r) (flush0_15 _)).trans (Value.flushed15 m c (owner r))) (ix2 k ⟨r.val % 512, by omega⟩ : S4x512.Idx)
  have e0 : win0_15.index (owner r) 0 = 0 := congrFun (index15 (owner r)) 0
  have e1 : win0_15.index (owner r) 1 = r.val / 512 := congrFun (index15 (owner r)) 1
  refine Eq.trans (congrArg ((dats m 0 c).arrAt 15 cfg0.N) (funext fun i => ?_)) (hb.trans ((out15_at _ _ _ _ _ _ _ _ _ _ _ _ k _).trans
    (congrArg (fun L : Fin 512 → Fin 32 → EReal => spot L (fun s e => taken (L s) e) _ k.val) (funext fun s => tile_scores m c (owner r) s _ rfl))))
  match i with
  | ⟨0, _⟩ => exact Fin.ext (show k.val = win0_15.index (owner r) 0 * 4 + 1 * k.val by omega)
  | ⟨1, _⟩ => exact Fin.ext (show r.val = win0_15.index (owner r) 1 * 512 + 1 * (r.val % 512) by omega)

end Cert.Gate

end
-- ==== Proof.Gate.Transfer.lean ====
module

public import proofs.«01_k».proof.Proof.Gen.GatesIdeal.Value
public import proofs.«01_k».proof.Proof.Gate.Positions

@[expose] public section

set_option maxRecDepth 16384

noncomputable section

namespace Cert.Gate

open Idealize.ShloMosaic Idealize.ShloMosaic.TcCoe

/-- The memory, read as the output projection's. -/
def over (m : (ℓ : Loc Cert.GatesIdeal.nD Cert.GatesIdeal.τ Cert.GatesIdeal.sig) → Buf (Elt Ideal) ℓ) : (ℓ : Loc Cert.OutProjIdeal.nD Cert.OutProjIdeal.τ Cert.OutProjIdeal.sig) → Buf (Elt Ideal) ℓ := m

set_option maxHeartbeats 4000000 in
theorem blocks_eq (x0 x1 x2 x3 x4 x5 x6 x7 x8 x9 x10 x11) : Cert.GatesIdeal.Gen.out0_14 (F := Ideal) x0 x1 x2 x3 x4 x5 x6 x7 x8 x9 x10 x11 = Cert.OutProjIdeal.Gen.out0_14 (F := Ideal) x0 x1 x2 x3 x4 x5 x6 x7 x8 x9 x10 x11 := rfl

set_option maxHeartbeats 4000000 in
theorem whole_eq (m : (ℓ : Loc Cert.GatesIdeal.nD Cert.GatesIdeal.τ Cert.GatesIdeal.sig) → Buf (Elt Ideal) ℓ) (c : Dev Cert.GatesIdeal.nD) :
    (Cert.GatesIdeal.Gen.dats m 0 c).arrAt 14 Cert.GatesIdeal.cfg0.N = (Cert.OutProjIdeal.Gen.dats (over m) 0 c).arrAt 14 Cert.OutProjIdeal.cfg0.N := rfl

set_option maxHeartbeats 4000000 in
theorem counts_eq (m : (ℓ : Loc Cert.GatesIdeal.nD Cert.GatesIdeal.τ Cert.GatesIdeal.sig) → Buf (Elt Ideal) ℓ) (c : Dev Cert.GatesIdeal.nD) :
    (Cert.GatesIdeal.Gen.dats m 0 c).arrAt 16 Cert.GatesIdeal.cfg0.N = (Cert.OutProjIdeal.Gen.dats (over m) 0 c).arrAt 16 Cert.OutProjIdeal.cfg0.N := rfl

set_option maxHeartbeats 4000000 in
theorem positions_eq (m : (ℓ : Loc Cert.GatesIdeal.nD Cert.GatesIdeal.τ Cert.GatesIdeal.sig) → Buf (Elt Ideal) ℓ) (c : Dev Cert.GatesIdeal.nD) :
    (Cert.GatesIdeal.Gen.dats m 0 c).arrAt 15 Cert.GatesIdeal.cfg0.N = (Cert.OutProjIdeal.Gen.dats (over m) 0 c).arrAt 15 Cert.OutProjIdeal.cfg0.N := rfl

end Cert.Gate

end
-- ==== Proof.GateHost.Match.lean ====
module

public import proofs.«01_k».proof.Proof.GateHost.Finite
public import proofs.«01_k».proof.Proof.Gate.Transfer

@[expose] public section

set_option maxRecDepth 16384

noncomputable section

/-! Over finite numbers the kernel's gates, positions and counts are the reference's. -/

namespace Cert.GatesRefIdeal.Value

open Cert.GatesRefIdeal.Gen
open Idealize.ShloMosaic Idealize.ShloMosaic.TcCoe
open Cert.Gate (Fine score tally part four nth taken place standing spot near)
open Cert.Project

section
variable (a0 a1 : FVec Ideal Pre_finite.S32768x512 .bf16) (a2 : FVec Ideal Pre_finite.S32768x1024 .f32) (a3 : FVec Ideal Pre_finite.S192x1x1024 .f32) (a4 a5 : FVec Ideal Pre_finite.S1x1024 .f32)
  (a6 a7 : FVec Ideal Pre_finite.S512x1024 .bf16) (a8 : FVec Ideal Pre_finite.S64x1024 .bf16) (a9 : FVec Ideal Pre_finite.S32x128 .f32)

/-- A token, from the arguments. -/
abbrev token (r : Fin 32768) : Fin 1024 → EReal :=
  handed (fun r k => a0 (ix2 r k)) (fun r k => a1 (ix2 r k)) (fun r k => a2 (ix2 r k)) (fun r k => a3 (ix3 r 0 k)) (fun k => a4 (ix2 0 k)) (fun k => a5 (ix2 0 k)) (fun k n => a6 (ix2 k n)) (fun k n => a7 (ix2 k n)) r

theorem flow_at (r : Fin 32768) (n : Fin 1024) : (flow a0 a1 a2 a3 a4 a5 a6 a7 (ix2 r n) : EReal) = token a0 a1 a2 a3 a4 a5 a6 a7 r n := by
  have e := Cert.OutProjRefIdeal.Value.row_eq r
  refine (Cert.OutProjRefIdeal.Value.flat_at _ r n).trans ((Cert.OutProjRefIdeal.Value.shifted_at _ _ _ _ _ n).trans ?_)
  rw [show (fun k => (Cert.OutProjRefIdeal.Value.added a2 a3 (Cert.OutProjRefIdeal.Value.mixture a0 a1 a6 a7) a4 (ix3 ⟨r.val / 2048, by omega⟩ ⟨r.val % 2048, by omega⟩ k) : EReal))
      = outcome (fun r k => a0 (ix2 r k)) (fun r k => a1 (ix2 r k)) (fun r k => a2 (ix2 r k)) (fun r k => a3 (ix3 r 0 k)) (fun k => a4 (ix2 0 k)) (fun k n => a6 (ix2 k n)) (fun k n => a7 (ix2 k n)) r from
    funext fun k => by
      refine (Cert.OutProjRefIdeal.Value.added_at _ _ _ _ _ _ k).trans ?_
      simp only [Cert.OutProjRefIdeal.Value.mixture_at]
      unfold outcome
      rw [e]]
  rfl

/-- A token's scores as the kernel adds them up. -/
abbrev tallies (r : Fin 32768) (e : Fin 32) : EReal :=
  tally (token a0 a1 a2 a3 a4 a5 a6 a7 r) (fun k => a8 (ix2 ⟨e.val, by omega⟩ k)) (fun k => a8 (ix2 ⟨32 + e.val, by omega⟩ k)) (a9 (ix2 e 0))

section
variable (h : Cert.Pre_finite.fn (F := Ideal) a0 a1 a2 a3 a4 a5 a6 a7 a8 a9 = fun _ => 1#1)
include h

/-- They are the reference's, and none is minus infinity. -/
theorem scores_eq (r : Fin 32768) : (fun e => (scores (flow a0 a1 a2 a3 a4 a5 a6 a7) a8 a9 (ix2 r e) : EReal)) = tallies a0 a1 a2 a3 a4 a5 a6 a7 a8 a9 r
    ∧ ∀ e, tallies a0 a1 a2 a3 a4 a5 a6 a7 a8 a9 r e ≠ ⊥ := by
  obtain ⟨f, f8, f9⟩ := split a0 a1 a2 a3 a4 a5 a6 a7 a8 a9 h
  have ft : ∀ n, Fine (token a0 a1 a2 a3 a4 a5 a6 a7 r n) := fun n => by
    rw [← flow_at]
    exact f _
  have ht := fun e : Fin 32 => Cert.Gate.tally_real (token a0 a1 a2 a3 a4 a5 a6 a7 r) (fun k => a8 (ix2 ⟨e.val, by omega⟩ k)) (fun k => a8 (ix2 ⟨32 + e.val, by omega⟩ k)) (a9 (ix2 e 0)) ft (fun k => f8 _) (fun k => f8 _) (f9 _)
  have hn := fun e : Fin 32 => Cert.Gate.score_ne (token a0 a1 a2 a3 a4 a5 a6 a7 r) (fun k => a8 (ix2 ⟨e.val, by omega⟩ k)) (fun k => a8 (ix2 ⟨32 + e.val, by omega⟩ k)) (a9 (ix2 e 0)) ft (fun k => f8 _) (fun k => f8 _) (f9 _)
  refine ⟨funext fun e => ((scores_at _ _ _ r e).trans ?_).trans (ht e).symm, fun e => ne_of_eq_of_ne (ht e) (hn e)⟩
  rw [funext (flow_at a0 a1 a2 a3 a4 a5 a6 a7 r)]

/-- The gates, both sides from the same arguments. -/
theorem gates_at (r : Fin 32768) (k : Fin 4) :
    (shares (ups (tops (scores (flow a0 a1 a2 a3 a4 a5 a6 a7) a8 a9))) (ix2 k r) : EReal) = part (four (tallies a0 a1 a2 a3 a4 a5 a6 a7 a8 a9 r)) k := by
  obtain ⟨hs, hn⟩ := scores_eq a0 a1 a2 a3 a4 a5 a6 a7 a8 a9 h r
  refine (shares_at _ r k).trans (congrArg (fun t => part t k) (funext fun i => ?_))
  rw [tops_at, hs]
  exact (Cert.Gate.four_nth _ hn i).symm

/-- Who chooses whom. -/
theorem chosen_tile (t : Fin 64) (j : Fin 512) (e : Fin 32) :
    (chosen (places (scores (flow a0 a1 a2 a3 a4 a5 a6 a7) a8 a9)) (ix3 t j e) : EReal)
      = if place (tallies a0 a1 a2 a3 a4 a5 a6 a7 a8 a9 ⟨t.val * 512 + j.val, by omega⟩) e < 4 then (1 : EReal) else 0 := by
  rw [chosen_at, places_at, (scores_eq a0 a1 a2 a3 a4 a5 a6 a7 a8 a9 h _).1]

/-- The counts. -/
theorem counts_tile (q : Fin 2048) (l : Fin 128) :
    (counts (sums (chosen (places (scores (flow a0 a1 a2 a3 a4 a5 a6 a7) a8 a9)))) (ix2 q l) : EReal)
      = ∑ j : Fin 512, taken (tallies a0 a1 a2 a3 a4 a5 a6 a7 a8 a9 ⟨q.val / 32 * 512 + j.val, by omega⟩) ⟨q.val % 32, by omega⟩ := by
  refine ((counts_at _ q l).trans (sums_at _ _ _)).trans (Finset.sum_congr rfl fun j _ => ?_)
  rw [chosen_tile a0 a1 a2 a3 a4 a5 a6 a7 a8 a9 h]
  exact (Cert.Gate.taken_eq _ (scores_eq a0 a1 a2 a3 a4 a5 a6 a7 a8 a9 h _).2 _).symm

/-- Where a token would stand with an expert. -/
theorem slots_tile (r : Fin 32768) (e : Fin 32) :
    (slots (starts (sums (chosen (places (scores (flow a0 a1 a2 a3 a4 a5 a6 a7) a8 a9))))) (earlier (chosen (places (scores (flow a0 a1 a2 a3 a4 a5 a6 a7) a8 a9)))) (ix2 r e) : EReal)
      = standing (fun s b => if place (near (tallies a0 a1 a2 a3 a4 a5 a6 a7 a8 a9) r s) b < 4 then (1 : EReal) else 0) ⟨r.val % 512, by omega⟩ e := by
  rw [slots_at, starts_at, earlier_at]
  simp only [sums_at, chosen_tile a0 a1 a2 a3 a4 a5 a6 a7 a8 a9 h]
  rfl

/-- The positions. -/
theorem spots_tile (k : Fin 4) (r : Fin 32768) :
    seats (places (scores (flow a0 a1 a2 a3 a4 a5 a6 a7) a8 a9)) (slots (starts (sums (chosen (places (scores (flow a0 a1 a2 a3 a4 a5 a6 a7) a8 a9))))) (earlier (chosen (places (scores (flow a0 a1 a2 a3 a4 a5 a6 a7) a8 a9))))) (ix2 k r)
      = spot (near (tallies a0 a1 a2 a3 a4 a5 a6 a7 a8 a9) r) (fun s e => taken (near (tallies a0 a1 a2 a3 a4 a5 a6 a7 a8 a9) r s) e) ⟨r.val % 512, by omega⟩ k.val := by
  rw [seats_at, Cert.Gate.spot_eq _ (fun s => (scores_eq a0 a1 a2 a3 a4 a5 a6 a7 a8 a9 h _).2) _ _ (by omega)]
  refine congrArg (Ideal.fptosi 32) (Finset.sum_congr rfl fun e _ => ?_)
  rw [slots_tile a0 a1 a2 a3 a4 a5 a6 a7 a8 a9 h, places_at, (scores_eq a0 a1 a2 a3 a4 a5 a6 a7 a8 a9 h r).1]
  have er : (⟨r.val / 512 * 512 + (⟨r.val % 512, by omega⟩ : Fin 512).val, by omega⟩ : Fin 32768) = r := Fin.ext (show r.val / 512 * 512 + r.val % 512 = r.val by omega)
  rw [er]

end

end

end Cert.GatesRefIdeal.Value

end
-- ==== Proof.lean ====
/- The certificate of the experts' feed-forward, the input projection, the output projection, the router's gates, positions and counts, the conditioning, the attention and the Fourier branch.

   The experts' kernel (Proof/Experts; the ideal print is the same text, and `Same` carries its runs over) walks 884 blocks of 512 rows.
   Its two tables, of block owners and of the number of blocks in use, choose the weights each point is given; rows stream in through a ring of
   three slots two blocks ahead; an expert's weights are rounded once and kept. `Words` reads the body's conditions, `Ring` and `Step` account
   for the transfers in flight, `Body` runs each kind of point, `Cfg` and `Frame` launch the pipeline, `Admit` draws what the run asks of the
   tables from the precondition, `Out` reads the result's array off the points' blocks, and `Pay` and `Value` read it entry by entry.
   The reference (Proof/Host) gathers every block's weights and multiplies all blocks at once: `Stages` reads its operations entry by entry,
   `Gather` its gathers, `Value` puts them together. `Entry/Law` holds what both sides come to, `Entry.layer`.
   The input projection walks 64 tiles of 512 tokens, everything through the pipeline. `Project/Law` holds its entry, `Project.layer`;
   `InProjIdeal/Pay` and `InProjIdeal/Value` read the kernel's four results down to it, `InProjHost/Stages` the reference's.
   The output projection walks the same tiles; of its five results the first two, the tokens after the mixer and what the experts receive of them,
   are read down to `Project.outcome` and `Project.handed` (Proof/OutProjIdeal and Proof/OutProjHost, the same modules).
   The third to fifth, the router's gates, positions and counts, are read in Proof/Gate: `Top` compares striking out the largest score with counting what comes
   before each, `Scores` and `Tile` read a tile's scores and choices, `Final`, `Positions` and `Counts` the results' arrays, `Runs` holds what a position comes to, `Real` what finite tokens make of the scores, and `Transfer`
   carries it to the call that returns them. `GateHost/Stages` reads the reference, `Finite` the precondition, and `Match` puts them together.
   The conditioning walks four tiles of columns; `Project/Modulation` holds its entry (Proof/AdaIdeal and Proof/AdaHost).
   The attention walks sequences and their halves; `Project/Attention` holds its entry, a normalised row of weighted means. `AttnIdeal/Unit`
   reads one unit of two heads, `Trip` and `Read` a trip of the body's loop, `Value` the result's array; `AttnHost/Stages`, `Read` and
   `Value` do the same of its reference, whose gathers `AttnHost/Gather` reads.
   The Fourier branch is two calls, along the grid's rows and along its columns; `Project/Fourier` holds the entry of each, `crossed` and
   `spectral`. `RowsIdeal/Value` reads the first down to it, from the table spread over 16 columns; `ColsIdeal/Columns` reads what a column
   comes to, `Groups` the groups' maps and the norm, `Value` the result's array; `RowsHost/Stages` and `ColsHost/Stages` their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AdaRefIdeal
public import proofs.«01_k».proof.Proof.Gen.AdaRefIdeal.Run
public import proofs.«01_k».proof.Proof.Gen.AttnRefIdeal
public import proofs.«01_k».proof.Proof.Gen.AttnRefIdeal.Run
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsIdeal.Value
public import proofs.«01_k».proof.Proof.Gen.RowsRefIdeal
public import proofs.«01_k».proof.Proof.Gen.RowsRefIdeal.Run
public import proofs.«01_k».proof.Proof.Gen.Cols
public import proofs.«01_k».proof.Proof.Gen.Cols.Frame
public import proofs.«01_k».proof.Proof.Gen.ColsIdeal
public import proofs.«01_k».proof.Proof.Gen.ColsIdeal.Frame
public import proofs.«01_k».proof.Proof.Gen.ColsIdeal.Value
public import proofs.«01_k».proof.Proof.Gen.ColsRefIdeal
public import proofs.«01_k».proof.Proof.Gen.ColsRefIdeal.Run
public import proofs.«01_k».proof.Proof.Gen.Pre_pre
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.Pre_finite
public import Idealize.ShloMosaic.Adequacy
public import Idealize.ShloMosaic.Init
public import proofs.«01_k».proof.Proof.Entry.Bounds
public import proofs.«01_k».proof.Proof.Experts.Admit
public import proofs.«01_k».proof.Proof.Experts.Same
public import proofs.«01_k».proof.Proof.Host.Value
public import proofs.«01_k».proof.Proof.InProjIdeal.Value
public import proofs.«01_k».proof.Proof.InProjHost.Stages
public import proofs.«01_k».proof.Proof.OutProjIdeal.Value
public import proofs.«01_k».proof.Proof.OutProjHost.Stages
public import proofs.«01_k».proof.Proof.AdaIdeal.Value
public import proofs.«01_k».proof.Proof.AdaHost.Stages
public import proofs.«01_k».proof.Proof.AttnIdeal.Value
public import proofs.«01_k».proof.Proof.AttnHost.Value
public import proofs.«01_k».proof.Proof.RowsIdeal.Value
public import proofs.«01_k».proof.Proof.RowsHost.Stages
public import proofs.«01_k».proof.Proof.ColsIdeal.Value
public import proofs.«01_k».proof.Proof.ColsHost.Stages
public import proofs.«01_k».proof.Proof.GateHost.Match

@[expose] public section

noncomputable section

namespace Cert.Proof

open Idealize.ShloMosaic Idealize.SL.Sem

/-- The kernel as printed: it ends with its arguments unchanged and every counter at zero. -/
theorem frame_kernel : Cert.quiescent_Kernel := fun m g h => Cert.Kernel.Experts.frame m g (Cert.Kernel.Experts.admits_of_pre m h)

/-- The ideal kernel does too. -/
theorem frame_ideal : Cert.quiescent_KernelIdeal := fun m g h =>
  Cert.Kernel.Experts.run_ideal _ _ (Cert.Kernel.Experts.frame (F := Ideal) m g (Cert.Kernel.Experts.admits_of_pre (F := Ideal) m h))

/-- The reference declares no semaphore. -/
theorem frame_reference : Cert.quiescent_ReferenceIdeal := fun m g _ =>
  (θ_run Cert.ReferenceIdeal.defs _ _).mono (fun _ h => ⟨fun c => (h c).2, sem_eq_zero_of_no_sems (by decide) _⟩) (Cert.ReferenceIdeal.Value.run (F := Ideal) m g)
theorem frame_reference_pre : Cert.quiescent_ReferenceIdeal_pre_pre := fun m g _ => frame_reference m g trivial

/-- The kernel's result is the reference's, entry by entry. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v58 m' c = Cert.Kernel.Experts.result m (Cert.Kernel.Experts.admits_of_pre m h) c := by
  have hk : ∀ b : Fin 884, (m ((c.tc : Thread Cert.KernelIdeal.nD Cert.KernelIdeal.τ).loc Cert.KernelIdeal.main_arg0) (ix1 b : Cert.KernelIdeal.S884.Idx) : BitVec 32).toNat < 32 := fun b => by
    rw [ix1_eq_valueIdx]
    exact (Cert.Entry.bounds (h c)).1 b
  have hk' : ∀ b : Fin 884, (m' ((c.tc : Thread Cert.ReferenceIdeal.nD Cert.ReferenceIdeal.τ).loc Cert.ReferenceIdeal.main_arg0) (ix1 b : Cert.ReferenceIdeal.S884.Idx) : BitVec 32).toNat < 32 := fun b => by
    rw [e0]
    exact hk b
  funext j
  obtain ⟨r, n, rfl⟩ : ∃ (r : Fin 452608) (n : Fin 1024), j = ix2 r n := ⟨j 0, j 1, eq_ix2 j⟩
  refine (Cert.ReferenceIdeal.Value.result_layer m' c hk' r n).trans (Eq.trans ?_ (Cert.Kernel.Experts.result_layer m _ c hk r n).symm)
  simp only [e0, e1, e2, e3, e4, e5, e6]

/-- The kernel computes the reference's function. -/
theorem same_value : Cert.algebraic_KernelIdeal_ReferenceIdeal := fun m g m' g' h e =>
  ⟨Cert.Kernel.Experts.result m (Cert.Kernel.Experts.admits_of_pre m h), Cert.Kernel.Experts.run_ideal _ _ (Cert.Kernel.Experts.run_value (F := Ideal) m _ g),
    (θ_run Cert.ReferenceIdeal.defs _ _).mono
      (fun _ hr c => ⟨(hr c).1.trans (result_eq m m' h c (e c).1 (e c).2.1 (e c).2.2.1 (e c).2.2.2.1 (e c).2.2.2.2.1 (e c).2.2.2.2.2.1 (e c).2.2.2.2.2.2), (hr c).2⟩)
      (Cert.ReferenceIdeal.Value.run (F := Ideal) m' g')⟩

/-- The input projection as printed. -/
theorem frame_projection : Cert.quiescent_InProj := fun m g _ => Cert.InProj.Gen.frame m g

/-- Its ideal print. -/
theorem frame_projection_ideal : Cert.quiescent_InProjIdeal := fun m g _ => Cert.InProjIdeal.Gen.frame m g

/-- Its reference declares no semaphore. -/
theorem frame_projection_reference : Cert.quiescent_InProjRefIdeal := fun m g _ =>
  (θ_run Cert.InProjRefIdeal.defs _ _).mono (fun _ h => ⟨fun c => (h c).2.2.2.2, sem_eq_zero_of_no_sems (by decide) _⟩) (Cert.InProjRefIdeal.Value.run (F := Ideal) m g)

/-- The reference's four results are the input projection's, entry by entry. -/
theorem projected_eq (m : (ℓ : Loc Cert.InProjIdeal.nD Cert.InProjIdeal.τ Cert.InProjIdeal.sig) → Buf (Elt Ideal) ℓ)
    (m' : (ℓ : Loc Cert.InProjRefIdeal.nD Cert.InProjRefIdeal.τ Cert.InProjRefIdeal.sig) → Buf (Elt Ideal) ℓ) (c : Dev Cert.InProjIdeal.nD)
    (e0 : m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0))
    (e1 : m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1))
    (e2 : m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2))
    (e3 : m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3))
    (e4 : m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4))
    (e5 : m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5))
    (e6 : m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) :
    (Cert.InProjRefIdeal.Value.leaves m' c).1 = (Cert.InProjIdeal.Gen.dats m 0 c).arrAt 8 Cert.InProjIdeal.cfg0.N
      ∧ (Cert.InProjRefIdeal.Value.leaves m' c).2.1 = (Cert.InProjIdeal.Gen.dats m 0 c).arrAt 9 Cert.InProjIdeal.cfg0.N
      ∧ (Cert.InProjRefIdeal.Value.leaves m' c).2.2.1 = (Cert.InProjIdeal.Gen.dats m 0 c).arrAt 10 Cert.InProjIdeal.cfg0.N
      ∧ (Cert.InProjRefIdeal.Value.leaves m' c).2.2.2 = (Cert.InProjIdeal.Gen.dats m 0 c).arrAt 11 Cert.InProjIdeal.cfg0.N := by
  refine ⟨?_, ?_, ?_, ?_⟩
  · funext j
    obtain ⟨r, n, rfl⟩ : ∃ (r : Fin 32768) (n : Fin 512), j = ix2 r n := ⟨j 0, j 1, eq_ix2 j⟩
    refine (Cert.InProjRefIdeal.Value.product_at m' c _ r n).trans (Eq.trans ?_ (Cert.InProjIdeal.Project.final8 m c r n).symm)
    simp only [Cert.InProjRefIdeal.Value.entry, Cert.InProjIdeal.Project.entry, e0, e1, e2, e3, e4, e5, e6]
  · funext j
    obtain ⟨s, t, n, p, rfl⟩ : ∃ (s t : Fin 16) (n : Fin 512) (p : Fin 128), j = ix4 s t n p := ⟨j 0, j 1, j 2, j 3, eq_ix4 j⟩
    refine (Cert.InProjRefIdeal.Value.keys_at m' c _ s t n p).trans (Eq.trans ?_ (Cert.InProjIdeal.Project.final9 m c s t n p).symm)
    simp only [Cert.InProjRefIdeal.Value.entry, Cert.InProjIdeal.Project.entry, e0, e1, e2, e3, e4, e5, e6]
  · funext j
    obtain ⟨r, n, rfl⟩ : ∃ (r : Fin 32768) (n : Fin 512), j = ix2 r n := ⟨j 0, j 1, eq_ix2 j⟩
    refine (Cert.InProjRefIdeal.Value.product_at m' c _ r n).trans (Eq.trans ?_ (Cert.InProjIdeal.Project.final10 m c r n).symm)
    simp only [Cert.InProjRefIdeal.Value.entry, Cert.InProjIdeal.Project.entry, e0, e1, e2, e3, e4, e5, e6]
  · funext j
    obtain ⟨r, n, rfl⟩ : ∃ (r : Fin 32768) (n : Fin 512), j = ix2 r n := ⟨j 0, j 1, eq_ix2 j⟩
    refine (Cert.InProjRefIdeal.Value.product_at m' c _ r n).trans (Eq.trans ?_ (Cert.InProjIdeal.Project.final11 m c r n).symm)
    simp only [Cert.InProjRefIdeal.Value.entry, Cert.InProjIdeal.Project.entry, e0, e1, e2, e3, e4, e5, e6]

/-- The input projection computes its reference's function. -/
theorem same_projection : Cert.algebraic_InProjIdeal_InProjRefIdeal := fun m g m' g' _ e =>
  ⟨fun c => (Cert.InProjIdeal.Gen.dats m 0 c).arrAt 8 Cert.InProjIdeal.cfg0.N, fun c => (Cert.InProjIdeal.Gen.dats m 0 c).arrAt 9 Cert.InProjIdeal.cfg0.N,
    fun c => (Cert.InProjIdeal.Gen.dats m 0 c).arrAt 10 Cert.InProjIdeal.cfg0.N, fun c => (Cert.InProjIdeal.Gen.dats m 0 c).arrAt 11 Cert.InProjIdeal.cfg0.N,
    Cert.InProjIdeal.Value.run_blocks m g,
    (θ_run Cert.InProjRefIdeal.defs _ _).mono
      (fun _ hr c =>
        have h := projected_eq m m' c (e c).1 (e c).2.1 (e c).2.2.1 (e c).2.2.2.1 (e c).2.2.2.2.1 (e c).2.2.2.2.2.1 (e c).2.2.2.2.2.2
        ⟨(hr c).1.1.trans h.1, (hr c).1.2.1.trans h.2.1, (hr c).1.2.2.1.trans h.2.2.1, (hr c).1.2.2.2.trans h.2.2.2, (hr c).2⟩)
      (Cert.InProjRefIdeal.Value.run_leaves m' g')⟩

/-- The output projection as printed. -/
theorem frame_outcome : Cert.quiescent_OutProj := fun m g _ => Cert.OutProj.Gen.frame m g

/-- Its ideal print. -/
theorem frame_outcome_ideal : Cert.quiescent_OutProjIdeal := fun m g _ => Cert.OutProjIdeal.Gen.frame m g

/-- Its reference declares no semaphore. -/
theorem frame_outcome_reference : Cert.quiescent_OutProjRefIdeal := fun m g _ =>
  (θ_run Cert.OutProjRefIdeal.defs _ _).mono (fun _ h => ⟨fun c => (h c).2.2, sem_eq_zero_of_no_sems (by decide) _⟩) (Cert.OutProjRefIdeal.Value.run (F := Ideal) m g)

/-- The reference's two results are the output projection's first two, entry by entry. -/
theorem outcome_eq (m : (ℓ : Loc Cert.OutProjIdeal.nD Cert.OutProjIdeal.τ Cert.OutProjIdeal.sig) → Buf (Elt Ideal) ℓ)
    (m' : (ℓ : Loc Cert.OutProjRefIdeal.nD Cert.OutProjRefIdeal.τ Cert.OutProjRefIdeal.sig) → Buf (Elt Ideal) ℓ) (c : Dev Cert.OutProjIdeal.nD)
    (e0 : m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0))
    (e1 : m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1))
    (e2 : m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2))
    (e3 : m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3))
    (e4 : m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4))
    (e5 : m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5))
    (e6 : m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6))
    (e7 : m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7))
    (e8 : m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8))
    (e9 : m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) :
    (Cert.OutProjRefIdeal.Value.leaves m' c).1 = (Cert.OutProjIdeal.Gen.dats m 0 c).arrAt 12 Cert.OutProjIdeal.cfg0.N
      ∧ (Cert.OutProjRefIdeal.Value.leaves m' c).2 = (Cert.OutProjIdeal.Gen.dats m 0 c).arrAt 13 Cert.OutProjIdeal.cfg0.N := by
  refine ⟨?_, ?_⟩
  · funext j
    obtain ⟨r, n, rfl⟩ : ∃ (r : Fin 32768) (n : Fin 1024), j = ix2 r n := ⟨j 0, j 1, eq_ix2 j⟩
    refine (Cert.OutProjRefIdeal.Value.leaves_first m' c r n).trans (Eq.trans ?_ (Cert.OutProjIdeal.Project.final12 m c r n).symm)
    simp only [Cert.OutProjRefIdeal.Value.entry, Cert.OutProjIdeal.Project.entry, e0, e1, e2, e3, e4, e5, e6, e7, e8, e9]
  · funext j
    obtain ⟨r, n, rfl⟩ : ∃ (r : Fin 32768) (n : Fin 1024), j = ix2 r n := ⟨j 0, j 1, eq_ix2 j⟩
    refine (Cert.OutProjRefIdeal.Value.leaves_second m' c r n).trans (Eq.trans ?_ (Cert.OutProjIdeal.Project.final13 m c r n).symm)
    simp only [Cert.OutProjRefIdeal.Value.given, Cert.OutProjIdeal.Project.given, e0, e1, e2, e3, e4, e5, e6, e7, e8, e9]

/-- The output projection computes its reference's function. -/
theorem same_outcome : Cert.algebraic_OutProjIdeal_OutProjRefIdeal := fun m g m' g' _ e =>
  ⟨fun c => (Cert.OutProjIdeal.Gen.dats m 0 c).arrAt 12 Cert.OutProjIdeal.cfg0.N, fun c => (Cert.OutProjIdeal.Gen.dats m 0 c).arrAt 13 Cert.OutProjIdeal.cfg0.N,
    (θ_run Cert.OutProjIdeal.defs _ _).mono (fun _ h c => ⟨(h c).1, (h c).2.1, (h c).2.2.2.2.2⟩) (Cert.OutProjIdeal.Value.run_blocks m g),
    (θ_run Cert.OutProjRefIdeal.defs _ _).mono
      (fun _ hr c =>
        have h := outcome_eq m m' c (e c).1 (e c).2.1 (e c).2.2.1 (e c).2.2.2.1 (e c).2.2.2.2.1 (e c).2.2.2.2.2.1 (e c).2.2.2.2.2.2.1 (e c).2.2.2.2.2.2.2.1 (e c).2.2.2.2.2.2.2.2.1 (e c).2.2.2.2.2.2.2.2.2
        ⟨(hr c).1.1.trans h.1, (hr c).1.2.trans h.2, (hr c).2⟩)
      (Cert.OutProjRefIdeal.Value.run_leaves m' g')⟩

/-- The conditioning as printed. -/
theorem frame_modulation : Cert.quiescent_Ada := fun m g _ => Cert.Ada.Gen.frame m g

/-- Its ideal print. -/
theorem frame_modulation_ideal : Cert.quiescent_AdaIdeal := fun m g _ => Cert.AdaIdeal.Gen.frame m g

/-- Its reference declares no semaphore. -/
theorem frame_modulation_reference : Cert.quiescent_AdaRefIdeal := fun m g _ =>
  (θ_run Cert.AdaRefIdeal.defs _ _).mono (fun _ h => ⟨fun c => (h c).2, sem_eq_zero_of_no_sems (by decide) _⟩) (Cert.AdaRefIdeal.Value.run (F := Ideal) m g)

/-- The reference's result is the conditioning's, entry by entry. -/
theorem modulation_eq (m : (ℓ : Loc Cert.AdaIdeal.nD Cert.AdaIdeal.τ Cert.AdaIdeal.sig) → Buf (Elt Ideal) ℓ)
    (m' : (ℓ : Loc Cert.AdaRefIdeal.nD Cert.AdaRefIdeal.τ Cert.AdaRefIdeal.sig) → Buf (Elt Ideal) ℓ) (c : Dev Cert.AdaIdeal.nD)
    (e0 : m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0))
    (e1 : m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1))
    (e2 : m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) :
    Cert.AdaRefIdeal.Value.leaf m' c = (Cert.AdaIdeal.Gen.dats m 0 c).arrAt 3 Cert.AdaIdeal.cfg0.N := by
  funext j
  obtain ⟨r, n, rfl⟩ : ∃ (r : Fin 32) (n : Fin 6144), j = ix2 r n := ⟨j 0, j 1, eq_ix2 j⟩
  refine (Cert.AdaRefIdeal.Value.numbers_at _ _ _ r n).trans (Eq.trans ?_ (Cert.AdaIdeal.Project.final3 m c r n).symm)
  simp only [Cert.AdaIdeal.Project.entry, e0, e1, e2]

/-- The conditioning computes its reference's function. -/
theorem same_modulation : Cert.algebraic_AdaIdeal_AdaRefIdeal := fun m g m' g' _ e =>
  ⟨fun c => (Cert.AdaIdeal.Gen.dats m 0 c).arrAt 3 Cert.AdaIdeal.cfg0.N, Cert.AdaIdeal.Value.run_blocks m g,
    (θ_run Cert.AdaRefIdeal.defs _ _).mono (fun _ hr c => ⟨(hr c).1.trans (modulation_eq m m' c (e c).1 (e c).2.1 (e c).2.2), (hr c).2⟩)
      (Cert.AdaRefIdeal.Value.run_leaf m' g')⟩

/-- The attention as printed. -/
theorem frame_attention : Cert.quiescent_Attn := fun m g _ => Cert.Attn.Gen.frame m g

/-- Its ideal print. -/
theorem frame_attention_ideal : Cert.quiescent_AttnIdeal := fun m g _ => Cert.AttnIdeal.Gen.frame m g

/-- Its reference declares no semaphore. -/
theorem frame_attention_reference : Cert.quiescent_AttnRefIdeal := fun m g _ =>
  (θ_run Cert.AttnRefIdeal.defs _ _).mono (fun _ h => ⟨fun c => (h c).2, sem_eq_zero_of_no_sems (by decide) _⟩) (Cert.AttnRefIdeal.Value.run_leaf m g)

/-- The reference's result is the attention's, entry by entry. -/
theorem attention_eq (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ) (c : Dev Cert.AttnIdeal.nD)
    (e0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (e1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (e2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (e3 : m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3))
    (e4 : m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) :
    Cert.AttnRefIdeal.Value.leaf m' c = (Cert.AttnIdeal.Gen.dats m 0 c).arrAt 5 Cert.AttnIdeal.cfg0.N := by
  funext i
  obtain ⟨b, t, n, rfl⟩ : ∃ (b : Fin 16) (t : Fin 2048) (n : Fin 512), i = ix3 b t n := ⟨i 0, i 1, i 2, eq_ix3 i⟩
  obtain ⟨j, r, rfl⟩ : ∃ (j : Fin 16) (r : Fin 128), t = ⟨j.val * 128 + r.val, by omega⟩ :=
    ⟨⟨t.val / 128, by omega⟩, ⟨t.val % 128, by omega⟩, Fin.ext (by show t.val = t.val / 128 * 128 + t.val % 128; omega)⟩
  refine (Cert.AttnRefIdeal.Value.whole_at _ _ _ _ _ b j r n).trans (Eq.trans ?_ (Cert.AttnIdeal.Project.final5 m c b j r n).symm)
  exact Cert.Project.evened_congr (fun _ => congrFun e0 _) (fun _ _ => congrFun e1 _) (fun _ _ => congrFun e2 _) (fun _ _ => congrFun e3 _) (fun _ => congrFun e4 _) n

/-- The attention computes its reference's function. -/
theorem same_attention : Cert.algebraic_AttnIdeal_AttnRefIdeal := fun m g m' g' _ e =>
  ⟨fun c => (Cert.AttnIdeal.Gen.dats m 0 c).arrAt 5 Cert.AttnIdeal.cfg0.N, Cert.AttnIdeal.Value.run_blocks m g,
    (θ_run Cert.AttnRefIdeal.defs _ _).mono (fun _ hr c => ⟨(hr c).1.trans (attention_eq m m' c (e c).1 (e c).2.1 (e c).2.2.1 (e c).2.2.2.1 (e c).2.2.2.2), (hr c).2⟩)
      (Cert.AttnRefIdeal.Value.run_leaf m' g')⟩

/-- The Fourier branch along the grid's rows as printed. -/
theorem frame_rows : Cert.quiescent_Rows := fun m g _ => Cert.Rows.Gen.frame m g

/-- Its ideal print. -/
theorem frame_rows_ideal : Cert.quiescent_RowsIdeal := fun m g _ => Cert.RowsIdeal.Gen.frame m g

/-- Its reference declares no semaphore. -/
theorem frame_rows_reference : Cert.quiescent_RowsRefIdeal := fun m g _ =>
  (θ_run Cert.RowsRefIdeal.defs _ _).mono (fun _ h => ⟨fun c => (h c).2, sem_eq_zero_of_no_sems (by decide) _⟩) (Cert.RowsRefIdeal.Value.run_leaf m g)

/-- The two results agree entry by entry. -/
theorem rows_eq (m : (ℓ : Loc Cert.RowsIdeal.nD Cert.RowsIdeal.τ Cert.RowsIdeal.sig) → Buf (Elt Ideal) ℓ)
    (m' : (ℓ : Loc Cert.RowsRefIdeal.nD Cert.RowsRefIdeal.τ Cert.RowsRefIdeal.sig) → Buf (Elt Ideal) ℓ) (c : Dev Cert.RowsIdeal.nD)
    (e0 : m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0))
    (e1 : m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) :
    Cert.RowsRefIdeal.Value.leaf m' c = (Cert.RowsIdeal.Gen.dats m 0 c).arrAt 2 Cert.RowsIdeal.cfg0.N := by
  funext i
  obtain ⟨b, k, q, n, rfl⟩ : ∃ (b : Fin 16) (k q : Fin 64) (n : Fin 512), i = ix4 b k q n := ⟨i 0, i 1, i 2, i 3, eq_ix4 i⟩
  refine (Cert.RowsRefIdeal.Value.whole_at _ _ b k q n).trans (Eq.trans ?_ (Cert.RowsIdeal.Project.final2 m c b k q n).symm)
  exact congrArg₂ Cert.Project.crossed (funext fun _ => congrFun e0 _) (funext fun _ => congrFun e1 _)

/-- The Fourier branch along the grid's rows computes its reference's function. -/
theorem same_rows : Cert.algebraic_RowsIdeal_RowsRefIdeal := fun m g m' g' _ e =>
  ⟨fun c => (Cert.RowsIdeal.Gen.dats m 0 c).arrAt 2 Cert.RowsIdeal.cfg0.N, Cert.RowsIdeal.Value.run_blocks m g,
    (θ_run Cert.RowsRefIdeal.defs _ _).mono (fun _ hr c => ⟨(hr c).1.trans (rows_eq m m' c (e c).1 (e c).2), (hr c).2⟩)
      (Cert.RowsRefIdeal.Value.run_leaf m' g')⟩

/-- The Fourier branch along the grid's columns as printed. -/
theorem frame_columns : Cert.quiescent_Cols := fun m g _ => Cert.Cols.Gen.frame m g

/-- Its ideal print. -/
theorem frame_columns_ideal : Cert.quiescent_ColsIdeal := fun m g _ => Cert.ColsIdeal.Gen.frame m g

/-- Its reference declares no semaphore. -/
theorem frame_columns_reference : Cert.quiescent_ColsRefIdeal := fun m g _ =>
  (θ_run Cert.ColsRefIdeal.defs _ _).mono (fun _ h => ⟨fun c => (h c).2, sem_eq_zero_of_no_sems (by decide) _⟩) (Cert.ColsRefIdeal.Value.run_leaf m g)

/-- The two results agree entry by entry. -/
theorem columns_eq (m : (ℓ : Loc Cert.ColsIdeal.nD Cert.ColsIdeal.τ Cert.ColsIdeal.sig) → Buf (Elt Ideal) ℓ)
    (m' : (ℓ : Loc Cert.ColsRefIdeal.nD Cert.ColsRefIdeal.τ Cert.ColsRefIdeal.sig) → Buf (Elt Ideal) ℓ) (c : Dev Cert.ColsIdeal.nD)
    (e0 : m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0))
    (e1 : m' ((c.tc : Thread Cert.ColsRefIdeal.nD Cert.ColsRefIdeal.τ).loc Cert.ColsRefIdeal.main_arg1) = m ((c.tc : Thread Cert.ColsIdeal.nD Cert.ColsIdeal.τ).loc Cert.ColsIdeal.main_arg1))
    (e2 : m' ((c.tc : Thread Cert.ColsRefIdeal.nD Cert.ColsRefIdeal.τ).loc Cert.ColsRefIdeal.main_arg2) = m ((c.tc : Thread Cert.ColsIdeal.nD Cert.ColsIdeal.τ).loc Cert.ColsIdeal.main_arg2))
    (e3 : m' ((c.tc : Thread Cert.ColsRefIdeal.nD Cert.ColsRefIdeal.τ).loc Cert.ColsRefIdeal.main_arg3) = m ((c.tc : Thread Cert.ColsIdeal.nD Cert.ColsIdeal.τ).loc Cert.ColsIdeal.main_arg3))
    (e4 : m' ((c.tc : Thread Cert.ColsRefIdeal.nD Cert.ColsRefIdeal.τ).loc Cert.ColsRefIdeal.main_arg4) = m ((c.tc : Thread Cert.ColsIdeal.nD Cert.ColsIdeal.τ).loc Cert.ColsIdeal.main_arg4)) :
    Cert.ColsRefIdeal.Value.leaf m' c = (Cert.ColsIdeal.Gen.dats m 0 c).arrAt 6 Cert.ColsIdeal.cfg0.N := by
  funext i
  obtain ⟨b, k, t, rfl⟩ : ∃ (b : Fin 16) (k : Fin 64) (t : Fin 16384), i = ix3 b k t := ⟨i 0, i 1, i 2, eq_ix3 i⟩
  obtain ⟨q, n, rfl⟩ : ∃ (q : Fin 32) (n : Fin 512), t = ⟨q.val * 512 + n.val, by omega⟩ :=
    ⟨⟨t.val / 512, by omega⟩, ⟨t.val % 512, by omega⟩, Fin.ext (by show t.val = t.val / 512 * 512 + t.val % 512; omega)⟩
  refine (Cert.ColsRefIdeal.Value.whole_at _ _ _ _ _ b k q n).trans (Eq.trans ?_ (Cert.ColsIdeal.Project.final6 m c b k q n).symm)
  exact Cert.Project.spectral_congr (fun _ _ => congrFun e1 _) (fun _ _ => congrFun e0 _) (fun _ _ => congrFun e0 _) (fun _ _ => congrFun e2 _) (fun _ _ _ => congrFun e3 _) (fun _ => congrFun e4 _) k n

/-- The Fourier branch along the grid's columns computes its reference's function. -/
theorem same_columns : Cert.algebraic_ColsIdeal_ColsRefIdeal := fun m g m' g' _ e =>
  ⟨fun c => (Cert.ColsIdeal.Gen.dats m 0 c).arrAt 6 Cert.ColsIdeal.cfg0.N, Cert.ColsIdeal.Value.run_blocks m g,
    (θ_run Cert.ColsRefIdeal.defs _ _).mono (fun _ hr c => ⟨(hr c).1.trans (columns_eq m m' c (e c).1 (e c).2.1 (e c).2.2.1 (e c).2.2.2.1 (e c).2.2.2.2), (hr c).2⟩)
      (Cert.ColsRefIdeal.Value.run_leaf m' g')⟩

/-- The output projection that returns its gates, as printed. -/
theorem frame_gates : Cert.quiescent_Gates := fun m g _ => Cert.Gates.Gen.frame m g

/-- Its ideal print. -/
theorem frame_gates_ideal : Cert.quiescent_GatesIdeal := fun m g _ => Cert.GatesIdeal.Gen.frame m g
theorem frame_gates_ideal_finite : Cert.quiescent_GatesIdeal_pre_finite := fun m g _ => Cert.GatesIdeal.Gen.frame m g

/-- Its reference declares no semaphore. -/
theorem frame_gates_reference : Cert.quiescent_GatesRefIdeal := fun m g _ =>
  (θ_run Cert.GatesRefIdeal.defs _ _).mono (fun _ h => ⟨fun c => (h c).2.2.2, sem_eq_zero_of_no_sems (by decide) _⟩) (Cert.GatesRefIdeal.Value.run (F := Ideal) m g)
theorem frame_gates_reference_finite : Cert.quiescent_GatesRefIdeal_pre_finite := fun m g _ => frame_gates_reference m g trivial

/-- The reference's gates, positions and counts are the kernel's, entry by entry, where everything the router reads is finite. -/
theorem gates_eq (m : (ℓ : Loc Cert.GatesIdeal.nD Cert.GatesIdeal.τ Cert.GatesIdeal.sig) → Buf (Elt Ideal) ℓ)
    (m' : (ℓ : Loc Cert.GatesRefIdeal.nD Cert.GatesRefIdeal.τ Cert.GatesRefIdeal.sig) → Buf (Elt Ideal) ℓ) (h : Cert.Pre_GatesIdeal_finite m) (c : Dev Cert.GatesIdeal.nD)
    (e0 : m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0))
    (e1 : m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1))
    (e2 : m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2))
    (e3 : m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3))
    (e4 : m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4))
    (e5 : m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5))
    (e6 : m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6))
    (e7 : m' ((c.tc : Thread Cert.GatesRefIdeal.nD Cert.GatesRefIdeal.τ).loc Cert.GatesRefIdeal.main_arg7) = m ((c.tc : Thread Cert.GatesIdeal.nD Cert.GatesIdeal.τ).loc Cert.GatesIdeal.main_arg7))
    (e8 : m' ((c.tc : Thread Cert.GatesRefIdeal.nD Cert.GatesRefIdeal.τ).loc Cert.GatesRefIdeal.main_arg8) = m ((c.tc : Thread Cert.GatesIdeal.nD Cert.GatesIdeal.τ).loc Cert.GatesIdeal.main_arg8))
    (e9 : m' ((c.tc : Thread Cert.GatesRefIdeal.nD Cert.GatesRefIdeal.τ).loc Cert.GatesRefIdeal.main_arg9) = m ((c.tc : Thread Cert.GatesIdeal.nD Cert.GatesIdeal.τ).loc Cert.GatesIdeal.main_arg9)) :
    Cert.GatesRefIdeal.Value.leaf m' c = (Cert.GatesIdeal.Gen.dats m 0 c).arrAt 14 Cert.GatesIdeal.cfg0.N
    ∧ Cert.GatesRefIdeal.Value.spots m' c = (Cert.GatesIdeal.Gen.dats m 0 c).arrAt 15 Cert.GatesIdeal.cfg0.N
    ∧ Cert.GatesRefIdeal.Value.tail m' c = (Cert.GatesIdeal.Gen.dats m 0 c).arrAt 16 Cert.GatesIdeal.cfg0.N := by
  rw [Cert.Gate.whole_eq, Cert.Gate.positions_eq, Cert.Gate.counts_eq]
  unfold Cert.GatesRefIdeal.Value.leaf Cert.GatesRefIdeal.Value.spots Cert.GatesRefIdeal.Value.tail Cert.GatesRefIdeal.Value.rated Cert.GatesRefIdeal.Value.tokens
  rw [e0, e1, e2, e3, e4, e5, e6, e7, e8, e9]
  refine ⟨funext fun j => ?_, funext fun j => ?_, funext fun j => ?_⟩
  · obtain ⟨k, r, rfl⟩ : ∃ (k : Fin 4) (r : Fin 32768), j = ix2 k r := ⟨j 0, j 1, eq_ix2 j⟩
    exact (Cert.GatesRefIdeal.Value.gates_at _ _ _ _ _ _ _ _ _ _ (h c) r k).trans (Cert.Gate.final14 (Cert.Gate.over m) c k r).symm
  · obtain ⟨k, r, rfl⟩ : ∃ (k : Fin 4) (r : Fin 32768), j = ix2 k r := ⟨j 0, j 1, eq_ix2 j⟩
    exact (Cert.GatesRefIdeal.Value.spots_tile _ _ _ _ _ _ _ _ _ _ (h c) k r).trans (Cert.Gate.final15 (Cert.Gate.over m) c k r).symm
  · obtain ⟨q, l, rfl⟩ : ∃ (q : Fin 2048) (l : Fin 128), j = ix2 q l := ⟨j 0, j 1, eq_ix2 j⟩
    exact (Cert.GatesRefIdeal.Value.counts_tile _ _ _ _ _ _ _ _ _ _ (h c) q l).trans (Cert.Gate.final16 (Cert.Gate.over m) c q l).symm

/-- The router computes its reference's function. -/
theorem same_gates : Cert.algebraic_GatesIdeal_GatesRefIdeal_pre_finite := fun m g m' g' h e =>
  have eq := fun c => gates_eq m m' h c (e c).1 (e c).2.1 (e c).2.2.1 (e c).2.2.2.1 (e c).2.2.2.2.1 (e c).2.2.2.2.2.1 (e c).2.2.2.2.2.2.1 (e c).2.2.2.2.2.2.2.1 (e c).2.2.2.2.2.2.2.2.1 (e c).2.2.2.2.2.2.2.2.2
  ⟨fun c => (Cert.GatesIdeal.Gen.dats m 0 c).arrAt 14 Cert.GatesIdeal.cfg0.N, fun c => (Cert.GatesIdeal.Gen.dats m 0 c).arrAt 15 Cert.GatesIdeal.cfg0.N, fun c => (Cert.GatesIdeal.Gen.dats m 0 c).arrAt 16 Cert.GatesIdeal.cfg0.N,
    (θ_run Cert.GatesIdeal.defs _ _).mono (fun _ h c => ⟨(h c).2.2.1, (h c).2.2.2.1, (h c).2.2.2.2.1, (h c).2.2.2.2.2⟩) (Cert.GatesIdeal.Value.run_blocks m g),
    (θ_run Cert.GatesRefIdeal.defs _ _).mono (fun _ hr c => ⟨(hr c).1.trans (eq c).1, (hr c).2.1.trans (eq c).2.1, (hr c).2.2.1.trans (eq c).2.2, (hr c).2.2.2⟩) (Cert.GatesRefIdeal.Value.run_leaf m' g')⟩

theorem claim : Cert.Claim := ⟨Cert.Kernel.Gen.facts, Cert.KernelIdeal.Gen.facts, Cert.ReferenceIdeal.Gen.facts, Cert.InProj.Gen.facts, Cert.InProjIdeal.Gen.facts,
  Cert.InProjRefIdeal.Gen.facts, Cert.OutProj.Gen.facts, Cert.OutProjIdeal.Gen.facts, Cert.OutProjRefIdeal.Gen.facts, Cert.Ada.Gen.facts, Cert.AdaIdeal.Gen.facts, Cert.AdaRefIdeal.Gen.facts,
  Cert.Attn.Gen.facts, Cert.AttnIdeal.Gen.facts, Cert.AttnRefIdeal.Gen.facts, Cert.Rows.Gen.facts, Cert.RowsIdeal.Gen.facts, Cert.RowsRefIdeal.Gen.facts,
  Cert.Cols.Gen.facts, Cert.ColsIdeal.Gen.facts, Cert.ColsRefIdeal.Gen.facts, Cert.Gates.Gen.facts, Cert.GatesIdeal.Gen.facts, Cert.GatesRefIdeal.Gen.facts,
  Cert.Pre_pre.Gen.facts, Cert.Pre_finite.Gen.facts,
  frame_kernel, frame_ideal, frame_reference, frame_reference_pre, frame_projection, frame_projection_ideal, frame_projection_reference,
  frame_outcome, frame_outcome_ideal, frame_outcome_reference, frame_modulation, frame_modulation_ideal, frame_modulation_reference,
  frame_attention, frame_attention_ideal, frame_attention_reference, frame_rows, frame_rows_ideal, frame_rows_reference,
  frame_columns, frame_columns_ideal, frame_columns_reference,
  frame_gates, frame_gates_ideal, frame_gates_ideal_finite, frame_gates_reference, frame_gates_reference_finite, trivial, same_value, trivial, same_projection, trivial, same_outcome, trivial, same_modulation, trivial, same_attention,
  trivial, same_rows, trivial, same_columns, trivial, same_gates⟩

end Cert.Proof

end
